-- ==== Defs.lean ====
def Pre_Kernel (m : (ℓ : Loc Cert.Kernel.nD Cert.Kernel.τ Cert.Kernel.sig) → Buf (Elt Bits) ℓ) : Prop :=
  True

def Pre_Kernel_finite [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2.2 = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Forward (m : (ℓ : Loc Cert.Forward.nD Cert.Forward.τ Cert.Forward.sig) → Buf (Elt Bits) ℓ) : Prop :=
  True

def Pre_Forward_finite_qkv [hPre_finite_qkv : Cert.Pre_finite_qkv.Facts] (m : (ℓ : Loc Cert.Forward.nD Cert.Forward.τ Cert.Forward.sig) → Buf (Elt Bits) ℓ) : Prop :=
  ∀ c : Dev Cert.Forward.nD,
    (Cert.Pre_finite_qkv.fn (F := Bits) (m ((c.tc : Thread Cert.Forward.nD Cert.Forward.τ).loc Cert.Forward.main_arg0)) (m ((c.tc : Thread Cert.Forward.nD Cert.Forward.τ).loc Cert.Forward.main_arg1)) (m ((c.tc : Thread Cert.Forward.nD Cert.Forward.τ).loc Cert.Forward.main_arg2))).1 = (fun _ => 1#1)
    ∧ (Cert.Pre_finite_qkv.fn (F := Bits) (m ((c.tc : Thread Cert.Forward.nD Cert.Forward.τ).loc Cert.Forward.main_arg0)) (m ((c.tc : Thread Cert.Forward.nD Cert.Forward.τ).loc Cert.Forward.main_arg1)) (m ((c.tc : Thread Cert.Forward.nD Cert.Forward.τ).loc Cert.Forward.main_arg2))).2.1 = (fun _ => 1#1)
    ∧ (Cert.Pre_finite_qkv.fn (F := Bits) (m ((c.tc : Thread Cert.Forward.nD Cert.Forward.τ).loc Cert.Forward.main_arg0)) (m ((c.tc : Thread Cert.Forward.nD Cert.Forward.τ).loc Cert.Forward.main_arg1)) (m ((c.tc : Thread Cert.Forward.nD Cert.Forward.τ).loc Cert.Forward.main_arg2))).2.2 = (fun _ => 1#1)

def Pre_ForwardIdeal [hPre_finite_qkv : Cert.Pre_finite_qkv.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_qkv.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).1 = (fun _ => 1#1)
    ∧ (Cert.Pre_finite_qkv.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).2.1 = (fun _ => 1#1)
    ∧ (Cert.Pre_finite_qkv.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).2.2 = (fun _ => 1#1)

def Pre_ForwardReferenceIdeal [hPre_finite_qkv : Cert.Pre_finite_qkv.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_qkv.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).1 = (fun _ => 1#1)
    ∧ (Cert.Pre_finite_qkv.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).2.1 = (fun _ => 1#1)
    ∧ (Cert.Pre_finite_qkv.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).2.2 = (fun _ => 1#1)

def Pre_Tail (m : (ℓ : Loc Cert.Tail.nD Cert.Tail.τ Cert.Tail.sig) → Buf (Elt Bits) ℓ) : Prop :=
  True

def Pre_Tail_finite_tail [hPre_finite_tail : Cert.Pre_finite_tail.Facts] (m : (ℓ : Loc Cert.Tail.nD Cert.Tail.τ Cert.Tail.sig) → Buf (Elt Bits) ℓ) : Prop :=
  ∀ c : Dev Cert.Tail.nD,
    (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8))).1 = (fun _ => 1#1)
    ∧ (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8))).2.1 = (fun _ => 1#1)
    ∧ (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8))).2.2.1 = (fun _ => 1#1)
    ∧ (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8))).2.2.2.1 = (fun _ => 1#1)
    ∧ (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8))).2.2.2.2.1 = (fun _ => 1#1)
    ∧ (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8))).2.2.2.2.2.1 = (fun _ => 1#1)
    ∧ (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8))).2.2.2.2.2.2.1 = (fun _ => 1#1)
    ∧ (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8))).2.2.2.2.2.2.2.1 = (fun _ => 1#1)
    ∧ (Cert.Pre_finite_tail.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8))).2.2.2.2.2.2.2.2 = (fun _ => 1#1)

def Pre_TailIdeal [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.2.2 = (fun _ => 1#1)

def Pre_TailReferenceIdeal [hPre_finite_tail : Cert.Pre_finite_tail.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))).1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))).2.1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))).2.2.1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))).2.2.2.1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))).2.2.2.2.1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))).2.2.2.2.2.1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))).2.2.2.2.2.2.1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))).2.2.2.2.2.2.2.1 = (fun _ => 1#1)
    ∧ (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))).2.2.2.2.2.2.2.2 = (fun _ => 1#1)

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryReferenceIdeal (m : (ℓ : Loc Cert.EntryReferenceIdeal.nD Cert.EntryReferenceIdeal.τ Cert.EntryReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_finite [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel_finite m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_Forward_pre_finite_qkv [hForward : Cert.Forward.Facts] [hPre_finite_qkv : Cert.Pre_finite_qkv.Facts] : Prop :=
  ∀ (m : (ℓ : Loc Cert.Forward.nD Cert.Forward.τ Cert.Forward.sig) → Buf (Elt Bits) ℓ) (g : Dev Cert.Forward.nD → PrngReg), Pre_Forward_finite_qkv m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] [hPre_finite_qkv : Cert.Pre_finite_qkv.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardReferenceIdeal [hForwardReferenceIdeal : Cert.ForwardReferenceIdeal.Facts] [hPre_finite_qkv : Cert.Pre_finite_qkv.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_Tail_pre_finite_tail [hTail : Cert.Tail.Facts] [hPre_finite_tail : Cert.Pre_finite_tail.Facts] : Prop :=
  ∀ (m : (ℓ : Loc Cert.Tail.nD Cert.Tail.τ Cert.Tail.sig) → Buf (Elt Bits) ℓ) (g : Dev Cert.Tail.nD → PrngReg), Pre_Tail_finite_tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailReferenceIdeal [hTailReferenceIdeal : Cert.TailReferenceIdeal.Facts] [hPre_finite_tail : Cert.Pre_finite_tail.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2)
      ∧ r.2.mem ((c.tc : Thread Cert.Entry.nD Cert.Entry.τ).loc Cert.Entry.main_arg3) = m ((c.tc : Thread Cert.Entry.nD Cert.Entry.τ).loc Cert.Entry.main_arg3)
      ∧ r.2.mem ((c.tc : Thread Cert.Entry.nD Cert.Entry.τ).loc Cert.Entry.main_arg4) = m ((c.tc : Thread Cert.Entry.nD Cert.Entry.τ).loc Cert.Entry.main_arg4))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
      ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4))
      ∧ r.2.sem = fun _ => 0)

def quiescent_EntryReferenceIdeal [hEntryReferenceIdeal : Cert.EntryReferenceIdeal.Facts] : Prop :=
  ∀ (m : (ℓ : Loc Cert.EntryReferenceIdeal.nD Cert.EntryReferenceIdeal.τ Cert.EntryReferenceIdeal.sig) → Buf (Elt Ideal) ℓ) (g : Dev Cert.EntryReferenceIdeal.nD → PrngReg), Pre_EntryReferenceIdeal m →
    θ_run (Cert.EntryReferenceIdeal.defs (F := Ideal)) (onTc (τ := Cert.EntryReferenceIdeal.τ) (Cert.EntryReferenceIdeal.main (F := Ideal))) ⟨m, fun _ => 0, g⟩ (fun r => (∀ c : Dev Cert.EntryReferenceIdeal.nD,
      r.2.mem ((c.tc : Thread Cert.EntryReferenceIdeal.nD Cert.EntryReferenceIdeal.τ).loc Cert.EntryReferenceIdeal.main_arg0) = m ((c.tc : Thread Cert.EntryReferenceIdeal.nD Cert.EntryReferenceIdeal.τ).loc Cert.EntryReferenceIdeal.main_arg0)
      ∧ r.2.mem ((c.tc : Thread Cert.EntryReferenceIdeal.nD Cert.EntryReferenceIdeal.τ).loc Cert.EntryReferenceIdeal.main_arg1) = m ((c.tc : Thread Cert.EntryReferenceIdeal.nD Cert.EntryReferenceIdeal.τ).loc Cert.EntryReferenceIdeal.main_arg1)
      ∧ r.2.mem ((c.tc : Thread Cert.EntryReferenceIdeal.nD Cert.EntryReferenceIdeal.τ).loc Cert.EntryReferenceIdeal.main_arg2) = m ((c.tc : Thread Cert.EntryReferenceIdeal.nD Cert.EntryReferenceIdeal.τ).loc Cert.EntryReferenceIdeal.main_arg2)
      ∧ r.2.mem ((c.tc : Thread Cert.EntryReferenceIdeal.nD Cert.EntryReferenceIdeal.τ).loc Cert.EntryReferenceIdeal.main_arg3) = m ((c.tc : Thread Cert.EntryReferenceIdeal.nD Cert.EntryReferenceIdeal.τ).loc Cert.EntryReferenceIdeal.main_arg3)
      ∧ r.2.mem ((c.tc : Thread Cert.EntryReferenceIdeal.nD Cert.EntryReferenceIdeal.τ).loc Cert.EntryReferenceIdeal.main_arg4) = m ((c.tc : Thread Cert.EntryReferenceIdeal.nD Cert.EntryReferenceIdeal.τ).loc Cert.EntryReferenceIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Forward_ForwardIdeal : Prop :=
  True

def algebraic_ForwardIdeal_ForwardReferenceIdeal [hForwardIdeal : Cert.ForwardIdeal.Facts] [hForwardReferenceIdeal : Cert.ForwardReferenceIdeal.Facts] [hPre_finite_qkv : Cert.Pre_finite_qkv.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v10_0)) (v1 : (c : Dev Cert.ForwardIdeal.nD) → Buf (Elt Ideal) ((c.tc : Thread Cert.ForwardIdeal.nD Cert.ForwardIdeal.τ).loc Cert.ForwardIdeal.main_v10_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v10_0) = v0 c
          ∧ r.2.mem ((c.tc : Thread Cert.ForwardIdeal.nD Cert.ForwardIdeal.τ).loc Cert.ForwardIdeal.main_v10_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v46) = v0 c
          ∧ r.2.mem ((c.tc : Thread Cert.ForwardReferenceIdeal.nD Cert.ForwardReferenceIdeal.τ).loc Cert.ForwardReferenceIdeal.main_v47) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2))

def preserves_Tail_TailIdeal : Prop :=
  True

def algebraic_TailIdeal_TailReferenceIdeal [hTailIdeal : Cert.TailIdeal.Facts] [hTailReferenceIdeal : Cert.TailReferenceIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v67_0)) (v1 : (c : Dev Cert.TailIdeal.nD) → Buf (Elt Ideal) ((c.tc : Thread Cert.TailIdeal.nD Cert.TailIdeal.τ).loc Cert.TailIdeal.main_v67_3)) (v2 : (c : Dev Cert.TailIdeal.nD) → Buf (Elt Ideal) ((c.tc : Thread Cert.TailIdeal.nD Cert.TailIdeal.τ).loc Cert.TailIdeal.main_v67_2)) (v3 : (c : Dev Cert.TailIdeal.nD) → Buf (Elt Ideal) ((c.tc : Thread Cert.TailIdeal.nD Cert.TailIdeal.τ).loc Cert.TailIdeal.main_v67_1)) (v4 : (c : Dev Cert.TailIdeal.nD) → Buf (Elt Ideal) ((c.tc : Thread Cert.TailIdeal.nD Cert.TailIdeal.τ).loc Cert.TailIdeal.main_v67_4)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v67_0) = v0 c
          ∧ r.2.mem ((c.tc : Thread Cert.TailIdeal.nD Cert.TailIdeal.τ).loc Cert.TailIdeal.main_v67_3) = v1 c
          ∧ r.2.mem ((c.tc : Thread Cert.TailIdeal.nD Cert.TailIdeal.τ).loc Cert.TailIdeal.main_v67_2) = v2 c
          ∧ r.2.mem ((c.tc : Thread Cert.TailIdeal.nD Cert.TailIdeal.τ).loc Cert.TailIdeal.main_v67_1) = v3 c
          ∧ r.2.mem ((c.tc : Thread Cert.TailIdeal.nD Cert.TailIdeal.τ).loc Cert.TailIdeal.main_v67_4) = v4 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v156) = v0 c
          ∧ r.2.mem ((c.tc : Thread Cert.TailReferenceIdeal.nD Cert.TailReferenceIdeal.τ).loc Cert.TailReferenceIdeal.main_v159) = v1 c
          ∧ r.2.mem ((c.tc : Thread Cert.TailReferenceIdeal.nD Cert.TailReferenceIdeal.τ).loc Cert.TailReferenceIdeal.main_v160) = v2 c
          ∧ r.2.mem ((c.tc : Thread Cert.TailReferenceIdeal.nD Cert.TailReferenceIdeal.τ).loc Cert.TailReferenceIdeal.main_v161) = v3 c
          ∧ r.2.mem ((c.tc : Thread Cert.TailReferenceIdeal.nD Cert.TailReferenceIdeal.τ).loc Cert.TailReferenceIdeal.main_v162) = v4 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8))

def preserves_Entry_EntryIdeal : Prop :=
  True

def algebraic_EntryIdeal_EntryReferenceIdeal [hEntryIdeal : Cert.EntryIdeal.Facts] [hEntryReferenceIdeal : Cert.EntryReferenceIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryReferenceIdeal.nD Cert.EntryReferenceIdeal.τ Cert.EntryReferenceIdeal.sig) → Buf (Elt Ideal) ℓ) (g' : Dev Cert.EntryReferenceIdeal.nD → PrngReg), Pre_EntryIdeal m →
    (∀ c : Dev Cert.EntryIdeal.nD,
      m' ((c.tc : Thread Cert.EntryReferenceIdeal.nD Cert.EntryReferenceIdeal.τ).loc Cert.EntryReferenceIdeal.main_arg0) = m ((c.tc : Thread Cert.EntryIdeal.nD Cert.EntryIdeal.τ).loc Cert.EntryIdeal.main_arg0)
      ∧ m' ((c.tc : Thread Cert.EntryReferenceIdeal.nD Cert.EntryReferenceIdeal.τ).loc Cert.EntryReferenceIdeal.main_arg1) = m ((c.tc : Thread Cert.EntryIdeal.nD Cert.EntryIdeal.τ).loc Cert.EntryIdeal.main_arg1)
      ∧ m' ((c.tc : Thread Cert.EntryReferenceIdeal.nD Cert.EntryReferenceIdeal.τ).loc Cert.EntryReferenceIdeal.main_arg2) = m ((c.tc : Thread Cert.EntryIdeal.nD Cert.EntryIdeal.τ).loc Cert.EntryIdeal.main_arg2)
      ∧ m' ((c.tc : Thread Cert.EntryReferenceIdeal.nD Cert.EntryReferenceIdeal.τ).loc Cert.EntryReferenceIdeal.main_arg3) = m ((c.tc : Thread Cert.EntryIdeal.nD Cert.EntryIdeal.τ).loc Cert.EntryIdeal.main_arg3)
      ∧ m' ((c.tc : Thread Cert.EntryReferenceIdeal.nD Cert.EntryReferenceIdeal.τ).loc Cert.EntryReferenceIdeal.main_arg4) = m ((c.tc : Thread Cert.EntryIdeal.nD Cert.EntryIdeal.τ).loc Cert.EntryIdeal.main_arg4)) →
    ∃ (v0 : (c : Dev Cert.EntryIdeal.nD) → Buf (Elt Ideal) ((c.tc : Thread Cert.EntryIdeal.nD Cert.EntryIdeal.τ).loc Cert.EntryIdeal.main_v6_0)) (v1 : (c : Dev Cert.EntryIdeal.nD) → Buf (Elt Ideal) ((c.tc : Thread Cert.EntryIdeal.nD Cert.EntryIdeal.τ).loc Cert.EntryIdeal.main_v6_1)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v6_0) = v0 c
          ∧ r.2.mem ((c.tc : Thread Cert.EntryIdeal.nD Cert.EntryIdeal.τ).loc Cert.EntryIdeal.main_v6_1) = v1 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
          ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
          ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4))
      ∧ θ_run (Cert.EntryReferenceIdeal.defs (F := Ideal)) (onTc (τ := Cert.EntryReferenceIdeal.τ) (Cert.EntryReferenceIdeal.main (F := Ideal))) ⟨m', fun _ => 0, g'⟩ (fun r => ∀ c : Dev Cert.EntryReferenceIdeal.nD,
          r.2.mem ((c.tc : Thread Cert.EntryReferenceIdeal.nD Cert.EntryReferenceIdeal.τ).loc Cert.EntryReferenceIdeal.main_v60) = v0 c
          ∧ r.2.mem ((c.tc : Thread Cert.EntryReferenceIdeal.nD Cert.EntryReferenceIdeal.τ).loc Cert.EntryReferenceIdeal.main_v61) = v1 c
          ∧ r.2.mem ((c.tc : Thread Cert.EntryReferenceIdeal.nD Cert.EntryReferenceIdeal.τ).loc Cert.EntryReferenceIdeal.main_arg0) = m' ((c.tc : Thread Cert.EntryReferenceIdeal.nD Cert.EntryReferenceIdeal.τ).loc Cert.EntryReferenceIdeal.main_arg0)
          ∧ r.2.mem ((c.tc : Thread Cert.EntryReferenceIdeal.nD Cert.EntryReferenceIdeal.τ).loc Cert.EntryReferenceIdeal.main_arg1) = m' ((c.tc : Thread Cert.EntryReferenceIdeal.nD Cert.EntryReferenceIdeal.τ).loc Cert.EntryReferenceIdeal.main_arg1)
          ∧ r.2.mem ((c.tc : Thread Cert.EntryReferenceIdeal.nD Cert.EntryReferenceIdeal.τ).loc Cert.EntryReferenceIdeal.main_arg2) = m' ((c.tc : Thread Cert.EntryReferenceIdeal.nD Cert.EntryReferenceIdeal.τ).loc Cert.EntryReferenceIdeal.main_arg2)
          ∧ r.2.mem ((c.tc : Thread Cert.EntryReferenceIdeal.nD Cert.EntryReferenceIdeal.τ).loc Cert.EntryReferenceIdeal.main_arg3) = m' ((c.tc : Thread Cert.EntryReferenceIdeal.nD Cert.EntryReferenceIdeal.τ).loc Cert.EntryReferenceIdeal.main_arg3)
          ∧ r.2.mem ((c.tc : Thread Cert.EntryReferenceIdeal.nD Cert.EntryReferenceIdeal.τ).loc Cert.EntryReferenceIdeal.main_arg4) = m' ((c.tc : Thread Cert.EntryReferenceIdeal.nD Cert.EntryReferenceIdeal.τ).loc Cert.EntryReferenceIdeal.main_arg4))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v2_0)) (v1 : (c : Dev Cert.PostIdeal.nD) → Buf (Elt Ideal) ((c.tc : Thread Cert.PostIdeal.nD Cert.PostIdeal.τ).loc Cert.PostIdeal.main_v2_1)) (v2 : (c : Dev Cert.PostIdeal.nD) → Buf (Elt Ideal) ((c.tc : Thread Cert.PostIdeal.nD Cert.PostIdeal.τ).loc Cert.PostIdeal.main_v2_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v2_0) = v0 c
          ∧ r.2.mem ((c.tc : Thread Cert.PostIdeal.nD Cert.PostIdeal.τ).loc Cert.PostIdeal.main_v2_1) = v1 c
          ∧ r.2.mem ((c.tc : Thread Cert.PostIdeal.nD Cert.PostIdeal.τ).loc Cert.PostIdeal.main_v2_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v18) = v0 c
          ∧ r.2.mem ((c.tc : Thread Cert.PostReferenceIdeal.nD Cert.PostReferenceIdeal.τ).loc Cert.PostReferenceIdeal.main_v19) = v1 c
          ∧ r.2.mem ((c.tc : Thread Cert.PostReferenceIdeal.nD Cert.PostReferenceIdeal.τ).loc Cert.PostReferenceIdeal.main_v20) = v2 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hTail : Cert.Tail.Facts) (hTailIdeal : Cert.TailIdeal.Facts) (hTailReferenceIdeal : Cert.TailReferenceIdeal.Facts) (hEntry : Cert.Entry.Facts) (hEntryIdeal : Cert.EntryIdeal.Facts) (hEntryReferenceIdeal : Cert.EntryReferenceIdeal.Facts) (hPost : Cert.Post.Facts) (hPostIdeal : Cert.PostIdeal.Facts) (hPostReferenceIdeal : Cert.PostReferenceIdeal.Facts) (hPre_finite : Cert.Pre_finite.Facts) (hPre_finite_qkv : Cert.Pre_finite_qkv.Facts) (hPre_finite_tail : Cert.Pre_finite_tail.Facts),
    quiescent_Kernel (hKernel := hKernel)
    ∧ quiescent_Kernel_pre_finite (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Forward (hForward := hForward)
    ∧ quiescent_Forward_pre_finite_qkv (hForward := hForward) (hPre_finite_qkv := hPre_finite_qkv)
    ∧ quiescent_ForwardIdeal (hForwardIdeal := hForwardIdeal) (hPre_finite_qkv := hPre_finite_qkv)
    ∧ quiescent_ForwardReferenceIdeal (hForwardReferenceIdeal := hForwardReferenceIdeal) (hPre_finite_qkv := hPre_finite_qkv)
    ∧ quiescent_Tail (hTail := hTail)
    ∧ quiescent_Tail_pre_finite_tail (hTail := hTail) (hPre_finite_tail := hPre_finite_tail)
    ∧ quiescent_TailIdeal (hTailIdeal := hTailIdeal) (hPre_finite_tail := hPre_finite_tail)
    ∧ quiescent_TailReferenceIdeal (hTailReferenceIdeal := hTailReferenceIdeal) (hPre_finite_tail := hPre_finite_tail)
    ∧ quiescent_Entry (hEntry := hEntry)
    ∧ quiescent_EntryIdeal (hEntryIdeal := hEntryIdeal)
    ∧ quiescent_EntryReferenceIdeal (hEntryReferenceIdeal := hEntryReferenceIdeal)
    ∧ quiescent_Post (hPost := hPost)
    ∧ quiescent_PostIdeal (hPostIdeal := hPostIdeal)
    ∧ quiescent_PostReferenceIdeal (hPostReferenceIdeal := hPostReferenceIdeal)
    ∧ preserves_Kernel_KernelIdeal
    ∧ algebraic_KernelIdeal_ReferenceIdeal (hKernelIdeal := hKernelIdeal) (hReferenceIdeal := hReferenceIdeal) (hPre_finite := hPre_finite)
    ∧ preserves_Forward_ForwardIdeal
    ∧ algebraic_ForwardIdeal_ForwardReferenceIdeal (hForwardIdeal := hForwardIdeal) (hForwardReferenceIdeal := hForwardReferenceIdeal) (hPre_finite_qkv := hPre_finite_qkv)
    ∧ preserves_Tail_TailIdeal
    ∧ algebraic_TailIdeal_TailReferenceIdeal (hTailIdeal := hTailIdeal) (hTailReferenceIdeal := hTailReferenceIdeal) (hPre_finite_tail := hPre_finite_tail)
    ∧ preserves_Entry_EntryIdeal
    ∧ algebraic_EntryIdeal_EntryReferenceIdeal (hEntryIdeal := hEntryIdeal) (hEntryReferenceIdeal := hEntryReferenceIdeal)
    ∧ preserves_Post_PostIdeal
    ∧ algebraic_PostIdeal_PostReferenceIdeal (hPostIdeal := hPostIdeal) (hPostReferenceIdeal := hPostReferenceIdeal)
-- ==== Pre_finite.lean ====
abbrev S16x2304x96 : Shape := ⟨3, ![16, 2304, 96]⟩
abbrev S16x2304x64 : Shape := ⟨3, ![16, 2304, 64]⟩
abbrev S2304x1024 : Shape := ⟨2, ![2304, 1024]⟩
abbrev S_ : Shape := ⟨0, ![]⟩

class Facts : Prop where
  bcast_S_S16x2304x96 : S_.BroadcastsInDim S16x2304x96 (![] : Fin 0 → Fin S16x2304x96.rank)
  bcast_S_S16x2304x64 : S_.BroadcastsInDim S16x2304x64 (![] : Fin 0 → Fin S16x2304x64.rank)
  bcast_S_S2304x1024 : S_.BroadcastsInDim S2304x1024 (![] : Fin 0 → Fin S2304x1024.rank)

variable [Facts]

def fn {F : FTy → Type} [FloatOps F] (main_arg0 : FVec F S16x2304x96 .f32) (main_arg1 : FVec F S16x2304x96 .f32) (main_arg2 : FVec F S16x2304x64 .f32) (main_arg3 : FVec F S2304x1024 .f32) : IVec S16x2304x96 1 × IVec S16x2304x96 1 × IVec S16x2304x64 1 × IVec S2304x1024 1 :=
  let main_v0 : FVec F S16x2304x96 .f32 := Host.absf main_arg0
  let main_cst : FVec F S_ .f32 := constant S_ .f32 0x7F800000#32
  let main_v1 : FVec F S16x2304x96 .f32 := broadcastInDim S16x2304x96 ![] bcast_S_S16x2304x96 main_cst
  let main_v2 : IVec S16x2304x96 1 := cmpf .olt main_v0 main_v1
  let main_v3 : FVec F S16x2304x96 .f32 := Host.absf main_arg1
  let main_cst_0 : FVec F S_ .f32 := constant S_ .f32 0x7F800000#32
  let main_v4 : FVec F S16x2304x96 .f32 := broadcastInDim S16x2304x96 ![] bcast_S_S16x2304x96 main_cst_0
  let main_v5 : IVec S16x2304x96 1 := cmpf .olt main_v3 main_v4
  let main_v6 : FVec F S16x2304x64 .f32 := Host.absf main_arg2
  let main_cst_1 : FVec F S_ .f32 := constant S_ .f32 0x7F800000#32
  let main_v7 : FVec F S16x2304x64 .f32 := broadcastInDim S16x2304x64 ![] bcast_S_S16x2304x64 main_cst_1
  let main_v8 : IVec S16x2304x64 1 := cmpf .olt main_v6 main_v7
  let main_v9 : FVec F S2304x1024 .f32 := Host.absf main_arg3
  let main_cst_2 : FVec F S_ .f32 := constant S_ .f32 0x7F800000#32
  let main_v10 : FVec F S2304x1024 .f32 := broadcastInDim S2304x1024 ![] bcast_S_S2304x1024 main_cst_2
  let main_v11 : IVec S2304x1024 1 := cmpf .olt main_v9 main_v10
  (main_v2, main_v5, main_v8, main_v11)
-- ==== Pre_finite_qkv.lean ====
abbrev S16x2304x96 : Shape := ⟨3, ![16, 2304, 96]⟩
abbrev S16x2304x64 : Shape := ⟨3, ![16, 2304, 64]⟩
abbrev S_ : Shape := ⟨0, ![]⟩

class Facts : Prop where
  bcast_S_S16x2304x96 : S_.BroadcastsInDim S16x2304x96 (![] : Fin 0 → Fin S16x2304x96.rank)
  bcast_S_S16x2304x64 : S_.BroadcastsInDim S16x2304x64 (![] : Fin 0 → Fin S16x2304x64.rank)

variable [Facts]

def fn {F : FTy → Type} [FloatOps F] (main_arg0 : FVec F S16x2304x96 .f32) (main_arg1 : FVec F S16x2304x96 .f32) (main_arg2 : FVec F S16x2304x64 .f32) : IVec S16x2304x96 1 × IVec S16x2304x96 1 × IVec S16x2304x64 1 :=
  let main_v0 : FVec F S16x2304x96 .f32 := Host.absf main_arg0
  let main_cst : FVec F S_ .f32 := constant S_ .f32 0x7F800000#32
  let main_v1 : FVec F S16x2304x96 .f32 := broadcastInDim S16x2304x96 ![] bcast_S_S16x2304x96 main_cst
  let main_v2 : IVec S16x2304x96 1 := cmpf .olt main_v0 main_v1
  let main_v3 : FVec F S16x2304x96 .f32 := Host.absf main_arg1
  let main_cst_0 : FVec F S_ .f32 := constant S_ .f32 0x7F800000#32
  let main_v4 : FVec F S16x2304x96 .f32 := broadcastInDim S16x2304x96 ![] bcast_S_S16x2304x96 main_cst_0
  let main_v5 : IVec S16x2304x96 1 := cmpf .olt main_v3 main_v4
  let main_v6 : FVec F S16x2304x64 .f32 := Host.absf main_arg2
  let main_cst_1 : FVec F S_ .f32 := constant S_ .f32 0x7F800000#32
  let main_v7 : FVec F S16x2304x64 .f32 := broadcastInDim S16x2304x64 ![] bcast_S_S16x2304x64 main_cst_1
  let main_v8 : IVec S16x2304x64 1 := cmpf .olt main_v6 main_v7
  (main_v2, main_v5, main_v8)
-- ==== Pre_finite_tail.lean ====
abbrev S2304x1024 : Shape := ⟨2, ![2304, 1024]⟩
abbrev S1024 : Shape := ⟨1, ![1024]⟩
abbrev S2x1024 : Shape := ⟨2, ![2, 1024]⟩
abbrev S1024x2048 : Shape := ⟨2, ![1024, 2048]⟩
abbrev S_ : Shape := ⟨0, ![]⟩

class Facts : Prop where
  bcast_S_S2304x1024 : S_.BroadcastsInDim S2304x1024 (![] : Fin 0 → Fin S2304x1024.rank)
  bcast_S_S1024 : S_.BroadcastsInDim S1024 (![] : Fin 0 → Fin S1024.rank)
  bcast_S_S2x1024 : S_.BroadcastsInDim S2x1024 (![] : Fin 0 → Fin S2x1024.rank)
  bcast_S_S1024x2048 : S_.BroadcastsInDim S1024x2048 (![] : Fin 0 → Fin S1024x2048.rank)

variable [Facts]

def fn_part1 {F : FTy → Type} [FloatOps F] (main_arg6 : FVec F S2304x1024 .f32) (main_arg7 : FVec F S2304x1024 .f32) (main_arg8 : FVec F S2304x1024 .f32) (main_v2 : IVec S2304x1024 1) (main_v5 : IVec S1024 1) (main_v8 : IVec S2x1024 1) (main_v11 : IVec S2x1024 1) (main_v14 : IVec S1024x2048 1) (main_v17 : IVec S2304x1024 1) : IVec S2304x1024 1 × IVec S1024 1 × IVec S2x1024 1 × IVec S2x1024 1 × IVec S1024x2048 1 × IVec S2304x1024 1 × IVec S2304x1024 1 × IVec S2304x1024 1 × IVec S2304x1024 1 :=
  let main_v18 : FVec F S2304x1024 .f32 := Host.absf main_arg6
  let main_cst_5 : FVec F S_ .f32 := constant S_ .f32 0x7F800000#32
  let main_v19 : FVec F S2304x1024 .f32 := broadcastInDim S2304x1024 ![] bcast_S_S2304x1024 main_cst_5
  let main_v20 : IVec S2304x1024 1 := cmpf .olt main_v18 main_v19
  let main_v21 : FVec F S2304x1024 .f32 := Host.absf main_arg7
  let main_cst_6 : FVec F S_ .f32 := constant S_ .f32 0x7F800000#32
  let main_v22 : FVec F S2304x1024 .f32 := broadcastInDim S2304x1024 ![] bcast_S_S2304x1024 main_cst_6
  let main_v23 : IVec S2304x1024 1 := cmpf .olt main_v21 main_v22
  let main_v24 : FVec F S2304x1024 .f32 := Host.absf main_arg8
  let main_cst_7 : FVec F S_ .f32 := constant S_ .f32 0x7F800000#32
  let main_v25 : FVec F S2304x1024 .f32 := broadcastInDim S2304x1024 ![] bcast_S_S2304x1024 main_cst_7
  let main_v26 : IVec S2304x1024 1 := cmpf .olt main_v24 main_v25
  (main_v2, main_v5, main_v8, main_v11, main_v14, main_v17, main_v20, main_v23, main_v26)

def fn {F : FTy → Type} [FloatOps F] (main_arg0 : FVec F S2304x1024 .f32) (main_arg1 : FVec F S1024 .f32) (main_arg2 : FVec F S2x1024 .f32) (main_arg3 : FVec F S2x1024 .f32) (main_arg4 : FVec F S1024x2048 .f32) (main_arg5 : FVec F S2304x1024 .f32) (main_arg6 : FVec F S2304x1024 .f32) (main_arg7 : FVec F S2304x1024 .f32) (main_arg8 : FVec F S2304x1024 .f32) : IVec S2304x1024 1 × IVec S1024 1 × IVec S2x1024 1 × IVec S2x1024 1 × IVec S1024x2048 1 × IVec S2304x1024 1 × IVec S2304x1024 1 × IVec S2304x1024 1 × IVec S2304x1024 1 :=
  let main_v0 : FVec F S2304x1024 .f32 := Host.absf main_arg0
  let main_cst : FVec F S_ .f32 := constant S_ .f32 0x7F800000#32
  let main_v1 : FVec F S2304x1024 .f32 := broadcastInDim S2304x1024 ![] bcast_S_S2304x1024 main_cst
  let main_v2 : IVec S2304x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1024x2048 .f32 := Host.absf main_arg4
  let main_cst_3 : FVec F S_ .f32 := constant S_ .f32 0x7F800000#32
  let main_v13 : FVec F S1024x2048 .f32 := broadcastInDim S1024x2048 ![] bcast_S_S1024x2048 main_cst_3
  let main_v14 : IVec S1024x2048 1 := cmpf .olt main_v12 main_v13
  let main_v15 : FVec F S2304x1024 .f32 := Host.absf main_arg5
  let main_cst_4 : FVec F S_ .f32 := constant S_ .f32 0x7F800000#32
  let main_v16 : FVec F S2304x1024 .f32 := broadcastInDim S2304x1024 ![] bcast_S_S2304x1024 main_cst_4
  let main_v17 : IVec S2304x1024 1 := cmpf .olt main_v15 main_v16
  fn_part1 (F := F) main_arg6 main_arg7 main_arg8 main_v2 main_v5 main_v8 main_v11 main_v14 main_v17
-- ==== Kernel.lean ====
abbrev S16x2304x96 : Shape := ⟨3, ![16, 2304, 96]⟩
abbrev S16x2304x64 : Shape := ⟨3, ![16, 2304, 64]⟩
abbrev S2304x1024 : Shape := ⟨2, ![2304, 1024]⟩
abbrev S16x256x96 : Shape := ⟨3, ![16, 256, 96]⟩
abbrev S16x256x64 : Shape := ⟨3, ![16, 256, 64]⟩
abbrev S16x256x256 : Shape := ⟨3, ![16, 256, 256]⟩
abbrev S_ : Shape := ⟨0, ![]⟩
abbrev S16x256 : Shape := ⟨2, ![16, 256]⟩
abbrev S16x256x1 : Shape := ⟨3, ![16, 256, 1]⟩
abbrev S16x64x256 : Shape := ⟨3, ![16, 64, 256]⟩
abbrev S256x16x64 : Shape := ⟨3, ![256, 16, 64]⟩
abbrev S256x1024 : Shape := ⟨2, ![256, 1024]⟩
abbrev S16x2048x96 : Shape := ⟨3, ![16, 2048, 96]⟩
abbrev S16x2048x2304 : Shape := ⟨3, ![16, 2048, 2304]⟩
abbrev S16x2048 : Shape := ⟨2, ![16, 2048]⟩
abbrev S16x2048x1 : Shape := ⟨3, ![16, 2048, 1]⟩
abbrev S16x64x2048 : Shape := ⟨3, ![16, 64, 2048]⟩
abbrev S2048x16x64 : Shape := ⟨3, ![2048, 16, 64]⟩
abbrev S2048x1024 : Shape := ⟨2, ![2048, 1024]⟩
abbrev S16x2304x1 : Shape := ⟨3, ![16, 2304, 1]⟩
abbrev S4x256x96 : Shape := ⟨3, ![4, 256, 96]⟩
abbrev S4x2304x96 : Shape := ⟨3, ![4, 2304, 96]⟩
abbrev S4x2304x64 : Shape := ⟨3, ![4, 2304, 64]⟩
abbrev S256x256 : Shape := ⟨2, ![256, 256]⟩
abbrev S4x256x1 : Shape := ⟨3, ![4, 256, 1]⟩
abbrev S1x256x96 : Shape := ⟨3, ![1, 256, 96]⟩
abbrev S256x96 : Shape := ⟨2, ![256, 96]⟩
abbrev S256x64 : Shape := ⟨2, ![256, 64]⟩
abbrev S1x256x1 : Shape := ⟨3, ![1, 256, 1]⟩
abbrev S256x1 : Shape := ⟨2, ![256, 1]⟩
abbrev S256 : Shape := ⟨1, ![256]⟩
abbrev S1x256x64 : Shape := ⟨3, ![1, 256, 64]⟩
abbrev S1x2304x96 : Shape := ⟨3, ![1, 2304, 96]⟩
abbrev S2304x96 : Shape := ⟨2, ![2304, 96]⟩
abbrev S256x2304 : Shape := ⟨2, ![256, 2304]⟩
abbrev S1x2304x64 : Shape := ⟨3, ![1, 2304, 64]⟩
abbrev S2304x64 : Shape := ⟨2, ![2304, 64]⟩

abbrev nBuf : Space → Nat
  | .hbm => 77
  | .vmem => 18
  | .smem => 0
  | _ => 0

abbrev bufTy : (tb : Table) → Fin (tcTables nBuf tb) → BufTy
  | .hbm, ⟨0, _⟩ => ⟨S16x2304x96, .f32⟩
  | .hbm, ⟨1, _⟩ => ⟨S16x2304x96, .f32⟩
  | .hbm, ⟨2, _⟩ => ⟨S16x2304x64, .f32⟩
  | .hbm, ⟨3, _⟩ => ⟨S2304x1024, .f32⟩
  | .hbm, ⟨4, _⟩ => ⟨S16x256x96, .f32⟩
  | .hbm, ⟨5, _⟩ => ⟨S16x256x96, .f32⟩
  | .hbm, ⟨6, _⟩ => ⟨S16x256x64, .f32⟩
  | .hbm, ⟨7, _⟩ => ⟨S16x256x256, .f32⟩
  | .hbm, ⟨8, _⟩ => ⟨S_, .f32⟩
  | .hbm, ⟨9, _⟩ => ⟨S_, .f32⟩
  | .hbm, ⟨10, _⟩ => ⟨S16x256x256, .f32⟩
  | .hbm, ⟨11, _⟩ => ⟨S16x256x256, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S16x256x256, .f32⟩
  | .hbm, ⟨16, _⟩ => ⟨S16x256x256, .f32⟩
  | .hbm, ⟨17, _⟩ => ⟨S16x256x256, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S16x256x256, .f32⟩
  | .hbm, ⟨22, _⟩ => ⟨S16x256x256, .f32⟩
  | .hbm, ⟨23, _⟩ => ⟨S16x64x256, .f32⟩
  | .hbm, ⟨24, _⟩ => ⟨S256x16x64, .f32⟩
  | .hbm, ⟨25, _⟩ => ⟨S256x1024, .f32⟩
  | .hbm, ⟨26, _⟩ => ⟨S16x256x1, .f32⟩
  | .hbm, ⟨27, _⟩ => ⟨S16x256x1, .f32⟩
  | .hbm, ⟨28, _⟩ => ⟨S_, .f32⟩
  | .hbm, ⟨29, _⟩ => ⟨S_, .f32⟩
  | .hbm, ⟨30, _⟩ => ⟨S16x256x1, .f32⟩
  | .hbm, ⟨31, _⟩ => ⟨S16x256x1, .f32⟩
  | .hbm, ⟨32, _⟩ => ⟨S16x2048x96, .f32⟩
  | .hbm, ⟨33, _⟩ => ⟨S16x2048x2304, .f32⟩
  | .hbm, ⟨34, _⟩ => ⟨S_, .f32⟩
  | .hbm, ⟨35, _⟩ => ⟨S_, .f32⟩
  | .hbm, ⟨36, _⟩ => ⟨S16x2048x2304, .f32⟩
  | .hbm, ⟨37, _⟩ => ⟨S16x2048x2304, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S16x2048x2304, .f32⟩
  | .hbm, ⟨42, _⟩ => ⟨S16x2048x2304, .f32⟩
  | .hbm, ⟨43, _⟩ => ⟨S16x2048x2304, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S16x2048x2304, .f32⟩
  | .hbm, ⟨48, _⟩ => ⟨S16x2048x2304, .f32⟩
  | .hbm, ⟨49, _⟩ => ⟨S16x64x2048, .f32⟩
  | .hbm, ⟨50, _⟩ => ⟨S2048x16x64, .f32⟩
  | .hbm, ⟨51, _⟩ => ⟨S2048x1024, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S_, .f32⟩
  | .hbm, ⟨56, _⟩ => ⟨S16x2048x1, .f32⟩
  | .hbm, ⟨57, _⟩ => ⟨S16x2048x1, .f32⟩
  | .hbm, ⟨58, _⟩ => ⟨S2304x1024, .f32⟩
  | .hbm, ⟨59, _⟩ => ⟨S16x2304x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S16x2304x96, .f32⟩
  | .hbm, ⟨70, _⟩ => ⟨S16x2304x96, .f32⟩
  | .hbm, ⟨71, _⟩ => ⟨S16x2304x96, .bf16⟩
  | .hbm, ⟨72, _⟩ => ⟨S16x2304x96, .bf16⟩
  | .hbm, ⟨73, _⟩ => ⟨S16x2304x64, .bf16⟩
  | .hbm, ⟨74, _⟩ => ⟨S16x2304x96, .f32⟩
  | .hbm, ⟨75, _⟩ => ⟨S16x2304x96, .f32⟩
  | .hbm, ⟨76, _⟩ => ⟨S16x2304x64, .f32⟩
  | .local _ .vmem, ⟨0, _⟩ => ⟨S4x256x96, .bf16⟩
  | .local _ .vmem, ⟨1, _⟩ => ⟨S4x256x96, .bf16⟩
  | .local _ .vmem, ⟨2, _⟩ => ⟨S4x2304x96, .bf16⟩
  | .local _ .vmem, ⟨3, _⟩ => ⟨S4x2304x96, .bf16⟩
  | .local _ .vmem, ⟨4, _⟩ => ⟨S4x2304x64, .bf16⟩
  | .local _ .vmem, ⟨5, _⟩ => ⟨S4x2304x64, .bf16⟩
  | .local _ .vmem, ⟨6, _⟩ => ⟨S256x256, .f32⟩
  | .local _ .vmem, ⟨7, _⟩ => ⟨S256x256, .f32⟩
  | .local _ .vmem, ⟨8, _⟩ => ⟨S4x256x1, .f32⟩
  | .local _ .vmem, ⟨9, _⟩ => ⟨S4x256x1, .f32⟩
  | .local _ .vmem, ⟨10, _⟩ => ⟨S256x256, .f32⟩
  | .local _ .vmem, ⟨11, _⟩ => ⟨S256x256, .f32⟩
  | .local _ .vmem, ⟨12, _⟩ => ⟨S4x256x96, .f32⟩
  | .local _ .vmem, ⟨13, _⟩ => ⟨S4x256x96, .f32⟩
  | .local _ .vmem, ⟨14, _⟩ => ⟨S4x2304x96, .f32⟩
  | .local _ .vmem, ⟨15, _⟩ => ⟨S4x2304x96, .f32⟩
  | .local _ .vmem, ⟨16, _⟩ => ⟨S4x2304x64, .f32⟩
  | .local _ .vmem, ⟨17, _⟩ => ⟨S4x2304x64, .f32⟩
  | _, _ => ⟨S16x2304x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58_0 : Ref sig .tc := ⟨.hbm, 74, rfl⟩
abbrev main_v58_1 : Ref sig .tc := ⟨.hbm, 75, rfl⟩
abbrev main_v58_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let v7 : BitVec 32 := Scalar.extui v6
  let c0_i32_4 : BitVec 32 := 0#32
  let v8 : BitVec 1 := Scalar.cmpi .ne v7 c0_i32_4
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2304x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x2304x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x2304x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x2304x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16x2304x96 : Shape := ⟨3, ![16, 2304, 96]⟩
abbrev S16x2304x64 : Shape := ⟨3, ![16, 2304, 64]⟩
abbrev S2304x1024 : Shape := ⟨2, ![2304, 1024]⟩
abbrev S16x256x96 : Shape := ⟨3, ![16, 256, 96]⟩
abbrev S16x256x64 : Shape := ⟨3, ![16, 256, 64]⟩
abbrev S16x256x256 : Shape := ⟨3, ![16, 256, 256]⟩
abbrev S_ : Shape := ⟨0, ![]⟩
abbrev S16x256 : Shape := ⟨2, ![16, 256]⟩
abbrev S16x256x1 : Shape := ⟨3, ![16, 256, 1]⟩
abbrev S16x64x256 : Shape := ⟨3, ![16, 64, 256]⟩
abbrev S256x16x64 : Shape := ⟨3, ![256, 16, 64]⟩
abbrev S16x2048x96 : Shape := ⟨3, ![16, 2048, 96]⟩
abbrev S16x2048x2304 : Shape := ⟨3, ![16, 2048, 2304]⟩
abbrev S16x2048 : Shape := ⟨2, ![16, 2048]⟩
abbrev S16x2048x1 : Shape := ⟨3, ![16, 2048, 1]⟩
abbrev S16x64x2048 : Shape := ⟨3, ![16, 64, 2048]⟩
abbrev S2048x16x64 : Shape := ⟨3, ![2048, 16, 64]⟩
abbrev S2304x16x64 : Shape := ⟨3, ![2304, 16, 64]⟩
abbrev S16x64x2304 : Shape := ⟨3, ![16, 64, 2304]⟩

abbrev nBuf : Space → Nat
  | .hbm => 166
  | .vmem => 0
  | .smem => 0
  | _ => 0

abbrev hbmTy0_0 (i : Nat) : BufTy := match i % 128 with
  | 0 => ⟨S16x2304x96, .f32⟩
  | 1 => ⟨S16x2304x96, .f32⟩
  | 2 => ⟨S16x2304x64, .f32⟩
  | 3 => ⟨S2304x1024, .f32⟩
  | 4 => ⟨S16x256x96, .f32⟩
  | 5 => ⟨S16x256x96, .f32⟩
  | 6 => ⟨S16x256x64, .f32⟩
  | 7 => ⟨S16x256x256, .f32⟩
  | 8 => ⟨S_, .f32⟩
  | 9 => ⟨S_, .f32⟩
  | 10 => ⟨S16x256x256, .f32⟩
  | 11 => ⟨S16x256x256, .f32⟩
  | 12 => ⟨S_, .f32⟩
  | 13 => ⟨S16x256, .f32⟩
  | 14 => ⟨S16x256x1, .f32⟩
  | 15 => ⟨S16x256x256, .f32⟩
  | 16 => ⟨S16x256x256, .i1⟩
  | 17 => ⟨S16x256x256, .f32⟩
  | 18 => ⟨S_, .f32⟩
  | 19 => ⟨S16x256, .f32⟩
  | 20 => ⟨S_, .f32⟩
  | 21 => ⟨S16x256, .f32⟩
  | 22 => ⟨S16x256, .f32⟩
  | 23 => ⟨S_, .f32⟩
  | 24 => ⟨S16x256, .f32⟩
  | 25 => ⟨S16x256, .i1⟩
  | 26 => ⟨S_, .f32⟩
  | 27 => ⟨S16x256, .f32⟩
  | 28 => ⟨S16x256, .i1⟩
  | 29 => ⟨S_, .f32⟩
  | 30 => ⟨S16x256, .f32⟩
  | 31 => ⟨S_, .f32⟩
  | 32 => ⟨S16x256, .f32⟩
  | 33 => ⟨S_, .f32⟩
  | 34 => ⟨S16x256, .f32⟩
  | 35 => ⟨S16x256, .f32⟩
  | 36 => ⟨S16x256, .f32⟩
  | 37 => ⟨S16x256x1, .f32⟩
  | 38 => ⟨S16x256x256, .f32⟩
  | 39 => ⟨S16x256x256, .f32⟩
  | 40 => ⟨S16x256x256, .f32⟩
  | 41 => ⟨S_, .f32⟩
  | 42 => ⟨S16x256, .f32⟩
  | 43 => ⟨S16x256x1, .f32⟩
  | 44 => ⟨S16x256x256, .f32⟩
  | 45 => ⟨S16x256x256, .f32⟩
  | 46 => ⟨S16x256x1, .f32⟩
  | 47 => ⟨S_, .f32⟩
  | 48 => ⟨S16x256x1, .f32⟩
  | 49 => ⟨S16x256x1, .f32⟩
  | 50 => ⟨S16x64x256, .f32⟩
  | 51 => ⟨S256x16x64, .f32⟩
  | 52 => ⟨S16x2048x96, .f32⟩
  | 53 => ⟨S16x2048x2304, .f32⟩
  | 54 => ⟨S_, .f32⟩
  | 55 => ⟨S_, .f32⟩
  | 56 => ⟨S16x2048x2304, .f32⟩
  | 57 => ⟨S16x2048x2304, .f32⟩
  | 58 => ⟨S_, .f32⟩
  | 59 => ⟨S16x2048, .f32⟩
  | 60 => ⟨S16x2048x1, .f32⟩
  | 61 => ⟨S16x2048x2304, .f32⟩
  | 62 => ⟨S16x2048x2304, .i1⟩
  | 63 => ⟨S16x2048x2304, .f32⟩
  | 64 => ⟨S_, .f32⟩
  | 65 => ⟨S16x2048, .f32⟩
  | 66 => ⟨S_, .f32⟩
  | 67 => ⟨S16x2048, .f32⟩
  | 68 => ⟨S16x2048, .f32⟩
  | 69 => ⟨S_, .f32⟩
  | 70 => ⟨S16x2048, .f32⟩
  | 71 => ⟨S16x2048, .i1⟩
  | 72 => ⟨S_, .f32⟩
  | 73 => ⟨S16x2048, .f32⟩
  | 74 => ⟨S16x2048, .i1⟩
  | 75 => ⟨S_, .f32⟩
  | 76 => ⟨S16x2048, .f32⟩
  | 77 => ⟨S_, .f32⟩
  | 78 => ⟨S16x2048, .f32⟩
  | 79 => ⟨S_, .f32⟩
  | 80 => ⟨S16x2048, .f32⟩
  | 81 => ⟨S16x2048, .f32⟩
  | 82 => ⟨S16x2048, .f32⟩
  | 83 => ⟨S16x2048x1, .f32⟩
  | 84 => ⟨S16x2048x2304, .f32⟩
  | 85 => ⟨S16x2048x2304, .f32⟩
  | 86 => ⟨S16x2048x2304, .f32⟩
  | 87 => ⟨S_, .f32⟩
  | 88 => ⟨S16x2048, .f32⟩
  | 89 => ⟨S16x2048x1, .f32⟩
  | 90 => ⟨S16x2048x2304, .f32⟩
  | 91 => ⟨S16x2048x2304, .f32⟩
  | 92 => ⟨S16x2048x1, .f32⟩
  | 93 => ⟨S_, .f32⟩
  | 94 => ⟨S16x2048x1, .f32⟩
  | 95 => ⟨S16x2048x1, .f32⟩
  | 96 => ⟨S16x64x2048, .f32⟩
  | 97 => ⟨S2048x16x64, .f32⟩
  | 98 => ⟨S2304x16x64, .f32⟩
  | 99 => ⟨S2304x1024, .f32⟩
  | 100 => ⟨S2304x16x64, .f32⟩
  | 101 => ⟨S256x16x64, .f32⟩
  | 102 => ⟨S2048x16x64, .f32⟩
  | 103 => ⟨S16x64x2048, .f32⟩
  | 104 => ⟨S16x2048x2304, .f32⟩
  | 105 => ⟨S16x64x2304, .f32⟩
  | 106 => ⟨S16x2304x64, .f32⟩
  | 107 => ⟨S16x2048x2304, .f32⟩
  | 108 => ⟨S16x2048x2304, .f32⟩
  | 109 => ⟨S16x2048x2304, .f32⟩
  | 110 => ⟨S_, .f32⟩
  | 111 => ⟨S16x2048, .f32⟩
  | 112 => ⟨S16x2048x1, .f32⟩
  | 113 => ⟨S16x2048x1, .f32⟩
  | 114 => ⟨S16x2048x2304, .f32⟩
  | 115 => ⟨S16x2048x2304, .f32⟩
  | 116 => ⟨S_, .f32⟩
  | 117 => ⟨S16x2048, .f32⟩
  | 118 => ⟨S16x2048x2304, .f32⟩
  | 119 => ⟨S16x2048x2304, .f32⟩
  | 120 => ⟨S16x2048x2304, .f32⟩
  | 121 => ⟨S16x2048x2304, .f32⟩
  | 122 => ⟨S16x2048x2304, .f32⟩
  | 123 => ⟨S16x2304x96, .f32⟩
  | 124 => ⟨S16x2048x96, .f32⟩
  | 125 => ⟨S_, .f32⟩
  | 126 => ⟨S16x2304x96, .f32⟩
  | 127 => ⟨S16x64x256, .f32⟩
  | _ => ⟨S16x2304x96, .f32⟩

abbrev hbmTy0_1 (i : Nat) : BufTy := match i % 128 with
  | 0 => ⟨S16x256x256, .f32⟩
  | 1 => ⟨S16x64x256, .f32⟩
  | 2 => ⟨S16x256x64, .f32⟩
  | 3 => ⟨S16x256x256, .f32⟩
  | 4 => ⟨S16x256x256, .f32⟩
  | 5 => ⟨S16x256x256, .f32⟩
  | 6 => ⟨S_, .f32⟩
  | 7 => ⟨S16x256, .f32⟩
  | 8 => ⟨S16x256x1, .f32⟩
  | 9 => ⟨S16x256x1, .f32⟩
  | 10 => ⟨S16x256x256, .f32⟩
  | 11 => ⟨S16x256x256, .f32⟩
  | 12 => ⟨S_, .f32⟩
  | 13 => ⟨S16x256, .f32⟩
  | 14 => ⟨S16x256x256, .f32⟩
  | 15 => ⟨S16x256x256, .f32⟩
  | 16 => ⟨S16x256x256, .f32⟩
  | 17 => ⟨S16x256x256, .f32⟩
  | 18 => ⟨S16x256x256, .f32⟩
  | 19 => ⟨S16x256x96, .f32⟩
  | 20 => ⟨S16x256x96, .f32⟩
  | 21 => ⟨S_, .f32⟩
  | 22 => ⟨S16x2304x64, .f32⟩
  | 23 => ⟨S16x2304x64, .f32⟩
  | 24 => ⟨S_, .f32⟩
  | 25 => ⟨S16x2304x96, .f32⟩
  | 26 => ⟨S16x2304x96, .f32⟩
  | 27 => ⟨S_, .f32⟩
  | 28 => ⟨S16x2304x96, .f32⟩
  | 29 => ⟨S16x2304x96, .f32⟩
  | 30 => ⟨S_, .f32⟩
  | 31 => ⟨S_, .f32⟩
  | 32 => ⟨S16x2304x96, .f32⟩
  | 33 => ⟨S16x2304x96, .f32⟩
  | 34 => ⟨S_, .f32⟩
  | 35 => ⟨S_, .f32⟩
  | 36 => ⟨S16x2304x96, .f32⟩
  | 37 => ⟨S16x2304x96, .f32⟩
  | _ => ⟨S16x2304x96, .f32⟩

abbrev hbmTy (i : Nat) : BufTy := match i / 128 with
  | 0 => hbmTy0_0 i
  | 1 => hbmTy0_1 i
  | _ => ⟨S16x2304x96, .f32⟩

abbrev bufTy : (tb : Table) → Fin (tcTables nBuf tb) → BufTy
  | .hbm, ⟨i, _⟩ => hbmTy i
  | _, _ => ⟨S16x2304x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_cst_14 : Ref sig .tc := ⟨.hbm, 69, rfl⟩
abbrev main_v50 : Ref sig .tc := ⟨.hbm, 70, rfl⟩
abbrev main_v51 : Ref sig .tc := ⟨.hbm, 71, rfl⟩
abbrev main_cst_15 : Ref sig .tc := ⟨.hbm, 72, rfl⟩
abbrev main_v52 : Ref sig .tc := ⟨.hbm, 73, rfl⟩
abbrev main_v53 : Ref sig .tc := ⟨.hbm, 74, rfl⟩
abbrev main_cst_16 : Ref sig .tc := ⟨.hbm, 75, rfl⟩
abbrev main_v54 : Ref sig .tc := ⟨.hbm, 76, rfl⟩
abbrev main_cst_17 : Ref sig .tc := ⟨.hbm, 77, rfl⟩
abbrev main_v55 : Ref sig .tc := ⟨.hbm, 78, rfl⟩
abbrev main_cst_18 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_19 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_20 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_21 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_22 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_23 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_24 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_25 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_26 : Ref sig .tc := ⟨.hbm, 149, rfl⟩
abbrev main_v118 : Ref sig .tc := ⟨.hbm, 150, rfl⟩
abbrev main_v119 : Ref sig .tc := ⟨.hbm, 151, rfl⟩
abbrev main_cst_27 : Ref sig .tc := ⟨.hbm, 152, rfl⟩
abbrev main_v120 : Ref sig .tc := ⟨.hbm, 153, rfl⟩
abbrev main_v121 : Ref sig .tc := ⟨.hbm, 154, rfl⟩
abbrev main_cst_28 : Ref sig .tc := ⟨.hbm, 155, rfl⟩
abbrev main_v122 : Ref sig .tc := ⟨.hbm, 156, rfl⟩
abbrev main_v123 : Ref sig .tc := ⟨.hbm, 157, rfl⟩
abbrev main_cst_29 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_30 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩

abbrev nD : Nat := 1
abbrev τ : Topo := Topo.v7x

variable {F : FTy → Type} [FloatOps F]
-- ==== Forward.lean ====
abbrev S16x2304x96 : Shape := ⟨3, ![16, 2304, 96]⟩
abbrev S16x2304x64 : Shape := ⟨3, ![16, 2304, 64]⟩
abbrev S_ : Shape := ⟨0, ![]⟩
abbrev S2304x1024 : Shape := ⟨2, ![2304, 1024]⟩
abbrev S16x2304x1 : Shape := ⟨3, ![16, 2304, 1]⟩
abbrev S8x256x96 : Shape := ⟨3, ![8, 256, 96]⟩
abbrev S8x2304x96 : Shape := ⟨3, ![8, 2304, 96]⟩
abbrev S8x2304x64 : Shape := ⟨3, ![8, 2304, 64]⟩
abbrev S256x512 : Shape := ⟨2, ![256, 512]⟩
abbrev S8x256x1 : Shape := ⟨3, ![8, 256, 1]⟩
abbrev S1x256x96 : Shape := ⟨3, ![1, 256, 96]⟩
abbrev S256x96 : Shape := ⟨2, ![256, 96]⟩
abbrev S256x256 : Shape := ⟨2, ![256, 256]⟩
abbrev S256 : Shape := ⟨1, ![256]⟩
abbrev S256x1 : Shape := ⟨2, ![256, 1]⟩
abbrev S1x256x64 : Shape := ⟨3, ![1, 256, 64]⟩
abbrev S256x64 : Shape := ⟨2, ![256, 64]⟩
abbrev S1x256x1 : Shape := ⟨3, ![1, 256, 1]⟩
abbrev S1x2304x96 : Shape := ⟨3, ![1, 2304, 96]⟩
abbrev S2304x96 : Shape := ⟨2, ![2304, 96]⟩
abbrev S256x2304 : Shape := ⟨2, ![256, 2304]⟩
abbrev S1x2304x64 : Shape := ⟨3, ![1, 2304, 64]⟩
abbrev S2304x64 : Shape := ⟨2, ![2304, 64]⟩

abbrev nBuf : Space → Nat
  | .hbm => 19
  | .vmem => 10
  | .smem => 0
  | _ => 0

abbrev bufTy : (tb : Table) → Fin (tcTables nBuf tb) → BufTy
  | .hbm, ⟨0, _⟩ => ⟨S16x2304x96, .f32⟩
  | .hbm, ⟨1, _⟩ => ⟨S16x2304x96, .f32⟩
  | .hbm, ⟨2, _⟩ => ⟨S16x2304x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x2304x96, .f32⟩
  | .hbm, ⟨13, _⟩ => ⟨S16x2304x96, .f32⟩
  | .hbm, ⟨14, _⟩ => ⟨S16x2304x96, .bf16⟩
  | .hbm, ⟨15, _⟩ => ⟨S16x2304x96, .bf16⟩
  | .hbm, ⟨16, _⟩ => ⟨S16x2304x64, .bf16⟩
  | .hbm, ⟨17, _⟩ => ⟨S2304x1024, .f32⟩
  | .hbm, ⟨18, _⟩ => ⟨S16x2304x1, .f32⟩
  | .local _ .vmem, ⟨0, _⟩ => ⟨S8x256x96, .bf16⟩
  | .local _ .vmem, ⟨1, _⟩ => ⟨S8x256x96, .bf16⟩
  | .local _ .vmem, ⟨2, _⟩ => ⟨S8x2304x96, .bf16⟩
  | .local _ .vmem, ⟨3, _⟩ => ⟨S8x2304x96, .bf16⟩
  | .local _ .vmem, ⟨4, _⟩ => ⟨S8x2304x64, .bf16⟩
  | .local _ .vmem, ⟨5, _⟩ => ⟨S8x2304x64, .bf16⟩
  | .local _ .vmem, ⟨6, _⟩ => ⟨S256x512, .f32⟩
  | .local _ .vmem, ⟨7, _⟩ => ⟨S256x512, .f32⟩
  | .local _ .vmem, ⟨8, _⟩ => ⟨S8x256x1, .f32⟩
  | .local _ .vmem, ⟨9, _⟩ => ⟨S8x256x1, .f32⟩
  | _, _ => ⟨S16x2304x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2304x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2304x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ForwardReferenceIdeal.lean ====
abbrev S16x2304x96 : Shape := ⟨3, ![16, 2304, 96]⟩
abbrev S16x2304x64 : Shape := ⟨3, ![16, 2304, 64]⟩
abbrev S16x256x96 : Shape := ⟨3, ![16, 256, 96]⟩
abbrev S16x256x64 : Shape := ⟨3, ![16, 256, 64]⟩
abbrev S16x256x256 : Shape := ⟨3, ![16, 256, 256]⟩
abbrev S_ : Shape := ⟨0, ![]⟩
abbrev S16x256 : Shape := ⟨2, ![16, 256]⟩
abbrev S16x256x1 : Shape := ⟨3, ![16, 256, 1]⟩
abbrev S16x64x256 : Shape := ⟨3, ![16, 64, 256]⟩
abbrev S256x16x64 : Shape := ⟨3, ![256, 16, 64]⟩
abbrev S256x1024 : Shape := ⟨2, ![256, 1024]⟩
abbrev S16x2048x96 : Shape := ⟨3, ![16, 2048, 96]⟩
abbrev S16x2048x2304 : Shape := ⟨3, ![16, 2048, 2304]⟩
abbrev S16x2048 : Shape := ⟨2, ![16, 2048]⟩
abbrev S16x2048x1 : Shape := ⟨3, ![16, 2048, 1]⟩
abbrev S16x64x2048 : Shape := ⟨3, ![16, 64, 2048]⟩
abbrev S2048x16x64 : Shape := ⟨3, ![2048, 16, 64]⟩
abbrev S2048x1024 : Shape := ⟨2, ![2048, 1024]⟩
abbrev S2304x1024 : Shape := ⟨2, ![2304, 1024]⟩
abbrev S16x2304x1 : Shape := ⟨3, ![16, 2304, 1]⟩

abbrev nBuf : Space → Nat
  | .hbm => 59
  | .vmem => 0
  | .smem => 0
  | _ => 0

abbrev bufTy : (tb : Table) → Fin (tcTables nBuf tb) → BufTy
  | .hbm, ⟨0, _⟩ => ⟨S16x2304x96, .f32⟩
  | .hbm, ⟨1, _⟩ => ⟨S16x2304x96, .f32⟩
  | .hbm, ⟨2, _⟩ => ⟨S16x2304x64, .f32⟩
  | .hbm, ⟨3, _⟩ => ⟨S16x256x96, .f32⟩
  | .hbm, ⟨4, _⟩ => ⟨S16x256x96, .f32⟩
  | .hbm, ⟨5, _⟩ => ⟨S16x256x64, .f32⟩
  | .hbm, ⟨6, _⟩ => ⟨S16x256x256, .f32⟩
  | .hbm, ⟨7, _⟩ => ⟨S_, .f32⟩
  | .hbm, ⟨8, _⟩ => ⟨S_, .f32⟩
  | .hbm, ⟨9, _⟩ => ⟨S16x256x256, .f32⟩
  | .hbm, ⟨10, _⟩ => ⟨S16x256x256, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S16x256x256, .f32⟩
  | .hbm, ⟨15, _⟩ => ⟨S16x256x256, .f32⟩
  | .hbm, ⟨16, _⟩ => ⟨S16x256x256, .f32⟩
  | .hbm, ⟨17, _⟩ => ⟨S_, .f32⟩
  | .hbm, ⟨18, _⟩ => ⟨S16x256, .f32⟩
  | .hbm, ⟨19, _⟩ => ⟨S16x256x1, .f32⟩
  | .hbm, ⟨20, _⟩ => ⟨S16x256x256, .f32⟩
  | .hbm, ⟨21, _⟩ => ⟨S16x256x256, .f32⟩
  | .hbm, ⟨22, _⟩ => ⟨S16x64x256, .f32⟩
  | .hbm, ⟨23, _⟩ => ⟨S256x16x64, .f32⟩
  | .hbm, ⟨24, _⟩ => ⟨S256x1024, .f32⟩
  | .hbm, ⟨25, _⟩ => ⟨S16x256x1, .f32⟩
  | .hbm, ⟨26, _⟩ => ⟨S16x256x1, .f32⟩
  | .hbm, ⟨27, _⟩ => ⟨S_, .f32⟩
  | .hbm, ⟨28, _⟩ => ⟨S_, .f32⟩
  | .hbm, ⟨29, _⟩ => ⟨S16x256x1, .f32⟩
  | .hbm, ⟨30, _⟩ => ⟨S16x256x1, .f32⟩
  | .hbm, ⟨31, _⟩ => ⟨S16x2048x96, .f32⟩
  | .hbm, ⟨32, _⟩ => ⟨S16x2048x2304, .f32⟩
  | .hbm, ⟨33, _⟩ => ⟨S_, .f32⟩
  | .hbm, ⟨34, _⟩ => ⟨S_, .f32⟩
  | .hbm, ⟨35, _⟩ => ⟨S16x2048x2304, .f32⟩
  | .hbm, ⟨36, _⟩ => ⟨S16x2048x2304, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S16x2048x2304, .f32⟩
  | .hbm, ⟨41, _⟩ => ⟨S16x2048x2304, .f32⟩
  | .hbm, ⟨42, _⟩ => ⟨S16x2048x2304, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S16x2048x2304, .f32⟩
  | .hbm, ⟨47, _⟩ => ⟨S16x2048x2304, .f32⟩
  | .hbm, ⟨48, _⟩ => ⟨S16x64x2048, .f32⟩
  | .hbm, ⟨49, _⟩ => ⟨S2048x16x64, .f32⟩
  | .hbm, ⟨50, _⟩ => ⟨S2048x1024, .f32⟩
  | .hbm, ⟨51, _⟩ => ⟨S16x2048x1, .f32⟩
  | .hbm, ⟨52, _⟩ => ⟨S16x2048x1, .f32⟩
  | .hbm, ⟨53, _⟩ => ⟨S_, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S2304x1024, .f32⟩
  | .hbm, ⟨58, _⟩ => ⟨S16x2304x1, .f32⟩
  | _, _ => ⟨S16x2304x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Tail.lean ====
abbrev S2304x1024 : Shape := ⟨2, ![2304, 1024]⟩
abbrev S1024 : Shape := ⟨1, ![1024]⟩
abbrev S2x1024 : Shape := ⟨2, ![2, 1024]⟩
abbrev S1024x2048 : Shape := ⟨2, ![1024, 2048]⟩
abbrev S1x1024 : Shape := ⟨2, ![1, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S2048 : Shape := ⟨1, ![2048]⟩
abbrev S2048x1 : Shape := ⟨2, ![2048, 1]⟩
abbrev S1x1x1024 : Shape := ⟨3, ![1, 1, 1024]⟩
abbrev S2x1x1024 : Shape := ⟨3, ![2, 1, 1024]⟩
abbrev S8x1024x256 : Shape := ⟨3, ![8, 1024, 256]⟩
abbrev S256x2048 : Shape := ⟨2, ![256, 2048]⟩
abbrev S256x256 : Shape := ⟨2, ![256, 256]⟩
abbrev S1024x256 : Shape := ⟨2, ![1024, 256]⟩
abbrev S1x1024x256 : Shape := ⟨3, ![1, 1024, 256]⟩

abbrev nBuf : Space → Nat
  | .hbm => 89
  | .vmem => 27
  | .smem => 0
  | _ => 0

abbrev bufTy : (tb : Table) → Fin (tcTables nBuf tb) → BufTy
  | .hbm, ⟨0, _⟩ => ⟨S2304x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2048, .f32⟩
  | .hbm, ⟨5, _⟩ => ⟨S2304x1024, .f32⟩
  | .hbm, ⟨6, _⟩ => ⟨S2304x1024, .f32⟩
  | .hbm, ⟨7, _⟩ => ⟨S2304x1024, .f32⟩
  | .hbm, ⟨8, _⟩ => ⟨S2304x1024, .f32⟩
  | .hbm, ⟨9, _⟩ => ⟨S1x1024, .f32⟩
  | .hbm, ⟨10, _⟩ => ⟨S1x1024, .f32⟩
  | .hbm, ⟨11, _⟩ => ⟨S2x1024, .f32⟩
  | .hbm, ⟨12, _⟩ => ⟨S256x1024, .f32⟩
  | .hbm, ⟨13, _⟩ => ⟨S1x1024, .f32⟩
  | .hbm, ⟨14, _⟩ => ⟨S1024, .f32⟩
  | .hbm, ⟨15, _⟩ => ⟨S256x1024, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x1024, .f32⟩
  | .hbm, ⟨27, _⟩ => ⟨S256x1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S1x1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S256x1024, .f32⟩
  | .hbm, ⟨38, _⟩ => ⟨S256x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S256x1024, .f32⟩
  | .hbm, ⟨43, _⟩ => ⟨S256x1024, .f32⟩
  | .hbm, ⟨44, _⟩ => ⟨S2048x1024, .f32⟩
  | .hbm, ⟨45, _⟩ => ⟨S1x1024, .f32⟩
  | .hbm, ⟨46, _⟩ => ⟨S1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S1x1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S1x1024, .f32⟩
  | .hbm, ⟨72, _⟩ => ⟨S1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S2304x1024, .f32⟩
  | .hbm, ⟨77, _⟩ => ⟨S2304x1024, .bf16⟩
  | .hbm, ⟨78, _⟩ => ⟨S2304x1024, .bf16⟩
  | .hbm, ⟨79, _⟩ => ⟨S1x1x1024, .f32⟩
  | .hbm, ⟨80, _⟩ => ⟨S2x1x1024, .f32⟩
  | .hbm, ⟨81, _⟩ => ⟨S2x1x1024, .f32⟩
  | .hbm, ⟨82, _⟩ => ⟨S2048x1024, .f32⟩
  | .hbm, ⟨83, _⟩ => ⟨S2048x1024, .bf16⟩
  | .hbm, ⟨84, _⟩ => ⟨S2304x1024, .f32⟩
  | .hbm, ⟨85, _⟩ => ⟨S2x1x1024, .f32⟩
  | .hbm, ⟨86, _⟩ => ⟨S2x1x1024, .f32⟩
  | .hbm, ⟨87, _⟩ => ⟨S2x1x1024, .f32⟩
  | .hbm, ⟨88, _⟩ => ⟨S8x1024x256, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S2048x1024, .bf16⟩
  | .local _ .vmem, ⟨17, _⟩ => ⟨S256x1024, .f32⟩
  | .local _ .vmem, ⟨18, _⟩ => ⟨S256x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S8x1024x256, .bf16⟩
  | .local _ .vmem, ⟨26, _⟩ => ⟨S8x1024x256, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67_0 : Ref sig .tc := ⟨.hbm, 84, rfl⟩
abbrev main_v67_1 : Ref sig .tc := ⟨.hbm, 85, rfl⟩
abbrev main_v67_2 : Ref sig .tc := ⟨.hbm, 86, rfl⟩
abbrev main_v67_3 : Ref sig .tc := ⟨.hbm, 87, rfl⟩
abbrev main_v67_4 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c8_i32 : BitVec 32 := 8#32
  let v110 : BitVec 1 := Scalar.cmpi .eq arg0 c8_i32
  let v111 : BitVec 32 := Scalar.extui v110
  let c0_i32_64 : BitVec 32 := 0#32
  let v112 : BitVec 1 := Scalar.cmpi .ne v111 c0_i32_64
  v112

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== TailReferenceIdeal.lean ====
abbrev S2304x1024 : Shape := ⟨2, ![2304, 1024]⟩
abbrev S1024 : Shape := ⟨1, ![1024]⟩
abbrev S2x1024 : Shape := ⟨2, ![2, 1024]⟩
abbrev S1024x2048 : Shape := ⟨2, ![1024, 2048]⟩
abbrev S1x1024 : Shape := ⟨2, ![1, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S2048 : Shape := ⟨1, ![2048]⟩
abbrev S2048x1 : Shape := ⟨2, ![2048, 1]⟩
abbrev S2304x2048 : Shape := ⟨2, ![2304, 2048]⟩
abbrev S1024x8x256 : Shape := ⟨3, ![1024, 8, 256]⟩
abbrev S8x1024x256 : Shape := ⟨3, ![8, 1024, 256]⟩
abbrev S2x1x1024 : Shape := ⟨3, ![2, 1, 1024]⟩

abbrev nBuf : Space → Nat
  | .hbm => 211
  | .vmem => 0
  | .smem => 0
  | _ => 0

abbrev hbmTy0_0 (i : Nat) : BufTy := match i % 128 with
  | 0 => ⟨S2304x1024, .f32⟩
  | 1 => ⟨S1024, .f32⟩
  | 2 => ⟨S2x1024, .f32⟩
  | 3 => ⟨S2x1024, .f32⟩
  | 4 => ⟨S1024x2048, .f32⟩
  | 5 => ⟨S2304x1024, .f32⟩
  | 6 => ⟨S2304x1024, .f32⟩
  | 7 => ⟨S2304x1024, .f32⟩
  | 8 => ⟨S2304x1024, .f32⟩
  | 9 => ⟨S1x1024, .f32⟩
  | 10 => ⟨S1x1024, .f32⟩
  | 11 => ⟨S2x1024, .f32⟩
  | 12 => ⟨S256x1024, .f32⟩
  | 13 => ⟨S1x1024, .f32⟩
  | 14 => ⟨S1024, .f32⟩
  | 15 => ⟨S256x1024, .f32⟩
  | 16 => ⟨S_, .f32⟩
  | 17 => ⟨S256, .f32⟩
  | 18 => ⟨S256x1, .f32⟩
  | 19 => ⟨S_, .f32⟩
  | 20 => ⟨S256x1, .f32⟩
  | 21 => ⟨S256x1, .f32⟩
  | 22 => ⟨S_, .f32⟩
  | 23 => ⟨S256x1, .f32⟩
  | 24 => ⟨S256x1, .f32⟩
  | 25 => ⟨S256x1, .f32⟩
  | 26 => ⟨S256x1, .f32⟩
  | 27 => ⟨S_, .f32⟩
  | 28 => ⟨S256x1, .f32⟩
  | 29 => ⟨S256x1, .f32⟩
  | 30 => ⟨S256x1024, .f32⟩
  | 31 => ⟨S256x1024, .f32⟩
  | 32 => ⟨S1x1024, .f32⟩
  | 33 => ⟨S256x1024, .f32⟩
  | 34 => ⟨S256x1024, .f32⟩
  | 35 => ⟨S1x1024, .f32⟩
  | 36 => ⟨S1024, .f32⟩
  | 37 => ⟨S_, .f32⟩
  | 38 => ⟨S1024, .f32⟩
  | 39 => ⟨S1024, .f32⟩
  | 40 => ⟨S1x1024, .f32⟩
  | 41 => ⟨S256x1024, .f32⟩
  | 42 => ⟨S256x1024, .f32⟩
  | 43 => ⟨S1x1024, .f32⟩
  | 44 => ⟨S1024, .f32⟩
  | 45 => ⟨S1x1024, .f32⟩
  | 46 => ⟨S256x1024, .f32⟩
  | 47 => ⟨S256x1024, .f32⟩
  | 48 => ⟨S2048x1024, .f32⟩
  | 49 => ⟨S1x1024, .f32⟩
  | 50 => ⟨S1024, .f32⟩
  | 51 => ⟨S2048x1024, .f32⟩
  | 52 => ⟨S_, .f32⟩
  | 53 => ⟨S2048, .f32⟩
  | 54 => ⟨S2048x1, .f32⟩
  | 55 => ⟨S_, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x1, .f32⟩
  | 62 => ⟨S2048x1, .f32⟩
  | 63 => ⟨S_, .f32⟩
  | 64 => ⟨S2048x1, .f32⟩
  | 65 => ⟨S2048x1, .f32⟩
  | 66 => ⟨S2048x1024, .f32⟩
  | 67 => ⟨S2048x1024, .f32⟩
  | 68 => ⟨S1x1024, .f32⟩
  | 69 => ⟨S2048x1024, .f32⟩
  | 70 => ⟨S2048x1024, .f32⟩
  | 71 => ⟨S1x1024, .f32⟩
  | 72 => ⟨S1024, .f32⟩
  | 73 => ⟨S_, .f32⟩
  | 74 => ⟨S1024, .f32⟩
  | 75 => ⟨S1024, .f32⟩
  | 76 => ⟨S1x1024, .f32⟩
  | 77 => ⟨S2048x1024, .f32⟩
  | 78 => ⟨S2048x1024, .f32⟩
  | 79 => ⟨S1x1024, .f32⟩
  | 80 => ⟨S1024, .f32⟩
  | 81 => ⟨S1x1024, .f32⟩
  | 82 => ⟨S2048x1024, .f32⟩
  | 83 => ⟨S2048x1024, .f32⟩
  | 84 => ⟨S2304x1024, .f32⟩
  | 85 => ⟨S2304x2048, .f32⟩
  | 86 => ⟨S2304x1024, .f32⟩
  | 87 => ⟨S2304x1024, .f32⟩
  | 88 => ⟨S2304x1024, .f32⟩
  | 89 => ⟨S_, .f32⟩
  | 90 => ⟨S2304x2048, .f32⟩
  | 91 => ⟨S_, .f32⟩
  | 92 => ⟨S2304x2048, .f32⟩
  | 93 => ⟨S2304x2048, .f32⟩
  | 94 => ⟨S_, .f32⟩
  | 95 => ⟨S2304x2048, .f32⟩
  | 96 => ⟨S2304x2048, .f32⟩
  | 97 => ⟨S2048x1024, .f32⟩
  | 98 => ⟨S1024x2048, .f32⟩
  | 99 => ⟨S2304x1024, .f32⟩
  | 100 => ⟨S256x1024, .f32⟩
  | 101 => ⟨S2048x1024, .f32⟩
  | 102 => ⟨S_, .f32⟩
  | 103 => ⟨S1024, .f32⟩
  | 104 => ⟨S1x1024, .f32⟩
  | 105 => ⟨S_, .f32⟩
  | 106 => ⟨S1024, .f32⟩
  | 107 => ⟨S1x1024, .f32⟩
  | 108 => ⟨S_, .f32⟩
  | 109 => ⟨S2x1024, .f32⟩
  | 110 => ⟨S2048x1024, .f32⟩
  | 111 => ⟨S_, .f32⟩
  | 112 => ⟨S1024, .f32⟩
  | 113 => ⟨S1x1024, .f32⟩
  | 114 => ⟨S2048x1024, .f32⟩
  | 115 => ⟨S2048x1024, .f32⟩
  | 116 => ⟨S_, .f32⟩
  | 117 => ⟨S1024, .f32⟩
  | 118 => ⟨S1x1024, .f32⟩
  | 119 => ⟨S_, .f32⟩
  | 120 => ⟨S2x1024, .f32⟩
  | 121 => ⟨S2048x1024, .f32⟩
  | 122 => ⟨S_, .f32⟩
  | 123 => ⟨S1024, .f32⟩
  | 124 => ⟨S1x1024, .f32⟩
  | 125 => ⟨S2048x1024, .f32⟩
  | 126 => ⟨S2048x1024, .f32⟩
  | 127 => ⟨S_, .f32⟩
  | _ => ⟨S2304x1024, .f32⟩

abbrev hbmTy0_1 (i : Nat) : BufTy := match i % 128 with
  | 0 => ⟨S1024, .f32⟩
  | 1 => ⟨S2048x1024, .f32⟩
  | 2 => ⟨S_, .f32⟩
  | 3 => ⟨S2048, .f32⟩
  | 4 => ⟨S2048x1, .f32⟩
  | 5 => ⟨S2048x1024, .f32⟩
  | 6 => ⟨S2048x1024, .f32⟩
  | 7 => ⟨S2048x1, .f32⟩
  | 8 => ⟨S_, .f32⟩
  | 9 => ⟨S2048x1, .f32⟩
  | 10 => ⟨S2048x1, .f32⟩
  | 11 => ⟨S_, .f32⟩
  | 12 => ⟨S2048, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S1x1024, .f32⟩
  | 19 => ⟨S_, .f32⟩
  | 20 => ⟨S2x1024, .f32⟩
  | 21 => ⟨S_, .f32⟩
  | 22 => ⟨S2304x1024, .f32⟩
  | 23 => ⟨S2304x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S1x1024, .f32⟩
  | 30 => ⟨S_, .f32⟩
  | 31 => ⟨S2x1024, .f32⟩
  | 32 => ⟨S2x1024, .f32⟩
  | 33 => ⟨S256x1024, .f32⟩
  | 34 => ⟨S_, .f32⟩
  | 35 => ⟨S1024, .f32⟩
  | 36 => ⟨S1x1024, .f32⟩
  | 37 => ⟨S256x1024, .f32⟩
  | 38 => ⟨S256x1024, .f32⟩
  | 39 => ⟨S_, .f32⟩
  | 40 => ⟨S1024, .f32⟩
  | 41 => ⟨S1x1024, .f32⟩
  | 42 => ⟨S_, .f32⟩
  | 43 => ⟨S2x1024, .f32⟩
  | 44 => ⟨S2x1024, .f32⟩
  | 45 => ⟨S256x1024, .f32⟩
  | 46 => ⟨S_, .f32⟩
  | 47 => ⟨S1024, .f32⟩
  | 48 => ⟨S1x1024, .f32⟩
  | 49 => ⟨S256x1024, .f32⟩
  | 50 => ⟨S256x1024, .f32⟩
  | 51 => ⟨S_, .f32⟩
  | 52 => ⟨S1024, .f32⟩
  | 53 => ⟨S256x1024, .f32⟩
  | 54 => ⟨S_, .f32⟩
  | 55 => ⟨S256, .f32⟩
  | 56 => ⟨S256x1, .f32⟩
  | 57 => ⟨S256x1024, .f32⟩
  | 58 => ⟨S256x1024, .f32⟩
  | 59 => ⟨S256x1, .f32⟩
  | 60 => ⟨S_, .f32⟩
  | 61 => ⟨S256x1, .f32⟩
  | 62 => ⟨S256x1, .f32⟩
  | 63 => ⟨S_, .f32⟩
  | 64 => ⟨S256, .f32⟩
  | 65 => ⟨S256x1024, .f32⟩
  | 66 => ⟨S256x1024, .f32⟩
  | 67 => ⟨S256x1024, .f32⟩
  | 68 => ⟨S256x1024, .f32⟩
  | 69 => ⟨S256x1024, .f32⟩
  | 70 => ⟨S1x1024, .f32⟩
  | 71 => ⟨S_, .f32⟩
  | 72 => ⟨S2x1024, .f32⟩
  | 73 => ⟨S2x1024, .f32⟩
  | 74 => ⟨S_, .f32⟩
  | 75 => ⟨S2304x1024, .f32⟩
  | 76 => ⟨S2304x1024, .f32⟩
  | 77 => ⟨S1024x8x256, .f32⟩
  | 78 => ⟨S8x1024x256, .f32⟩
  | 79 => ⟨S2x1x1024, .f32⟩
  | 80 => ⟨S2x1x1024, .f32⟩
  | 81 => ⟨S2x1x1024, .f32⟩
  | 82 => ⟨S8x1024x256, .bf16⟩
  | _ => ⟨S2304x1024, .f32⟩

abbrev hbmTy (i : Nat) : BufTy := match i / 128 with
  | 0 => hbmTy0_0 i
  | 1 => hbmTy0_1 i
  | _ => ⟨S2304x1024, .f32⟩

abbrev bufTy : (tb : Table) → Fin (tcTables nBuf tb) → BufTy
  | .hbm, ⟨i, _⟩ => hbmTy i
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_cst_13 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_19 : Ref sig .tc := ⟨.hbm, 127, rfl⟩
abbrev main_v98 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_21 : Ref sig .tc := ⟨.hbm, 136, rfl⟩
abbrev main_v105 : Ref sig .tc := ⟨.hbm, 137, rfl⟩
abbrev main_v106 : Ref sig .tc := ⟨.hbm, 138, rfl⟩
abbrev main_cst_22 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_23 : Ref sig .tc := ⟨.hbm, 147, rfl⟩
abbrev main_v114 : Ref sig .tc := ⟨.hbm, 148, rfl⟩
abbrev main_cst_24 : Ref sig .tc := ⟨.hbm, 149, rfl⟩
abbrev main_v115 : Ref sig .tc := ⟨.hbm, 150, rfl⟩
abbrev main_v116 : Ref sig .tc := ⟨.hbm, 151, rfl⟩
abbrev main_cst_25 : Ref sig .tc := ⟨.hbm, 152, rfl⟩
abbrev main_v117 : Ref sig .tc := ⟨.hbm, 153, rfl⟩
abbrev main_v118 : Ref sig .tc := ⟨.hbm, 154, rfl⟩
abbrev main_cst_26 : Ref sig .tc := ⟨.hbm, 155, rfl⟩
abbrev main_v119 : Ref sig .tc := ⟨.hbm, 156, rfl⟩
abbrev main_v120 : Ref sig .tc := ⟨.hbm, 157, rfl⟩
abbrev main_cst_27 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_28 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_29 : Ref sig .tc := ⟨.hbm, 167, rfl⟩
abbrev main_v128 : Ref sig .tc := ⟨.hbm, 168, rfl⟩
abbrev main_v129 : Ref sig .tc := ⟨.hbm, 169, rfl⟩
abbrev main_cst_30 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_31 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_32 : Ref sig .tc := ⟨.hbm, 179, rfl⟩
abbrev main_v137 : Ref sig .tc := ⟨.hbm, 180, rfl⟩
abbrev main_v138 : Ref sig .tc := ⟨.hbm, 181, rfl⟩
abbrev main_cst_33 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_34 : Ref sig .tc := ⟨.hbm, 188, rfl⟩
abbrev main_v144 : Ref sig .tc := ⟨.hbm, 189, rfl⟩
abbrev main_v145 : Ref sig .tc := ⟨.hbm, 190, rfl⟩
abbrev main_cst_35 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_36 : Ref sig .tc := ⟨.hbm, 199, rfl⟩
abbrev main_v153 : Ref sig .tc := ⟨.hbm, 200, rfl⟩
abbrev main_v154 : Ref sig .tc := ⟨.hbm, 201, rfl⟩
abbrev main_cst_37 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩

abbrev nD : Nat := 1
abbrev τ : Topo := Topo.v7x

variable {F : FTy → Type} [FloatOps F]
-- ==== Entry.lean ====
abbrev S2304x1024 : Shape := ⟨2, ![2304, 1024]⟩
abbrev S1024 : Shape := ⟨1, ![1024]⟩
abbrev S2x1024 : Shape := ⟨2, ![2, 1024]⟩
abbrev S1024x2048 : Shape := ⟨2, ![1024, 2048]⟩
abbrev S1x1x1024 : Shape := ⟨3, ![1, 1, 1024]⟩
abbrev S2x1x1024 : Shape := ⟨3, ![2, 1, 1024]⟩
abbrev S2048x1024 : Shape := ⟨2, ![2048, 1024]⟩
abbrev S2304x2048 : Shape := ⟨2, ![2304, 2048]⟩
abbrev S256x1024 : Shape := ⟨2, ![256, 1024]⟩
abbrev S256x2048 : Shape := ⟨2, ![256, 2048]⟩
abbrev S1x1024 : Shape := ⟨2, ![1, 1024]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S2304x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2048, .f32⟩
  | .hbm, ⟨5, _⟩ => ⟨S1x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2048x1024, .f32⟩
  | .hbm, ⟨10, _⟩ => ⟨S2048x1024, .bf16⟩
  | .hbm, ⟨11, _⟩ => ⟨S2304x1024, .bf16⟩
  | .hbm, ⟨12, _⟩ => ⟨S2304x2048, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S2048x1024, .bf16⟩
  | .local _ .vmem, ⟨9, _⟩ => ⟨S256x1024, .bf16⟩
  | .local _ .vmem, ⟨10, _⟩ => ⟨S256x1024, .bf16⟩
  | .local _ .vmem, ⟨11, _⟩ => ⟨S256x2048, .f32⟩
  | .local _ .vmem, ⟨12, _⟩ => ⟨S256x2048, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EntryReferenceIdeal.lean ====
abbrev S2304x1024 : Shape := ⟨2, ![2304, 1024]⟩
abbrev S1024 : Shape := ⟨1, ![1024]⟩
abbrev S2x1024 : Shape := ⟨2, ![2, 1024]⟩
abbrev S1024x2048 : Shape := ⟨2, ![1024, 2048]⟩
abbrev S1x1024 : Shape := ⟨2, ![1, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S2048 : Shape := ⟨1, ![2048]⟩
abbrev S2048x1 : Shape := ⟨2, ![2048, 1]⟩
abbrev S2304x2048 : Shape := ⟨2, ![2304, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2048, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S256x1024, .f32⟩
  | .hbm, ⟨9, _⟩ => ⟨S1x1024, .f32⟩
  | .hbm, ⟨10, _⟩ => ⟨S1024, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1024, .f32⟩
  | .hbm, ⟨23, _⟩ => ⟨S256x1024, .f32⟩
  | .hbm, ⟨24, _⟩ => ⟨S1x1024, .f32⟩
  | .hbm, ⟨25, _⟩ => ⟨S256x1024, .f32⟩
  | .hbm, ⟨26, _⟩ => ⟨S256x1024, .f32⟩
  | .hbm, ⟨27, _⟩ => ⟨S1x1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S256x1024, .f32⟩
  | .hbm, ⟨34, _⟩ => ⟨S256x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S2048x1024, .f32⟩
  | .hbm, ⟨41, _⟩ => ⟨S1x1024, .f32⟩
  | .hbm, ⟨42, _⟩ => ⟨S1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S1x1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S2304x1024, .f32⟩
  | .hbm, ⟨73, _⟩ => ⟨S2304x1024, .bf16⟩
  | .hbm, ⟨74, _⟩ => ⟨S2304x2048, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Post.lean ====
abbrev S2304x1024 : Shape := ⟨2, ![2304, 1024]⟩
abbrev S2304x1536 : Shape := ⟨2, ![2304, 1536]⟩
abbrev S256x1024 : Shape := ⟨2, ![256, 1024]⟩
abbrev S2048x1024 : Shape := ⟨2, ![2048, 1024]⟩
abbrev S2x1024 : Shape := ⟨2, ![2, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2304x1024, .f32⟩
  | .hbm, ⟨1, _⟩ => ⟨S2304x1536, .f32⟩
  | .hbm, ⟨2, _⟩ => ⟨S256x1024, .f32⟩
  | .hbm, ⟨3, _⟩ => ⟨S2048x1024, .f32⟩
  | .hbm, ⟨4, _⟩ => ⟨S2x1024, .f32⟩
  | .hbm, ⟨5, _⟩ => ⟨S1024x1024, .f32⟩
  | .hbm, ⟨6, _⟩ => ⟨S2x1x1024, .f32⟩
  | .hbm, ⟨7, _⟩ => ⟨S1024x1024, .bf16⟩
  | .hbm, ⟨8, _⟩ => ⟨S2304x1024, .bf16⟩
  | .hbm, ⟨9, _⟩ => ⟨S2304x1024, .bf16⟩
  | .hbm, ⟨10, _⟩ => ⟨S2304x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostReferenceIdeal.lean ====
abbrev S2304x1024 : Shape := ⟨2, ![2304, 1024]⟩
abbrev S2304x1536 : Shape := ⟨2, ![2304, 1536]⟩
abbrev S256x1024 : Shape := ⟨2, ![256, 1024]⟩
abbrev S2048x1024 : Shape := ⟨2, ![2048, 1024]⟩
abbrev S2x1024 : Shape := ⟨2, ![2, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩

abbrev nBuf : Space → Nat
  | .hbm => 35
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1536, .f32⟩
  | .hbm, ⟨2, _⟩ => ⟨S256x1024, .f32⟩
  | .hbm, ⟨3, _⟩ => ⟨S2048x1024, .f32⟩
  | .hbm, ⟨4, _⟩ => ⟨S2x1024, .f32⟩
  | .hbm, ⟨5, _⟩ => ⟨S1024x1024, .f32⟩
  | .hbm, ⟨6, _⟩ => ⟨S2304x1024, .f32⟩
  | .hbm, ⟨7, _⟩ => ⟨S2304x1024, .f32⟩
  | .hbm, ⟨8, _⟩ => ⟨S2304x1024, .f32⟩
  | .hbm, ⟨9, _⟩ => ⟨S_, .f32⟩
  | .hbm, ⟨10, _⟩ => ⟨S2304x1024, .f32⟩
  | .hbm, ⟨11, _⟩ => ⟨S2304x1024, .f32⟩
  | .hbm, ⟨12, _⟩ => ⟨S_, .f32⟩
  | .hbm, ⟨13, _⟩ => ⟨S2304x1024, .f32⟩
  | .hbm, ⟨14, _⟩ => ⟨S2304x1024, .f32⟩
  | .hbm, ⟨15, _⟩ => ⟨S2304x1024, .f32⟩
  | .hbm, ⟨16, _⟩ => ⟨S2304x1024, .f32⟩
  | .hbm, ⟨17, _⟩ => ⟨S2304x1024, .f32⟩
  | .hbm, ⟨18, _⟩ => ⟨S1x1024, .f32⟩
  | .hbm, ⟨19, _⟩ => ⟨S1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S1x1024, .f32⟩
  | .hbm, ⟨26, _⟩ => ⟨S1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2304x1024, .bf16⟩
  | .hbm, ⟨33, _⟩ => ⟨S2304x1024, .bf16⟩
  | .hbm, ⟨34, _⟩ => ⟨S2304x1024, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Spec.lean ====
/- Softmax attention over the reals: what the calls compute, with no program in sight. -/
module

public import Mathlib.Analysis.SpecialFunctions.Log.Basic
public import Mathlib.Analysis.SpecialFunctions.Pow.Real
public import Mathlib.Algebra.BigOperators.Fin
public import Mathlib.Algebra.BigOperators.Field
public import Mathlib.Tactic.FieldSimp
public import Mathlib.Tactic.Ring

@[expose] public section

noncomputable section

namespace Cert.Attn

open scoped BigOperators

/-- The scaled score of a query against a key. -/
def score (q k : Fin 96 → ℝ) : ℝ := (∑ d, q d * k d) / √96

/-- The sum of a row's exponentials. -/
def total {n : ℕ} (q : Fin 96 → ℝ) (K : Fin n → Fin 96 → ℝ) : ℝ := ∑ j, Real.exp (score q (K j))

/-- A row's softmax weights. -/
def prob {n : ℕ} (q : Fin 96 → ℝ) (K : Fin n → Fin 96 → ℝ) (j : Fin n) : ℝ :=
  Real.exp (score q (K j)) / total q K

/-- A row's log-sum, in base two. -/
def lse {n : ℕ} (q : Fin 96 → ℝ) (K : Fin n → Fin 96 → ℝ) : ℝ := Real.log (total q K) / Real.log 2

/-- A row of attention's output. -/
def outRow {n : ℕ} (q : Fin 96 → ℝ) (K : Fin n → Fin 96 → ℝ) (V : Fin n → Fin 64 → ℝ) (c : Fin 64) : ℝ :=
  ∑ j, prob q K j * V j c

/-- The cotangent of a weight. -/
def dprob (g v : Fin 64 → ℝ) : ℝ := ∑ c, g c * v c

/-- A row's cotangent against its output. -/
def delta {n : ℕ} (q : Fin 96 → ℝ) (K : Fin n → Fin 96 → ℝ) (V : Fin n → Fin 64 → ℝ) (g : Fin 64 → ℝ) : ℝ :=
  ∑ c, g c * outRow q K V c

/-- The cotangent of a scaled score. -/
def dscore {n : ℕ} (q : Fin 96 → ℝ) (K : Fin n → Fin 96 → ℝ) (V : Fin n → Fin 64 → ℝ) (g : Fin 64 → ℝ) (j : Fin n) : ℝ :=
  prob q K j * (dprob g (V j) - delta q K V g)

/-- The factor that turns scores into base-two exponents. -/
def unit2 : ℝ := 1 / √96 * (1 / Real.log 2)

theorem sqrt96_pos : (0 : ℝ) < √96 := Real.sqrt_pos.mpr (by norm_num)
theorem log2_pos : (0 : ℝ) < Real.log 2 := Real.log_pos (by norm_num)

theorem total_pos {n : ℕ} [NeZero n] (q : Fin 96 → ℝ) (K : Fin n → Fin 96 → ℝ) : 0 < total q K :=
  Finset.sum_pos (fun _ _ => Real.exp_pos _) ⟨0, Finset.mem_univ _⟩

/-- A row's weights are unchanged by a shift of its scores. -/
theorem prob_shift {n : ℕ} (q : Fin 96 → ℝ) (K : Fin n → Fin 96 → ℝ) (M : ℝ) (j : Fin n) :
    Real.exp (score q (K j) - M) / ∑ i, Real.exp (score q (K i) - M) = prob q K j := by
  simp only [Real.exp_sub, ← Finset.sum_div]
  rw [div_div_div_cancel_right₀ (Real.exp_ne_zero M)]
  rfl

/-- The sum of shifted exponentials. -/
theorem total_shift {n : ℕ} (q : Fin 96 → ℝ) (K : Fin n → Fin 96 → ℝ) (M : ℝ) :
    ∑ i, Real.exp (score q (K i) - M) = total q K / Real.exp M := by
  simp only [Real.exp_sub, ← Finset.sum_div]; rfl

/-- The log-sum is unchanged by a shift that is added back. -/
theorem lse_shift {n : ℕ} [NeZero n] (q : Fin 96 → ℝ) (K : Fin n → Fin 96 → ℝ) (M : ℝ) :
    (M + Real.log (∑ i, Real.exp (score q (K i) - M))) / Real.log 2 = lse q K := by
  rw [total_shift, Real.log_div (total_pos q K).ne' (Real.exp_ne_zero M), Real.log_exp]
  unfold lse; ring

/-- A score in base two: the query times the unit, against the key. -/
theorem score_unit2 (q k : Fin 96 → ℝ) : ∑ d, q d * unit2 * k d = score q k / Real.log 2 := by
  unfold score unit2
  rw [div_div, Finset.sum_div]
  refine Finset.sum_congr rfl fun d _ => ?_
  field_simp

/-- The weight as a power of two: the base-two score less the row's log-sum. -/
theorem prob_pow {n : ℕ} [NeZero n] (q : Fin 96 → ℝ) (K : Fin n → Fin 96 → ℝ) (j : Fin n) :
    Real.exp (((∑ d, q d * unit2 * K j d) - lse q K) * Real.log 2) = prob q K j := by
  rw [score_unit2, lse, ← sub_div, div_mul_cancel₀ _ log2_pos.ne', Real.exp_sub, Real.exp_log (total_pos q K)]
  rfl

/-- A row's cotangent against its output is the weights against their cotangents. -/
theorem delta_eq {n : ℕ} (q : Fin 96 → ℝ) (K : Fin n → Fin 96 → ℝ) (V : Fin n → Fin 64 → ℝ) (g : Fin 64 → ℝ) :
    delta q K V g = ∑ j, dprob g (V j) * prob q K j := by
  unfold delta outRow dprob
  simp only [Finset.mul_sum, Finset.sum_mul]
  rw [Finset.sum_comm]
  exact Finset.sum_congr rfl fun _ _ => Finset.sum_congr rfl fun _ _ => by ring

/-- The cotangent of a score, as differentiating the shifted quotient leaves it. -/
theorem dscore_shift {n : ℕ} [NeZero n] (q : Fin 96 → ℝ) (K : Fin n → Fin 96 → ℝ) (V : Fin n → Fin 64 → ℝ) (g : Fin 64 → ℝ)
    (M : ℝ) (j : Fin n) (L : ℝ) (hL : L = ∑ i, Real.exp (score q (K i) - M)) :
    (dprob g (V j) / L + -(∑ i, dprob g (V i) * (1 / (L * L)) * Real.exp (score q (K i) - M)))
        * Real.exp (score q (K j) - M) / √96
      = dscore q K V g j / √96 := by
  have hp : 0 < L := by rw [hL, total_shift]; exact div_pos (total_pos q K) (Real.exp_pos M)
  have e : ∀ i, Real.exp (score q (K i) - M) = L * prob q K i := fun i => by
    rw [← prob_shift q K M i, ← hL]; field_simp
  unfold dscore
  rw [delta_eq]
  simp only [e]
  have : ∑ i, dprob g (V i) * (1 / (L * L)) * (L * prob q K i) = (∑ i, dprob g (V i) * prob q K i) / L := by
    rw [Finset.sum_div]; exact Finset.sum_congr rfl fun _ _ => by field_simp
  rw [this]
  field_simp
  ring

/-! ## The attention forward: the same weights from base-two scores -/

/-- Base-two exponentials less their maximum are the row's exponentials, shifted. -/
theorem exp_pow_shift (s M : ℝ) : Real.exp ((s / Real.log 2 - M) * Real.log 2) = Real.exp (s - M * Real.log 2) := by
  rw [sub_mul, div_mul_cancel₀ _ log2_pos.ne']

/-! ## The whole arrays -/

/-- The first 256 keys or values of a head. -/
def ctx {m : ℕ} (K : Fin 2304 → Fin m → ℝ) (j : Fin 256) : Fin m → ℝ := K ⟨j.val, by omega⟩

/-- A row's part of the cotangent that falls to one head. -/
def headRow (g : Fin 2304 → Fin 1024 → ℝ) (h : Fin 16) (t : Fin 2304) (c : Fin 64) : ℝ := g t ⟨h.val * 64 + c.val, by omega⟩

variable (q k : Fin 16 → Fin 2304 → Fin 96 → ℝ) (v : Fin 16 → Fin 2304 → Fin 64 → ℝ) (g : Fin 2304 → Fin 1024 → ℝ)

/-- A context token. -/
def ctxRow (r : Fin 256) : Fin 2304 := ⟨r.val, by omega⟩
/-- A latent token. -/
def latRow (r : Fin 2048) : Fin 2304 := ⟨256 + r.val, by omega⟩

/-- The attention's output at token `t`, head `h`. -/
def outSpec (h : Fin 16) (t : Fin 2304) (c : Fin 64) : ℝ :=
  if t.val < 256 then outRow (q h t) (ctx (k h)) (ctx (v h)) c else outRow (q h t) (k h) (v h) c

/-- The log-sum of token `t`, head `h`. -/
def lseSpec (h : Fin 16) (t : Fin 2304) : ℝ :=
  if t.val < 256 then lse (q h t) (ctx (k h)) else lse (q h t) (k h)

/-- A context token's score cotangents. -/
def dsCtx (h : Fin 16) (t : Fin 2304) (j : Fin 256) : ℝ := dscore (q h t) (ctx (k h)) (ctx (v h)) (headRow g h t) j
/-- A latent token's score cotangents. -/
def dsLat (h : Fin 16) (t : Fin 2304) (j : Fin 2304) : ℝ := dscore (q h t) (k h) (v h) (headRow g h t) j

/-- The gradient of the queries, times the square root of 96. -/
def dqSpec (h : Fin 16) (t : Fin 2304) (d : Fin 96) : ℝ :=
  if t.val < 256 then ∑ j, dsCtx q k v g h t j * ctx (k h) j d else ∑ j, dsLat q k v g h t j * k h j d

/-- The gradient of the keys, over the logarithm of two. -/
def dkSpec (h : Fin 16) (j : Fin 2304) (d : Fin 96) : ℝ :=
  (if hj : j.val < 256 then ∑ r, dsCtx q k v g h (ctxRow r) ⟨j.val, hj⟩ * (q h (ctxRow r) d * unit2) else 0)
    + ∑ r, dsLat q k v g h (latRow r) j * (q h (latRow r) d * unit2)

/-- The gradient of the values. -/
def dvSpec (h : Fin 16) (j : Fin 2304) (c : Fin 64) : ℝ :=
  (if hj : j.val < 256 then ∑ r, prob (q h (ctxRow r)) (ctx (k h)) ⟨j.val, hj⟩ * headRow g h (ctxRow r) c else 0)
    + ∑ r, prob (q h (latRow r)) (k h) j * headRow g h (latRow r) c

/-- Latent tokens, block of 256 by block of 256. -/
theorem sum_latent (f : Fin 2048 → ℝ) :
    ∑ r, f r = ∑ i : Fin 8, ∑ r : Fin 256, f ⟨i.val * 256 + r.val, by omega⟩ := by
  rw [← Finset.sum_product', Finset.univ_product_univ]
  refine (Equiv.sum_comp (finProdFinEquiv (m := 8) (n := 256)) f).symm.trans ?_
  refine Finset.sum_congr rfl fun x _ => congrArg f (Fin.ext ?_)
  show x.2.val + 256 * x.1.val = x.1.val * 256 + x.2.val
  omega

end Cert.Attn

end
-- ==== Proof.Ereal.lean ====
/- Finite numbers among the extended reals: the operations at real numbers are the real operations. -/
module

public import Idealize.ShloMosaic.PureOps.Ideal
public import Idealize.ShloMosaic.PureOps.Ideal.Laws
public import Idealize.ShloMosaic.Lib.IdealHost
public import proofs.«01_k».proof.Proof.Spec

@[expose] public section

noncomputable section

namespace Cert.Attn

open Idealize.ShloMosaic
open scoped BigOperators

/-- A finite sum of real numbers. -/
theorem coe_sum {ι : Type} (s : Finset ι) (f : ι → ℝ) : ∑ i ∈ s, (f i : EReal) = ((∑ i ∈ s, f i : ℝ) : EReal) := by
  induction s using Finset.cons_induction with
  | empty => simp
  | cons a s h ih => rw [Finset.sum_cons, Finset.sum_cons, ih, EReal.coe_add]

/-- A sum of products of real numbers. -/
theorem coe_sum_mul {ι : Type} (s : Finset ι) (f g : ι → ℝ) :
    ∑ i ∈ s, (f i : EReal) * (g i : EReal) = ((∑ i ∈ s, f i * g i : ℝ) : EReal) := by
  rw [← coe_sum]; exact Finset.sum_congr rfl fun _ _ => (EReal.coe_mul _ _).symm

/-- A quotient of real numbers. -/
theorem coe_div (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- A power of two. -/
theorem coe_exp2 (x : ℝ) : Ideal.exp2 (x : EReal) = ((Real.exp (x * Real.log 2) : ℝ) : EReal) := by
  rw [Ideal.exp2_coe]
  show (((2 : ℝ) ^ x : ℝ) : EReal) = _
  rw [Real.rpow_def_of_pos (by norm_num), mul_comm]

/-- The logarithm of a positive number. -/
theorem coe_log (x : ℝ) (hx : 0 < x) : Ideal.log (x : EReal) = ((Real.log x : ℝ) : EReal) := by
  rw [Ideal.log_coe, if_neg (not_le.mpr hx)]

/-- The square root of a number that is not negative. -/
theorem coe_sqrt (x : ℝ) (hx : 0 ≤ x) : Ideal.sqrt (x : EReal) = ((√x : ℝ) : EReal) := by
  rw [Ideal.sqrt_coe, if_neg (not_lt.mpr hx)]

/-- The word of 96. -/
theorem word_96 : Ideal.ofBits .f32 0x42C00000#32 = ((96 : ℝ) : EReal) := by
  simp [Ideal.ofBits, Ideal.ieee, -EReal.coe_mul]; norm_num
/-- The word of two. -/
theorem word_2 : Ideal.ofBits .f32 0x40000000#32 = ((2 : ℝ) : EReal) := by
  simp [Ideal.ofBits, Ideal.ieee, -EReal.coe_mul]; norm_num
/-- The word of one. -/
theorem word_1 : Ideal.ofBits .f32 0x3F800000#32 = ((1 : ℝ) : EReal) := by
  rw [Ideal.ofBits_one_f32]; norm_cast
/-- The word of zero. -/
theorem word_0 : Ideal.ofBits .f32 0x00000000#32 = ((0 : ℝ) : EReal) := by
  rw [Ideal.ofBits_zero_f32]; norm_cast
/-- The word of minus infinity. -/
theorem word_bot : Ideal.ofBits .f32 0xFF800000#32 = ⊥ := by
  simp [Ideal.ofBits, Ideal.ieee]

/-- The greatest of finitely many real numbers, at least one, is a real number. -/
theorem fold_max_coe {n : ℕ} (hn : 0 < n) (f : Fin n → EReal) (hf : ∀ i, ∃ r : ℝ, f i = r) :
    ∃ M : ℝ, (Finset.univ : Finset (Fin n)).fold max ⊥ f = (M : EReal) := by
  obtain ⟨r, hr⟩ := Classical.axiomOfChoice hf
  have key : ∀ s : Finset (Fin n), s.Nonempty → ∃ M : ℝ, s.fold max ⊥ f = (M : EReal) := by
    intro s hs
    induction hs using Finset.Nonempty.cons_induction with
    | singleton a => exact ⟨r a, by rw [Finset.fold_singleton, hr a]; exact max_eq_left bot_le⟩
    | cons a s h _ ih =>
      obtain ⟨M, hM⟩ := ih
      exact ⟨max (r a) M, by rw [Finset.fold_cons, hM, hr a]; exact (EReal.coe_strictMono.monotone.map_max).symm⟩
  exact key _ ⟨⟨0, hn⟩, Finset.mem_univ _⟩

end Cert.Attn

end
-- ==== Proof.Reads.lean ====
/- The kernels' layout operations and products, read at an index. -/
module

public import Idealize.ShloMosaic.Lib.MatmulPlain
public import Idealize.ShloMosaic.Lib.Pipeline.Value
public import Idealize.ShloMosaic.Lib.ValueIdx
public import proofs.«01_k».proof.Proof.Ereal

@[expose] public section

noncomputable section

namespace Cert.Attn

open Idealize.ShloMosaic Idealize.ShloMosaic.ValueIdx
open scoped BigOperators

/-- Dropping a leading unit axis. -/
theorem drop1 {α : Type} {a b : ℕ} (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 0 i j) := by
  refine (shapeCast_dropUnit_apply ![a, b] x h (ix2 i j)).trans (congrArg x ?_)
  exact funext fun c => match c with | ⟨0, _⟩ => rfl | ⟨1, _⟩ => rfl | ⟨2, _⟩ => rfl

/-- Adding a leading unit axis. -/
theorem add1 {α : Type} {a b : ℕ} (x : (⟨2, ![a, b]⟩ : Shape).Idx → α) (h : (⟨2, ![a, b]⟩ : Shape).ShapeCasts ⟨3, ![1, a, b]⟩)
    (i : Fin a) (j : Fin b) : shapeCast ⟨3, ![1, a, b]⟩ x h (ix3 0 i j) = x (ix2 i j) := by
  refine (shapeCast_addUnit_apply ![a, b] x h (ix3 0 i j)).trans (congrArg x ?_)
  exact funext fun c => match c with | ⟨0, _⟩ => rfl | ⟨1, _⟩ => rfl

/-- A vector as a column. -/
theorem column {α : Type} {a : ℕ} (x : (⟨1, ![a]⟩ : Shape).Idx → α) (h : (⟨1, ![a]⟩ : Shape).ShapeCasts ⟨2, ![a, 1]⟩)
    (i : Fin a) (j : Fin 1) : shapeCast ⟨2, ![a, 1]⟩ x h (ix2 i j) = x (ix1 i) := by
  refine shapeCast_apply x h _ _ ?_
  rw [Shape.rowMajor_val_one, Shape.rowMajor_val_two]
  show i.val = i.val * 1 + j.val
  omega

/-- A column spread over the rows' positions. -/
theorem spread {α : Type} {a b : ℕ} (ha : a ≠ 1) (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i 0) := by
  refine broadcastTo_apply x h _ _ fun c => ?_
  match c with
  | ⟨0, _⟩ => exact (if_neg ha).symm
  | ⟨1, _⟩ => exact (if_pos rfl).symm

/-- A product of rows with rows, from zero. -/
theorem dot_nt {M K N : ℕ} {φ₁ φ₂ : FTy} (lhs : FVec Ideal ⟨2, ![M, K]⟩ φ₁) (rhs : FVec Ideal ⟨2, ![N, K]⟩ φ₂) (r : Fin M) (c : Fin N) :
    matmul (DotDims.transposedRhs M K N) none lhs rhs (constant ⟨2, ![M, N]⟩ .f32 0x00000000#32) (ix2 r c)
      = ∑ k : Fin K, lhs (ix2 r k) * rhs (ix2 c k) := by
  refine (Ideal.matmul_transposedRhs_apply none lhs rhs _ r c).trans ?_
  show Ideal.ofBits .f32 0x00000000#32 + _ = _
  rw [Ideal.ofBits_zero_f32, zero_add]

/-- A product of rows with columns, from zero. -/
theorem dot_nn {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c)
      = ∑ k : Fin K, lhs (ix2 r k) * rhs (ix2 k c) := by
  refine (Ideal.matmul_plain_apply none lhs rhs _ r c).trans ?_
  show Ideal.ofBits .f32 0x00000000#32 + _ = _
  rw [Ideal.ofBits_zero_f32, zero_add]

/-- The dimension numbers of a product of columns with columns. -/
def tn (M K N : ℕ) (h : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := h

/-- A product of columns with columns, from zero. -/
theorem dot_tn {M K N : ℕ} {φ₁ φ₂ : FTy} (h) (lhs : FVec Ideal ⟨2, ![K, M]⟩ φ₁) (rhs : FVec Ideal ⟨2, ![K, N]⟩ φ₂) (r : Fin M) (c : Fin N) :
    matmul (tn M K N h) none lhs rhs (constant ⟨2, ![M, N]⟩ .f32 0x00000000#32) (ix2 r c)
      = ∑ k : Fin K, lhs (ix2 k r) * rhs (ix2 k c) := by
  refine (Ideal.matmul_constant_zero_apply (tn M K N h) none lhs rhs (ix2 r c)).trans ?_
  rw [← Equiv.sum_comp (contrEquiv1 (tn M K N h) K rfl rfl).symm]
  refine Finset.sum_congr rfl fun k _ => ?_
  have hk := contrEquiv1_symm_val (tn M K N h) K rfl rfl k
  refine congrArg₂ (· * ·) (congrArg lhs ?_) (congrArg rhs ?_)
  · funext a; apply Fin.ext
    match a with
    | ⟨0, _⟩ => exact hk
    | ⟨1, _⟩ => rfl
  · funext a; apply Fin.ext
    match a with
    | ⟨0, _⟩ => exact hk
    | ⟨1, _⟩ => rfl

/-- A row's sum. -/
theorem row_sum {a b : ℕ} (x : FVec Ideal ⟨2, ![a, b]⟩ .f32) (acc : BitVec 32) (h : (⟨2, ![a, b]⟩ : Shape).Reduces [1] ⟨1, ![a]⟩) (hφ : FKind.Formats .f32)
    (hacc : acc = FKind.add.neutral .f32 hφ) (i : Fin a) :
    multiReduction .add [1] ⟨1, ![a]⟩ x acc h hφ hacc (ix1 i) = ∑ c : Fin b, x (ix2 i c) := by
  refine (Ideal.multiReduction_add_single x acc h hφ hacc (ix1 i)).trans (Finset.sum_congr rfl fun c _ => congrArg x ?_)
  exact funext fun d => match d with | ⟨0, _⟩ => rfl | ⟨1, _⟩ => rfl

end Cert.Attn

end
-- ==== Proof.Heads.lean ====
/- One head of the attention's backward call on one block of queries: its three results over the reals. -/
module

public import proofs.«01_k».proof.Proof.Reads

@[expose] public section

noncomputable section

namespace Cert.Attn.Head

open Idealize.ShloMosaic Idealize.ShloMosaic.ValueIdx
open scoped BigOperators

/-- The shapes fit together, for `n` keys. -/
structure Fits (n : ℕ) : Prop where
  q : (⟨3, ![1, 256, 96]⟩ : Shape).ShapeCasts ⟨2, ![256, 96]⟩
  q' : (⟨2, ![256, 96]⟩ : Shape).ShapeCasts ⟨3, ![1, 256, 96]⟩
  k : (⟨3, ![1, n, 96]⟩ : Shape).ShapeCasts ⟨2, ![n, 96]⟩
  k' : (⟨2, ![n, 96]⟩ : Shape).ShapeCasts ⟨3, ![1, n, 96]⟩
  v : (⟨3, ![1, n, 64]⟩ : Shape).ShapeCasts ⟨2, ![n, 64]⟩
  v' : (⟨2, ![n, 64]⟩ : Shape).ShapeCasts ⟨3, ![1, n, 64]⟩
  l : (⟨3, ![1, 256, 1]⟩ : Shape).ShapeCasts ⟨2, ![256, 1]⟩
  o : (⟨2, ![256, 64]⟩ : Shape).ShapeCasts ⟨2, ![256, 64]⟩
  r : (⟨2, ![256, 64]⟩ : Shape).Reduces [1] ⟨1, ![256]⟩
  c : (⟨1, ![256]⟩ : Shape).ShapeCasts ⟨2, ![256, 1]⟩
  b : (⟨2, ![256, 1]⟩ : Shape).Broadcasts ⟨2, ![256, n]⟩
  dv : DotDims.WF ⟨2, ![256, n]⟩ ⟨2, ![256, 64]⟩ ⟨2, ![n, 64]⟩ [0] [0] [1] [1] [] []
  dk : DotDims.WF ⟨2, ![256, n]⟩ ⟨2, ![256, 96]⟩ ⟨2, ![n, 96]⟩ [0] [0] [1] [1] [] []
  t : FTy.bf16.bits < FTy.f32.bits

variable {F : FTy → Type} [FloatOps F] {n : ℕ} (H : Fits n)
  (xq : FVec F ⟨3, ![1, 256, 96]⟩ .bf16) (xk : FVec F ⟨3, ![1, n, 96]⟩ .bf16) (xv : FVec F ⟨3, ![1, n, 64]⟩ .bf16)
  (xo : FVec F ⟨2, ![256, 64]⟩ .f32) (xl : FVec F ⟨3, ![1, 256, 1]⟩ .f32) (xg : FVec F ⟨2, ![256, 64]⟩ .f32)
  (pk : FVec F ⟨3, ![1, n, 96]⟩ .f32) (pv : FVec F ⟨3, ![1, n, 64]⟩ .f32)

/-- The block's weights. -/
def weights : FVec F ⟨2, ![256, n]⟩ .f32 :=
  exp2 (subf (matmul (DotDims.transposedRhs 256 96 n) none (shapeCast ⟨2, ![256, 96]⟩ xq H.q) (shapeCast ⟨2, ![n, 96]⟩ xk H.k)
      (constant ⟨2, ![256, n]⟩ .f32 0x00000000#32))
    (broadcastTo ⟨2, ![256, n]⟩ (shapeCast ⟨2, ![256, 1]⟩ xl H.l) H.b))

/-- The block's cotangents against its outputs, row by row. -/
def deltas : FVec F ⟨2, ![256, 1]⟩ .f32 :=
  shapeCast ⟨2, ![256, 1]⟩ (multiReduction .add [1] ⟨1, ![256]⟩ (mulf xg (shapeCast ⟨2, ![256, 64]⟩ xo H.o)) 0x00000000#32 H.r (.inl rfl) rfl) H.c

/-- The block's score cotangents. -/
def scores : FVec F ⟨2, ![256, n]⟩ .bf16 :=
  truncf .bf16 (mulf (weights H xq xk xl)
    (subf (matmul (DotDims.transposedRhs 256 64 n) none (truncf .bf16 xg H.t) (shapeCast ⟨2, ![n, 64]⟩ xv H.v)
        (constant ⟨2, ![256, n]⟩ .f32 0x00000000#32))
      (broadcastTo ⟨2, ![256, n]⟩ (deltas H xo xg) H.b))) H.t

/-- The block's query gradient. -/
def dq : FVec F ⟨3, ![1, 256, 96]⟩ .f32 :=
  shapeCast ⟨3, ![1, 256, 96]⟩ (matmul (DotDims.plain 256 n 96) none (scores H xq xk xv xo xl xg) (shapeCast ⟨2, ![n, 96]⟩ xk H.k)
    (constant ⟨2, ![256, 96]⟩ .f32 0x00000000#32)) H.q'

/-- The key gradient with the block's part added. -/
def dk : FVec F ⟨3, ![1, n, 96]⟩ .f32 :=
  shapeCast ⟨3, ![1, n, 96]⟩ (addf (shapeCast ⟨2, ![n, 96]⟩ pk H.k)
    (matmul (tn n 256 96 H.dk) none (scores H xq xk xv xo xl xg) (shapeCast ⟨2, ![256, 96]⟩ xq H.q)
      (constant ⟨2, ![n, 96]⟩ .f32 0x00000000#32))) H.k'

/-- The value gradient with the block's part added. -/
def dv : FVec F ⟨3, ![1, n, 64]⟩ .f32 :=
  shapeCast ⟨3, ![1, n, 64]⟩ (addf (shapeCast ⟨2, ![n, 64]⟩ pv H.v)
    (matmul (tn n 256 64 H.dv) none (truncf .bf16 (weights H xq xk xl) H.t) (truncf .bf16 xg H.t)
      (constant ⟨2, ![n, 64]⟩ .f32 0x00000000#32))) H.v'

end Cert.Attn.Head

namespace Cert.Attn.Head

open Idealize.ShloMosaic Idealize.ShloMosaic.ValueIdx
open scoped BigOperators

variable {n : ℕ} [NeZero n] (H : Fits n)
  {xq : FVec Ideal ⟨3, ![1, 256, 96]⟩ .bf16} {xk : FVec Ideal ⟨3, ![1, n, 96]⟩ .bf16} {xv : FVec Ideal ⟨3, ![1, n, 64]⟩ .bf16}
  {xo : FVec Ideal ⟨2, ![256, 64]⟩ .f32} {xl : FVec Ideal ⟨3, ![1, 256, 1]⟩ .f32} {xg : FVec Ideal ⟨2, ![256, 64]⟩ .f32}
  {Q : Fin 256 → Fin 96 → ℝ} {K : Fin n → Fin 96 → ℝ} {V : Fin n → Fin 64 → ℝ} {G : Fin 256 → Fin 64 → ℝ}

/-- What one head reads: queries in base-two units, keys, values, outputs, log-sums and cotangents. -/
structure Holds (xq : FVec Ideal ⟨3, ![1, 256, 96]⟩ .bf16) (xk : FVec Ideal ⟨3, ![1, n, 96]⟩ .bf16) (xv : FVec Ideal ⟨3, ![1, n, 64]⟩ .bf16)
    (xo : FVec Ideal ⟨2, ![256, 64]⟩ .f32) (xl : FVec Ideal ⟨3, ![1, 256, 1]⟩ .f32) (xg : FVec Ideal ⟨2, ![256, 64]⟩ .f32)
    (Q : Fin 256 → Fin 96 → ℝ) (K : Fin n → Fin 96 → ℝ) (V : Fin n → Fin 64 → ℝ) (G : Fin 256 → Fin 64 → ℝ) : Prop where
  q : ∀ r d, xq (ix3 0 r d) = ((Q r d * unit2 : ℝ) : EReal)
  k : ∀ j d, xk (ix3 0 j d) = ((K j d : ℝ) : EReal)
  v : ∀ j c, xv (ix3 0 j c) = ((V j c : ℝ) : EReal)
  o : ∀ r c, xo (ix2 r c) = ((outRow (Q r) K V c : ℝ) : EReal)
  l : ∀ r, xl (ix3 0 r 0) = ((lse (Q r) K : ℝ) : EReal)
  g : ∀ r c, xg (ix2 r c) = ((G r c : ℝ) : EReal)

variable (D : Holds xq xk xv xo xl xg Q K V G)
include D

/-- The weights are the softmax's. -/
theorem weights_apply (r : Fin 256) (j : Fin n) : weights H xq xk xl (ix2 r j) = ((prob (Q r) K j : ℝ) : EReal) := by
  show Ideal.exp2 (matmul (F := Ideal) _ _ _ _ _ (ix2 r j) - broadcastTo _ _ _ (ix2 r j)) = _
  rw [spread (by decide) _ H.b r j, drop1, D.l, dot_nt,
    show (∑ d, shapeCast ⟨2, ![256, 96]⟩ xq H.q (ix2 r d) * shapeCast ⟨2, ![n, 96]⟩ xk H.k (ix2 j d))
        = ((∑ d, Q r d * unit2 * K j d : ℝ) : EReal) from
      (Finset.sum_congr rfl fun d _ => by rw [drop1, drop1, D.q, D.k]).trans (coe_sum_mul Finset.univ (fun d => Q r d * unit2) (K j)),
    ← EReal.coe_sub, coe_exp2, prob_pow]

/-- The rows' cotangents against their outputs. -/
theorem deltas_apply (r : Fin 256) : deltas H xo xg (ix2 r 0) = ((delta (Q r) K V (G r) : ℝ) : EReal) := by
  unfold deltas
  rw [column]
  refine (row_sum _ _ _ _ _ r).trans ((Finset.sum_congr rfl fun c _ => ?_).trans (coe_sum_mul Finset.univ (G r) (outRow (Q r) K V)))
  rw [shapeCast_self, mulf_apply, D.g, D.o]

/-- The score cotangents. -/
theorem scores_apply (r : Fin 256) (j : Fin n) :
    scores H xq xk xv xo xl xg (ix2 r j) = ((dscore (Q r) K V (G r) j : ℝ) : EReal) := by
  show weights H xq xk xl (ix2 r j) * (matmul (F := Ideal) _ _ _ _ _ (ix2 r j) - broadcastTo _ _ _ (ix2 r j)) = _
  rw [spread (by decide) _ H.b r j, deltas_apply H D, weights_apply H D, dot_nt,
    show (∑ c, truncf .bf16 xg H.t (ix2 r c) * shapeCast ⟨2, ![n, 64]⟩ xv H.v (ix2 j c)) = ((dprob (G r) (V j) : ℝ) : EReal) from
      (Finset.sum_congr rfl fun c _ => by rw [truncf_apply, drop1, D.g, D.v]).trans (coe_sum_mul Finset.univ (G r) (V j)),
    ← EReal.coe_sub, ← EReal.coe_mul]
  rfl

/-- The query gradient. -/
theorem dq_apply (r : Fin 256) (d : Fin 96) :
    dq H xq xk xv xo xl xg (ix3 0 r d) = ((∑ j, dscore (Q r) K V (G r) j * K j d : ℝ) : EReal) := by
  unfold dq
  rw [add1, dot_nn]
  refine (Finset.sum_congr rfl fun j _ => ?_).trans (coe_sum_mul Finset.univ _ _)
  rw [scores_apply H D, drop1, D.k]

/-- The key gradient's part. -/
theorem dk_apply (pk : FVec Ideal ⟨3, ![1, n, 96]⟩ .f32) (j : Fin n) (d : Fin 96) :
    dk H xq xk xv xo xl xg pk (ix3 0 j d) = pk (ix3 0 j d) + ((∑ r, dscore (Q r) K V (G r) j * (Q r d * unit2) : ℝ) : EReal) := by
  unfold dk
  rw [add1, addf_apply, drop1, dot_tn]
  refine congrArg (pk (ix3 0 j d) + ·) ((Finset.sum_congr rfl fun r _ => ?_).trans (coe_sum_mul Finset.univ _ _))
  rw [scores_apply H D, drop1, D.q]

/-- The value gradient's part. -/
theorem dv_apply (pv : FVec Ideal ⟨3, ![1, n, 64]⟩ .f32) (j : Fin n) (c : Fin 64) :
    dv H xq xk xl xg pv (ix3 0 j c) = pv (ix3 0 j c) + ((∑ r, prob (Q r) K j * G r c : ℝ) : EReal) := by
  unfold dv
  rw [add1, addf_apply, drop1, dot_tn]
  refine congrArg (pv (ix3 0 j c) + ·) ((Finset.sum_congr rfl fun r _ => ?_).trans (coe_sum_mul Finset.univ _ _))
  rw [truncf_apply, weights_apply H D, truncf_apply, D.g]

end Cert.Attn.Head

end
-- ==== Proof.Stores.lean ====
/- Stores and loads of one head at a time, read at an index; and what the backward call's blocks hold. -/
module

public import proofs.«01_k».proof.Proof.Heads
public import Idealize.ShloMosaic.Lib.Pipeline.FrameBody
public import Idealize.ShloMosaic.Lib.Pipeline.Value

@[expose] public section

noncomputable section

namespace Cert.Attn

open Idealize.ShloMosaic Idealize.ShloMosaic.ValueIdx
open scoped BigOperators

section
variable {Val : EltTy → Type} [∀ e, Nonempty (Val e)] {e : EltTy} {H B W n hh : ℕ}
  (inb : ∀ a, (![hh, 0, 0] : Fin 3 → ℕ) a + (![1, n, W] : Fin 3 → ℕ) a ≤ (⟨3, ![H, B, W]⟩ : Shape).size a)
  (g : (⟨3, ![1, n, W]⟩ : Shape).Idx → Val e) (L : List (View.Piece Val ⟨3, ![H, B, W]⟩ e))

/-- An index under the last store of its own head reads what that store put there. -/
theorem canon_hit (h : Fin H) (eh : h.val = hh) (j : Fin B) (i : Fin n) (ji : j.val = i.val) (d : Fin W) :
    View.canon (⟨Rect.unit (s := ⟨3, ![H, B, W]⟩) ![hh, 0, 0] ![1, n, W] inb, g⟩ :: L) (ix3 h j d) = g (ix3 0 i d) := by
  have : (ix3 h j d : (⟨3, ![H, B, W]⟩ : Shape).Idx) = (Rect.unit (s := ⟨3, ![H, B, W]⟩) ![hh, 0, 0] ![1, n, W] inb).emb (ix3 0 i d) :=
    funext fun a => Fin.ext (by
      match a with
      | ⟨0, _⟩ => show h.val = hh + 1 * 0; omega
      | ⟨1, _⟩ => show j.val = 0 + 1 * i.val; omega
      | ⟨2, _⟩ => show d.val = 0 + 1 * d.val; omega)
  rw [this]
  exact View.canon_cons_emb (Rect.unit (s := ⟨3, ![H, B, W]⟩) ![hh, 0, 0] ![1, n, W] inb) g L (ix3 0 i d)

/-- An index outside a store reads what was there before it. -/
theorem canon_miss (h : Fin H) (j : Fin B) (d : Fin W) (hne : h.val ≠ hh ∨ n ≤ j.val) :
    View.canon (⟨Rect.unit (s := ⟨3, ![H, B, W]⟩) ![hh, 0, 0] ![1, n, W] inb, g⟩ :: L) (ix3 h j d) = View.canon L (ix3 h j d) := by
  refine View.canon_cons_of_not_mem _ L ?_
  show ix3 h j d ∉ (Rect.unit (s := ⟨3, ![H, B, W]⟩) ![hh, 0, 0] ![1, n, W] inb).set
  rw [Rect.mem_set_unit]
  intro hm
  have h0 : hh ≤ h.val ∧ h.val < hh + 1 := hm 0
  have h1 : 0 ≤ j.val ∧ j.val < 0 + n := hm 1
  omega

/-- A load of one head's first rows. -/
theorem ld3 (x : (⟨3, ![H, B, W]⟩ : Shape).Idx → Val e) (h : Fin H) (eh : h.val = hh) (j : Fin B) (i : Fin n) (ji : j.val = i.val) (d : Fin W) :
    View.ld x (Rect.unit (s := ⟨3, ![H, B, W]⟩) ![hh, 0, 0] ![1, n, W] inb) (ix3 0 i d) = x (ix3 h j d) := by
  rw [View.ld_unit]
  refine congrArg x (funext fun a => Fin.ext ?_)
  match a with
  | ⟨0, _⟩ => show hh + 0 = h.val; omega
  | ⟨1, _⟩ => show 0 + i.val = j.val; omega
  | ⟨2, _⟩ => show 0 + d.val = d.val; omega

/-- A load of one head's first rows, from under the stores made before it. -/
theorem cov3 {sig : RefSig} {κ : Kind} {sp : Space} (v : View sig κ sp ⟨3, ![H, B, W]⟩ e) (h : Fin H) (eh : h.val = hh) (j : Fin B) (i : Fin n)
    (ji : j.val = i.val) (d : Fin W) :
    v.readCov L (Rect.unit (s := ⟨3, ![H, B, W]⟩) ![hh, 0, 0] ![1, n, W] inb).toLoadRect (ix3 0 i d) = View.canon L (ix3 h j d) := by
  rw [View.readCov_eq_canon']
  refine congrArg (View.canon L) (funext fun a => Fin.ext ?_)
  match a with
  | ⟨0, _⟩ => show hh + 1 * 0 = h.val; omega
  | ⟨1, _⟩ => show 0 + 1 * i.val = j.val; omega
  | ⟨2, _⟩ => show 0 + 1 * d.val = d.val; omega

end

/-- An index under a store of the whole block. -/
theorem canon_all {Val : EltTy → Type} [∀ e, Nonempty (Val e)] {e : EltTy} {H B W : ℕ}
    (inb : ∀ a, (![0, 0, 0] : Fin 3 → ℕ) a + (![H, B, W] : Fin 3 → ℕ) a ≤ (⟨3, ![H, B, W]⟩ : Shape).size a)
    (g : (⟨3, ![H, B, W]⟩ : Shape).Idx → Val e) (L : List (View.Piece Val ⟨3, ![H, B, W]⟩ e)) (h : Fin H) (j : Fin B) (d : Fin W) :
    View.canon (⟨Rect.unit (s := ⟨3, ![H, B, W]⟩) ![0, 0, 0] ![H, B, W] inb, g⟩ :: L) (ix3 h j d) = g (ix3 h j d) := by
  have : (ix3 h j d : (⟨3, ![H, B, W]⟩ : Shape).Idx) = (Rect.unit (s := ⟨3, ![H, B, W]⟩) ![0, 0, 0] ![H, B, W] inb).emb (ix3 h j d) :=
    funext fun a => Fin.ext (by
      match a with
      | ⟨0, _⟩ => show h.val = 0 + 1 * h.val; omega
      | ⟨1, _⟩ => show j.val = 0 + 1 * j.val; omega
      | ⟨2, _⟩ => show d.val = 0 + 1 * d.val; omega)
  conv_lhs => rw [this]
  exact View.canon_cons_emb (Rect.unit (s := ⟨3, ![H, B, W]⟩) ![0, 0, 0] ![H, B, W] inb) g L (ix3 h j d)

/-- A load of one head's columns. -/
theorem ld2 {Val : EltTy → Type} {e : EltTy} {R C n o : ℕ}
    (inb : ∀ a, (![0, o] : Fin 2 → ℕ) a + (![R, n] : Fin 2 → ℕ) a ≤ (⟨2, ![R, C]⟩ : Shape).size a)
    (x : (⟨2, ![R, C]⟩ : Shape).Idx → Val e) (r : Fin R) (c : Fin n) (k : Fin C) (ek : k.val = o + c.val) :
    View.ld x (Rect.unit (s := ⟨2, ![R, C]⟩) ![0, o] ![R, n] inb) (ix2 r c) = x (ix2 r k) := by
  rw [View.ld_unit]
  refine congrArg x (funext fun a => Fin.ext ?_)
  match a with
  | ⟨0, _⟩ => show 0 + r.val = r.val; omega
  | ⟨1, _⟩ => show o + c.val = k.val; omega

/-- The context keys are among all keys. -/
theorem le_ctx : 256 ≤ 2304 := by decide
/-- All keys. -/
theorem le_all : 2304 ≤ 2304 := Nat.le_refl _

/-- What the backward call's input blocks hold at a grid point: four heads, 256 queries, the first `n` keys. -/
structure Block (n : ℕ) (hn : n ≤ 2304) (x0 : FVec Ideal ⟨3, ![4, 256, 96]⟩ .bf16) (x1 : FVec Ideal ⟨3, ![4, 2304, 96]⟩ .bf16)
    (x2 : FVec Ideal ⟨3, ![4, 2304, 64]⟩ .bf16) (x3 : FVec Ideal ⟨2, ![256, 256]⟩ .f32) (x4 : FVec Ideal ⟨3, ![4, 256, 1]⟩ .f32)
    (x5 : FVec Ideal ⟨2, ![256, 256]⟩ .f32) (Q : Fin 4 → Fin 256 → Fin 96 → ℝ) (K : Fin 4 → Fin n → Fin 96 → ℝ)
    (V : Fin 4 → Fin n → Fin 64 → ℝ) (G : Fin 4 → Fin 256 → Fin 64 → ℝ) : Prop where
  q : ∀ h r d, x0 (ix3 h r d) = ((Q h r d * unit2 : ℝ) : EReal)
  k : ∀ h (j : Fin n) d, x1 (ix3 h ⟨j.val, by omega⟩ d) = ((K h j d : ℝ) : EReal)
  v : ∀ h (j : Fin n) c, x2 (ix3 h ⟨j.val, by omega⟩ c) = ((V h j c : ℝ) : EReal)
  o : ∀ (h : Fin 4) r (c : Fin 64), x3 (ix2 r ⟨h.val * 64 + c.val, by omega⟩) = ((outRow (Q h r) (K h) (V h) c : ℝ) : EReal)
  l : ∀ h r, x4 (ix3 h r 0) = ((lse (Q h r) (K h) : ℝ) : EReal)
  g : ∀ (h : Fin 4) r (c : Fin 64), x5 (ix2 r ⟨h.val * 64 + c.val, by omega⟩) = ((G h r c : ℝ) : EReal)

/-- What one head loads from the blocks. -/
theorem Block.head {n : ℕ} [NeZero n] {hn : n ≤ 2304} {x0 x1 x2 x3 x4 x5} {Q : Fin 4 → Fin 256 → Fin 96 → ℝ} {K : Fin 4 → Fin n → Fin 96 → ℝ}
    {V : Fin 4 → Fin n → Fin 64 → ℝ} {G : Fin 4 → Fin 256 → Fin 64 → ℝ} (D : Block n hn x0 x1 x2 x3 x4 x5 Q K V G) (h : Fin 4) {hh o : ℕ}
    (eh : h.val = hh) (eo : h.val * 64 = o)
    (i0 : ∀ a, (![hh, 0, 0] : Fin 3 → ℕ) a + (![1, 256, 96] : Fin 3 → ℕ) a ≤ (⟨3, ![4, 256, 96]⟩ : Shape).size a)
    (i1 : ∀ a, (![hh, 0, 0] : Fin 3 → ℕ) a + (![1, n, 96] : Fin 3 → ℕ) a ≤ (⟨3, ![4, 2304, 96]⟩ : Shape).size a)
    (i2 : ∀ a, (![hh, 0, 0] : Fin 3 → ℕ) a + (![1, n, 64] : Fin 3 → ℕ) a ≤ (⟨3, ![4, 2304, 64]⟩ : Shape).size a)
    (i3 : ∀ a, (![0, o] : Fin 2 → ℕ) a + (![256, 64] : Fin 2 → ℕ) a ≤ (⟨2, ![256, 256]⟩ : Shape).size a)
    (i4 : ∀ a, (![hh, 0, 0] : Fin 3 → ℕ) a + (![1, 256, 1] : Fin 3 → ℕ) a ≤ (⟨3, ![4, 256, 1]⟩ : Shape).size a) :
    Head.Holds (View.ld (Val := Elt Ideal) (e' := .bf16) x0 (Rect.unit (s := ⟨3, ![4, 256, 96]⟩) ![hh, 0, 0] ![1, 256, 96] i0))
      (View.ld (Val := Elt Ideal) (e' := .bf16) x1 (Rect.unit (s := ⟨3, ![4, 2304, 96]⟩) ![hh, 0, 0] ![1, n, 96] i1))
      (View.ld (Val := Elt Ideal) (e' := .bf16) x2 (Rect.unit (s := ⟨3, ![4, 2304, 64]⟩) ![hh, 0, 0] ![1, n, 64] i2))
      (View.ld (Val := Elt Ideal) (e' := .f32) x3 (Rect.unit (s := ⟨2, ![256, 256]⟩) ![0, o] ![256, 64] i3))
      (View.ld (Val := Elt Ideal) (e' := .f32) x4 (Rect.unit (s := ⟨3, ![4, 256, 1]⟩) ![hh, 0, 0] ![1, 256, 1] i4))
      (View.ld (Val := Elt Ideal) (e' := .f32) x5 (Rect.unit (s := ⟨2, ![256, 256]⟩) ![0, o] ![256, 64] i3))
      (Q h) (K h) (V h) (G h) where
  q r d := (ld3 (Val := Elt Ideal) (e := .bf16) i0 x0 h eh r r rfl d).trans (D.q h r d)
  k j d := (ld3 (Val := Elt Ideal) (e := .bf16) i1 x1 h eh ⟨j.val, by omega⟩ j rfl d).trans (D.k h j d)
  v j d := (ld3 (Val := Elt Ideal) (e := .bf16) i2 x2 h eh ⟨j.val, by omega⟩ j rfl d).trans (D.v h j d)
  o r c := (ld2 (Val := Elt Ideal) (e := .f32) i3 x3 r c ⟨h.val * 64 + c.val, by omega⟩ (by show h.val * 64 + c.val = o + c.val; omega)).trans (D.o h r c)
  l r := (ld3 (Val := Elt Ideal) (e := .f32) i4 x4 h eh r r rfl 0).trans (D.l h r)
  g r c := (ld2 (Val := Elt Ideal) (e := .f32) i3 x5 r c ⟨h.val * 64 + c.val, by omega⟩ (by show h.val * 64 + c.val = o + c.val; omega)).trans (D.g h r c)

end Cert.Attn

end
-- ==== Proof.KernelBlocks.lean ====
/- What the windows of the backward call's grid points read, in terms of the arrays the host prepared. -/
module

public import proofs.«01_k».proof.Proof.Stores
public import proofs.«01_k».proof.Proof.Gen.KernelIdeal.Value

@[expose] public section

set_option maxRecDepth 16384

noncomputable section

namespace Cert.Attn

open Idealize.ShloMosaic Idealize.ShloMosaic.TcCoe Idealize.ShloMosaic.ValueIdx Cert.KernelIdeal Cert.KernelIdeal.Gen

/-- The head that a grid point's local head `h` is. -/
def hd (t : Fin cfg0.N) (h : Fin 4) : Fin 16 := ⟨t.val / 9 * 4 + h.val, by have := t.isLt; have : cfg0.N = 36 := N_0; omega⟩
/-- The token that a grid point's local row `r` is. -/
def tok (t : Fin cfg0.N) (r : Fin 256) : Fin 2304 := ⟨t.val % 9 * 256 + r.val, by omega⟩

variable (m : (ℓ : Loc nD τ sig) → Buf (Elt Ideal) ℓ) (c : Dev nD) (t : Fin cfg0.N)

/-- Window 0's block at a grid point. -/
theorem index_0 : ∀ t : Fin cfg0.N, win0_0.index t 0 = t.val / 9 ∧ win0_0.index t 1 = t.val % 9 ∧ win0_0.index t 2 = 0 := by decide +kernel

/-- Window 1's block at a grid point. -/
theorem index_1 : ∀ t : Fin cfg0.N, win0_1.index t 0 = t.val / 9 ∧ win0_1.index t 1 = 0 ∧ win0_1.index t 2 = 0 := by decide +kernel

/-- Window 2's block at a grid point. -/
theorem index_2 : ∀ t : Fin cfg0.N, win0_2.index t 0 = t.val / 9 ∧ win0_2.index t 1 = 0 ∧ win0_2.index t 2 = 0 := by decide +kernel

/-- Window 3's block at a grid point. -/
theorem index_3 : ∀ t : Fin cfg0.N, win0_3.index t 0 = t.val % 9 ∧ win0_3.index t 1 = t.val / 9 := by decide +kernel

/-- Window 4's block at a grid point. -/
theorem index_4 : ∀ t : Fin cfg0.N, win0_4.index t 0 = t.val / 9 ∧ win0_4.index t 1 = t.val % 9 ∧ win0_4.index t 2 = 0 := by decide +kernel

/-- Window 5's block at a grid point. -/
theorem index_5 : ∀ t : Fin cfg0.N, win0_5.index t 0 = t.val % 9 ∧ win0_5.index t 1 = t.val / 9 := by decide +kernel

/-- Window 6's block at a grid point. -/
theorem index_6 : ∀ t : Fin cfg0.N, win0_6.index t 0 = t.val / 9 ∧ win0_6.index t 1 = t.val % 9 ∧ win0_6.index t 2 = 0 := by decide +kernel

/-- Window 7's block at a grid point. -/
theorem index_7 : ∀ t : Fin cfg0.N, win0_7.index t 0 = t.val / 9 ∧ win0_7.index t 1 = 0 ∧ win0_7.index t 2 = 0 := by decide +kernel

/-- Window 8's block at a grid point. -/
theorem index_8 : ∀ t : Fin cfg0.N, win0_8.index t 0 = t.val / 9 ∧ win0_8.index t 1 = 0 ∧ win0_8.index t 2 = 0 := by decide +kernel

/-- What input window 0 reads. -/
theorem read_0 (h : Fin 4) (r : Fin 256) (d : Fin 96) :
    (iblk m c 0 t : FVec Ideal S4x256x96 .bf16) (ix3 h r d) = (V m c main_v55) (ix3 (hd t h) (tok t r) d) := by
  have hi := index_0 t
  unfold iblk
  rw [View.read_apply]
  show (V m c main_v55) _ = (V m c main_v55) _
  refine congrArg _ (funext fun a => Fin.ext ?_)
  match a with
  | ⟨0, _⟩ => show win0_0.index t 0 * 4 + 1 * h.val = t.val / 9 * 4 + h.val; rw [hi.1]; omega
  | ⟨1, _⟩ => show win0_0.index t 1 * 256 + 1 * r.val = t.val % 9 * 256 + r.val; rw [hi.2.1]; omega
  | ⟨2, _⟩ => show win0_0.index t 2 * 96 + 1 * d.val = d.val; rw [hi.2.2]; omega

/-- What input window 1 reads. -/
theorem read_1 (h : Fin 4) (r : Fin 2304) (d : Fin 96) :
    (iblk m c 1 t : FVec Ideal S4x2304x96 .bf16) (ix3 h r d) = (V m c main_v56) (ix3 (hd t h) r d) := by
  have hi := index_1 t
  unfold iblk
  rw [View.read_apply]
  show (V m c main_v56) _ = (V m c main_v56) _
  refine congrArg _ (funext fun a => Fin.ext ?_)
  match a with
  | ⟨0, _⟩ => show win0_1.index t 0 * 4 + 1 * h.val = t.val / 9 * 4 + h.val; rw [hi.1]; omega
  | ⟨1, _⟩ => show win0_1.index t 1 * 2304 + 1 * r.val = r.val; rw [hi.2.1]; omega
  | ⟨2, _⟩ => show win0_1.index t 2 * 96 + 1 * d.val = d.val; rw [hi.2.2]; omega

/-- What input window 2 reads. -/
theorem read_2 (h : Fin 4) (r : Fin 2304) (d : Fin 64) :
    (iblk m c 2 t : FVec Ideal S4x2304x64 .bf16) (ix3 h r d) = (V m c main_v57) (ix3 (hd t h) r d) := by
  have hi := index_2 t
  unfold iblk
  rw [View.read_apply]
  show (V m c main_v57) _ = (V m c main_v57) _
  refine congrArg _ (funext fun a => Fin.ext ?_)
  match a with
  | ⟨0, _⟩ => show win0_2.index t 0 * 4 + 1 * h.val = t.val / 9 * 4 + h.val; rw [hi.1]; omega
  | ⟨1, _⟩ => show win0_2.index t 1 * 2304 + 1 * r.val = r.val; rw [hi.2.1]; omega
  | ⟨2, _⟩ => show win0_2.index t 2 * 64 + 1 * d.val = d.val; rw [hi.2.2]; omega

/-- What input window 3 reads. -/
theorem read_3 (h : Fin 4) (r : Fin 256) (d : Fin 64) :
    (iblk m c 3 t : FVec Ideal S256x256 .f32) (ix2 r ⟨h.val * 64 + d.val, by omega⟩) = (V m c main_v46) (ix2 (tok t r) ⟨(hd t h).val * 64 + d.val, by omega⟩) := by
  have hi := index_3 t
  unfold iblk
  rw [View.read_apply]
  show (V m c main_v46) _ = (V m c main_v46) _
  refine congrArg _ (funext fun a => Fin.ext ?_)
  match a with
  | ⟨0, _⟩ => show win0_3.index t 0 * 256 + 1 * r.val = t.val % 9 * 256 + r.val; rw [hi.1]; omega
  | ⟨1, _⟩ => show win0_3.index t 1 * 256 + 1 * (h.val * 64 + d.val) = (t.val / 9 * 4 + h.val) * 64 + d.val; rw [hi.2]; omega

/-- What input window 4 reads. -/
theorem read_4 (h : Fin 4) (r : Fin 256) (d : Fin 1) :
    (iblk m c 4 t : FVec Ideal S4x256x1 .f32) (ix3 h r d) = (V m c main_v47) (ix3 (hd t h) (tok t r) d) := by
  have hi := index_4 t
  unfold iblk
  rw [View.read_apply]
  show (V m c main_v47) _ = (V m c main_v47) _
  refine congrArg _ (funext fun a => Fin.ext ?_)
  match a with
  | ⟨0, _⟩ => show win0_4.index t 0 * 4 + 1 * h.val = t.val / 9 * 4 + h.val; rw [hi.1]; omega
  | ⟨1, _⟩ => show win0_4.index t 1 * 256 + 1 * r.val = t.val % 9 * 256 + r.val; rw [hi.2.1]; omega
  | ⟨2, _⟩ => show win0_4.index t 2 * 1 + 1 * d.val = d.val; rw [hi.2.2]; omega

/-- What input window 5 reads. -/
theorem read_5 (h : Fin 4) (r : Fin 256) (d : Fin 64) :
    (iblk m c 5 t : FVec Ideal S256x256 .f32) (ix2 r ⟨h.val * 64 + d.val, by omega⟩) = (V m c main_arg3) (ix2 (tok t r) ⟨(hd t h).val * 64 + d.val, by omega⟩) := by
  have hi := index_5 t
  unfold iblk
  rw [View.read_apply]
  show (V m c main_arg3) _ = (V m c main_arg3) _
  refine congrArg _ (funext fun a => Fin.ext ?_)
  match a with
  | ⟨0, _⟩ => show win0_5.index t 0 * 256 + 1 * r.val = t.val % 9 * 256 + r.val; rw [hi.1]; omega
  | ⟨1, _⟩ => show win0_5.index t 1 * 256 + 1 * (h.val * 64 + d.val) = (t.val / 9 * 4 + h.val) * 64 + d.val; rw [hi.2]; omega

variable (q k : Fin 16 → Fin 2304 → Fin 96 → ℝ) (v : Fin 16 → Fin 2304 → Fin 64 → ℝ) (g : Fin 2304 → Fin 1024 → ℝ)

/-- The arrays the host hands to the backward call, as real numbers. -/
structure Handed : Prop where
  hq : ∀ h t d, V m c main_v55 (ix3 h t d) = ((q h t d * unit2 : ℝ) : EReal)
  hk : ∀ h t d, V m c main_v56 (ix3 h t d) = ((k h t d : ℝ) : EReal)
  hv : ∀ h t d, V m c main_v57 (ix3 h t d) = ((v h t d : ℝ) : EReal)
  ho : ∀ (t : Fin 2304) (h : Fin 16) (d : Fin 64), V m c main_v46 (ix2 t ⟨h.val * 64 + d.val, by omega⟩) = ((outSpec q k v h t d : ℝ) : EReal)
  hl : ∀ h t, V m c main_v47 (ix3 h t 0) = ((lseSpec q k h t : ℝ) : EReal)
  hg : ∀ (t : Fin 2304) (h : Fin 16) (d : Fin 64), V m c main_arg3 (ix2 t ⟨h.val * 64 + d.val, by omega⟩) = ((headRow g h t d : ℝ) : EReal)

variable {m c q k v g}

/-- The blocks of a grid point whose queries are context tokens. -/
theorem Handed.block_A (A : Handed m c q k v g) (h0 : t.val % 9 = 0) :
    Block 256 le_ctx (iblk m c 0 t) (iblk m c 1 t) (iblk m c 2 t) (iblk m c 3 t) (iblk m c 4 t) (iblk m c 5 t)
      (fun h r => q (hd t h) (tok t r)) (fun h => ctx (k (hd t h))) (fun h => ctx (v (hd t h))) (fun h r => headRow g (hd t h) (tok t r)) where
  q h r d := (read_0 m c t h r d).trans (A.hq _ _ _)
  k h j d := (read_1 m c t h _ d).trans (A.hk _ _ _)
  v h j d := (read_2 m c t h _ d).trans (A.hv _ _ _)
  o h r d := (read_3 m c t h r d).trans ((A.ho _ _ _).trans (by
    unfold outSpec; rw [if_pos (show (tok t r).val < 256 from by show t.val % 9 * 256 + r.val < 256; omega)]))
  l h r := (read_4 m c t h r 0).trans ((A.hl _ _).trans (by
    unfold lseSpec; rw [if_pos (show (tok t r).val < 256 from by show t.val % 9 * 256 + r.val < 256; omega)]))
  g h r d := (read_5 m c t h r d).trans (A.hg _ _ _)

/-- The blocks of a grid point whose queries are latent tokens. -/
theorem Handed.block_B (A : Handed m c q k v g) (h0 : ¬t.val % 9 = 0) :
    Block 2304 le_all (iblk m c 0 t) (iblk m c 1 t) (iblk m c 2 t) (iblk m c 3 t) (iblk m c 4 t) (iblk m c 5 t)
      (fun h r => q (hd t h) (tok t r)) (fun h => k (hd t h)) (fun h => v (hd t h)) (fun h r => headRow g (hd t h) (tok t r)) where
  q h r d := (read_0 m c t h r d).trans (A.hq _ _ _)
  k h j d := (read_1 m c t h _ d).trans (A.hk _ _ _)
  v h j d := (read_2 m c t h _ d).trans (A.hv _ _ _)
  o h r d := (read_3 m c t h r d).trans ((A.ho _ _ _).trans (by
    unfold outSpec; rw [if_neg (show ¬(tok t r).val < 256 from by show ¬(t.val % 9 * 256 + r.val < 256); omega)]))
  l h r := (read_4 m c t h r 0).trans ((A.hl _ _).trans (by
    unfold lseSpec; rw [if_neg (show ¬(tok t r).val < 256 from by show ¬(t.val % 9 * 256 + r.val < 256); omega)]))
  g h r d := (read_5 m c t h r d).trans (A.hg _ _ _)

end Cert.Attn

end
-- ==== Proof.Payloads.lean ====
/- What the backward call stores, head by head: the stored values are `Head.dq`, `Head.dk` and `Head.dv` of what the head loads. -/
module

public import proofs.«01_k».proof.Proof.Heads
public import proofs.«01_k».proof.Proof.Gen.KernelIdeal.Skeleton

@[expose] public section

set_option maxRecDepth 16384

noncomputable section

namespace Cert.Attn

open Idealize.ShloMosaic Cert.KernelIdeal Cert.KernelIdeal.Gen

/-- The shapes fit together for the context's keys. -/
theorem fits256 : Head.Fits 256 :=
  ⟨shapeCasts_S1x256x96_S256x96, shapeCasts_S256x96_S1x256x96, shapeCasts_S1x256x96_S256x96, shapeCasts_S256x96_S1x256x96,
    shapeCasts_S1x256x64_S256x64, shapeCasts_S256x64_S1x256x64, shapeCasts_S1x256x1_S256x1, shapeCasts_S256x64_S256x64,
    reduces_S256x64_S256, shapeCasts_S256_S256x1, broadcasts_S256x1_S256x256,
    dot_S256x256_S256x64_S256x64_0_0_1_1_n_n_wf, dot_S256x256_S256x96_S256x96_0_0_1_1_n_n_wf, bitsLt_bf16_f32⟩

/-- The shapes fit together for every key. -/
theorem fits2304 : Head.Fits 2304 :=
  ⟨shapeCasts_S1x256x96_S256x96, shapeCasts_S256x96_S1x256x96, shapeCasts_S1x2304x96_S2304x96, shapeCasts_S2304x96_S1x2304x96,
    shapeCasts_S1x2304x64_S2304x64, shapeCasts_S2304x64_S1x2304x64, shapeCasts_S1x256x1_S256x1, shapeCasts_S256x64_S256x64,
    reduces_S256x64_S256, shapeCasts_S256_S256x1, broadcasts_S256x1_S256x2304,
    dot_S256x2304_S256x64_S2304x64_0_0_1_1_n_n_wf, dot_S256x2304_S256x96_S2304x96_0_0_1_1_n_n_wf, bitsLt_bf16_f32⟩

variable {F : FTy → Type} [FloatOps F]

section

variable (a : Vec F S1x256x96 .bf16) (b : Vec F S1x256x96 .bf16) (v : Vec F S1x256x64 .bf16) (o : Vec F S256x64 .f32) (l : Vec F S1x256x1 .f32)
  (g : Vec F S256x64 .f32) (pk : Vec F S1x256x96 .f32) (pv : Vec F S1x256x64 .f32)

/-- Head 0's value gradient over the context's keys. -/
theorem pay_dv_A0 : k0_pay13 a b g l pv = Head.dv fits256 a b l g pv := rfl
/-- Head 0's query gradient over the context's keys. -/
theorem pay_dq_A0 : k0_pay15 (k0_pay10 b) (k0_pay14 a b g l o v) (constant S256x96 .f32 0x00000000#32) = Head.dq fits256 a b v o l g := rfl
/-- Head 0's key gradient over the context's keys. -/
theorem pay_dk_A0 : k0_pay16 (k0_pay9 a) (k0_pay14 a b g l o v) pk = Head.dk fits256 a b v o l g pk := rfl

/-- Head 1's value gradient over the context's keys. -/
theorem pay_dv_A1 : k0_pay23 (k0_pay19 a b l) (k0_pay21 g) (k0_pay22 pv) = Head.dv fits256 a b l g pv := rfl
/-- Head 1's query gradient over the context's keys. -/
theorem pay_dq_A1 : k0_pay25 (k0_pay18 b) (k0_pay19 a b l) (k0_pay20 g o) (k0_pay21 g) v = Head.dq fits256 a b v o l g := rfl
/-- Head 1's key gradient over the context's keys. -/
theorem pay_dk_A1 : k0_pay26 (k0_pay17 a) (k0_pay19 a b l) (k0_pay20 g o) (k0_pay21 g) v pk = Head.dk fits256 a b v o l g pk := rfl

/-- Head 2's value gradient over the context's keys. -/
theorem pay_dv_A2 : k0_pay31 (k0_pay27 a) (k0_pay28 b) g (constant S256x256 .f32 0x00000000#32) l pv = Head.dv fits256 a b l g pv := rfl
/-- Head 2's query gradient over the context's keys. -/
theorem pay_dq_A2 : k0_pay33 (k0_pay27 a) (k0_pay28 b) g (constant S256x256 .f32 0x00000000#32) l o v = Head.dq fits256 a b v o l g := rfl
/-- Head 2's key gradient over the context's keys. -/
theorem pay_dk_A2 : k0_pay35 (k0_pay27 a) (k0_pay32 (k0_pay27 a) (k0_pay28 b) g (constant S256x256 .f32 0x00000000#32) l o v) (k0_pay34 pk) (constant S256x96 .f32 0x00000000#32) = Head.dk fits256 a b v o l g pk := rfl

/-- Head 3's value gradient over the context's keys. -/
theorem pay_dv_A3 : k0_pay41 a b g l pv = Head.dv fits256 a b l g pv := rfl
/-- Head 3's query gradient over the context's keys. -/
theorem pay_dq_A3 : k0_pay4 (k0_pay37 b) (k0_pay38 a b l) (k0_pay39 g o) (k0_pay40 g) v = Head.dq fits256 a b v o l g := rfl
/-- Head 3's key gradient over the context's keys. -/
theorem pay_dk_A3 : k0_pay5 (k0_pay36 a) (k0_pay38 a b l) (k0_pay39 g o) (k0_pay40 g) v pk = Head.dk fits256 a b v o l g pk := rfl

end

section

variable (a : Vec F S1x256x96 .bf16) (b : Vec F S1x2304x96 .bf16) (v : Vec F S1x2304x64 .bf16) (o : Vec F S256x64 .f32) (l : Vec F S1x256x1 .f32)
  (g : Vec F S256x64 .f32) (pk : Vec F S1x2304x96 .f32) (pv : Vec F S1x2304x64 .f32)

/-- Head 0's value gradient over every key. -/
theorem pay_dv_B0 : k0_pay46 a b g l pv = Head.dv fits2304 a b l g pv := rfl
/-- Head 0's query gradient over every key. -/
theorem pay_dq_B0 : k0_pay48 (k0_pay43 b) (k0_pay47 a b g l o v) (constant S256x96 .f32 0x00000000#32) = Head.dq fits2304 a b v o l g := rfl
/-- Head 0's key gradient over every key. -/
theorem pay_dk_B0 : k0_pay49 (k0_pay42 a) (k0_pay47 a b g l o v) pk = Head.dk fits2304 a b v o l g pk := rfl

/-- Head 1's value gradient over every key. -/
theorem pay_dv_B1 : k0_pay56 (k0_pay52 a b l) (k0_pay54 g) (k0_pay55 pv) = Head.dv fits2304 a b l g pv := rfl
/-- Head 1's query gradient over every key. -/
theorem pay_dq_B1 : k0_pay58 (k0_pay51 b) (k0_pay52 a b l) (k0_pay53 g o) (k0_pay54 g) v = Head.dq fits2304 a b v o l g := rfl
/-- Head 1's key gradient over every key. -/
theorem pay_dk_B1 : k0_pay59 (k0_pay50 a) (k0_pay52 a b l) (k0_pay53 g o) (k0_pay54 g) v pk = Head.dk fits2304 a b v o l g pk := rfl

/-- Head 2's value gradient over every key. -/
theorem pay_dv_B2 : k0_pay64 (k0_pay60 a) (k0_pay61 b) g (constant S256x2304 .f32 0x00000000#32) l pv = Head.dv fits2304 a b l g pv := rfl
/-- Head 2's query gradient over every key. -/
theorem pay_dq_B2 : k0_pay66 (k0_pay60 a) (k0_pay61 b) g (constant S256x2304 .f32 0x00000000#32) l o v = Head.dq fits2304 a b v o l g := rfl
/-- Head 2's key gradient over every key. -/
theorem pay_dk_B2 : k0_pay68 (k0_pay60 a) (k0_pay65 (k0_pay60 a) (k0_pay61 b) g (constant S256x2304 .f32 0x00000000#32) l o v) (k0_pay67 pk) (constant S2304x96 .f32 0x00000000#32) = Head.dk fits2304 a b v o l g pk := rfl

/-- Head 3's value gradient over every key. -/
theorem pay_dv_B3 : k0_pay74 a b g l pv = Head.dv fits2304 a b l g pv := rfl
/-- Head 3's query gradient over every key. -/
theorem pay_dq_B3 : k0_pay7 (k0_pay70 b) (k0_pay71 a b l) (k0_pay72 g o) (k0_pay73 g) v = Head.dq fits2304 a b v o l g := rfl
/-- Head 3's key gradient over every key. -/
theorem pay_dk_B3 : k0_pay8 (k0_pay69 a) (k0_pay71 a b l) (k0_pay72 g o) (k0_pay73 g) v pk = Head.dk fits2304 a b v o l g pk := rfl

end

end Cert.Attn

end
-- ==== Proof.PointA.lean ====
/- What one grid point of the backward call leaves, for the context's own queries (the first grid point of a head group). -/
module

public import proofs.«01_k».proof.Proof.Stores
public import proofs.«01_k».proof.Proof.Payloads
public import proofs.«01_k».proof.Proof.Gen.KernelIdeal.Frame
public import Idealize.ShloMosaic.Lib.Tactic

@[expose] public section

set_option maxRecDepth 16384

noncomputable section

namespace Cert.Attn

open Idealize.ShloMosaic Idealize.ShloMosaic.TcCoe Idealize.ShloMosaic.ValueIdx Cert.KernelIdeal Cert.KernelIdeal.Gen
open scoped BigOperators

variable (c : Dev nD) (i : grid0.Coords) (arg2 : Memref sig .tc .vmem S4x256x96 .bf16) (harg2 : arg2.IsWhole) (arg3 : Memref sig .tc .vmem S4x2304x96 .bf16) (harg3 : arg3.IsWhole) (arg4 : Memref sig .tc .vmem S4x2304x64 .bf16) (harg4 : arg4.IsWhole) (arg5 : Memref sig .tc .vmem S256x256 .f32) (harg5 : arg5.IsWhole) (arg6 : Memref sig .tc .vmem S4x256x1 .f32) (harg6 : arg6.IsWhole) (arg7 : Memref sig .tc .vmem S256x256 .f32) (harg7 : arg7.IsWhole) (arg8 : Memref sig .tc .vmem S4x256x96 .f32) (harg8 : arg8.IsWhole) (arg9 : Memref sig .tc .vmem S4x2304x96 .f32) (harg9 : arg9.IsWhole) (arg10 : Memref sig .tc .vmem S4x2304x64 .f32) (harg10 : arg10.IsWhole)
  (hc0 : cond0_0 i) (hc1 : cond0_1 i) (hc2 : ¬cond0_2 i)
  {x0 : FVec Ideal S4x256x96 .bf16} {x1 : FVec Ideal S4x2304x96 .bf16} {x2 : FVec Ideal S4x2304x64 .bf16}
  {x3 : FVec Ideal S256x256 .f32} {x4 : FVec Ideal S4x256x1 .f32} {x5 : FVec Ideal S256x256 .f32}
  {Q : Fin 4 → Fin 256 → Fin 96 → ℝ} {K : Fin 4 → Fin 256 → Fin 96 → ℝ} {V : Fin 4 → Fin 256 → Fin 64 → ℝ} {G : Fin 4 → Fin 256 → Fin 64 → ℝ}
  (D : Block 256 le_ctx x0 x1 x2 x3 x4 x5 Q K V G)
include D

/-- The block's query gradient. -/
theorem out_dq_A (h : Fin 4) (r : Fin 256) (e : Fin 96) :
    out0_A_6 (F := Ideal) c i arg2 harg2 arg3 harg3 arg4 harg4 arg5 harg5 arg6 harg6 arg7 harg7 arg8 harg8 arg9 harg9 arg10 harg10 hc0 hc1 hc2 x0 x1 x2 x3 x4 x5 (ix3 h r e)
      = ((∑ j, dscore (Q h r) (K h) (V h) (G h r) j * K h j e : ℝ) : EReal) := by
  unfold out0_A_6
  rw [View.read_writes_junk_eq_canon]
  unfold kernelRun0_A
  dsimp only
  sl_unfold_words
  simp only [View.readAt_eq_ld, harg2.read_unread, harg3.read_unread, harg4.read_unread, harg5.read_unread, harg6.read_unread, harg7.read_unread]
  obtain eh | eh | eh | eh : h.val = 0 ∨ h.val = 1 ∨ h.val = 2 ∨ h.val = 3 := by omega
  · refine (canon_miss _ _ _ h r e (.inl (by omega))).trans ?_
    refine (canon_miss _ _ _ h r e (.inl (by omega))).trans ?_
    refine (canon_miss _ _ _ h r e (.inl (by omega))).trans ?_
    refine (canon_hit _ _ _ h eh r r rfl e).trans ?_
    refine (congrFun (pay_dq_A0 ..) _).trans ?_
    exact Head.dq_apply fits256 (D.head h eh (by omega : h.val * 64 = 0) inb_S4x256x96_S1x256x96_0_0_0 inb_S4x2304x96_S1x256x96_0_0_0 inb_S4x2304x64_S1x256x64_0_0_0 inb_S256x256_S256x64_0_0 inb_S4x256x1_S1x256x1_0_0_0) r e
  · refine (canon_miss _ _ _ h r e (.inl (by omega))).trans ?_
    refine (canon_miss _ _ _ h r e (.inl (by omega))).trans ?_
    refine (canon_hit _ _ _ h eh r r rfl e).trans ?_
    refine (congrFun (pay_dq_A1 ..) _).trans ?_
    exact Head.dq_apply fits256 (D.head h eh (by omega : h.val * 64 = 64) inb_S4x256x96_S1x256x96_1_0_0 inb_S4x2304x96_S1x256x96_1_0_0 inb_S4x2304x64_S1x256x64_1_0_0 inb_S256x256_S256x64_0_64 inb_S4x256x1_S1x256x1_1_0_0) r e
  · refine (canon_miss _ _ _ h r e (.inl (by omega))).trans ?_
    refine (canon_hit _ _ _ h eh r r rfl e).trans ?_
    refine (congrFun (pay_dq_A2 ..) _).trans ?_
    exact Head.dq_apply fits256 (D.head h eh (by omega : h.val * 64 = 128) inb_S4x256x96_S1x256x96_2_0_0 inb_S4x2304x96_S1x256x96_2_0_0 inb_S4x2304x64_S1x256x64_2_0_0 inb_S256x256_S256x64_0_128 inb_S4x256x1_S1x256x1_2_0_0) r e
  · refine (canon_hit _ _ _ h eh r r rfl e).trans ?_
    refine (congrFun (pay_dq_A3 ..) _).trans ?_
    exact Head.dq_apply fits256 (D.head h eh (by omega : h.val * 64 = 192) inb_S4x256x96_S1x256x96_3_0_0 inb_S4x2304x96_S1x256x96_3_0_0 inb_S4x2304x64_S1x256x64_3_0_0 inb_S256x256_S256x64_0_192 inb_S4x256x1_S1x256x1_3_0_0) r e

/-- The block's key gradient. -/
theorem out_dk_A (h : Fin 4) (j : Fin 2304) (e : Fin 96) :
    out0_A_7 (F := Ideal) c i arg2 harg2 arg3 harg3 arg4 harg4 arg5 harg5 arg6 harg6 arg7 harg7 arg8 harg8 arg9 harg9 arg10 harg10 hc0 hc1 hc2 x0 x1 x2 x3 x4 x5 (ix3 h j e)
      = ((if hj : j.val < 256 then ∑ r, dscore (Q h r) (K h) (V h) (G h r) ⟨j.val, hj⟩ * (Q h r e * unit2) else 0 : ℝ) : EReal) := by
  unfold out0_A_7
  rw [View.read_writes_junk_eq_canon]
  unfold kernelRun0_A
  dsimp only
  sl_unfold_words
  simp only [View.readAt_eq_ld, harg2.read_unread, harg3.read_unread, harg4.read_unread, harg5.read_unread, harg6.read_unread, harg7.read_unread]
  by_cases hj : j.val < 256
  · rw [dif_pos hj]
    obtain eh | eh | eh | eh : h.val = 0 ∨ h.val = 1 ∨ h.val = 2 ∨ h.val = 3 := by omega
    · refine (canon_miss _ _ _ h j e (.inl (by omega))).trans ?_
      refine (canon_miss _ _ _ h j e (.inl (by omega))).trans ?_
      refine (canon_miss _ _ _ h j e (.inl (by omega))).trans ?_
      refine (canon_hit _ _ _ h eh j ⟨j.val, hj⟩ rfl e).trans ?_
      refine (congrFun (pay_dk_A0 ..) _).trans ?_
      refine (Head.dk_apply fits256 (D.head h eh (by omega : h.val * 64 = 0) inb_S4x256x96_S1x256x96_0_0_0 inb_S4x2304x96_S1x256x96_0_0_0 inb_S4x2304x64_S1x256x64_0_0_0 inb_S256x256_S256x64_0_0 inb_S4x256x1_S1x256x1_0_0_0) _ ⟨j.val, hj⟩ e).trans ?_
      refine (congrArg (· + _) ?_).trans (zero_add _)
      refine (cov3 _ _ _ h eh j ⟨j.val, hj⟩ rfl e).trans ?_
      exact (canon_all _ _ _ h j e).trans Ideal.ofBits_zero_f32
    · refine (canon_miss _ _ _ h j e (.inl (by omega))).trans ?_
      refine (canon_miss _ _ _ h j e (.inl (by omega))).trans ?_
      refine (canon_hit _ _ _ h eh j ⟨j.val, hj⟩ rfl e).trans ?_
      refine (congrFun (pay_dk_A1 ..) _).trans ?_
      refine (Head.dk_apply fits256 (D.head h eh (by omega : h.val * 64 = 64) inb_S4x256x96_S1x256x96_1_0_0 inb_S4x2304x96_S1x256x96_1_0_0 inb_S4x2304x64_S1x256x64_1_0_0 inb_S256x256_S256x64_0_64 inb_S4x256x1_S1x256x1_1_0_0) _ ⟨j.val, hj⟩ e).trans ?_
      refine (congrArg (· + _) ?_).trans (zero_add _)
      refine (cov3 _ _ _ h eh j ⟨j.val, hj⟩ rfl e).trans ?_
      refine (canon_miss _ _ _ h j e (.inl (by omega))).trans ?_
      exact (canon_all _ _ _ h j e).trans Ideal.ofBits_zero_f32
    · refine (canon_miss _ _ _ h j e (.inl (by omega))).trans ?_
      refine (canon_hit _ _ _ h eh j ⟨j.val, hj⟩ rfl e).trans ?_
      refine (congrFun (pay_dk_A2 ..) _).trans ?_
      refine (Head.dk_apply fits256 (D.head h eh (by omega : h.val * 64 = 128) inb_S4x256x96_S1x256x96_2_0_0 inb_S4x2304x96_S1x256x96_2_0_0 inb_S4x2304x64_S1x256x64_2_0_0 inb_S256x256_S256x64_0_128 inb_S4x256x1_S1x256x1_2_0_0) _ ⟨j.val, hj⟩ e).trans ?_
      refine (congrArg (· + _) ?_).trans (zero_add _)
      refine (cov3 _ _ _ h eh j ⟨j.val, hj⟩ rfl e).trans ?_
      refine (canon_miss _ _ _ h j e (.inl (by omega))).trans ?_
      refine (canon_miss _ _ _ h j e (.inl (by omega))).trans ?_
      exact (canon_all _ _ _ h j e).trans Ideal.ofBits_zero_f32
    · refine (canon_hit _ _ _ h eh j ⟨j.val, hj⟩ rfl e).trans ?_
      refine (congrFun (pay_dk_A3 ..) _).trans ?_
      refine (Head.dk_apply fits256 (D.head h eh (by omega : h.val * 64 = 192) inb_S4x256x96_S1x256x96_3_0_0 inb_S4x2304x96_S1x256x96_3_0_0 inb_S4x2304x64_S1x256x64_3_0_0 inb_S256x256_S256x64_0_192 inb_S4x256x1_S1x256x1_3_0_0) _ ⟨j.val, hj⟩ e).trans ?_
      refine (congrArg (· + _) ?_).trans (zero_add _)
      refine (cov3 _ _ _ h eh j ⟨j.val, hj⟩ rfl e).trans ?_
      refine (canon_miss _ _ _ h j e (.inl (by omega))).trans ?_
      refine (canon_miss _ _ _ h j e (.inl (by omega))).trans ?_
      refine (canon_miss _ _ _ h j e (.inl (by omega))).trans ?_
      exact (canon_all _ _ _ h j e).trans Ideal.ofBits_zero_f32
  · rw [dif_neg hj]
    refine (canon_miss _ _ _ h j e (.inr (by omega))).trans ?_
    refine (canon_miss _ _ _ h j e (.inr (by omega))).trans ?_
    refine (canon_miss _ _ _ h j e (.inr (by omega))).trans ?_
    refine (canon_miss _ _ _ h j e (.inr (by omega))).trans ?_
    exact (canon_all _ _ _ h j e).trans (Ideal.ofBits_zero_f32.trans EReal.coe_zero.symm)

/-- The block's value gradient. -/
theorem out_dv_A (h : Fin 4) (j : Fin 2304) (e : Fin 64) :
    out0_A_8 (F := Ideal) c i arg2 harg2 arg3 harg3 arg4 harg4 arg5 harg5 arg6 harg6 arg7 harg7 arg8 harg8 arg9 harg9 arg10 harg10 hc0 hc1 hc2 x0 x1 x2 x3 x4 x5 (ix3 h j e)
      = ((if hj : j.val < 256 then ∑ r, prob (Q h r) (K h) ⟨j.val, hj⟩ * G h r e else 0 : ℝ) : EReal) := by
  unfold out0_A_8
  rw [View.read_writes_junk_eq_canon]
  unfold kernelRun0_A
  dsimp only
  sl_unfold_words
  simp only [View.readAt_eq_ld, harg2.read_unread, harg3.read_unread, harg4.read_unread, harg5.read_unread, harg6.read_unread, harg7.read_unread]
  by_cases hj : j.val < 256
  · rw [dif_pos hj]
    obtain eh | eh | eh | eh : h.val = 0 ∨ h.val = 1 ∨ h.val = 2 ∨ h.val = 3 := by omega
    · refine (canon_miss _ _ _ h j e (.inl (by omega))).trans ?_
      refine (canon_miss _ _ _ h j e (.inl (by omega))).trans ?_
      refine (canon_miss _ _ _ h j e (.inl (by omega))).trans ?_
      refine (canon_hit _ _ _ h eh j ⟨j.val, hj⟩ rfl e).trans ?_
      refine (congrFun (pay_dv_A0 ..) _).trans ?_
      refine (Head.dv_apply fits256 (D.head h eh (by omega : h.val * 64 = 0) inb_S4x256x96_S1x256x96_0_0_0 inb_S4x2304x96_S1x256x96_0_0_0 inb_S4x2304x64_S1x256x64_0_0_0 inb_S256x256_S256x64_0_0 inb_S4x256x1_S1x256x1_0_0_0) _ ⟨j.val, hj⟩ e).trans ?_
      refine (congrArg (· + _) ?_).trans (zero_add _)
      refine (cov3 _ _ _ h eh j ⟨j.val, hj⟩ rfl e).trans ?_
      exact (canon_all _ _ _ h j e).trans Ideal.ofBits_zero_f32
    · refine (canon_miss _ _ _ h j e (.inl (by omega))).trans ?_
      refine (canon_miss _ _ _ h j e (.inl (by omega))).trans ?_
      refine (canon_hit _ _ _ h eh j ⟨j.val, hj⟩ rfl e).trans ?_
      refine (congrFun (pay_dv_A1 ..) _).trans ?_
      refine (Head.dv_apply fits256 (D.head h eh (by omega : h.val * 64 = 64) inb_S4x256x96_S1x256x96_1_0_0 inb_S4x2304x96_S1x256x96_1_0_0 inb_S4x2304x64_S1x256x64_1_0_0 inb_S256x256_S256x64_0_64 inb_S4x256x1_S1x256x1_1_0_0) _ ⟨j.val, hj⟩ e).trans ?_
      refine (congrArg (· + _) ?_).trans (zero_add _)
      refine (cov3 _ _ _ h eh j ⟨j.val, hj⟩ rfl e).trans ?_
      refine (canon_miss _ _ _ h j e (.inl (by omega))).trans ?_
      exact (canon_all _ _ _ h j e).trans Ideal.ofBits_zero_f32
    · refine (canon_miss _ _ _ h j e (.inl (by omega))).trans ?_
      refine (canon_hit _ _ _ h eh j ⟨j.val, hj⟩ rfl e).trans ?_
      refine (congrFun (pay_dv_A2 ..) _).trans ?_
      refine (Head.dv_apply fits256 (D.head h eh (by omega : h.val * 64 = 128) inb_S4x256x96_S1x256x96_2_0_0 inb_S4x2304x96_S1x256x96_2_0_0 inb_S4x2304x64_S1x256x64_2_0_0 inb_S256x256_S256x64_0_128 inb_S4x256x1_S1x256x1_2_0_0) _ ⟨j.val, hj⟩ e).trans ?_
      refine (congrArg (· + _) ?_).trans (zero_add _)
      refine (cov3 _ _ _ h eh j ⟨j.val, hj⟩ rfl e).trans ?_
      refine (canon_miss _ _ _ h j e (.inl (by omega))).trans ?_
      refine (canon_miss _ _ _ h j e (.inl (by omega))).trans ?_
      exact (canon_all _ _ _ h j e).trans Ideal.ofBits_zero_f32
    · refine (canon_hit _ _ _ h eh j ⟨j.val, hj⟩ rfl e).trans ?_
      refine (congrFun (pay_dv_A3 ..) _).trans ?_
      refine (Head.dv_apply fits256 (D.head h eh (by omega : h.val * 64 = 192) inb_S4x256x96_S1x256x96_3_0_0 inb_S4x2304x96_S1x256x96_3_0_0 inb_S4x2304x64_S1x256x64_3_0_0 inb_S256x256_S256x64_0_192 inb_S4x256x1_S1x256x1_3_0_0) _ ⟨j.val, hj⟩ e).trans ?_
      refine (congrArg (· + _) ?_).trans (zero_add _)
      refine (cov3 _ _ _ h eh j ⟨j.val, hj⟩ rfl e).trans ?_
      refine (canon_miss _ _ _ h j e (.inl (by omega))).trans ?_
      refine (canon_miss _ _ _ h j e (.inl (by omega))).trans ?_
      refine (canon_miss _ _ _ h j e (.inl (by omega))).trans ?_
      exact (canon_all _ _ _ h j e).trans Ideal.ofBits_zero_f32
  · rw [dif_neg hj]
    refine (canon_miss _ _ _ h j e (.inr (by omega))).trans ?_
    refine (canon_miss _ _ _ h j e (.inr (by omega))).trans ?_
    refine (canon_miss _ _ _ h j e (.inr (by omega))).trans ?_
    refine (canon_miss _ _ _ h j e (.inr (by omega))).trans ?_
    exact (canon_all _ _ _ h j e).trans (Ideal.ofBits_zero_f32.trans EReal.coe_zero.symm)

end Cert.Attn

end
-- ==== Proof.PointB.lean ====
/- What one grid point of the backward call leaves, for latent queries (every later grid point). -/
module

public import proofs.«01_k».proof.Proof.Stores
public import proofs.«01_k».proof.Proof.Payloads
public import proofs.«01_k».proof.Proof.Gen.KernelIdeal.Frame
public import Idealize.ShloMosaic.Lib.Tactic

@[expose] public section

set_option maxRecDepth 16384

noncomputable section

namespace Cert.Attn

open Idealize.ShloMosaic Idealize.ShloMosaic.TcCoe Idealize.ShloMosaic.ValueIdx Cert.KernelIdeal Cert.KernelIdeal.Gen
open scoped BigOperators

variable (c : Dev nD) (i : grid0.Coords) (arg2 : Memref sig .tc .vmem S4x256x96 .bf16) (harg2 : arg2.IsWhole) (arg3 : Memref sig .tc .vmem S4x2304x96 .bf16) (harg3 : arg3.IsWhole) (arg4 : Memref sig .tc .vmem S4x2304x64 .bf16) (harg4 : arg4.IsWhole) (arg5 : Memref sig .tc .vmem S256x256 .f32) (harg5 : arg5.IsWhole) (arg6 : Memref sig .tc .vmem S4x256x1 .f32) (harg6 : arg6.IsWhole) (arg7 : Memref sig .tc .vmem S256x256 .f32) (harg7 : arg7.IsWhole) (arg8 : Memref sig .tc .vmem S4x256x96 .f32) (harg8 : arg8.IsWhole) (arg9 : Memref sig .tc .vmem S4x2304x96 .f32) (harg9 : arg9.IsWhole) (arg10 : Memref sig .tc .vmem S4x2304x64 .f32) (harg10 : arg10.IsWhole)
  (hc0 : ¬cond0_0 i) (hc1 : ¬cond0_1 i) (hc2 : cond0_2 i)
  {x0 : FVec Ideal S4x256x96 .bf16} {x1 : FVec Ideal S4x2304x96 .bf16} {x2 : FVec Ideal S4x2304x64 .bf16}
  {x3 : FVec Ideal S256x256 .f32} {x4 : FVec Ideal S4x256x1 .f32} {x5 : FVec Ideal S256x256 .f32}
  (xo7 : FVec Ideal S4x2304x96 .f32) (xo8 : FVec Ideal S4x2304x64 .f32)
  {Q : Fin 4 → Fin 256 → Fin 96 → ℝ} {K : Fin 4 → Fin 2304 → Fin 96 → ℝ} {V : Fin 4 → Fin 2304 → Fin 64 → ℝ} {G : Fin 4 → Fin 256 → Fin 64 → ℝ}
  (D : Block 2304 le_all x0 x1 x2 x3 x4 x5 Q K V G)
include D

/-- The block's query gradient. -/
theorem out_dq_B (h : Fin 4) (r : Fin 256) (e : Fin 96) :
    out0_B_6 (F := Ideal) c i arg2 harg2 arg3 harg3 arg4 harg4 arg5 harg5 arg6 harg6 arg7 harg7 arg8 harg8 arg9 harg9 arg10 harg10 hc0 hc1 hc2 x0 x1 x2 x3 x4 x5 xo7 xo8 (ix3 h r e)
      = ((∑ j, dscore (Q h r) (K h) (V h) (G h r) j * K h j e : ℝ) : EReal) := by
  unfold out0_B_6
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread]
  obtain eh | eh | eh | eh : h.val = 0 ∨ h.val = 1 ∨ h.val = 2 ∨ h.val = 3 := by omega
  · refine (canon_miss _ _ _ h r e (.inl (by omega))).trans ?_
    refine (canon_miss _ _ _ h r e (.inl (by omega))).trans ?_
    refine (canon_miss _ _ _ h r e (.inl (by omega))).trans ?_
    refine (canon_hit _ _ _ h eh r r rfl e).trans ?_
    refine (congrFun (pay_dq_B0 ..) _).trans ?_
    exact Head.dq_apply fits2304 (D.head h eh (by omega : h.val * 64 = 0) inb_S4x256x96_S1x256x96_0_0_0 inb_S4x2304x96_S1x2304x96_0_0_0 inb_S4x2304x64_S1x2304x64_0_0_0 inb_S256x256_S256x64_0_0 inb_S4x256x1_S1x256x1_0_0_0) r e
  · refine (canon_miss _ _ _ h r e (.inl (by omega))).trans ?_
    refine (canon_miss _ _ _ h r e (.inl (by omega))).trans ?_
    refine (canon_hit _ _ _ h eh r r rfl e).trans ?_
    refine (congrFun (pay_dq_B1 ..) _).trans ?_
    exact Head.dq_apply fits2304 (D.head h eh (by omega : h.val * 64 = 64) inb_S4x256x96_S1x256x96_1_0_0 inb_S4x2304x96_S1x2304x96_1_0_0 inb_S4x2304x64_S1x2304x64_1_0_0 inb_S256x256_S256x64_0_64 inb_S4x256x1_S1x256x1_1_0_0) r e
  · refine (canon_miss _ _ _ h r e (.inl (by omega))).trans ?_
    refine (canon_hit _ _ _ h eh r r rfl e).trans ?_
    refine (congrFun (pay_dq_B2 ..) _).trans ?_
    exact Head.dq_apply fits2304 (D.head h eh (by omega : h.val * 64 = 128) inb_S4x256x96_S1x256x96_2_0_0 inb_S4x2304x96_S1x2304x96_2_0_0 inb_S4x2304x64_S1x2304x64_2_0_0 inb_S256x256_S256x64_0_128 inb_S4x256x1_S1x256x1_2_0_0) r e
  · refine (canon_hit _ _ _ h eh r r rfl e).trans ?_
    refine (congrFun (pay_dq_B3 ..) _).trans ?_
    exact Head.dq_apply fits2304 (D.head h eh (by omega : h.val * 64 = 192) inb_S4x256x96_S1x256x96_3_0_0 inb_S4x2304x96_S1x2304x96_3_0_0 inb_S4x2304x64_S1x2304x64_3_0_0 inb_S256x256_S256x64_0_192 inb_S4x256x1_S1x256x1_3_0_0) r e

/-- The block's key gradient. -/
theorem out_dk_B (h : Fin 4) (j : Fin 2304) (e : Fin 96) :
    out0_B_7 (F := Ideal) c i arg2 harg2 arg3 harg3 arg4 harg4 arg5 harg5 arg6 harg6 arg7 harg7 arg8 harg8 arg9 harg9 arg10 harg10 hc0 hc1 hc2 x0 x1 x2 x3 x4 x5 xo7 xo8 (ix3 h j e)
      = xo7 (ix3 h j e) + ((∑ r, dscore (Q h r) (K h) (V h) (G h r) j * (Q h r e * unit2) : ℝ) : EReal) := by
  unfold out0_B_7
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread]
  obtain eh | eh | eh | eh : h.val = 0 ∨ h.val = 1 ∨ h.val = 2 ∨ h.val = 3 := by omega
  · refine (canon_miss _ _ _ h j e (.inl (by omega))).trans ?_
    refine (canon_miss _ _ _ h j e (.inl (by omega))).trans ?_
    refine (canon_miss _ _ _ h j e (.inl (by omega))).trans ?_
    refine (canon_hit _ _ _ h eh j j rfl e).trans ?_
    refine (congrFun (pay_dk_B0 ..) _).trans ?_
    refine (Head.dk_apply fits2304 (D.head h eh (by omega : h.val * 64 = 0) inb_S4x256x96_S1x256x96_0_0_0 inb_S4x2304x96_S1x2304x96_0_0_0 inb_S4x2304x64_S1x2304x64_0_0_0 inb_S256x256_S256x64_0_0 inb_S4x256x1_S1x256x1_0_0_0) _ j e).trans ?_
    exact congrArg (· + _) (ld3 (Val := Elt Ideal) (e := .f32) _ xo7 h eh j j rfl e)
  · refine (canon_miss _ _ _ h j e (.inl (by omega))).trans ?_
    refine (canon_miss _ _ _ h j e (.inl (by omega))).trans ?_
    refine (canon_hit _ _ _ h eh j j rfl e).trans ?_
    refine (congrFun (pay_dk_B1 ..) _).trans ?_
    refine (Head.dk_apply fits2304 (D.head h eh (by omega : h.val * 64 = 64) inb_S4x256x96_S1x256x96_1_0_0 inb_S4x2304x96_S1x2304x96_1_0_0 inb_S4x2304x64_S1x2304x64_1_0_0 inb_S256x256_S256x64_0_64 inb_S4x256x1_S1x256x1_1_0_0) _ j e).trans ?_
    exact congrArg (· + _) (ld3 (Val := Elt Ideal) (e := .f32) _ xo7 h eh j j rfl e)
  · refine (canon_miss _ _ _ h j e (.inl (by omega))).trans ?_
    refine (canon_hit _ _ _ h eh j j rfl e).trans ?_
    refine (congrFun (pay_dk_B2 ..) _).trans ?_
    refine (Head.dk_apply fits2304 (D.head h eh (by omega : h.val * 64 = 128) inb_S4x256x96_S1x256x96_2_0_0 inb_S4x2304x96_S1x2304x96_2_0_0 inb_S4x2304x64_S1x2304x64_2_0_0 inb_S256x256_S256x64_0_128 inb_S4x256x1_S1x256x1_2_0_0) _ j e).trans ?_
    exact congrArg (· + _) (ld3 (Val := Elt Ideal) (e := .f32) _ xo7 h eh j j rfl e)
  · refine (canon_hit _ _ _ h eh j j rfl e).trans ?_
    refine (congrFun (pay_dk_B3 ..) _).trans ?_
    refine (Head.dk_apply fits2304 (D.head h eh (by omega : h.val * 64 = 192) inb_S4x256x96_S1x256x96_3_0_0 inb_S4x2304x96_S1x2304x96_3_0_0 inb_S4x2304x64_S1x2304x64_3_0_0 inb_S256x256_S256x64_0_192 inb_S4x256x1_S1x256x1_3_0_0) _ j e).trans ?_
    exact congrArg (· + _) (ld3 (Val := Elt Ideal) (e := .f32) _ xo7 h eh j j rfl e)

/-- The block's value gradient. -/
theorem out_dv_B (h : Fin 4) (j : Fin 2304) (e : Fin 64) :
    out0_B_8 (F := Ideal) c i arg2 harg2 arg3 harg3 arg4 harg4 arg5 harg5 arg6 harg6 arg7 harg7 arg8 harg8 arg9 harg9 arg10 harg10 hc0 hc1 hc2 x0 x1 x2 x3 x4 x5 xo7 xo8 (ix3 h j e)
      = xo8 (ix3 h j e) + ((∑ r, prob (Q h r) (K h) j * G h r e : ℝ) : EReal) := by
  unfold out0_B_8
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread]
  obtain eh | eh | eh | eh : h.val = 0 ∨ h.val = 1 ∨ h.val = 2 ∨ h.val = 3 := by omega
  · refine (canon_miss _ _ _ h j e (.inl (by omega))).trans ?_
    refine (canon_miss _ _ _ h j e (.inl (by omega))).trans ?_
    refine (canon_miss _ _ _ h j e (.inl (by omega))).trans ?_
    refine (canon_hit _ _ _ h eh j j rfl e).trans ?_
    refine (congrFun (pay_dv_B0 ..) _).trans ?_
    refine (Head.dv_apply fits2304 (D.head h eh (by omega : h.val * 64 = 0) inb_S4x256x96_S1x256x96_0_0_0 inb_S4x2304x96_S1x2304x96_0_0_0 inb_S4x2304x64_S1x2304x64_0_0_0 inb_S256x256_S256x64_0_0 inb_S4x256x1_S1x256x1_0_0_0) _ j e).trans ?_
    exact congrArg (· + _) (ld3 (Val := Elt Ideal) (e := .f32) _ xo8 h eh j j rfl e)
  · refine (canon_miss _ _ _ h j e (.inl (by omega))).trans ?_
    refine (canon_miss _ _ _ h j e (.inl (by omega))).trans ?_
    refine (canon_hit _ _ _ h eh j j rfl e).trans ?_
    refine (congrFun (pay_dv_B1 ..) _).trans ?_
    refine (Head.dv_apply fits2304 (D.head h eh (by omega : h.val * 64 = 64) inb_S4x256x96_S1x256x96_1_0_0 inb_S4x2304x96_S1x2304x96_1_0_0 inb_S4x2304x64_S1x2304x64_1_0_0 inb_S256x256_S256x64_0_64 inb_S4x256x1_S1x256x1_1_0_0) _ j e).trans ?_
    exact congrArg (· + _) (ld3 (Val := Elt Ideal) (e := .f32) _ xo8 h eh j j rfl e)
  · refine (canon_miss _ _ _ h j e (.inl (by omega))).trans ?_
    refine (canon_hit _ _ _ h eh j j rfl e).trans ?_
    refine (congrFun (pay_dv_B2 ..) _).trans ?_
    refine (Head.dv_apply fits2304 (D.head h eh (by omega : h.val * 64 = 128) inb_S4x256x96_S1x256x96_2_0_0 inb_S4x2304x96_S1x2304x96_2_0_0 inb_S4x2304x64_S1x2304x64_2_0_0 inb_S256x256_S256x64_0_128 inb_S4x256x1_S1x256x1_2_0_0) _ j e).trans ?_
    exact congrArg (· + _) (ld3 (Val := Elt Ideal) (e := .f32) _ xo8 h eh j j rfl e)
  · refine (canon_hit _ _ _ h eh j j rfl e).trans ?_
    refine (congrFun (pay_dv_B3 ..) _).trans ?_
    refine (Head.dv_apply fits2304 (D.head h eh (by omega : h.val * 64 = 192) inb_S4x256x96_S1x256x96_3_0_0 inb_S4x2304x96_S1x2304x96_3_0_0 inb_S4x2304x64_S1x2304x64_3_0_0 inb_S256x256_S256x64_0_192 inb_S4x256x1_S1x256x1_3_0_0) _ j e).trans ?_
    exact congrArg (· + _) (ld3 (Val := Elt Ideal) (e := .f32) _ xo8 h eh j j rfl e)

end Cert.Attn

end
-- ==== Proof.KernelAccum.lean ====
/- What the backward call's output blocks hold after each grid point. -/
module

public import proofs.«01_k».proof.Proof.KernelBlocks
public import proofs.«01_k».proof.Proof.PointA
public import proofs.«01_k».proof.Proof.PointB

@[expose] public section

set_option maxRecDepth 16384

noncomputable section

namespace Cert.Attn

open Idealize.ShloMosaic Idealize.ShloMosaic.TcCoe Idealize.ShloMosaic.ValueIdx Cert.KernelIdeal Cert.KernelIdeal.Gen
open scoped BigOperators

/-- A token by its number. -/
def tokN (n : ℕ) : Fin 2304 := ⟨n % 2304, Nat.mod_lt _ (by decide)⟩

/-- A grid point of the first column works on context tokens. -/
theorem tok_ctx (t : Fin cfg0.N) (h0 : t.val % 9 = 0) (r : Fin 256) : tok t r = ctxRow r :=
  Fin.ext (by show t.val % 9 * 256 + r.val = r.val; omega)

/-- A later grid point works on a block of latent tokens. -/
theorem tok_lat (t : Fin cfg0.N) (i : ℕ) (h0 : t.val % 9 = i + 1) (r : Fin 256) : tok t r = tokN (256 + (i * 256 + r.val)) :=
  Fin.ext (by show t.val % 9 * 256 + r.val = (256 + (i * 256 + r.val)) % 2304; rw [h0]; omega)

/-- The sum over all latent tokens is the sum of the blocks' sums. -/
theorem sum_tokens (f : Fin 2304 → ℝ) : ∑ i ∈ Finset.range 8, ∑ r : Fin 256, f (tokN (256 + (i * 256 + r.val))) = ∑ r, f (latRow r) := by
  rw [sum_latent fun r => f (latRow r), Finset.sum_range]
  refine Finset.sum_congr rfl fun i _ => Finset.sum_congr rfl fun r _ => congrArg f (Fin.ext ?_)
  show (256 + (i.val * 256 + r.val)) % 2304 = 256 + (i.val * 256 + r.val)
  omega

variable {m : (ℓ : Loc nD τ sig) → Buf (Elt Ideal) ℓ} {c : Dev nD}
  {q k : Fin 16 → Fin 2304 → Fin 96 → ℝ} {v : Fin 16 → Fin 2304 → Fin 64 → ℝ} {g : Fin 2304 → Fin 1024 → ℝ}

/-- What a context grid point leaves in the first output block. -/
theorem point_dq_A (A : Handed m c q k v g) (t : Fin cfg0.N) (h0 : t.val % 9 = 0) (h : Fin 4) (r : Fin 256) (d : Fin 96) :
    (outsAt0 m c t.val t.isLt).1 (ix3 h r d)
      = ((∑ j, dscore (q (hd t h) (tok t r)) (ctx (k (hd t h))) (ctx (v (hd t h))) (headRow g (hd t h) (tok t r)) j * ctx (k (hd t h)) j d : ℝ) : EReal) := by
  have h2 : ¬1 ≤ t.val % 9 := by omega
  refine (congrFun (congrArg (fun p => p.1) (outsAt0_A m c t h0 h0 h2)) (ix3 h r d)).trans ?_
  have D := A.block_A t h0
  generalize iblk m c 0 t = x0 at D ⊢
  generalize iblk m c 1 t = x1 at D ⊢
  generalize iblk m c 2 t = x2 at D ⊢
  generalize iblk m c 3 t = x3 at D ⊢
  generalize iblk m c 4 t = x4 at D ⊢
  generalize iblk m c 5 t = x5 at D ⊢
  have w := @out_dq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hcond0_0 t).mpr h0) ((hcond0_1 t).mpr h0) (fun h => h2 ((hcond0_2 t).mp h)) x0 x1 x2 x3 x4 x5 _ _ _ _ D h r d
  dsimp only
  exact w

/-- What a latent grid point leaves in the first output block. -/
theorem point_dq_B (A : Handed m c q k v g) (t : Fin cfg0.N) (h0 : ¬t.val % 9 = 0) (h : Fin 4) (r : Fin 256) (d : Fin 96) :
    (outsAt0 m c t.val t.isLt).1 (ix3 h r d)
      = ((∑ j, dscore (q (hd t h) (tok t r)) (k (hd t h)) (v (hd t h)) (headRow g (hd t h) (tok t r)) j * k (hd t h) j d : ℝ) : EReal) := by
  have h2 : 1 ≤ t.val % 9 := by omega
  refine (congrFun (congrArg (fun p => p.1) (outsAt0_B m c t h0 h0 h2)) (ix3 h r d)).trans ?_
  have D := A.block_B t h0
  generalize iblk m c 0 t = x0 at D ⊢
  generalize iblk m c 1 t = x1 at D ⊢
  generalize iblk m c 2 t = x2 at D ⊢
  generalize iblk m c 3 t = x3 at D ⊢
  generalize iblk m c 4 t = x4 at D ⊢
  generalize iblk m c 5 t = x5 at D ⊢
  generalize (outsAt0 m c (t.val - 1) (Nat.lt_of_le_of_lt (Nat.sub_le _ _) t.isLt)).2.1 = xo7
  generalize (outsAt0 m c (t.val - 1) (Nat.lt_of_le_of_lt (Nat.sub_le _ _) t.isLt)).2.2 = xo8
  have w := @out_dq_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun h => h0 ((hcond0_0 t).mp h)) (fun h => h0 ((hcond0_1 t).mp h)) ((hcond0_2 t).mpr h2) x0 x1 x2 x3 x4 x5 xo7 xo8 _ _ _ _ D h r d
  dsimp only
  exact w

/-- What a context grid point leaves in the second output block. -/
theorem point_dk_A (A : Handed m c q k v g) (t : Fin cfg0.N) (h0 : t.val % 9 = 0) (h : Fin 4) (r : Fin 2304) (d : Fin 96) :
    (outsAt0 m c t.val t.isLt).2.1 (ix3 h r d)
      = ((if hj : r.val < 256 then ∑ i, dscore (q (hd t h) (tok t i)) (ctx (k (hd t h))) (ctx (v (hd t h))) (headRow g (hd t h) (tok t i)) ⟨r.val, hj⟩ * (q (hd t h) (tok t i) d * unit2) else 0 : ℝ) : EReal) := by
  have h2 : ¬1 ≤ t.val % 9 := by omega
  refine (congrFun (congrArg (fun p => p.2.1) (outsAt0_A m c t h0 h0 h2)) (ix3 h r d)).trans ?_
  have D := A.block_A t h0
  generalize iblk m c 0 t = x0 at D ⊢
  generalize iblk m c 1 t = x1 at D ⊢
  generalize iblk m c 2 t = x2 at D ⊢
  generalize iblk m c 3 t = x3 at D ⊢
  generalize iblk m c 4 t = x4 at D ⊢
  generalize iblk m c 5 t = x5 at D ⊢
  have w := @out_dk_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hcond0_0 t).mpr h0) ((hcond0_1 t).mpr h0) (fun h => h2 ((hcond0_2 t).mp h)) x0 x1 x2 x3 x4 x5 _ _ _ _ D h r d
  dsimp only
  exact w

/-- What a latent grid point leaves in the second output block. -/
theorem point_dk_B (A : Handed m c q k v g) (t : Fin cfg0.N) (h0 : ¬t.val % 9 = 0) (h : Fin 4) (r : Fin 2304) (d : Fin 96) :
    (outsAt0 m c t.val t.isLt).2.1 (ix3 h r d)
      = (outsAt0 m c (t.val - 1) (Nat.lt_of_le_of_lt (Nat.sub_le _ _) t.isLt)).2.1 (ix3 h r d)
        + ((∑ i, dscore (q (hd t h) (tok t i)) (k (hd t h)) (v (hd t h)) (headRow g (hd t h) (tok t i)) r * (q (hd t h) (tok t i) d * unit2) : ℝ) : EReal) := by
  have h2 : 1 ≤ t.val % 9 := by omega
  refine (congrFun (congrArg (fun p => p.2.1) (outsAt0_B m c t h0 h0 h2)) (ix3 h r d)).trans ?_
  have D := A.block_B t h0
  generalize iblk m c 0 t = x0 at D ⊢
  generalize iblk m c 1 t = x1 at D ⊢
  generalize iblk m c 2 t = x2 at D ⊢
  generalize iblk m c 3 t = x3 at D ⊢
  generalize iblk m c 4 t = x4 at D ⊢
  generalize iblk m c 5 t = x5 at D ⊢
  generalize (outsAt0 m c (t.val - 1) (Nat.lt_of_le_of_lt (Nat.sub_le _ _) t.isLt)).2.1 = xo7
  generalize (outsAt0 m c (t.val - 1) (Nat.lt_of_le_of_lt (Nat.sub_le _ _) t.isLt)).2.2 = xo8
  have w := @out_dk_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun h => h0 ((hcond0_0 t).mp h)) (fun h => h0 ((hcond0_1 t).mp h)) ((hcond0_2 t).mpr h2) x0 x1 x2 x3 x4 x5 xo7 xo8 _ _ _ _ D h r d
  dsimp only
  exact w

/-- What a context grid point leaves in the third output block. -/
theorem point_dv_A (A : Handed m c q k v g) (t : Fin cfg0.N) (h0 : t.val % 9 = 0) (h : Fin 4) (r : Fin 2304) (d : Fin 64) :
    (outsAt0 m c t.val t.isLt).2.2 (ix3 h r d)
      = ((if hj : r.val < 256 then ∑ i, prob (q (hd t h) (tok t i)) (ctx (k (hd t h))) ⟨r.val, hj⟩ * headRow g (hd t h) (tok t i) d else 0 : ℝ) : EReal) := by
  have h2 : ¬1 ≤ t.val % 9 := by omega
  refine (congrFun (congrArg (fun p => p.2.2) (outsAt0_A m c t h0 h0 h2)) (ix3 h r d)).trans ?_
  have D := A.block_A t h0
  generalize iblk m c 0 t = x0 at D ⊢
  generalize iblk m c 1 t = x1 at D ⊢
  generalize iblk m c 2 t = x2 at D ⊢
  generalize iblk m c 3 t = x3 at D ⊢
  generalize iblk m c 4 t = x4 at D ⊢
  generalize iblk m c 5 t = x5 at D ⊢
  have w := @out_dv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hcond0_0 t).mpr h0) ((hcond0_1 t).mpr h0) (fun h => h2 ((hcond0_2 t).mp h)) x0 x1 x2 x3 x4 x5 _ _ _ _ D h r d
  dsimp only
  exact w

/-- What a latent grid point leaves in the third output block. -/
theorem point_dv_B (A : Handed m c q k v g) (t : Fin cfg0.N) (h0 : ¬t.val % 9 = 0) (h : Fin 4) (r : Fin 2304) (d : Fin 64) :
    (outsAt0 m c t.val t.isLt).2.2 (ix3 h r d)
      = (outsAt0 m c (t.val - 1) (Nat.lt_of_le_of_lt (Nat.sub_le _ _) t.isLt)).2.2 (ix3 h r d)
        + ((∑ i, prob (q (hd t h) (tok t i)) (k (hd t h)) r * headRow g (hd t h) (tok t i) d : ℝ) : EReal) := by
  have h2 : 1 ≤ t.val % 9 := by omega
  refine (congrFun (congrArg (fun p => p.2.2) (outsAt0_B m c t h0 h0 h2)) (ix3 h r d)).trans ?_
  have D := A.block_B t h0
  generalize iblk m c 0 t = x0 at D ⊢
  generalize iblk m c 1 t = x1 at D ⊢
  generalize iblk m c 2 t = x2 at D ⊢
  generalize iblk m c 3 t = x3 at D ⊢
  generalize iblk m c 4 t = x4 at D ⊢
  generalize iblk m c 5 t = x5 at D ⊢
  generalize (outsAt0 m c (t.val - 1) (Nat.lt_of_le_of_lt (Nat.sub_le _ _) t.isLt)).2.1 = xo7
  generalize (outsAt0 m c (t.val - 1) (Nat.lt_of_le_of_lt (Nat.sub_le _ _) t.isLt)).2.2 = xo8
  have w := @out_dv_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun h => h0 ((hcond0_0 t).mp h)) (fun h => h0 ((hcond0_1 t).mp h)) ((hcond0_2 t).mpr h2) x0 x1 x2 x3 x4 x5 xo7 xo8 _ _ _ _ D h r d
  dsimp only
  exact w

/-- After every grid point, the first output block is the queries' gradient. -/
theorem acc_dq (A : Handed m c q k v g) (t : Fin cfg0.N) (h : Fin 4) (r : Fin 256) (d : Fin 96) :
    (outsAt0 m c t.val t.isLt).1 (ix3 h r d) = ((dqSpec q k v g (hd t h) (tok t r) d : ℝ) : EReal) := by
  unfold dqSpec
  by_cases h0 : t.val % 9 = 0
  · rw [if_pos (show (tok t r).val < 256 from by show t.val % 9 * 256 + r.val < 256; omega)]
    exact point_dq_A A t h0 h r d
  · rw [if_neg (show ¬(tok t r).val < 256 from by show ¬(t.val % 9 * 256 + r.val < 256); omega)]
    exact point_dq_B A t h0 h r d

variable (q k v g)

/-- The context tokens' part of the keys' gradient. -/
def ctxK (h : Fin 16) (j : Fin 2304) (d : Fin 96) : ℝ :=
  if hj : j.val < 256 then ∑ r, dsCtx q k v g h (ctxRow r) ⟨j.val, hj⟩ * (q h (ctxRow r) d * unit2) else 0
/-- The context tokens' part of the values' gradient. -/
def ctxV (h : Fin 16) (j : Fin 2304) (e : Fin 64) : ℝ :=
  if hj : j.val < 256 then ∑ r, prob (q h (ctxRow r)) (ctx (k h)) ⟨j.val, hj⟩ * headRow g h (ctxRow r) e else 0
/-- One latent token's part of the keys' gradient. -/
def latK (h : Fin 16) (j : Fin 2304) (d : Fin 96) (t : Fin 2304) : ℝ := dsLat q k v g h t j * (q h t d * unit2)
/-- One latent token's part of the values' gradient. -/
def latV (h : Fin 16) (j : Fin 2304) (e : Fin 64) (t : Fin 2304) : ℝ := prob (q h t) (k h) j * headRow g h t e

variable {q k v g}

/-- After a grid point, the second output block is the keys' gradient over the tokens so far. -/
theorem acc_dk (A : Handed m c q k v g) : ∀ (n : ℕ) (hn : n < cfg0.N) (h : Fin 4) (j : Fin 2304) (d : Fin 96),
    (outsAt0 m c n hn).2.1 (ix3 h j d) = ((ctxK q k v g (hd ⟨n, hn⟩ h) j d
      + ∑ i ∈ Finset.range (n % 9), ∑ r : Fin 256, latK q k v g (hd ⟨n, hn⟩ h) j d (tokN (256 + (i * 256 + r.val))) : ℝ) : EReal) := by
  intro n
  induction n with
  | zero =>
    intro hn h j d
    refine (point_dk_A A ⟨0, hn⟩ rfl h j d).trans ?_
    simp only [tok_ctx ⟨0, hn⟩ rfl, Nat.zero_mod, Finset.range_zero, Finset.sum_empty, add_zero]
    rfl
  | succ n ih =>
    intro hn h j d
    by_cases h0 : (n + 1) % 9 = 0
    · refine (point_dk_A A ⟨n + 1, hn⟩ h0 h j d).trans ?_
      simp only [tok_ctx ⟨n + 1, hn⟩ h0, h0, Finset.range_zero, Finset.sum_empty, add_zero]
      rfl
    · refine (point_dk_B A ⟨n + 1, hn⟩ h0 h j d).trans ?_
      have hm : (n + 1) % 9 = n % 9 + 1 := by omega
      have hh : hd ⟨n, Nat.lt_of_succ_lt hn⟩ h = hd ⟨n + 1, hn⟩ h := Fin.ext (by show n / 9 * 4 + h.val = (n + 1) / 9 * 4 + h.val; omega)
      refine (congrArg (· + _) (ih (Nat.lt_of_succ_lt hn) h j d)).trans ?_
      rw [hh]
      simp only [tok_lat ⟨n + 1, hn⟩ (n % 9) hm]
      rw [hm, Finset.sum_range_succ, ← EReal.coe_add, add_assoc]
      rfl

/-- After a grid point, the third output block is the values' gradient over the tokens so far. -/
theorem acc_dv (A : Handed m c q k v g) : ∀ (n : ℕ) (hn : n < cfg0.N) (h : Fin 4) (j : Fin 2304) (d : Fin 64),
    (outsAt0 m c n hn).2.2 (ix3 h j d) = ((ctxV q k g (hd ⟨n, hn⟩ h) j d
      + ∑ i ∈ Finset.range (n % 9), ∑ r : Fin 256, latV q k g (hd ⟨n, hn⟩ h) j d (tokN (256 + (i * 256 + r.val))) : ℝ) : EReal) := by
  intro n
  induction n with
  | zero =>
    intro hn h j d
    refine (point_dv_A A ⟨0, hn⟩ rfl h j d).trans ?_
    simp only [tok_ctx ⟨0, hn⟩ rfl, Nat.zero_mod, Finset.range_zero, Finset.sum_empty, add_zero]
    rfl
  | succ n ih =>
    intro hn h j d
    by_cases h0 : (n + 1) % 9 = 0
    · refine (point_dv_A A ⟨n + 1, hn⟩ h0 h j d).trans ?_
      simp only [tok_ctx ⟨n + 1, hn⟩ h0, h0, Finset.range_zero, Finset.sum_empty, add_zero]
      rfl
    · refine (point_dv_B A ⟨n + 1, hn⟩ h0 h j d).trans ?_
      have hm : (n + 1) % 9 = n % 9 + 1 := by omega
      have hh : hd ⟨n, Nat.lt_of_succ_lt hn⟩ h = hd ⟨n + 1, hn⟩ h := Fin.ext (by show n / 9 * 4 + h.val = (n + 1) / 9 * 4 + h.val; omega)
      refine (congrArg (· + _) (ih (Nat.lt_of_succ_lt hn) h j d)).trans ?_
      rw [hh]
      simp only [tok_lat ⟨n + 1, hn⟩ (n % 9) hm]
      rw [hm, Finset.sum_range_succ, ← EReal.coe_add, add_assoc]
      rfl

/-- After a head group's last grid point, the keys' gradient is whole. -/
theorem last_dk (A : Handed m c q k v g) (t : Fin cfg0.N) (ht : t.val % 9 = 8) (h : Fin 4) (j : Fin 2304) (d : Fin 96) :
    (outsAt0 m c t.val t.isLt).2.1 (ix3 h j d) = ((dkSpec q k v g (hd t h) j d : ℝ) : EReal) := by
  refine (acc_dk A t.val t.isLt h j d).trans ?_
  rw [ht, sum_tokens (latK q k v g (hd ⟨t.val, t.isLt⟩ h) j d)]
  rfl

/-- After a head group's last grid point, the values' gradient is whole. -/
theorem last_dv (A : Handed m c q k v g) (t : Fin cfg0.N) (ht : t.val % 9 = 8) (h : Fin 4) (j : Fin 2304) (d : Fin 64) :
    (outsAt0 m c t.val t.isLt).2.2 (ix3 h j d) = ((dvSpec q k g (hd t h) j d : ℝ) : EReal) := by
  refine (acc_dv A t.val t.isLt h j d).trans ?_
  rw [ht, sum_tokens (latV q k g (hd ⟨t.val, t.isLt⟩ h) j d)]
  rfl

end Cert.Attn

end
-- ==== Proof.Arrays.lean ====
/- Arrays of real numbers, and two constants of the programs. -/
module

public import proofs.«01_k».proof.Proof.Ereal
public import Idealize.ShloMosaic.Lib.ValueIdx

@[expose] public section

noncomputable section

namespace Cert.Attn

open Idealize.ShloMosaic

/-- A rank-three array of real numbers. -/
def arr3 {a b c : ℕ} (f : Fin a → Fin b → Fin c → ℝ) : (⟨3, ![a, b, c]⟩ : Shape).Idx → EReal := fun i => (f (i 0) (i 1) (i 2) : EReal)
/-- A rank-two array of real numbers. -/
def arr2 {a b : ℕ} (f : Fin a → Fin b → ℝ) : (⟨2, ![a, b]⟩ : Shape).Idx → EReal := fun i => (f (i 0) (i 1) : EReal)

/-- The logarithm of two, as the programs compute it. -/
theorem log_two : Ideal.log (Ideal.ofBits .f32 0x40000000#32) = ((Real.log 2 : ℝ) : EReal) := by
  rw [word_2, coe_log _ (by norm_num)]
/-- The square root of 96, as the programs compute it. -/
theorem sqrt_96 : Ideal.sqrt (Ideal.ofBits .f32 0x42C00000#32) = ((√96 : ℝ) : EReal) := by
  rw [word_96, coe_sqrt _ (by norm_num)]

end Cert.Attn

end
-- ==== Proof.KernelArrays.lean ====
/- The arrays the backward call leaves. -/
module

public import proofs.«01_k».proof.Proof.KernelAccum
public import proofs.«01_k».proof.Proof.Arrays

@[expose] public section

set_option maxRecDepth 16384

noncomputable section

namespace Cert.Attn

open Idealize.ShloMosaic Idealize.ShloMosaic.TcCoe Idealize.ShloMosaic.ValueIdx Cert.KernelIdeal Cert.KernelIdeal.Gen Cert.KernelIdeal.Value

variable {m : (ℓ : Loc nD τ sig) → Buf (Elt Ideal) ℓ} {c : Dev nD}
  {q k : Fin 16 → Fin 2304 → Fin 96 → ℝ} {v : Fin 16 → Fin 2304 → Fin 64 → ℝ} {g : Fin 2304 → Fin 1024 → ℝ}

/-- A point of the grid by its row and column. -/
def point (a b : ℕ) (ha : a < 4) (hb : b < 9) : Fin cfg0.N := ⟨a * 9 + b, by have : cfg0.N = 36 := N_0; omega⟩

/-- Every write-back of the queries' gradient writes its block of the specified array. -/
theorem flushed_dq (A : Handed m c q k v g) (t : Fin cfg0.N) (hf : (cfg0.win 6).flush t = true) :
    (dats m 0 c).flushed 6 t = ((cfg0.win 6).blk t).view.read (Elt Ideal) (arr3 (dqSpec q k v g)) := by
  refine (flushed6 m c t).trans (funext fun y => ?_)
  rw [View.read_apply]
  have hi := index_6 t
  have key : ∀ (h : Fin 4) (r : Fin 256) (d : Fin 96), y = ix3 h r d → ((outsAt0 m c t.val t.isLt).1 : FVec Ideal ⟨3, ![4, 256, 96]⟩ .f32) y
      = arr3 (dqSpec q k v g) (((cfg0.win 6).blk t).view.emb y) := by
    intro h r d e
    subst e
    refine (acc_dq A t h r d).trans ?_
    show arr3 (dqSpec q k v g) (ix3 (hd t h) (tok t r) d) = _
    refine congrArg (arr3 (dqSpec q k v g)) (funext fun a => Fin.ext ?_)
    match a with
    | ⟨0, _⟩ => show t.val / 9 * 4 + h.val = win0_6.index t 0 * 4 + 1 * h.val; rw [hi.1]; omega
    | ⟨1, _⟩ => show t.val % 9 * 256 + r.val = win0_6.index t 1 * 256 + 1 * r.val; rw [hi.2.1]; omega
    | ⟨2, _⟩ => show d.val = win0_6.index t 2 * 96 + 1 * d.val; rw [hi.2.2]; omega
  exact key (y 0) (y 1) (y 2) (eq_ix3 y)

/-- The call's queries' gradient. -/
theorem final_dq (A : Handed m c q k v g) : (dats m 0 c).arrAt 6 cfg0.N = arr3 (dqSpec q k v g) :=
  (dats m 0 c).arrAt_eq_of_cover 6 (arr3 (dqSpec q k v g)) (flushed_dq A) fun i => by
    have h0 : (i 0 : ℕ) < 16 := (i 0).isLt
    have h1 : (i 1 : ℕ) < 2304 := (i 1).isLt
    have h2 : (i 2 : ℕ) < 96 := (i 2).isLt
    obtain ⟨t, ht0, ht1⟩ : ∃ t : Fin cfg0.N, t.val / 9 = (i 0 : ℕ) / 4 ∧ t.val % 9 = (i 1 : ℕ) / 256 :=
      ⟨point ((i 0 : ℕ) / 4) ((i 1 : ℕ) / 256) (by omega) (by omega), by show ((i 0 : ℕ) / 4 * 9 + (i 1 : ℕ) / 256) / 9 = _; omega,
        by show ((i 0 : ℕ) / 4 * 9 + (i 1 : ℕ) / 256) % 9 = _; omega⟩
    refine ⟨t, flush0_6 t, ?_⟩
    show i ∈ ((View.whole main_v58_0).slice (win0_6.rect t)).set
    rw [View.set_slice_whole, Rect.mem_set_unit]
    intro a
    have hi := index_6 t
    match a with
    | ⟨0, _⟩ => show win0_6.index t 0 * 4 ≤ (i 0 : ℕ) ∧ (i 0 : ℕ) < win0_6.index t 0 * 4 + 4; rw [hi.1, ht0]; omega
    | ⟨1, _⟩ => show win0_6.index t 1 * 256 ≤ (i 1 : ℕ) ∧ (i 1 : ℕ) < win0_6.index t 1 * 256 + 256; rw [hi.2.1, ht1]; omega
    | ⟨2, _⟩ => show win0_6.index t 2 * 96 ≤ (i 2 : ℕ) ∧ (i 2 : ℕ) < win0_6.index t 2 * 96 + 96; rw [hi.2.2]; omega

/-- Every write-back of the keys' gradient writes its block of the specified array. -/
theorem flushed_dk (A : Handed m c q k v g) (t : Fin cfg0.N) (hf : (cfg0.win 7).flush t = true) :
    (dats m 0 c).flushed 7 t = ((cfg0.win 7).blk t).view.read (Elt Ideal) (arr3 (dkSpec q k v g)) := by
  have h8 : t.val % 9 = 8 := (flush0_7 t).mp hf
  refine (flushed7 m c t).trans (funext fun y => ?_)
  rw [View.read_apply]
  have hi := index_7 t
  have key : ∀ (h : Fin 4) (r : Fin 2304) (d : Fin 96), y = ix3 h r d → ((outsAt0 m c t.val t.isLt).2.1 : FVec Ideal ⟨3, ![4, 2304, 96]⟩ .f32) y
      = arr3 (dkSpec q k v g) (((cfg0.win 7).blk t).view.emb y) := by
    intro h r d e
    subst e
    refine (last_dk A t h8 h r d).trans ?_
    show arr3 (dkSpec q k v g) (ix3 (hd t h) (r) d) = _
    refine congrArg (arr3 (dkSpec q k v g)) (funext fun a => Fin.ext ?_)
    match a with
    | ⟨0, _⟩ => show t.val / 9 * 4 + h.val = win0_7.index t 0 * 4 + 1 * h.val; rw [hi.1]; omega
    | ⟨1, _⟩ => show r.val = win0_7.index t 1 * 2304 + 1 * r.val; rw [hi.2.1]; omega
    | ⟨2, _⟩ => show d.val = win0_7.index t 2 * 96 + 1 * d.val; rw [hi.2.2]; omega
  exact key (y 0) (y 1) (y 2) (eq_ix3 y)

/-- The call's keys' gradient. -/
theorem final_dk (A : Handed m c q k v g) : (dats m 0 c).arrAt 7 cfg0.N = arr3 (dkSpec q k v g) :=
  (dats m 0 c).arrAt_eq_of_cover 7 (arr3 (dkSpec q k v g)) (flushed_dk A) fun i => by
    have h0 : (i 0 : ℕ) < 16 := (i 0).isLt
    have h1 : (i 1 : ℕ) < 2304 := (i 1).isLt
    have h2 : (i 2 : ℕ) < 96 := (i 2).isLt
    obtain ⟨t, ht0, ht1⟩ : ∃ t : Fin cfg0.N, t.val / 9 = (i 0 : ℕ) / 4 ∧ t.val % 9 = 8 :=
      ⟨point ((i 0 : ℕ) / 4) (8) (by omega) (by omega), by show ((i 0 : ℕ) / 4 * 9 + 8) / 9 = _; omega,
        by show ((i 0 : ℕ) / 4 * 9 + 8) % 9 = _; omega⟩
    refine ⟨t, (flush0_7 t).mpr ht1, ?_⟩
    show i ∈ ((View.whole main_v58_1).slice (win0_7.rect t)).set
    rw [View.set_slice_whole, Rect.mem_set_unit]
    intro a
    have hi := index_7 t
    match a with
    | ⟨0, _⟩ => show win0_7.index t 0 * 4 ≤ (i 0 : ℕ) ∧ (i 0 : ℕ) < win0_7.index t 0 * 4 + 4; rw [hi.1, ht0]; omega
    | ⟨1, _⟩ => show win0_7.index t 1 * 2304 ≤ (i 1 : ℕ) ∧ (i 1 : ℕ) < win0_7.index t 1 * 2304 + 2304; rw [hi.2.1]; omega
    | ⟨2, _⟩ => show win0_7.index t 2 * 96 ≤ (i 2 : ℕ) ∧ (i 2 : ℕ) < win0_7.index t 2 * 96 + 96; rw [hi.2.2]; omega

/-- Every write-back of the values' gradient writes its block of the specified array. -/
theorem flushed_dv (A : Handed m c q k v g) (t : Fin cfg0.N) (hf : (cfg0.win 8).flush t = true) :
    (dats m 0 c).flushed 8 t = ((cfg0.win 8).blk t).view.read (Elt Ideal) (arr3 (dvSpec q k g)) := by
  have h8 : t.val % 9 = 8 := (flush0_8 t).mp hf
  refine (flushed8 m c t).trans (funext fun y => ?_)
  rw [View.read_apply]
  have hi := index_8 t
  have key : ∀ (h : Fin 4) (r : Fin 2304) (d : Fin 64), y = ix3 h r d → ((outsAt0 m c t.val t.isLt).2.2 : FVec Ideal ⟨3, ![4, 2304, 64]⟩ .f32) y
      = arr3 (dvSpec q k g) (((cfg0.win 8).blk t).view.emb y) := by
    intro h r d e
    subst e
    refine (last_dv A t h8 h r d).trans ?_
    show arr3 (dvSpec q k g) (ix3 (hd t h) (r) d) = _
    refine congrArg (arr3 (dvSpec q k g)) (funext fun a => Fin.ext ?_)
    match a with
    | ⟨0, _⟩ => show t.val / 9 * 4 + h.val = win0_8.index t 0 * 4 + 1 * h.val; rw [hi.1]; omega
    | ⟨1, _⟩ => show r.val = win0_8.index t 1 * 2304 + 1 * r.val; rw [hi.2.1]; omega
    | ⟨2, _⟩ => show d.val = win0_8.index t 2 * 64 + 1 * d.val; rw [hi.2.2]; omega
  exact key (y 0) (y 1) (y 2) (eq_ix3 y)

/-- The call's values' gradient. -/
theorem final_dv (A : Handed m c q k v g) : (dats m 0 c).arrAt 8 cfg0.N = arr3 (dvSpec q k g) :=
  (dats m 0 c).arrAt_eq_of_cover 8 (arr3 (dvSpec q k g)) (flushed_dv A) fun i => by
    have h0 : (i 0 : ℕ) < 16 := (i 0).isLt
    have h1 : (i 1 : ℕ) < 2304 := (i 1).isLt
    have h2 : (i 2 : ℕ) < 64 := (i 2).isLt
    obtain ⟨t, ht0, ht1⟩ : ∃ t : Fin cfg0.N, t.val / 9 = (i 0 : ℕ) / 4 ∧ t.val % 9 = 8 :=
      ⟨point ((i 0 : ℕ) / 4) (8) (by omega) (by omega), by show ((i 0 : ℕ) / 4 * 9 + 8) / 9 = _; omega,
        by show ((i 0 : ℕ) / 4 * 9 + 8) % 9 = _; omega⟩
    refine ⟨t, (flush0_8 t).mpr ht1, ?_⟩
    show i ∈ ((View.whole main_v58_2).slice (win0_8.rect t)).set
    rw [View.set_slice_whole, Rect.mem_set_unit]
    intro a
    have hi := index_8 t
    match a with
    | ⟨0, _⟩ => show win0_8.index t 0 * 4 ≤ (i 0 : ℕ) ∧ (i 0 : ℕ) < win0_8.index t 0 * 4 + 4; rw [hi.1, ht0]; omega
    | ⟨1, _⟩ => show win0_8.index t 1 * 2304 ≤ (i 1 : ℕ) ∧ (i 1 : ℕ) < win0_8.index t 1 * 2304 + 2304; rw [hi.2.1]; omega
    | ⟨2, _⟩ => show win0_8.index t 2 * 64 ≤ (i 2 : ℕ) ∧ (i 2 : ℕ) < win0_8.index t 2 * 64 + 64; rw [hi.2.2]; omega

end Cert.Attn

end
-- ==== Proof.KernelHost.lean ====
/- The arrays the host prepares for the backward call, in terms of the arguments. -/
module

public import proofs.«01_k».proof.Proof.Gen.KernelIdeal.Frame
public import proofs.«01_k».proof.Proof.Gen.ForwardReferenceIdeal.Read
public import Idealize.ShloMosaic.Lib.StableHlo.Run
public import Idealize.ShloMosaic.Lib.StableHlo.RunClose

@[expose] public section

set_option maxRecDepth 16384

noncomputable section

namespace Cert.Attn

open Idealize.ShloMosaic Idealize.ShloMosaic.TcCoe Cert.KernelIdeal Cert.KernelIdeal.Gen

variable {F : FTy → Type} [FloatOps F] (m : (ℓ : Loc nD τ sig) → Buf (Elt F) ℓ) (c : Dev nD)

set_option maxHeartbeats 4000000 in
/-- The saved output is the forward pass's. -/
theorem host_o : V m c main_v46 = Cert.ForwardReferenceIdeal.Read.val_main_v46 (F := F)
    (m ((c : Thread nD τ).loc main_arg0)) (m ((c : Thread nD τ).loc main_arg1)) (m ((c : Thread nD τ).loc main_arg2)) := by
  dsimp only [V, hostOps0]
  after_results_simp
  refine congrArg₂ (fun a b => concatenate S2304x1024 0 [⟨S256x1024, a⟩, ⟨S2048x1024, b⟩] concatenates_S256x1024_S2048x1024_S2304x1024_d0) ?_ ?_
  · after_results_simp
    rfl
  · after_results_simp
    rfl

set_option maxHeartbeats 4000000 in
/-- The saved log-sums are the forward pass's. -/
theorem host_l : V m c main_v47 = Cert.ForwardReferenceIdeal.Read.val_main_v47 (F := F)
    (m ((c : Thread nD τ).loc main_arg0)) (m ((c : Thread nD τ).loc main_arg1)) := by
  dsimp only [V, hostOps0]
  after_results_simp
  refine congrArg₂ (fun a b => concatenate S16x2304x1 1 [⟨S16x256x1, a⟩, ⟨S16x2048x1, b⟩] concatenates_S16x256x1_S16x2048x1_S16x2304x1_d1) ?_ ?_
  · after_results_simp
    rfl
  · after_results_simp
    rfl

set_option maxHeartbeats 4000000 in
/-- The keys, narrowed. -/
theorem host_k : V m c main_v56 = truncf .bf16 (m ((c : Thread nD τ).loc main_arg1)) bitsLt_bf16_f32 := by
  dsimp only [V, hostOps0]
  after_results_simp

set_option maxHeartbeats 4000000 in
/-- The values, narrowed. -/
theorem host_v : V m c main_v57 = truncf .bf16 (m ((c : Thread nD τ).loc main_arg2)) bitsLt_bf16_f32 := by
  dsimp only [V, hostOps0]
  after_results_simp

set_option maxHeartbeats 4000000 in
/-- The queries, scaled and narrowed. -/
theorem host_q : V m c main_v55 = truncf .bf16 (mulf (m ((c : Thread nD τ).loc main_arg0))
    (broadcastInDim S16x2304x96 ![] bcast_S_S16x2304x96
      (mulf (Host.divf (constant S_ .f32 0x3F800000#32) (Host.sqrt (constant S_ .f32 0x42C00000#32)))
        (Host.divf (constant S_ .f32 0x3F800000#32) (Host.log (constant S_ .f32 0x40000000#32)))))) bitsLt_bf16_f32 := by
  dsimp only [V, hostOps0]
  after_results_simp

end Cert.Attn

end
-- ==== Proof.HostMax.lean ====
/- A row's greatest element is a real number when the row's elements are. -/
module

public import proofs.«01_k».proof.Proof.Ereal
public import Idealize.ShloMosaic.Lib.KernelVsHost

@[expose] public section

noncomputable section

namespace Cert.Attn

open Idealize.ShloMosaic
open scoped BigOperators

/-- A kernel's row maximum of real numbers is a real number. -/
theorem kernelMax_real {s t : Shape} {a : Fin s.rank} (x : FVec Ideal s .f32) (h : s.Reduces [a] t) (hφ : FKind.Formats .f32)
    (hacc : 0xFF800000#32 = FKind.maximumf.neutral .f32 hφ) (hpos : 0 < s.size a) (j : t.Idx)
    (hx : ∀ k, ∃ r : ℝ, x (h.lift j k) = (r : EReal)) :
    ∃ M : ℝ, multiReduction .maximumf [a] t x 0xFF800000#32 h hφ hacc j = (M : EReal) := by
  rw [Ideal.multiReduction_maximumf_single]
  show ∃ M : ℝ, (Finset.univ : Finset (Fin (s.size a))).fold max (Ideal.ofBits .f32 0xFF800000#32) (x ∘ h.lift j) = (M : EReal)
  rw [word_bot]
  exact fold_max_coe hpos _ hx

/-- The host's row maximum of real numbers is a real number. -/
theorem hostMax_real {s t u : Shape} {a : Fin s.rank} (x : FVec Ideal s .f32) (h : s.ReducesTo [a] t) (hu : 0 < u.numel)
    (h' : s.Reduces [a] t) (hpos : 0 < s.size a) (j : t.Idx) (hx : ∀ i, ∃ r : ℝ, x i = (r : EReal)) :
    ∃ M : ℝ, Host.reduce FloatOps.maximumf x (constant u .f32 0xFF800000#32) h hu j = (M : EReal) := by
  rw [hostReduce_maximumf_eq_multiReduction x 0xFF800000#32 h hu h' (by decide) rfl]
  exact kernelMax_real x h' _ _ hpos j fun k => hx _

end Cert.Attn

end
-- ==== Proof.RefGrad.lean ====
/- The gradient's reference, read at an index: finite arguments give `dqSpec`, `dkSpec` and `dvSpec`. -/
module

public import proofs.«01_k».proof.Proof.HostMax
public import proofs.«01_k».proof.Proof.Arrays
public import proofs.«01_k».proof.Proof.Gen.ReferenceIdeal.Read

@[expose] public section

noncomputable section

namespace Cert.Attn

open Idealize.ShloMosaic Idealize.ShloMosaic.ValueIdx Cert.ReferenceIdeal.Gen Cert.ReferenceIdeal Cert.ReferenceIdeal.Read
open scoped BigOperators

variable (q k : Fin 16 → Fin 2304 → Fin 96 → ℝ) (v : Fin 16 → Fin 2304 → Fin 64 → ℝ) (g : Fin 2304 → Fin 1024 → ℝ)

/-! ## Context tokens -/

/-- A context row's scores. -/
theorem ref_s_ctx (h : Fin 16) (r : Fin 256) (j : Fin 256) :
    val_main_v6 (F := Ideal) (arr3 q) (arr3 k) (ix3 h r j) = ((score (q h (ctxRow r)) (ctx (k h) j) : ℝ) : EReal) := by
  rw [val_main_v6_apply, val_main_v5_apply, val_main_v4_apply, val_main_cst_apply, val_main_v3_apply]
  refine (congrArg₂ Ideal.div ((Finset.sum_congr rfl fun d _ => ?_).trans (coe_sum_mul Finset.univ (q h (ctxRow r)) (ctx (k h) j))) sqrt_96).trans ?_
  · rw [val_main_v0_apply, val_main_v1_apply]; rfl
  · rw [coe_div _ _ sqrt96_pos.ne']; rfl

/-- A context row's maximum. -/
theorem ref_m_ctx (h : Fin 16) (r : Fin 256) : ∃ M : ℝ, val_main_v14 (F := Ideal) (arr3 q) (arr3 k) (ix2 h r) = (M : EReal) := by
  have key : ∃ M : ℝ, val_main_v7 (F := Ideal) (arr3 q) (arr3 k) (ix2 h r) = (M : EReal) := by
    unfold val_main_v7
    refine hostMax_real _ _ _ (by decide) (by decide) _ fun j => ?_
    rw [eq_ix3 j]
    exact ⟨_, ref_s_ctx q k _ _ _⟩
  obtain ⟨M, hM⟩ := key
  refine ⟨M, ?_⟩
  rw [val_main_v14_apply, hM, val_main_v13_apply, val_main_cst_2_apply]
  show max (Ideal.ofBits .f32 0xFF800000#32) (M : EReal) = _
  rw [word_bot, max_eq_right bot_le]

/-- A context row's shifted exponentials. -/
theorem ref_e_ctx (M : ℝ) (h : Fin 16) (r : Fin 256) (j : Fin 256) (hM : val_main_v14 (F := Ideal) (arr3 q) (arr3 k) (ix2 h r) = (M : EReal)) :
    val_main_v27 (F := Ideal) (arr3 q) (arr3 k) (ix3 h r j) = ((Real.exp (score (q h (ctxRow r)) (ctx (k h) j) - M) : ℝ) : EReal) := by
  rw [val_main_v27_apply, val_main_v26_apply, ref_s_ctx, val_main_v25_apply, val_main_v24_apply,
    show idx_main_v24 (idx_main_v25 (ix3 h r j)) = ix2 h r from funext fun a => match a with | ⟨0, _⟩ => rfl | ⟨1, _⟩ => rfl, hM]
  rfl

/-- A context row's sum. -/
theorem ref_l_ctx (M : ℝ) (h : Fin 16) (r : Fin 256) (hM : val_main_v14 (F := Ideal) (arr3 q) (arr3 k) (ix2 h r) = (M : EReal)) :
    val_main_v28 (F := Ideal) (arr3 q) (arr3 k) (ix2 h r) = (((∑ i, Real.exp (score (q h (ctxRow r)) (ctx (k h) i) - M)) : ℝ) : EReal) := by
  rw [val_main_v28_apply, ← coe_sum, show val_main_cst_8 (F := Ideal) (Shape.Idx.first h_S_) = 0 from Ideal.ofBits_zero_f32, zero_add]
  refine Finset.sum_congr rfl fun j _ => ?_
  rw [show idx_main_v28 (ix2 h r) j = ix3 h r j from funext fun a => match a with | ⟨0, _⟩ => rfl | ⟨1, _⟩ => rfl | ⟨2, _⟩ => rfl]
  exact ref_e_ctx q k M h r j hM

/-- A context row's sum, kept as a column. -/
theorem ref_lc_ctx (M : ℝ) (h : Fin 16) (r : Fin 256) (hM : val_main_v14 (F := Ideal) (arr3 q) (arr3 k) (ix2 h r) = (M : EReal)) :
    val_main_v29 (F := Ideal) (arr3 q) (arr3 k) (ix3 h r 0) = (((∑ i, Real.exp (score (q h (ctxRow r)) (ctx (k h) i) - M)) : ℝ) : EReal) := by
  rw [val_main_v29_apply, show idx_main_v29 (ix3 h r 0) = ix2 h r from funext fun a => match a with | ⟨0, _⟩ => rfl | ⟨1, _⟩ => rfl, ref_l_ctx q k M h r hM]

/-- A context row's weights. -/
theorem ref_p_ctx (h : Fin 16) (r : Fin 256) (j : Fin 256) :
    val_main_v31 (F := Ideal) (arr3 q) (arr3 k) (ix3 h r j) = ((prob (q h (ctxRow r)) (ctx (k h)) j : ℝ) : EReal) := by
  obtain ⟨M, hM⟩ := ref_m_ctx q k h r
  rw [val_main_v31_apply, ref_e_ctx q k M h r j hM, val_main_v30_apply,
    show idx_main_v30 (ix3 h r j) = ix3 h r 0 from funext fun a => match a with | ⟨0, _⟩ => rfl | ⟨1, _⟩ => rfl | ⟨2, _⟩ => rfl,
    ref_lc_ctx q k M h r hM]
  refine (coe_div _ _ (by rw [total_shift]; exact (div_pos (total_pos _ _) (Real.exp_pos M)).ne')).trans ?_
  rw [prob_shift]

/-- The reciprocal of a context row's squared sum. -/
theorem ref_ill_ctx (M : ℝ) (h : Fin 16) (r : Fin 256) (hM : val_main_v14 (F := Ideal) (arr3 q) (arr3 k) (ix2 h r) = (M : EReal)) :
    val_main_v34 (F := Ideal) (arr3 q) (arr3 k) (ix3 h r 0) = ((1 / ((∑ i, Real.exp (score (q h (ctxRow r)) (ctx (k h) i) - M)) * (∑ i, Real.exp (score (q h (ctxRow r)) (ctx (k h) i) - M))) : ℝ) : EReal) := by
  have hL : (∑ i, Real.exp (score (q h (ctxRow r)) (ctx (k h) i) - M)) ≠ 0 := (by rw [total_shift]; exact (div_pos (total_pos _ _) (Real.exp_pos M)).ne')
  rw [val_main_v34_apply, val_main_v33_apply, val_main_cst_9_apply, val_main_v32_apply, ref_lc_ctx q k M h r hM]
  show Ideal.div (Ideal.ofBits .f32 0x3F800000#32) (((∑ i, Real.exp (score (q h (ctxRow r)) (ctx (k h) i) - M)) : ℝ) * ((∑ i, Real.exp (score (q h (ctxRow r)) (ctx (k h) i) - M)) : ℝ) : EReal) = _
  rw [word_1, ← EReal.coe_mul, coe_div _ _ (mul_ne_zero hL hL)]

/-- A context row's cotangent, head by head. -/
theorem ref_g_ctx (h : Fin 16) (c : Fin 64) (r : Fin 256) :
    val_main_v98 (F := Ideal) (arr2 g) (ix3 h c r) = ((headRow g h (ctxRow r) c : ℝ) : EReal) := by
  rw [val_main_v98_apply, val_main_v75_apply, val_main_v74_apply,
    show idx_main_v74 (idx_main_v75 (idx_main_v98 (ix3 h c r))) = ix2 (ctxRow r) ⟨h.val * 64 + c.val, by omega⟩ from funext fun a => Fin.ext (by
      match a with
      | ⟨0, _⟩ => show (((ctxRow r).val * 16 + h.val) * 64 + c.val) / 1024 = (ctxRow r).val; omega
      | ⟨1, _⟩ => show (((ctxRow r).val * 16 + h.val) * 64 + c.val) % 1024 = h.val * 64 + c.val; omega)]
  rfl

/-- A context row's weight cotangents. -/
theorem ref_dp_ctx (h : Fin 16) (r : Fin 256) (j : Fin 256) :
    val_main_v99 (F := Ideal) (arr3 v) (arr2 g) (ix3 h r j) = ((dprob (headRow g h (ctxRow r)) (ctx (v h) j) : ℝ) : EReal) := by
  rw [val_main_v99_apply]
  refine (Finset.sum_congr rfl fun c _ => ?_).trans (coe_sum_mul Finset.univ (headRow g h (ctxRow r)) (ctx (v h) j))
  rw [show lidx_main_v99 (ix3 h r j) c = ix3 h c r from funext fun a => match a with | ⟨0, _⟩ => rfl | ⟨1, _⟩ => rfl | ⟨2, _⟩ => rfl, ref_g_ctx, val_main_v2_apply]
  rfl

/-- A context row's weights against their cotangents, over its squared sum. -/
theorem ref_n_ctx (M : ℝ) (h : Fin 16) (r : Fin 256) (hM : val_main_v14 (F := Ideal) (arr3 q) (arr3 k) (ix2 h r) = (M : EReal)) :
    val_main_v105 (F := Ideal) (arr3 q) (arr3 k) (arr3 v) (arr2 g) (ix2 h r)
      = ((∑ i, dprob (headRow g h (ctxRow r)) (ctx (v h) i) * (1 / ((∑ i, Real.exp (score (q h (ctxRow r)) (ctx (k h) i) - M)) * (∑ i, Real.exp (score (q h (ctxRow r)) (ctx (k h) i) - M)))) * Real.exp (score (q h (ctxRow r)) (ctx (k h) i) - M) : ℝ) : EReal) := by
  rw [val_main_v105_apply, ← coe_sum, show val_main_cst_24 (F := Ideal) (Shape.Idx.first h_S_) = 0 from Ideal.ofBits_zero_f32, zero_add]
  refine Finset.sum_congr rfl fun j _ => ?_
  rw [show idx_main_v105 (ix2 h r) j = ix3 h r j from funext fun a => match a with | ⟨0, _⟩ => rfl | ⟨1, _⟩ => rfl | ⟨2, _⟩ => rfl,
    val_main_v104_apply, val_main_v103_apply, ref_e_ctx q k M h r j hM, ref_dp_ctx, val_main_v102_apply,
    show idx_main_v102 (ix3 h r j) = ix3 h r 0 from funext fun a => match a with | ⟨0, _⟩ => rfl | ⟨1, _⟩ => rfl | ⟨2, _⟩ => rfl, ref_ill_ctx q k M h r hM, EReal.coe_mul, EReal.coe_mul]
  rfl

/-- Its negative, spread over the row. -/
theorem ref_neg_ctx (M : ℝ) (h : Fin 16) (r : Fin 256) (j : Fin 256) (hM : val_main_v14 (F := Ideal) (arr3 q) (arr3 k) (ix2 h r) = (M : EReal)) :
    val_main_v111 (F := Ideal) (arr3 q) (arr3 k) (arr3 v) (arr2 g) (ix3 h r j)
      = ((-(∑ i, dprob (headRow g h (ctxRow r)) (ctx (v h) i) * (1 / ((∑ i, Real.exp (score (q h (ctxRow r)) (ctx (k h) i) - M)) * (∑ i, Real.exp (score (q h (ctxRow r)) (ctx (k h) i) - M)))) * Real.exp (score (q h (ctxRow r)) (ctx (k h) i) - M)) : ℝ) : EReal) := by
  rw [val_main_v111_apply, val_main_v110_apply, show val_main_cst_25 (F := Ideal) (Shape.Idx.first h_S_) = 0 from Ideal.ofBits_zero_f32, zero_add,
    Fin.sum_univ_one, val_main_v107_apply, val_main_v106_apply,
    show idx_main_v106 (idx_main_v110 (idx_main_v111 (ix3 h r j)) 0) = ix2 h r from funext fun a => Fin.ext (by
      match a with
      | ⟨0, _⟩ => show ((h.val * 256 + r.val) * 1 + 0) / 256 = h.val; omega
      | ⟨1, _⟩ => show ((h.val * 256 + r.val) * 1 + 0) % 256 = r.val; omega),
    ref_n_ctx q k v g M h r hM, EReal.coe_neg]
  rfl

/-- A context row's score cotangents, over the square root of 96. -/
theorem ref_ds_ctx (h : Fin 16) (r : Fin 256) (j : Fin 256) :
    val_main_v115 (F := Ideal) (arr3 q) (arr3 k) (arr3 v) (arr2 g) (ix3 h r j)
      = ((dscore (q h (ctxRow r)) (ctx (k h)) (ctx (v h)) (headRow g h (ctxRow r)) j / √96 : ℝ) : EReal) := by
  obtain ⟨M, hM⟩ := ref_m_ctx q k h r
  have hL : (∑ i, Real.exp (score (q h (ctxRow r)) (ctx (k h) i) - M)) ≠ 0 := (by rw [total_shift]; exact (div_pos (total_pos _ _) (Real.exp_pos M)).ne')
  rw [← dscore_shift (q h (ctxRow r)) (ctx (k h)) (ctx (v h)) (headRow g h (ctxRow r)) M j _ rfl]
  rw [val_main_v115_apply, val_main_v113_apply, val_main_v112_apply, ref_e_ctx q k M h r j hM, ref_neg_ctx q k v g M h r j hM,
    val_main_v109_apply, ref_dp_ctx, val_main_v108_apply,
    show idx_main_v108 (ix3 h r j) = ix3 h r 0 from funext fun a => match a with | ⟨0, _⟩ => rfl | ⟨1, _⟩ => rfl | ⟨2, _⟩ => rfl, ref_lc_ctx q k M h r hM,
    val_main_v114_apply, val_main_v4_apply, val_main_cst_apply]
  refine (congrArg₂ Ideal.div (congrArg (· * _) (congrArg (· + _) (coe_div _ _ hL))) sqrt_96).trans ?_
  rw [← EReal.coe_add, ← EReal.coe_mul, coe_div _ _ sqrt96_pos.ne']

/-- A context row's part of the queries' gradient. -/
theorem ref_dq_ctx (h : Fin 16) (r : Fin 256) (d : Fin 96) :
    val_main_v117 (F := Ideal) (arr3 q) (arr3 k) (arr3 v) (arr2 g) (ix3 h r d)
      = ((∑ j, dscore (q h (ctxRow r)) (ctx (k h)) (ctx (v h)) (headRow g h (ctxRow r)) j / √96 * ctx (k h) j d : ℝ) : EReal) := by
  rw [val_main_v117_apply]
  refine (Finset.sum_congr rfl fun j _ => ?_).trans (coe_sum_mul Finset.univ (fun j => dscore (q h (ctxRow r)) (ctx (k h)) (ctx (v h)) (headRow g h (ctxRow r)) j / √96) (fun j => ctx (k h) j d))
  rw [show lidx_main_v117 (ix3 h r d) j = ix3 h r j from funext fun a => match a with | ⟨0, _⟩ => rfl | ⟨1, _⟩ => rfl | ⟨2, _⟩ => rfl, ref_ds_ctx, val_main_v1_apply]
  rfl

/-- The context rows' part of the keys' gradient. -/
theorem ref_dk_ctx (h : Fin 16) (j : Fin 256) (d : Fin 96) :
    val_main_v116 (F := Ideal) (arr3 q) (arr3 k) (arr3 v) (arr2 g) (ix3 h j d)
      = ((∑ r : Fin 256, dscore (q h (ctxRow r)) (ctx (k h)) (ctx (v h)) (headRow g h (ctxRow r)) j / √96 * q h (ctxRow r) d : ℝ) : EReal) := by
  rw [val_main_v116_apply]
  refine (Finset.sum_congr rfl fun r _ => ?_).trans (coe_sum_mul Finset.univ (fun r : Fin 256 => dscore (q h (ctxRow r)) (ctx (k h)) (ctx (v h)) (headRow g h (ctxRow r)) j / √96) (fun r => q h (ctxRow r) d))
  rw [show lidx_main_v116 (ix3 h j d) r = ix3 h r j from funext fun a => match a with | ⟨0, _⟩ => rfl | ⟨1, _⟩ => rfl | ⟨2, _⟩ => rfl, ref_ds_ctx, val_main_v0_apply]
  rfl

/-- The context rows' part of the values' gradient. -/
theorem ref_dv_ctx (h : Fin 16) (j : Fin 256) (c : Fin 64) :
    val_main_v101 (F := Ideal) (arr3 q) (arr3 k) (arr2 g) (ix3 h j c)
      = ((∑ r : Fin 256, prob (q h (ctxRow r)) (ctx (k h)) j * headRow g h (ctxRow r) c : ℝ) : EReal) := by
  rw [val_main_v101_apply, val_main_v100_apply]
  refine (Finset.sum_congr rfl fun r _ => ?_).trans (coe_sum_mul Finset.univ (fun r : Fin 256 => prob (q h (ctxRow r)) (ctx (k h)) j) (fun r => headRow g h (ctxRow r) c))
  rw [show lidx_main_v100 (idx_main_v101 (ix3 h j c)) r = ix3 h c r from funext fun a => match a with | ⟨0, _⟩ => rfl | ⟨1, _⟩ => rfl | ⟨2, _⟩ => rfl,
    show ridx_main_v100 (idx_main_v101 (ix3 h j c)) r = ix3 h r j from funext fun a => match a with | ⟨0, _⟩ => rfl | ⟨1, _⟩ => rfl | ⟨2, _⟩ => rfl, ref_g_ctx, ref_p_ctx, mul_comm]

/-! ## Latent tokens -/

/-- A latent row's scores. -/
theorem ref_s_lat (h : Fin 16) (r : Fin 2048) (j : Fin 2304) :
    val_main_v41 (F := Ideal) (arr3 q) (arr3 k) (ix3 h r j) = ((score (q h (latRow r)) (k h j) : ℝ) : EReal) := by
  rw [val_main_v41_apply, val_main_v40_apply, val_main_v39_apply, val_main_cst_10_apply, val_main_v38_apply]
  refine (congrArg₂ Ideal.div ((Finset.sum_congr rfl fun d _ => ?_).trans (coe_sum_mul Finset.univ (q h (latRow r)) (k h j))) sqrt_96).trans ?_
  · rw [val_main_v37_apply]; rfl
  · rw [coe_div _ _ sqrt96_pos.ne']; rfl

/-- A latent row's maximum. -/
theorem ref_m_lat (h : Fin 16) (r : Fin 2048) : ∃ M : ℝ, val_main_v49 (F := Ideal) (arr3 q) (arr3 k) (ix2 h r) = (M : EReal) := by
  have key : ∃ M : ℝ, val_main_v42 (F := Ideal) (arr3 q) (arr3 k) (ix2 h r) = (M : EReal) := by
    unfold val_main_v42
    refine hostMax_real _ _ _ (by decide) (by decide) _ fun j => ?_
    rw [eq_ix3 j]
    exact ⟨_, ref_s_lat q k _ _ _⟩
  obtain ⟨M, hM⟩ := key
  refine ⟨M, ?_⟩
  rw [val_main_v49_apply, hM, val_main_v48_apply, val_main_cst_13_apply]
  show max (Ideal.ofBits .f32 0xFF800000#32) (M : EReal) = _
  rw [word_bot, max_eq_right bot_le]

/-- A latent row's shifted exponentials. -/
theorem ref_e_lat (M : ℝ) (h : Fin 16) (r : Fin 2048) (j : Fin 2304) (hM : val_main_v49 (F := Ideal) (arr3 q) (arr3 k) (ix2 h r) = (M : EReal)) :
    val_main_v62 (F := Ideal) (arr3 q) (arr3 k) (ix3 h r j) = ((Real.exp (score (q h (latRow r)) (k h j) - M) : ℝ) : EReal) := by
  rw [val_main_v62_apply, val_main_v61_apply, ref_s_lat, val_main_v60_apply, val_main_v59_apply,
    show idx_main_v59 (idx_main_v60 (ix3 h r j)) = ix2 h r from funext fun a => match a with | ⟨0, _⟩ => rfl | ⟨1, _⟩ => rfl, hM]
  rfl

/-- A latent row's sum. -/
theorem ref_l_lat (M : ℝ) (h : Fin 16) (r : Fin 2048) (hM : val_main_v49 (F := Ideal) (arr3 q) (arr3 k) (ix2 h r) = (M : EReal)) :
    val_main_v63 (F := Ideal) (arr3 q) (arr3 k) (ix2 h r) = (((∑ i, Real.exp (score (q h (latRow r)) (k h i) - M)) : ℝ) : EReal) := by
  rw [val_main_v63_apply, ← coe_sum, show val_main_cst_19 (F := Ideal) (Shape.Idx.first h_S_) = 0 from Ideal.ofBits_zero_f32, zero_add]
  refine Finset.sum_congr rfl fun j _ => ?_
  rw [show idx_main_v63 (ix2 h r) j = ix3 h r j from funext fun a => match a with | ⟨0, _⟩ => rfl | ⟨1, _⟩ => rfl | ⟨2, _⟩ => rfl]
  exact ref_e_lat q k M h r j hM

/-- A latent row's sum, kept as a column. -/
theorem ref_lc_lat (M : ℝ) (h : Fin 16) (r : Fin 2048) (hM : val_main_v49 (F := Ideal) (arr3 q) (arr3 k) (ix2 h r) = (M : EReal)) :
    val_main_v64 (F := Ideal) (arr3 q) (arr3 k) (ix3 h r 0) = (((∑ i, Real.exp (score (q h (latRow r)) (k h i) - M)) : ℝ) : EReal) := by
  rw [val_main_v64_apply, show idx_main_v64 (ix3 h r 0) = ix2 h r from funext fun a => match a with | ⟨0, _⟩ => rfl | ⟨1, _⟩ => rfl, ref_l_lat q k M h r hM]

/-- A latent row's weights. -/
theorem ref_p_lat (h : Fin 16) (r : Fin 2048) (j : Fin 2304) :
    val_main_v66 (F := Ideal) (arr3 q) (arr3 k) (ix3 h r j) = ((prob (q h (latRow r)) (k h) j : ℝ) : EReal) := by
  obtain ⟨M, hM⟩ := ref_m_lat q k h r
  rw [val_main_v66_apply, ref_e_lat q k M h r j hM, val_main_v65_apply,
    show idx_main_v65 (ix3 h r j) = ix3 h r 0 from funext fun a => match a with | ⟨0, _⟩ => rfl | ⟨1, _⟩ => rfl | ⟨2, _⟩ => rfl,
    ref_lc_lat q k M h r hM]
  refine (coe_div _ _ (by rw [total_shift]; exact (div_pos (total_pos _ _) (Real.exp_pos M)).ne')).trans ?_
  rw [prob_shift]

/-- The reciprocal of a latent row's squared sum. -/
theorem ref_ill_lat (M : ℝ) (h : Fin 16) (r : Fin 2048) (hM : val_main_v49 (F := Ideal) (arr3 q) (arr3 k) (ix2 h r) = (M : EReal)) :
    val_main_v69 (F := Ideal) (arr3 q) (arr3 k) (ix3 h r 0) = ((1 / ((∑ i, Real.exp (score (q h (latRow r)) (k h i) - M)) * (∑ i, Real.exp (score (q h (latRow r)) (k h i) - M))) : ℝ) : EReal) := by
  have hL : (∑ i, Real.exp (score (q h (latRow r)) (k h i) - M)) ≠ 0 := (by rw [total_shift]; exact (div_pos (total_pos _ _) (Real.exp_pos M)).ne')
  rw [val_main_v69_apply, val_main_v68_apply, val_main_cst_20_apply, val_main_v67_apply, ref_lc_lat q k M h r hM]
  show Ideal.div (Ideal.ofBits .f32 0x3F800000#32) (((∑ i, Real.exp (score (q h (latRow r)) (k h i) - M)) : ℝ) * ((∑ i, Real.exp (score (q h (latRow r)) (k h i) - M)) : ℝ) : EReal) = _
  rw [word_1, ← EReal.coe_mul, coe_div _ _ (mul_ne_zero hL hL)]

/-- A latent row's cotangent, head by head. -/
theorem ref_g_lat (h : Fin 16) (c : Fin 64) (r : Fin 2048) :
    val_main_v77 (F := Ideal) (arr2 g) (ix3 h c r) = ((headRow g h (latRow r) c : ℝ) : EReal) := by
  rw [val_main_v77_apply, val_main_v76_apply, val_main_v74_apply,
    show idx_main_v74 (idx_main_v76 (idx_main_v77 (ix3 h c r))) = ix2 (latRow r) ⟨h.val * 64 + c.val, by omega⟩ from funext fun a => Fin.ext (by
      match a with
      | ⟨0, _⟩ => show (((latRow r).val * 16 + h.val) * 64 + c.val) / 1024 = (latRow r).val; omega
      | ⟨1, _⟩ => show (((latRow r).val * 16 + h.val) * 64 + c.val) % 1024 = h.val * 64 + c.val; omega)]
  rfl

/-- A latent row's weight cotangents. -/
theorem ref_dp_lat (h : Fin 16) (r : Fin 2048) (j : Fin 2304) :
    val_main_v78 (F := Ideal) (arr3 v) (arr2 g) (ix3 h r j) = ((dprob (headRow g h (latRow r)) (v h j) : ℝ) : EReal) := by
  rw [val_main_v78_apply]
  refine (Finset.sum_congr rfl fun c _ => ?_).trans (coe_sum_mul Finset.univ (headRow g h (latRow r)) (v h j))
  rw [show lidx_main_v78 (ix3 h r j) c = ix3 h c r from funext fun a => match a with | ⟨0, _⟩ => rfl | ⟨1, _⟩ => rfl | ⟨2, _⟩ => rfl, ref_g_lat]
  rfl

/-- A latent row's weights against their cotangents, over its squared sum. -/
theorem ref_n_lat (M : ℝ) (h : Fin 16) (r : Fin 2048) (hM : val_main_v49 (F := Ideal) (arr3 q) (arr3 k) (ix2 h r) = (M : EReal)) :
    val_main_v84 (F := Ideal) (arr3 q) (arr3 k) (arr3 v) (arr2 g) (ix2 h r)
      = ((∑ i, dprob (headRow g h (latRow r)) (v h i) * (1 / ((∑ i, Real.exp (score (q h (latRow r)) (k h i) - M)) * (∑ i, Real.exp (score (q h (latRow r)) (k h i) - M)))) * Real.exp (score (q h (latRow r)) (k h i) - M) : ℝ) : EReal) := by
  rw [val_main_v84_apply, ← coe_sum, show val_main_cst_21 (F := Ideal) (Shape.Idx.first h_S_) = 0 from Ideal.ofBits_zero_f32, zero_add]
  refine Finset.sum_congr rfl fun j _ => ?_
  rw [show idx_main_v84 (ix2 h r) j = ix3 h r j from funext fun a => match a with | ⟨0, _⟩ => rfl | ⟨1, _⟩ => rfl | ⟨2, _⟩ => rfl,
    val_main_v83_apply, val_main_v82_apply, ref_e_lat q k M h r j hM, ref_dp_lat, val_main_v81_apply,
    show idx_main_v81 (ix3 h r j) = ix3 h r 0 from funext fun a => match a with | ⟨0, _⟩ => rfl | ⟨1, _⟩ => rfl | ⟨2, _⟩ => rfl, ref_ill_lat q k M h r hM, EReal.coe_mul, EReal.coe_mul]
  rfl

/-- Its negative, spread over the row. -/
theorem ref_neg_lat (M : ℝ) (h : Fin 16) (r : Fin 2048) (j : Fin 2304) (hM : val_main_v49 (F := Ideal) (arr3 q) (arr3 k) (ix2 h r) = (M : EReal)) :
    val_main_v90 (F := Ideal) (arr3 q) (arr3 k) (arr3 v) (arr2 g) (ix3 h r j)
      = ((-(∑ i, dprob (headRow g h (latRow r)) (v h i) * (1 / ((∑ i, Real.exp (score (q h (latRow r)) (k h i) - M)) * (∑ i, Real.exp (score (q h (latRow r)) (k h i) - M)))) * Real.exp (score (q h (latRow r)) (k h i) - M)) : ℝ) : EReal) := by
  rw [val_main_v90_apply, val_main_v89_apply, show val_main_cst_22 (F := Ideal) (Shape.Idx.first h_S_) = 0 from Ideal.ofBits_zero_f32, zero_add,
    Fin.sum_univ_one, val_main_v86_apply, val_main_v85_apply,
    show idx_main_v85 (idx_main_v89 (idx_main_v90 (ix3 h r j)) 0) = ix2 h r from funext fun a => Fin.ext (by
      match a with
      | ⟨0, _⟩ => show ((h.val * 2048 + r.val) * 1 + 0) / 2048 = h.val; omega
      | ⟨1, _⟩ => show ((h.val * 2048 + r.val) * 1 + 0) % 2048 = r.val; omega),
    ref_n_lat q k v g M h r hM, EReal.coe_neg]
  rfl

/-- A latent row's score cotangents, over the square root of 96. -/
theorem ref_ds_lat (h : Fin 16) (r : Fin 2048) (j : Fin 2304) :
    val_main_v94 (F := Ideal) (arr3 q) (arr3 k) (arr3 v) (arr2 g) (ix3 h r j)
      = ((dscore (q h (latRow r)) (k h) (v h) (headRow g h (latRow r)) j / √96 : ℝ) : EReal) := by
  obtain ⟨M, hM⟩ := ref_m_lat q k h r
  have hL : (∑ i, Real.exp (score (q h (latRow r)) (k h i) - M)) ≠ 0 := (by rw [total_shift]; exact (div_pos (total_pos _ _) (Real.exp_pos M)).ne')
  rw [← dscore_shift (q h (latRow r)) (k h) (v h) (headRow g h (latRow r)) M j _ rfl]
  rw [val_main_v94_apply, val_main_v92_apply, val_main_v91_apply, ref_e_lat q k M h r j hM, ref_neg_lat q k v g M h r j hM,
    val_main_v88_apply, ref_dp_lat, val_main_v87_apply,
    show idx_main_v87 (ix3 h r j) = ix3 h r 0 from funext fun a => match a with | ⟨0, _⟩ => rfl | ⟨1, _⟩ => rfl | ⟨2, _⟩ => rfl, ref_lc_lat q k M h r hM,
    val_main_v93_apply, val_main_v39_apply, val_main_cst_10_apply]
  refine (congrArg₂ Ideal.div (congrArg (· * _) (congrArg (· + _) (coe_div _ _ hL))) sqrt_96).trans ?_
  rw [← EReal.coe_add, ← EReal.coe_mul, coe_div _ _ sqrt96_pos.ne']

/-- A latent row's part of the queries' gradient. -/
theorem ref_dq_lat (h : Fin 16) (r : Fin 2048) (d : Fin 96) :
    val_main_v96 (F := Ideal) (arr3 q) (arr3 k) (arr3 v) (arr2 g) (ix3 h r d)
      = ((∑ j, dscore (q h (latRow r)) (k h) (v h) (headRow g h (latRow r)) j / √96 * k h j d : ℝ) : EReal) := by
  rw [val_main_v96_apply]
  refine (Finset.sum_congr rfl fun j _ => ?_).trans (coe_sum_mul Finset.univ (fun j => dscore (q h (latRow r)) (k h) (v h) (headRow g h (latRow r)) j / √96) (fun j => k h j d))
  rw [show lidx_main_v96 (ix3 h r d) j = ix3 h r j from funext fun a => match a with | ⟨0, _⟩ => rfl | ⟨1, _⟩ => rfl | ⟨2, _⟩ => rfl, ref_ds_lat]
  rfl

/-- The latent rows' part of the keys' gradient. -/
theorem ref_dk_lat (h : Fin 16) (j : Fin 2304) (d : Fin 96) :
    val_main_v95 (F := Ideal) (arr3 q) (arr3 k) (arr3 v) (arr2 g) (ix3 h j d)
      = ((∑ r : Fin 2048, dscore (q h (latRow r)) (k h) (v h) (headRow g h (latRow r)) j / √96 * q h (latRow r) d : ℝ) : EReal) := by
  rw [val_main_v95_apply]
  refine (Finset.sum_congr rfl fun r _ => ?_).trans (coe_sum_mul Finset.univ (fun r : Fin 2048 => dscore (q h (latRow r)) (k h) (v h) (headRow g h (latRow r)) j / √96) (fun r => q h (latRow r) d))
  rw [show lidx_main_v95 (ix3 h j d) r = ix3 h r j from funext fun a => match a with | ⟨0, _⟩ => rfl | ⟨1, _⟩ => rfl | ⟨2, _⟩ => rfl, ref_ds_lat, val_main_v37_apply]
  rfl

/-- The latent rows' part of the values' gradient. -/
theorem ref_dv_lat (h : Fin 16) (j : Fin 2304) (c : Fin 64) :
    val_main_v80 (F := Ideal) (arr3 q) (arr3 k) (arr2 g) (ix3 h j c)
      = ((∑ r : Fin 2048, prob (q h (latRow r)) (k h) j * headRow g h (latRow r) c : ℝ) : EReal) := by
  rw [val_main_v80_apply, val_main_v79_apply]
  refine (Finset.sum_congr rfl fun r _ => ?_).trans (coe_sum_mul Finset.univ (fun r : Fin 2048 => prob (q h (latRow r)) (k h) j) (fun r => headRow g h (latRow r) c))
  rw [show lidx_main_v79 (idx_main_v80 (ix3 h j c)) r = ix3 h c r from funext fun a => match a with | ⟨0, _⟩ => rfl | ⟨1, _⟩ => rfl | ⟨2, _⟩ => rfl,
    show ridx_main_v79 (idx_main_v80 (ix3 h j c)) r = ix3 h r j from funext fun a => match a with | ⟨0, _⟩ => rfl | ⟨1, _⟩ => rfl | ⟨2, _⟩ => rfl, ref_g_lat, ref_p_lat, mul_comm]

/-! ## Both -/

/-- An array of context rows, padded with zeros below, at a row. -/
theorem pad_high {m : ℕ} (x : (⟨3, ![16, 256, m]⟩ : Shape).Idx → EReal) (z : S_.Idx → EReal) (hz : z (Shape.Idx.first h_S_) = 0)
    (hp : (⟨3, ![16, 256, m]⟩ : Shape).Pads ![0, 0, 0] ![0, 2048, 0] ![0, 0, 0] ⟨3, ![16, 2304, m]⟩) (h : Fin 16) (t : Fin 2304) (d : Fin m) :
    pad ⟨3, ![16, 2304, m]⟩ ![0, 0, 0] ![0, 2048, 0] ![0, 0, 0] x z hp h_S_ (ix3 h t d)
      = if ht : t.val < 256 then x (ix3 h ⟨t.val, ht⟩ d) else 0 := by
  split
  · next ht =>
    refine pad_apply_of_inside _ _ _ x z hp h_S_ _ (ix3 h ⟨t.val, ht⟩ d) fun a => ?_
    match a with
    | ⟨0, _⟩ => show h.val = 0 + h.val * (0 + 1); omega
    | ⟨1, _⟩ => show t.val = 0 + t.val * (0 + 1); omega
    | ⟨2, _⟩ => show d.val = 0 + d.val * (0 + 1); omega
  · next ht =>
    refine (pad_apply_of_not_inside _ _ _ x z hp h_S_ _ 1 ?_).trans hz
    show ¬(0 ≤ t.val ∧ (t.val - 0) % (0 + 1) = 0 ∧ (t.val - 0) / (0 + 1) < 256)
    omega

/-- An array of latent rows, padded with zeros above, at a row. -/
theorem pad_low {m : ℕ} (x : (⟨3, ![16, 2048, m]⟩ : Shape).Idx → EReal) (z : S_.Idx → EReal) (hz : z (Shape.Idx.first h_S_) = 0)
    (hp : (⟨3, ![16, 2048, m]⟩ : Shape).Pads ![0, 256, 0] ![0, 0, 0] ![0, 0, 0] ⟨3, ![16, 2304, m]⟩) (h : Fin 16) (t : Fin 2304) (d : Fin m) :
    pad ⟨3, ![16, 2304, m]⟩ ![0, 256, 0] ![0, 0, 0] ![0, 0, 0] x z hp h_S_ (ix3 h t d)
      = if ht : t.val < 256 then 0 else x (ix3 h ⟨t.val - 256, by omega⟩ d) := by
  split
  · next ht =>
    refine (pad_apply_of_not_inside _ _ _ x z hp h_S_ _ 1 ?_).trans hz
    show ¬(256 ≤ t.val ∧ (t.val - 256) % (0 + 1) = 0 ∧ (t.val - 256) / (0 + 1) < 2048)
    omega
  · next ht =>
    refine pad_apply_of_inside _ _ _ x z hp h_S_ _ (ix3 h ⟨t.val - 256, by omega⟩ d) fun a => ?_
    match a with
    | ⟨0, _⟩ => show h.val = 0 + h.val * (0 + 1); omega
    | ⟨1, _⟩ => show t.val = 256 + (t.val - 256) * (0 + 1); omega
    | ⟨2, _⟩ => show d.val = 0 + d.val * (0 + 1); omega

/-- A cotangent of the scores over the square root of 96, against something, times that root. -/
theorem sum_root {ι : Type} (s : Finset ι) (f g : ι → ℝ) : (∑ i ∈ s, f i / √96 * g i) * √96 = ∑ i ∈ s, f i * g i := by
  rw [Finset.sum_mul]
  refine Finset.sum_congr rfl fun i _ => ?_
  have := sqrt96_pos.ne'
  field_simp

/-- A cotangent of the scores over the square root of 96, against something, over the logarithm of two. -/
theorem sum_unit2 {ι : Type} (s : Finset ι) (f g : ι → ℝ) : (∑ i ∈ s, f i / √96 * g i) / Real.log 2 = ∑ i ∈ s, f i * (g i * unit2) := by
  rw [Finset.sum_div]
  refine Finset.sum_congr rfl fun i _ => ?_
  unfold unit2
  have := sqrt96_pos.ne'
  have := log2_pos.ne'
  field_simp

/-- **The reference's first result**: the queries' gradient. -/
theorem ref_dq (h : Fin 16) (t : Fin 2304) (d : Fin 96) :
    val_main_v126 (F := Ideal) (arr3 q) (arr3 k) (arr3 v) (arr2 g) (ix3 h t d) = ((dqSpec q k v g h t d : ℝ) : EReal) := by
  rw [val_main_v126_apply, val_main_v123_apply, val_main_v125_apply, val_main_v124_apply, val_main_cst_29_apply]
  unfold val_main_v97 val_main_v122
  refine (congrArg₂ (· * ·) (congrArg₂ (· + ·) (pad_low _ _ Ideal.ofBits_zero_f32 _ h t d) (pad_high _ _ Ideal.ofBits_zero_f32 _ h t d)) sqrt_96).trans ?_
  unfold dqSpec
  by_cases ht : t.val < 256
  · simp only [dif_pos ht, if_pos ht, zero_add]
    rw [ref_dq_ctx, ← EReal.coe_mul, sum_root]
    rfl
  · simp only [dif_neg ht, if_neg ht, add_zero]
    have e : latRow ⟨t.val - 256, by omega⟩ = t := Fin.ext (by show 256 + (t.val - 256) = t.val; omega)
    rw [ref_dq_lat, ← EReal.coe_mul, sum_root, e]
    rfl

/-- **The reference's second result**: the keys' gradient. -/
theorem ref_dk (h : Fin 16) (j : Fin 2304) (d : Fin 96) :
    val_main_v129 (F := Ideal) (arr3 q) (arr3 k) (arr3 v) (arr2 g) (ix3 h j d) = ((dkSpec q k v g h j d : ℝ) : EReal) := by
  rw [val_main_v129_apply, val_main_v121_apply, val_main_v128_apply, val_main_v127_apply, val_main_cst_30_apply, ref_dk_lat]
  unfold val_main_v120
  refine (congrArg₂ Ideal.div (congrArg (_ + ·) (pad_high _ _ Ideal.ofBits_zero_f32 _ h j d)) log_two).trans ?_
  unfold dkSpec
  by_cases hj : j.val < 256
  · simp only [dif_pos hj]
    rw [ref_dk_ctx, ← EReal.coe_add, coe_div _ _ log2_pos.ne', add_div, sum_unit2, sum_unit2, add_comm]
    rfl
  · simp only [dif_neg hj, add_zero, zero_add]
    rw [coe_div _ _ log2_pos.ne', sum_unit2]
    rfl

/-- **The reference's third result**: the values' gradient. -/
theorem ref_dv (h : Fin 16) (j : Fin 2304) (c : Fin 64) :
    val_main_v119 (F := Ideal) (arr3 q) (arr3 k) (arr2 g) (ix3 h j c) = ((dvSpec q k g h j c : ℝ) : EReal) := by
  rw [val_main_v119_apply, ref_dv_lat]
  unfold val_main_v118
  refine (congrArg (_ + ·) (pad_high _ _ Ideal.ofBits_zero_f32 _ h j c)).trans ?_
  unfold dvSpec
  by_cases hj : j.val < 256
  · simp only [dif_pos hj]
    rw [ref_dv_ctx, ← EReal.coe_add, add_comm]
  · simp only [dif_neg hj, add_zero, zero_add]

end Cert.Attn

end
-- ==== Proof.FwdRef.lean ====
/- The host's attention, read at an index: finite arguments give `outSpec` and `lseSpec`. -/
module

public import proofs.«01_k».proof.Proof.HostMax
public import proofs.«01_k».proof.Proof.Arrays
public import proofs.«01_k».proof.Proof.Gen.ForwardReferenceIdeal.Read

@[expose] public section

noncomputable section

namespace Cert.Attn

open Idealize.ShloMosaic Idealize.ShloMosaic.ValueIdx Cert.ForwardReferenceIdeal.Gen Cert.ForwardReferenceIdeal Cert.ForwardReferenceIdeal.Read
open scoped BigOperators

variable (q k : Fin 16 → Fin 2304 → Fin 96 → ℝ) (v : Fin 16 → Fin 2304 → Fin 64 → ℝ)

/-! ## Context tokens -/

/-- A context row's scores. -/
theorem fwd_s_ctx (h : Fin 16) (r : Fin 256) (j : Fin 256) :
    val_main_v6 (F := Ideal) (arr3 q) (arr3 k) (ix3 h r j) = ((score (q h (ctxRow r)) (ctx (k h) j) : ℝ) : EReal) := by
  rw [val_main_v6_apply, val_main_v5_apply, val_main_v4_apply, val_main_cst_apply, val_main_v3_apply]
  refine (congrArg₂ Ideal.div ((Finset.sum_congr rfl fun d _ => ?_).trans (coe_sum_mul Finset.univ (q h (ctxRow r)) (ctx (k h) j))) sqrt_96).trans ?_
  · rw [val_main_v0_apply, val_main_v1_apply]; rfl
  · rw [coe_div _ _ sqrt96_pos.ne']; rfl

/-- A context row's maximum. -/
theorem fwd_m_ctx (h : Fin 16) (r : Fin 256) : ∃ M : ℝ, val_main_v7 (F := Ideal) (arr3 q) (arr3 k) (ix2 h r) = (M : EReal) := by
  unfold val_main_v7
  refine hostMax_real _ _ _ (by decide) (by decide) _ fun j => ?_
  rw [eq_ix3 j]
  exact ⟨_, fwd_s_ctx q k _ _ _⟩

/-- A context row's shifted exponentials. -/
theorem fwd_e_ctx (M : ℝ) (h : Fin 16) (r : Fin 256) (j : Fin 256) (hM : val_main_v7 (F := Ideal) (arr3 q) (arr3 k) (ix2 h r) = (M : EReal)) :
    val_main_v11 (F := Ideal) (arr3 q) (arr3 k) (ix3 h r j) = ((Real.exp (score (q h (ctxRow r)) (ctx (k h) j) - M) : ℝ) : EReal) := by
  rw [val_main_v11_apply, val_main_v10_apply, fwd_s_ctx, val_main_v9_apply, val_main_v8_apply,
    show idx_main_v8 (idx_main_v9 (ix3 h r j)) = ix2 h r from funext fun a => match a with | ⟨0, _⟩ => rfl | ⟨1, _⟩ => rfl, hM]
  rfl

/-- A context row's sum. -/
theorem fwd_l_ctx (M : ℝ) (h : Fin 16) (r : Fin 256) (hM : val_main_v7 (F := Ideal) (arr3 q) (arr3 k) (ix2 h r) = (M : EReal)) :
    val_main_v12 (F := Ideal) (arr3 q) (arr3 k) (ix2 h r) = ((∑ j, Real.exp (score (q h (ctxRow r)) (ctx (k h) j) - M) : ℝ) : EReal) := by
  rw [val_main_v12_apply, ← coe_sum, show val_main_cst_1 (F := Ideal) (Shape.Idx.first h_S_) = 0 from Ideal.ofBits_zero_f32, zero_add]
  refine Finset.sum_congr rfl fun j _ => ?_
  rw [show idx_main_v12 (ix2 h r) j = ix3 h r j from funext fun a => match a with | ⟨0, _⟩ => rfl | ⟨1, _⟩ => rfl | ⟨2, _⟩ => rfl]
  exact fwd_e_ctx q k M h r j hM

/-- A context row's weights. -/
theorem fwd_p_ctx (h : Fin 16) (r : Fin 256) (j : Fin 256) :
    val_main_v15 (F := Ideal) (arr3 q) (arr3 k) (ix3 h r j) = ((prob (q h (ctxRow r)) (ctx (k h)) j : ℝ) : EReal) := by
  obtain ⟨M, hM⟩ := fwd_m_ctx q k h r
  rw [val_main_v15_apply, fwd_e_ctx q k M h r j hM, val_main_v14_apply, val_main_v13_apply,
    show idx_main_v13 (idx_main_v14 (ix3 h r j)) = ix2 h r from funext fun a => match a with | ⟨0, _⟩ => rfl | ⟨1, _⟩ => rfl,
    fwd_l_ctx q k M h r hM]
  refine (coe_div _ _ (by rw [total_shift]; exact (div_pos (total_pos _ _) (Real.exp_pos M)).ne')).trans ?_
  rw [prob_shift]

/-- A context row's log-sum. -/
theorem fwd_lse_ctx (h : Fin 16) (r : Fin 256) :
    val_main_v23 (F := Ideal) (arr3 q) (arr3 k) (ix3 h r 0) = ((lse (q h (ctxRow r)) (ctx (k h)) : ℝ) : EReal) := by
  obtain ⟨M, hM⟩ := fwd_m_ctx q k h r
  rw [val_main_v23_apply, val_main_v20_apply, val_main_v8_apply, val_main_v19_apply, val_main_v13_apply,
    show idx_main_v8 (ix3 h r 0) = ix2 h r from funext fun a => match a with | ⟨0, _⟩ => rfl | ⟨1, _⟩ => rfl,
    show idx_main_v13 (ix3 h r 0) = ix2 h r from funext fun a => match a with | ⟨0, _⟩ => rfl | ⟨1, _⟩ => rfl,
    hM, fwd_l_ctx q k M h r hM, val_main_v22_apply, val_main_v21_apply, val_main_cst_2_apply]
  refine (congrArg₂ Ideal.div (congrArg ((M : EReal) + ·) (coe_log _ (by rw [total_shift]; exact div_pos (total_pos _ _) (Real.exp_pos M)))) log_two).trans ?_
  rw [← EReal.coe_add, coe_div _ _ log2_pos.ne', lse_shift]

/-- A context row's output. -/
theorem fwd_o_ctx (r : Fin 256) (h : Fin 16) (c : Fin 64) :
    val_main_v18 (F := Ideal) (arr3 q) (arr3 k) (arr3 v) (ix2 r ⟨h.val * 64 + c.val, by omega⟩)
      = ((outRow (q h (ctxRow r)) (ctx (k h)) (ctx (v h)) c : ℝ) : EReal) := by
  rw [val_main_v18_apply, val_main_v17_apply, val_main_v16_apply]
  have e : idx_main_v18 (ix2 r ⟨h.val * 64 + c.val, by omega⟩) = ix3 r h c := funext fun a => Fin.ext (by
    match a with
    | ⟨0, _⟩ => show (r.val * 1024 + (h.val * 64 + c.val)) / 1024 = r.val; omega
    | ⟨1, _⟩ => show (r.val * 1024 + (h.val * 64 + c.val)) / 64 % 16 = h.val; omega
    | ⟨2, _⟩ => show (r.val * 1024 + (h.val * 64 + c.val)) % 64 = c.val; omega)
  rw [e]
  unfold outRow
  rw [← coe_sum]
  refine Finset.sum_congr rfl fun j _ => ?_
  rw [val_main_v2_apply, show ridx_main_v16 (idx_main_v17 (ix3 r h c)) j = ix3 h r j from funext fun a => match a with | ⟨0, _⟩ => rfl | ⟨1, _⟩ => rfl | ⟨2, _⟩ => rfl,
    fwd_p_ctx, EReal.coe_mul, mul_comm]
  rfl

/-! ## Latent tokens -/

/-- A latent row's scores. -/
theorem fwd_s_lat (h : Fin 16) (r : Fin 2048) (j : Fin 2304) :
    val_main_v28 (F := Ideal) (arr3 q) (arr3 k) (ix3 h r j) = ((score (q h (latRow r)) (k h j) : ℝ) : EReal) := by
  rw [val_main_v28_apply, val_main_v27_apply, val_main_v26_apply, val_main_cst_3_apply, val_main_v25_apply]
  refine (congrArg₂ Ideal.div ((Finset.sum_congr rfl fun d _ => ?_).trans (coe_sum_mul Finset.univ (q h (latRow r)) (k h j))) sqrt_96).trans ?_
  · rw [val_main_v24_apply]; rfl
  · rw [coe_div _ _ sqrt96_pos.ne']; rfl

/-- A latent row's maximum. -/
theorem fwd_m_lat (h : Fin 16) (r : Fin 2048) : ∃ M : ℝ, val_main_v29 (F := Ideal) (arr3 q) (arr3 k) (ix2 h r) = (M : EReal) := by
  unfold val_main_v29
  refine hostMax_real _ _ _ (by decide) (by decide) _ fun j => ?_
  rw [eq_ix3 j]
  exact ⟨_, fwd_s_lat q k _ _ _⟩

/-- A latent row's shifted exponentials. -/
theorem fwd_e_lat (M : ℝ) (h : Fin 16) (r : Fin 2048) (j : Fin 2304) (hM : val_main_v29 (F := Ideal) (arr3 q) (arr3 k) (ix2 h r) = (M : EReal)) :
    val_main_v33 (F := Ideal) (arr3 q) (arr3 k) (ix3 h r j) = ((Real.exp (score (q h (latRow r)) (k h j) - M) : ℝ) : EReal) := by
  rw [val_main_v33_apply, val_main_v32_apply, fwd_s_lat, val_main_v31_apply, val_main_v30_apply,
    show idx_main_v30 (idx_main_v31 (ix3 h r j)) = ix2 h r from funext fun a => match a with | ⟨0, _⟩ => rfl | ⟨1, _⟩ => rfl, hM]
  rfl

/-- A latent row's sum. -/
theorem fwd_l_lat (M : ℝ) (h : Fin 16) (r : Fin 2048) (hM : val_main_v29 (F := Ideal) (arr3 q) (arr3 k) (ix2 h r) = (M : EReal)) :
    val_main_v34 (F := Ideal) (arr3 q) (arr3 k) (ix2 h r) = ((∑ j, Real.exp (score (q h (latRow r)) (k h j) - M) : ℝ) : EReal) := by
  rw [val_main_v34_apply, ← coe_sum, show val_main_cst_5 (F := Ideal) (Shape.Idx.first h_S_) = 0 from Ideal.ofBits_zero_f32, zero_add]
  refine Finset.sum_congr rfl fun j _ => ?_
  rw [show idx_main_v34 (ix2 h r) j = ix3 h r j from funext fun a => match a with | ⟨0, _⟩ => rfl | ⟨1, _⟩ => rfl | ⟨2, _⟩ => rfl]
  exact fwd_e_lat q k M h r j hM

/-- A latent row's weights. -/
theorem fwd_p_lat (h : Fin 16) (r : Fin 2048) (j : Fin 2304) :
    val_main_v37 (F := Ideal) (arr3 q) (arr3 k) (ix3 h r j) = ((prob (q h (latRow r)) (k h) j : ℝ) : EReal) := by
  obtain ⟨M, hM⟩ := fwd_m_lat q k h r
  rw [val_main_v37_apply, fwd_e_lat q k M h r j hM, val_main_v36_apply, val_main_v35_apply,
    show idx_main_v35 (idx_main_v36 (ix3 h r j)) = ix2 h r from funext fun a => match a with | ⟨0, _⟩ => rfl | ⟨1, _⟩ => rfl,
    fwd_l_lat q k M h r hM]
  refine (coe_div _ _ (by rw [total_shift]; exact (div_pos (total_pos _ _) (Real.exp_pos M)).ne')).trans ?_
  rw [prob_shift]

/-- A latent row's log-sum. -/
theorem fwd_lse_lat (h : Fin 16) (r : Fin 2048) :
    val_main_v45 (F := Ideal) (arr3 q) (arr3 k) (ix3 h r 0) = ((lse (q h (latRow r)) (k h) : ℝ) : EReal) := by
  obtain ⟨M, hM⟩ := fwd_m_lat q k h r
  rw [val_main_v45_apply, val_main_v42_apply, val_main_v30_apply, val_main_v41_apply, val_main_v35_apply,
    show idx_main_v30 (ix3 h r 0) = ix2 h r from funext fun a => match a with | ⟨0, _⟩ => rfl | ⟨1, _⟩ => rfl,
    show idx_main_v35 (ix3 h r 0) = ix2 h r from funext fun a => match a with | ⟨0, _⟩ => rfl | ⟨1, _⟩ => rfl,
    hM, fwd_l_lat q k M h r hM, val_main_v44_apply, val_main_v43_apply, val_main_cst_6_apply]
  refine (congrArg₂ Ideal.div (congrArg ((M : EReal) + ·) (coe_log _ (by rw [total_shift]; exact div_pos (total_pos _ _) (Real.exp_pos M)))) log_two).trans ?_
  rw [← EReal.coe_add, coe_div _ _ log2_pos.ne', lse_shift]

/-- A latent row's output. -/
theorem fwd_o_lat (r : Fin 2048) (h : Fin 16) (c : Fin 64) :
    val_main_v40 (F := Ideal) (arr3 q) (arr3 k) (arr3 v) (ix2 r ⟨h.val * 64 + c.val, by omega⟩)
      = ((outRow (q h (latRow r)) (k h) (v h) c : ℝ) : EReal) := by
  rw [val_main_v40_apply, val_main_v39_apply, val_main_v38_apply]
  have e : idx_main_v40 (ix2 r ⟨h.val * 64 + c.val, by omega⟩) = ix3 r h c := funext fun a => Fin.ext (by
    match a with
    | ⟨0, _⟩ => show (r.val * 1024 + (h.val * 64 + c.val)) / 1024 = r.val; omega
    | ⟨1, _⟩ => show (r.val * 1024 + (h.val * 64 + c.val)) / 64 % 16 = h.val; omega
    | ⟨2, _⟩ => show (r.val * 1024 + (h.val * 64 + c.val)) % 64 = c.val; omega)
  rw [e]
  unfold outRow
  rw [← coe_sum]
  refine Finset.sum_congr rfl fun j _ => ?_
  rw [show ridx_main_v38 (idx_main_v39 (ix3 r h c)) j = ix3 h r j from funext fun a => match a with | ⟨0, _⟩ => rfl | ⟨1, _⟩ => rfl | ⟨2, _⟩ => rfl,
    fwd_p_lat, EReal.coe_mul, mul_comm]
  rfl

/-! ## Both -/

/-- The output of every token. -/
theorem fwd_o (t : Fin 2304) (h : Fin 16) (c : Fin 64) :
    val_main_v46 (F := Ideal) (arr3 q) (arr3 k) (arr3 v) (ix2 t ⟨h.val * 64 + c.val, by omega⟩) = ((outSpec q k v h t c : ℝ) : EReal) := by
  unfold val_main_v46 outSpec
  split
  · next ht =>
    refine Eq.trans (concatenate_pair_apply_left (t := S2304x1024) (s₁ := S256x1024) (s₂ := S2048x1024) 0 _ _ _ _ rfl (ix2 ⟨t.val, ht⟩ ⟨h.val * 64 + c.val, by omega⟩) ?_) (fwd_o_ctx q k v ⟨t.val, ht⟩ h c)
    exact fun b => match b with | ⟨0, _⟩ => rfl | ⟨1, _⟩ => rfl
  · next ht =>
    have e : latRow ⟨t.val - 256, by omega⟩ = t := Fin.ext (by show 256 + (t.val - 256) = t.val; omega)
    refine Eq.trans (concatenate_pair_apply_right (t := S2304x1024) (s₁ := S256x1024) (s₂ := S2048x1024) 0 _ _ _ _ rfl rfl (ix2 ⟨t.val - 256, by omega⟩ ⟨h.val * 64 + c.val, by omega⟩) ?_ ?_) ((fwd_o_lat q k v ⟨t.val - 256, by omega⟩ h c).trans ?_)
    · exact fun b hb => match b, hb with | ⟨0, _⟩, hb => absurd rfl hb | ⟨1, _⟩, _ => rfl
    · show t.val - 256 + 256 = t.val; omega
    · rw [e]

/-- The log-sum of every token. -/
theorem fwd_lse (h : Fin 16) (t : Fin 2304) :
    val_main_v47 (F := Ideal) (arr3 q) (arr3 k) (ix3 h t 0) = ((lseSpec q k h t : ℝ) : EReal) := by
  unfold val_main_v47 lseSpec
  split
  · next ht =>
    refine Eq.trans (concatenate_pair_apply_left (t := S16x2304x1) (s₁ := S16x256x1) (s₂ := S16x2048x1) 1 _ _ _ _ rfl (ix3 h ⟨t.val, ht⟩ 0) ?_) (fwd_lse_ctx q k h ⟨t.val, ht⟩)
    exact fun b => match b with | ⟨0, _⟩ => rfl | ⟨1, _⟩ => rfl | ⟨2, _⟩ => rfl
  · next ht =>
    have e : latRow ⟨t.val - 256, by omega⟩ = t := Fin.ext (by show 256 + (t.val - 256) = t.val; omega)
    refine Eq.trans (concatenate_pair_apply_right (t := S16x2304x1) (s₁ := S16x256x1) (s₂ := S16x2048x1) 1 _ _ _ _ rfl rfl (ix3 h ⟨t.val - 256, by omega⟩ 0) ?_ ?_) ((fwd_lse_lat q k h ⟨t.val - 256, by omega⟩).trans ?_)
    · exact fun b hb => match b, hb with | ⟨0, _⟩, _ => rfl | ⟨1, _⟩, hb => absurd rfl hb | ⟨2, _⟩, _ => rfl
    · show t.val - 256 + 256 = t.val; omega
    · rw [e]

end Cert.Attn

end
-- ==== Proof.Finite.lean ====
/- Finite arrays are arrays of real numbers. -/
module

public import proofs.«01_k».proof.Proof.Arrays
public import proofs.«01_k».proof.Pre_finite
public import proofs.«01_k».proof.Pre_finite_qkv

@[expose] public section

noncomputable section

namespace Cert.Attn

open Idealize.ShloMosaic Idealize.ShloMosaic.ValueIdx

/-- The precondition's bound. -/
theorem word_top : Ideal.ofBits .f32 0x7F800000#32 = ⊤ := by
  simp [Ideal.ofBits, Ideal.ieee]

/-- A number whose magnitude is below the bound is real. -/
theorem real_of_below (x : Ideal .f32)
    (h : FloatOps.cmpf .olt (FloatOps.hostAbsf x) (FloatOps.ofBits (F := Ideal) .f32 0x7F800000#32) = 1#1) : ∃ r : ℝ, x = (r : EReal) := by
  have h' : max (x : EReal) (-(x : EReal)) < ⊤ := by
    have e : BitVec.ofBool (decide (max (x : EReal) (-(x : EReal)) < Ideal.ofBits .f32 0x7F800000#32)) = 1#1 := h
    rw [word_top] at e
    by_contra n
    rw [decide_eq_false n] at e
    exact absurd e (by decide)
  rw [max_lt_iff] at h'
  have hb : (x : EReal) ≠ ⊥ := fun e => by rw [e] at h'; exact absurd h'.2 (by simp)
  exact ⟨(x : EReal).toReal, (EReal.coe_toReal h'.1.ne hb).symm⟩

/-- A rank-three array of real numbers, from its elements. -/
theorem arr3_of {a b c : ℕ} (x : (⟨3, ![a, b, c]⟩ : Shape).Idx → EReal) (h : ∀ i, ∃ r : ℝ, x i = (r : EReal)) : ∃ f, x = arr3 (a := a) (b := b) (c := c) f :=
  ⟨fun i j l => (x (ix3 i j l)).toReal, funext fun i => by
    obtain ⟨r, hr⟩ := h i
    have e : x (ix3 (i 0) (i 1) (i 2)) = r := (congrArg x (eq_ix3 i).symm).trans hr
    exact hr.trans (congrArg (fun y : EReal => ((y.toReal : ℝ) : EReal)) e).symm⟩

/-- A rank-two array of real numbers, from its elements. -/
theorem arr2_of {a b : ℕ} (x : (⟨2, ![a, b]⟩ : Shape).Idx → EReal) (h : ∀ i, ∃ r : ℝ, x i = (r : EReal)) : ∃ f, x = arr2 (a := a) (b := b) f :=
  ⟨fun i j => (x (ix2 i j)).toReal, funext fun i => by
    obtain ⟨r, hr⟩ := h i
    have e : x (ix2 (i 0) (i 1)) = r := (congrArg x (eq_ix2 i).symm).trans hr
    exact hr.trans (congrArg (fun y : EReal => ((y.toReal : ℝ) : EReal)) e).symm⟩

/-- The gradient's arguments, where finite, are arrays of real numbers. -/
theorem finite_args [Cert.Pre_finite.Facts] (x0 x1 : FVec Ideal ⟨3, ![16, 2304, 96]⟩ .f32) (x2 : FVec Ideal ⟨3, ![16, 2304, 64]⟩ .f32) (x3 : FVec Ideal ⟨2, ![2304, 1024]⟩ .f32)
    (h0 : (Cert.Pre_finite.fn (F := Ideal) x0 x1 x2 x3).1 = fun _ => 1#1) (h1 : (Cert.Pre_finite.fn (F := Ideal) x0 x1 x2 x3).2.1 = fun _ => 1#1)
    (h2 : (Cert.Pre_finite.fn (F := Ideal) x0 x1 x2 x3).2.2.1 = fun _ => 1#1) (h3 : (Cert.Pre_finite.fn (F := Ideal) x0 x1 x2 x3).2.2.2 = fun _ => 1#1) :
    (∃ q, x0 = arr3 q) ∧ (∃ k, x1 = arr3 k) ∧ (∃ v, x2 = arr3 v) ∧ ∃ g, x3 = arr2 g :=
  ⟨arr3_of x0 fun i => real_of_below _ (congrFun h0 i), arr3_of x1 fun i => real_of_below _ (congrFun h1 i),
    arr3_of x2 fun i => real_of_below _ (congrFun h2 i), arr2_of x3 fun i => real_of_below _ (congrFun h3 i)⟩

/-- The forward pass's arguments, where finite, are arrays of real numbers. -/
theorem finite_qkv_args [Cert.Pre_finite_qkv.Facts] (x0 x1 : FVec Ideal ⟨3, ![16, 2304, 96]⟩ .f32) (x2 : FVec Ideal ⟨3, ![16, 2304, 64]⟩ .f32)
    (h0 : (Cert.Pre_finite_qkv.fn (F := Ideal) x0 x1 x2).1 = fun _ => 1#1) (h1 : (Cert.Pre_finite_qkv.fn (F := Ideal) x0 x1 x2).2.1 = fun _ => 1#1)
    (h2 : (Cert.Pre_finite_qkv.fn (F := Ideal) x0 x1 x2).2.2 = fun _ => 1#1) :
    (∃ q, x0 = arr3 q) ∧ (∃ k, x1 = arr3 k) ∧ ∃ v, x2 = arr3 v :=
  ⟨arr3_of x0 fun i => real_of_below _ (congrFun h0 i), arr3_of x1 fun i => real_of_below _ (congrFun h1 i),
    arr3_of x2 fun i => real_of_below _ (congrFun h2 i)⟩

end Cert.Attn

end
-- ==== Proof.KernelValue.lean ====
/- The backward call and its reference agree: both leave the specified gradients. -/
module

public import proofs.«01_k».proof.Proof.KernelArrays
public import proofs.«01_k».proof.Proof.KernelHost
public import proofs.«01_k».proof.Proof.RefGrad
public import proofs.«01_k».proof.Proof.FwdRef
public import proofs.«01_k».proof.Proof.Finite
public import proofs.«01_k».proof.Defs
public import proofs.«01_k».proof.Proof.Gen.Pre_finite

@[expose] public section

set_option maxRecDepth 16384

noncomputable section

namespace Cert.Attn

open Idealize.ShloMosaic Idealize.ShloMosaic.TcCoe Idealize.ShloMosaic.ValueIdx Idealize.SL.Sem

/-- What the host hands to the backward call, for real arguments. -/
theorem handed {m : (ℓ : Loc Cert.KernelIdeal.nD Cert.KernelIdeal.τ Cert.KernelIdeal.sig) → Buf (Elt Ideal) ℓ} {c : Dev Cert.KernelIdeal.nD}
    {q k : Fin 16 → Fin 2304 → Fin 96 → ℝ} {v : Fin 16 → Fin 2304 → Fin 64 → ℝ} {g : Fin 2304 → Fin 1024 → ℝ}
    (eq : m ((c : Thread Cert.KernelIdeal.nD Cert.KernelIdeal.τ).loc Cert.KernelIdeal.main_arg0) = arr3 q)
    (ek : m ((c : Thread Cert.KernelIdeal.nD Cert.KernelIdeal.τ).loc Cert.KernelIdeal.main_arg1) = arr3 k)
    (ev : m ((c : Thread Cert.KernelIdeal.nD Cert.KernelIdeal.τ).loc Cert.KernelIdeal.main_arg2) = arr3 v)
    (eg : m ((c : Thread Cert.KernelIdeal.nD Cert.KernelIdeal.τ).loc Cert.KernelIdeal.main_arg3) = arr2 g) : Handed m c q k v g where
  hq h t d := by
    rw [host_q, eq]
    show (q h t d : EReal) * (Ideal.div (Ideal.ofBits .f32 0x3F800000#32) (Ideal.sqrt (Ideal.ofBits .f32 0x42C00000#32))
      * Ideal.div (Ideal.ofBits .f32 0x3F800000#32) (Ideal.log (Ideal.ofBits .f32 0x40000000#32))) = _
    rw [word_1, sqrt_96, log_two, coe_div _ _ sqrt96_pos.ne', coe_div _ _ log2_pos.ne', ← EReal.coe_mul, ← EReal.coe_mul]
    rfl
  hk h t d := by rw [host_k, ek]; rfl
  hv h t d := by rw [host_v, ev]; rfl
  ho t h d := by rw [host_o, eq, ek, ev]; exact fwd_o q k v t h d
  hl h t := by rw [host_l, eq, ek]; exact fwd_lse q k h t
  hg t h d := by rw [Cert.KernelIdeal.Gen.V_main_arg3, eg]; rfl

/-- The gradient's value claim. -/
theorem gradient_algebraic : Cert.algebraic_KernelIdeal_ReferenceIdeal (hKernelIdeal := Cert.KernelIdeal.Gen.facts)
    (hReferenceIdeal := Cert.ReferenceIdeal.Gen.facts) (hPre_finite := Cert.Pre_finite.Gen.facts) := by
  intro m ρ m' ρ' hpre hargs
  have hreal := fun c : Dev Cert.KernelIdeal.nD => @finite_args Cert.Pre_finite.Gen.facts _ _ _ _ (hpre c).1 (hpre c).2.1 (hpre c).2.2.1 (hpre c).2.2.2
  choose q hq using fun c => (hreal c).1
  choose k hk using fun c => (hreal c).2.1
  choose v hv using fun c => (hreal c).2.2.1
  choose g hg using fun c => (hreal c).2.2.2
  refine ⟨fun c => arr3 (dqSpec (q c) (k c) (v c) (g c)), fun c => arr3 (dkSpec (q c) (k c) (v c) (g c)), fun c => arr3 (dvSpec (q c) (k c) (g c)), ?_, ?_⟩
  · refine (θ_run _ _ _).mono (fun r h c => ?_) (Cert.KernelIdeal.Value.run_blocks m ρ)
    have A := handed (hq c) (hk c) (hv c) (hg c)
    exact ⟨(h c).1.trans (final_dq A), (h c).2.1.trans (final_dk A), (h c).2.2.1.trans (final_dv A), (h c).2.2.2⟩
  · refine (θ_run _ _ _).mono (fun r h c => ?_) (Cert.ReferenceIdeal.Value.run (F := Ideal) m' ρ')
    obtain ⟨a0, a1, a2, a3⟩ := hargs c
    refine ⟨(h c).1.trans ?_, (h c).2.1.trans ?_, (h c).2.2.1.trans ?_, (h c).2.2.2⟩
    · rw [Cert.ReferenceIdeal.Read.val_main_v126_eq, a0, a1, a2, a3, hq c, hk c, hv c, hg c]
      funext i; rw [eq_ix3 i]; exact ref_dq (q c) (k c) (v c) (g c) _ _ _
    · rw [Cert.ReferenceIdeal.Read.val_main_v129_eq, a0, a1, a2, a3, hq c, hk c, hv c, hg c]
      funext i; rw [eq_ix3 i]; exact ref_dk (q c) (k c) (v c) (g c) _ _ _
    · rw [Cert.ReferenceIdeal.Read.val_main_v119_eq, a0, a1, a3, hq c, hk c, hg c]
      funext i; rw [eq_ix3 i]; exact ref_dv (q c) (k c) (g c) _ _ _

end Cert.Attn

end
-- ==== Proof.FwdHeads.lean ====
/- One head of the attention's forward call on one block of queries: its output and log-sum over the reals. -/
module

public import proofs.«01_k».proof.Proof.Reads
public import proofs.«01_k».proof.Proof.HostMax
public import proofs.«01_k».proof.Proof.Arrays

@[expose] public section

noncomputable section

namespace Cert.Attn.Fwd

open Idealize.ShloMosaic Idealize.ShloMosaic.ValueIdx
open scoped BigOperators

/-- The shapes fit together, for `n` keys. -/
structure Fits (n : ℕ) : Prop where
  q : (⟨3, ![1, 256, 96]⟩ : Shape).ShapeCasts ⟨2, ![256, 96]⟩
  k : (⟨3, ![1, n, 96]⟩ : Shape).ShapeCasts ⟨2, ![n, 96]⟩
  v : (⟨3, ![1, n, 64]⟩ : Shape).ShapeCasts ⟨2, ![n, 64]⟩
  l : (⟨2, ![256, 1]⟩ : Shape).ShapeCasts ⟨3, ![1, 256, 1]⟩
  r : (⟨2, ![256, n]⟩ : Shape).Reduces [1] ⟨1, ![256]⟩
  c : (⟨1, ![256]⟩ : Shape).ShapeCasts ⟨2, ![256, 1]⟩
  b : (⟨2, ![256, 1]⟩ : Shape).Broadcasts ⟨2, ![256, n]⟩
  b' : (⟨2, ![256, 1]⟩ : Shape).Broadcasts ⟨2, ![256, 64]⟩
  t : FTy.bf16.bits < FTy.f32.bits

section

variable {F : FTy → Type} [FloatOps F] {n : ℕ} (H : Fits n)
  (xq : FVec F ⟨3, ![1, 256, 96]⟩ .bf16) (xk : FVec F ⟨3, ![1, n, 96]⟩ .bf16) (xv : FVec F ⟨3, ![1, n, 64]⟩ .bf16)

/-- The block's scores, in base two. -/
def logits : FVec F ⟨2, ![256, n]⟩ .f32 :=
  matmul (DotDims.transposedRhs 256 96 n) none (shapeCast ⟨2, ![256, 96]⟩ xq H.q) (shapeCast ⟨2, ![n, 96]⟩ xk H.k)
    (constant ⟨2, ![256, n]⟩ .f32 0x00000000#32)

/-- The rows' greatest scores. -/
def peak : FVec F ⟨2, ![256, 1]⟩ .f32 :=
  shapeCast ⟨2, ![256, 1]⟩ (multiReduction .maximumf [1] ⟨1, ![256]⟩ (logits H xq xk) 0xFF800000#32 H.r (.inl rfl) rfl) H.c

/-- The block's powers of two, below the rows' greatest scores. -/
def powers : FVec F ⟨2, ![256, n]⟩ .f32 :=
  exp2 (subf (logits H xq xk) (broadcastTo ⟨2, ![256, n]⟩ (peak H xq xk) H.b))

/-- The rows' sums. -/
def sums : FVec F ⟨2, ![256, 1]⟩ .f32 :=
  shapeCast ⟨2, ![256, 1]⟩ (multiReduction .add [1] ⟨1, ![256]⟩ (powers H xq xk) 0x00000000#32 H.r (.inl rfl) rfl) H.c

/-- The block's output. -/
def out : FVec F ⟨2, ![256, 64]⟩ .f32 :=
  divf (matmul (DotDims.plain 256 n 64) none (truncf .bf16 (powers H xq xk) H.t) (shapeCast ⟨2, ![n, 64]⟩ xv H.v)
      (constant ⟨2, ![256, 64]⟩ .f32 0x00000000#32))
    (broadcastTo ⟨2, ![256, 64]⟩ (sums H xq xk) H.b')

/-- The block's log-sums. -/
def logsum : FVec F ⟨3, ![1, 256, 1]⟩ .f32 :=
  shapeCast ⟨3, ![1, 256, 1]⟩ (addf (peak H xq xk)
    (divf (log (sums H xq xk)) (broadcast ⟨2, ![256, 1]⟩ (Scalar.log (Scalar.ofBits .f32 0x40000000#32))))) H.l

end

variable {n : ℕ} [NeZero n] (H : Fits n)

/-- What one head reads: queries in base-two units, keys and values. -/
structure Holds (xq : FVec Ideal ⟨3, ![1, 256, 96]⟩ .bf16) (xk : FVec Ideal ⟨3, ![1, n, 96]⟩ .bf16) (xv : FVec Ideal ⟨3, ![1, n, 64]⟩ .bf16)
    (Q : Fin 256 → Fin 96 → ℝ) (K : Fin n → Fin 96 → ℝ) (V : Fin n → Fin 64 → ℝ) : Prop where
  q : ∀ r d, xq (ix3 0 r d) = ((Q r d * unit2 : ℝ) : EReal)
  k : ∀ j d, xk (ix3 0 j d) = ((K j d : ℝ) : EReal)
  v : ∀ j c, xv (ix3 0 j c) = ((V j c : ℝ) : EReal)

variable {xq : FVec Ideal ⟨3, ![1, 256, 96]⟩ .bf16} {xk : FVec Ideal ⟨3, ![1, n, 96]⟩ .bf16} {xv : FVec Ideal ⟨3, ![1, n, 64]⟩ .bf16}
  {Q : Fin 256 → Fin 96 → ℝ} {K : Fin n → Fin 96 → ℝ} {V : Fin n → Fin 64 → ℝ} (D : Holds xq xk xv Q K V)
include D

/-- The scores, in base two. -/
theorem logits_apply (r : Fin 256) (j : Fin n) : logits H xq xk (ix2 r j) = ((score (Q r) (K j) / Real.log 2 : ℝ) : EReal) := by
  unfold logits
  rw [dot_nt, ← score_unit2]
  refine (Finset.sum_congr rfl fun d _ => ?_).trans (coe_sum_mul Finset.univ (fun d => Q r d * unit2) (K j))
  rw [drop1, drop1, D.q, D.k]

/-- The greatest score of a row is a real number. -/
theorem peak_apply (r : Fin 256) : ∃ M : ℝ, peak H xq xk (ix2 r 0) = (M : EReal) := by
  have hn : 0 < n := Nat.pos_of_ne_zero (NeZero.ne n)
  obtain ⟨M, hM⟩ := kernelMax_real (logits H xq xk) H.r (.inl rfl) rfl hn (ix1 r) fun k => by
    refine ⟨_, (congrArg (logits H xq xk) (eq_ix2 _)).trans (logits_apply H D _ _)⟩
  exact ⟨M, (column _ H.c r 0).trans hM⟩

/-- The powers are the row's exponentials, shifted. -/
theorem powers_apply (r : Fin 256) {M : ℝ} (hM : peak H xq xk (ix2 r 0) = (M : EReal)) (j : Fin n) :
    powers H xq xk (ix2 r j) = ((Real.exp (score (Q r) (K j) - M * Real.log 2) : ℝ) : EReal) := by
  show Ideal.exp2 (logits H xq xk (ix2 r j) - broadcastTo _ _ _ (ix2 r j)) = _
  rw [spread (by decide) _ H.b r j, hM, logits_apply H D, ← EReal.coe_sub, coe_exp2, exp_pow_shift]

/-- The row's sum. -/
theorem sums_apply (r : Fin 256) {M : ℝ} (hM : peak H xq xk (ix2 r 0) = (M : EReal)) :
    sums H xq xk (ix2 r 0) = ((∑ j, Real.exp (score (Q r) (K j) - M * Real.log 2) : ℝ) : EReal) := by
  unfold sums
  rw [column]
  refine (row_sum _ _ _ _ _ r).trans ((Finset.sum_congr rfl fun j _ => powers_apply H D r hM j).trans (coe_sum _ _))

omit D in
/-- A row's shifted sum is positive. -/
theorem shifted_pos (q : Fin 96 → ℝ) (K : Fin n → Fin 96 → ℝ) (M : ℝ) : 0 < ∑ j, Real.exp (score q (K j) - M) := by
  rw [total_shift]; exact div_pos (total_pos q K) (Real.exp_pos M)

/-- The output. -/
theorem out_apply (r : Fin 256) (c : Fin 64) : out H xq xk xv (ix2 r c) = ((outRow (Q r) K V c : ℝ) : EReal) := by
  obtain ⟨M, hM⟩ := peak_apply H D r
  have hp := shifted_pos (Q r) K (M * Real.log 2)
  show Ideal.div (matmul (F := Ideal) _ _ _ _ _ (ix2 r c)) (broadcastTo _ _ _ (ix2 r c)) = _
  rw [spread (by decide) _ H.b' r c, sums_apply H D r hM, dot_nn,
    show (∑ j, truncf .bf16 (powers H xq xk) H.t (ix2 r j) * shapeCast ⟨2, ![n, 64]⟩ xv H.v (ix2 j c))
        = ((∑ j, Real.exp (score (Q r) (K j) - M * Real.log 2) * V j c : ℝ) : EReal) from
      (Finset.sum_congr rfl fun j _ => by rw [truncf_apply, powers_apply H D r hM, drop1, D.v]).trans
        (coe_sum_mul Finset.univ (fun j => Real.exp (score (Q r) (K j) - M * Real.log 2)) (fun j => V j c)),
    coe_div _ _ hp.ne', Finset.sum_div]
  refine congrArg _ (Finset.sum_congr rfl fun j _ => ?_)
  rw [← prob_shift (Q r) K (M * Real.log 2) j]
  ring

/-- The log-sum. -/
theorem logsum_apply (r : Fin 256) : logsum H xq xk (ix3 0 r 0) = ((lse (Q r) K : ℝ) : EReal) := by
  obtain ⟨M, hM⟩ := peak_apply H D r
  have hp := shifted_pos (Q r) K (M * Real.log 2)
  unfold logsum
  rw [add1]
  show peak H xq xk (ix2 r 0) + Ideal.div (Ideal.log (sums H xq xk (ix2 r 0))) (Ideal.log (Ideal.ofBits .f32 0x40000000#32)) = _
  rw [hM, sums_apply H D r hM, coe_log _ hp, log_two, coe_div _ _ log2_pos.ne', ← EReal.coe_add, ← lse_shift (Q r) K (M * Real.log 2)]
  refine congrArg _ ?_
  rw [add_div, mul_div_cancel_right₀ _ log2_pos.ne']

end Cert.Attn.Fwd

end
-- ==== Proof.FwdStores.lean ====
/- Stores of one head's columns, read at an index; and what the forward call's blocks hold. -/
module

public import proofs.«01_k».proof.Proof.Stores
public import proofs.«01_k».proof.Proof.FwdHeads

@[expose] public section

noncomputable section

namespace Cert.Attn.Fwd

open Idealize.ShloMosaic Idealize.ShloMosaic.ValueIdx

section
variable {Val : EltTy → Type} [∀ e, Nonempty (Val e)] {e : EltTy} {R C n o : ℕ}
  (inb : ∀ a, (![0, o] : Fin 2 → ℕ) a + (![R, n] : Fin 2 → ℕ) a ≤ (⟨2, ![R, C]⟩ : Shape).size a)
  (g : (⟨2, ![R, n]⟩ : Shape).Idx → Val e) (L : List (View.Piece Val ⟨2, ![R, C]⟩ e))

/-- An index under the last store of its own columns reads what that store put there. -/
theorem col_hit (r : Fin R) (k : Fin C) (c : Fin n) (ek : k.val = o + c.val) :
    View.canon (⟨Rect.unit (s := ⟨2, ![R, C]⟩) ![0, o] ![R, n] inb, g⟩ :: L) (ix2 r k) = g (ix2 r c) := by
  have : (ix2 r k : (⟨2, ![R, C]⟩ : Shape).Idx) = (Rect.unit (s := ⟨2, ![R, C]⟩) ![0, o] ![R, n] inb).emb (ix2 r c) :=
    funext fun a => Fin.ext (by
      match a with
      | ⟨0, _⟩ => show r.val = 0 + 1 * r.val; omega
      | ⟨1, _⟩ => show k.val = o + 1 * c.val; omega)
  rw [this]
  exact View.canon_cons_emb (Rect.unit (s := ⟨2, ![R, C]⟩) ![0, o] ![R, n] inb) g L (ix2 r c)

/-- An index left of a store's columns reads what was there before it. -/
theorem col_miss (r : Fin R) (k : Fin C) (hk : k.val < o) :
    View.canon (⟨Rect.unit (s := ⟨2, ![R, C]⟩) ![0, o] ![R, n] inb, g⟩ :: L) (ix2 r k) = View.canon L (ix2 r k) := by
  refine View.canon_cons_of_not_mem _ L ?_
  show ix2 r k ∉ (Rect.unit (s := ⟨2, ![R, C]⟩) ![0, o] ![R, n] inb).set
  rw [Rect.mem_set_unit]
  intro hm
  have h1 : o ≤ k.val ∧ k.val < o + n := hm 1
  omega

end

/-- What the forward call's input blocks hold at a grid point: eight heads, 256 queries, the first `n` keys. -/
structure Block (n : ℕ) (hn : n ≤ 2304) (x0 : FVec Ideal ⟨3, ![8, 256, 96]⟩ .bf16) (x1 : FVec Ideal ⟨3, ![8, 2304, 96]⟩ .bf16)
    (x2 : FVec Ideal ⟨3, ![8, 2304, 64]⟩ .bf16) (Q : Fin 8 → Fin 256 → Fin 96 → ℝ) (K : Fin 8 → Fin n → Fin 96 → ℝ)
    (V : Fin 8 → Fin n → Fin 64 → ℝ) : Prop where
  q : ∀ h r d, x0 (ix3 h r d) = ((Q h r d * unit2 : ℝ) : EReal)
  k : ∀ h (j : Fin n) d, x1 (ix3 h ⟨j.val, by omega⟩ d) = ((K h j d : ℝ) : EReal)
  v : ∀ h (j : Fin n) c, x2 (ix3 h ⟨j.val, by omega⟩ c) = ((V h j c : ℝ) : EReal)

/-- What one head loads from the blocks. -/
theorem Block.head {n : ℕ} [NeZero n] {hn : n ≤ 2304} {x0 x1 x2} {Q : Fin 8 → Fin 256 → Fin 96 → ℝ} {K : Fin 8 → Fin n → Fin 96 → ℝ}
    {V : Fin 8 → Fin n → Fin 64 → ℝ} (D : Block n hn x0 x1 x2 Q K V) (h : Fin 8) {hh : ℕ} (eh : h.val = hh)
    (i0 : ∀ a, (![hh, 0, 0] : Fin 3 → ℕ) a + (![1, 256, 96] : Fin 3 → ℕ) a ≤ (⟨3, ![8, 256, 96]⟩ : Shape).size a)
    (i1 : ∀ a, (![hh, 0, 0] : Fin 3 → ℕ) a + (![1, n, 96] : Fin 3 → ℕ) a ≤ (⟨3, ![8, 2304, 96]⟩ : Shape).size a)
    (i2 : ∀ a, (![hh, 0, 0] : Fin 3 → ℕ) a + (![1, n, 64] : Fin 3 → ℕ) a ≤ (⟨3, ![8, 2304, 64]⟩ : Shape).size a) :
    Holds (View.ld (Val := Elt Ideal) (e' := .bf16) x0 (Rect.unit (s := ⟨3, ![8, 256, 96]⟩) ![hh, 0, 0] ![1, 256, 96] i0))
      (View.ld (Val := Elt Ideal) (e' := .bf16) x1 (Rect.unit (s := ⟨3, ![8, 2304, 96]⟩) ![hh, 0, 0] ![1, n, 96] i1))
      (View.ld (Val := Elt Ideal) (e' := .bf16) x2 (Rect.unit (s := ⟨3, ![8, 2304, 64]⟩) ![hh, 0, 0] ![1, n, 64] i2))
      (Q h) (K h) (V h) where
  q r d := (ld3 (Val := Elt Ideal) (e := .bf16) i0 x0 h eh r r rfl d).trans (D.q h r d)
  k j d := (ld3 (Val := Elt Ideal) (e := .bf16) i1 x1 h eh ⟨j.val, by omega⟩ j rfl d).trans (D.k h j d)
  v j d := (ld3 (Val := Elt Ideal) (e := .bf16) i2 x2 h eh ⟨j.val, by omega⟩ j rfl d).trans (D.v h j d)

end Cert.Attn.Fwd

end
-- ==== Proof.FwdPayloads.lean ====
/- What the forward call stores, head by head: the stored values are `Fwd.out` and `Fwd.logsum` of what the head loads. -/
module

public import proofs.«01_k».proof.Proof.FwdHeads
public import proofs.«01_k».proof.Proof.Gen.ForwardIdeal.Skeleton

@[expose] public section

set_option maxRecDepth 16384

noncomputable section

namespace Cert.Attn.Fwd

open Idealize.ShloMosaic Cert.ForwardIdeal Cert.ForwardIdeal.Gen

/-- The shapes fit together for the context's keys. -/
theorem fits256 : Fits 256 :=
  ⟨shapeCasts_S1x256x96_S256x96, shapeCasts_S1x256x96_S256x96, shapeCasts_S1x256x64_S256x64, shapeCasts_S256x1_S1x256x1,
    reduces_S256x256_S256, shapeCasts_S256_S256x1, broadcasts_S256x1_S256x256, broadcasts_S256x1_S256x64, bitsLt_bf16_f32⟩

/-- The shapes fit together for every key. -/
theorem fits2304 : Fits 2304 :=
  ⟨shapeCasts_S1x256x96_S256x96, shapeCasts_S1x2304x96_S2304x96, shapeCasts_S1x2304x64_S2304x64, shapeCasts_S256x1_S1x256x1,
    reduces_S256x2304_S256, shapeCasts_S256_S256x1, broadcasts_S256x1_S256x2304, broadcasts_S256x1_S256x64, bitsLt_bf16_f32⟩

variable {F : FTy → Type} [FloatOps F]

section

variable (a : Vec F S1x256x96 .bf16) (b : Vec F S1x256x96 .bf16) (v : Vec F S1x256x64 .bf16)

/-- Head 0's output over the context's keys. -/
theorem pay_o_A0 : k0_pay9 a b v = out fits256 a b v := rfl
/-- Head 0's log-sums over the context's keys. -/
theorem pay_l_A0 : k0_pay10 a b = logsum fits256 a b := rfl

/-- Head 1's output over the context's keys. -/
theorem pay_o_A1 : k0_pay15 (k0_pay11 a b) v = out fits256 a b v := rfl
/-- Head 1's log-sums over the context's keys. -/
theorem pay_l_A1 : k0_pay16 (k0_pay11 a b) = logsum fits256 a b := rfl

/-- Head 2's output over the context's keys. -/
theorem pay_o_A2 : k0_pay22 (k0_pay20 a b) (k0_pay21 a b) v = out fits256 a b v := rfl
/-- Head 2's log-sums over the context's keys. -/
theorem pay_l_A2 : k0_pay23 (k0_pay18 a b) (k0_pay20 a b) = logsum fits256 a b := rfl

/-- Head 3's output over the context's keys. -/
theorem pay_o_A3 : k0_pay28 a b v = out fits256 a b v := rfl
/-- Head 3's log-sums over the context's keys. -/
theorem pay_l_A3 : k0_pay30 (k0_pay25 a b) (k0_pay29 a b) = logsum fits256 a b := rfl

/-- Head 4's output over the context's keys. -/
theorem pay_o_A4 : k0_pay35 a b v = out fits256 a b v := rfl
/-- Head 4's log-sums over the context's keys. -/
theorem pay_l_A4 : k0_pay36 a b = logsum fits256 a b := rfl

/-- Head 5's output over the context's keys. -/
theorem pay_o_A5 : k0_pay41 a b v = out fits256 a b v := rfl
/-- Head 5's log-sums over the context's keys. -/
theorem pay_l_A5 : k0_pay42 a b = logsum fits256 a b := rfl

/-- Head 6's output over the context's keys. -/
theorem pay_o_A6 : k0_pay47 (k0_pay43 a b) v = out fits256 a b v := rfl
/-- Head 6's log-sums over the context's keys. -/
theorem pay_l_A6 : k0_pay48 (k0_pay43 a b) = logsum fits256 a b := rfl

/-- Head 7's output over the context's keys. -/
theorem pay_o_A7 : k0_pay1 (k0_pay52 a b) (k0_pay53 a b) v = out fits256 a b v := rfl
/-- Head 7's log-sums over the context's keys. -/
theorem pay_l_A7 : k0_pay2 (k0_pay50 a b) (k0_pay52 a b) = logsum fits256 a b := rfl

end

section

variable (a : Vec F S1x256x96 .bf16) (b : Vec F S1x2304x96 .bf16) (v : Vec F S1x2304x64 .bf16)

/-- Head 0's output over every key. -/
theorem pay_o_B0 : k0_pay58 a b v = out fits2304 a b v := rfl
/-- Head 0's log-sums over every key. -/
theorem pay_l_B0 : k0_pay59 a b = logsum fits2304 a b := rfl

/-- Head 1's output over every key. -/
theorem pay_o_B1 : k0_pay64 (k0_pay60 a b) v = out fits2304 a b v := rfl
/-- Head 1's log-sums over every key. -/
theorem pay_l_B1 : k0_pay65 (k0_pay60 a b) = logsum fits2304 a b := rfl

/-- Head 2's output over every key. -/
theorem pay_o_B2 : k0_pay71 (k0_pay69 a b) (k0_pay70 a b) v = out fits2304 a b v := rfl
/-- Head 2's log-sums over every key. -/
theorem pay_l_B2 : k0_pay72 (k0_pay67 a b) (k0_pay69 a b) = logsum fits2304 a b := rfl

/-- Head 3's output over every key. -/
theorem pay_o_B3 : k0_pay77 a b v = out fits2304 a b v := rfl
/-- Head 3's log-sums over every key. -/
theorem pay_l_B3 : k0_pay79 (k0_pay74 a b) (k0_pay78 a b) = logsum fits2304 a b := rfl

/-- Head 4's output over every key. -/
theorem pay_o_B4 : k0_pay84 a b v = out fits2304 a b v := rfl
/-- Head 4's log-sums over every key. -/
theorem pay_l_B4 : k0_pay85 a b = logsum fits2304 a b := rfl

/-- Head 5's output over every key. -/
theorem pay_o_B5 : k0_pay90 a b v = out fits2304 a b v := rfl
/-- Head 5's log-sums over every key. -/
theorem pay_l_B5 : k0_pay91 a b = logsum fits2304 a b := rfl

/-- Head 6's output over every key. -/
theorem pay_o_B6 : k0_pay96 (k0_pay92 a b) v = out fits2304 a b v := rfl
/-- Head 6's log-sums over every key. -/
theorem pay_l_B6 : k0_pay97 (k0_pay92 a b) = logsum fits2304 a b := rfl

/-- Head 7's output over every key. -/
theorem pay_o_B7 : k0_pay3 (k0_pay101 a b) (k0_pay102 a b) v = out fits2304 a b v := rfl
/-- Head 7's log-sums over every key. -/
theorem pay_l_B7 : k0_pay4 (k0_pay99 a b) (k0_pay101 a b) = logsum fits2304 a b := rfl

end

end Cert.Attn.Fwd

end
-- ==== Proof.FwdPointA.lean ====
/- What one grid point of the forward call leaves, for context queries (the first grid point of a group of heads). -/
module

public import proofs.«01_k».proof.Proof.FwdStores
public import proofs.«01_k».proof.Proof.FwdPayloads
public import proofs.«01_k».proof.Proof.Gen.ForwardIdeal.Frame
public import Idealize.ShloMosaic.Lib.Tactic

@[expose] public section

set_option maxRecDepth 16384

noncomputable section

namespace Cert.Attn.Fwd

open Idealize.ShloMosaic Idealize.ShloMosaic.TcCoe Idealize.ShloMosaic.ValueIdx Cert.ForwardIdeal Cert.ForwardIdeal.Gen

variable (c : Dev nD) (i : grid0.Coords) (arg2 : Memref sig .tc .vmem S8x256x96 .bf16) (harg2 : arg2.IsWhole) (arg3 : Memref sig .tc .vmem S8x2304x96 .bf16) (harg3 : arg3.IsWhole)
  (arg4 : Memref sig .tc .vmem S8x2304x64 .bf16) (harg4 : arg4.IsWhole) (arg5 : Memref sig .tc .vmem S256x512 .f32) (harg5 : arg5.IsWhole) (arg6 : Memref sig .tc .vmem S8x256x1 .f32) (harg6 : arg6.IsWhole)
  (hc0 : cond0_0 i) (hc1 : ¬cond0_1 i)
  {x0 : FVec Ideal S8x256x96 .bf16} {x1 : FVec Ideal S8x2304x96 .bf16} {x2 : FVec Ideal S8x2304x64 .bf16}
  {Q : Fin 8 → Fin 256 → Fin 96 → ℝ} {K : Fin 8 → Fin 256 → Fin 96 → ℝ} {V : Fin 8 → Fin 256 → Fin 64 → ℝ}
  (D : Block 256 le_ctx x0 x1 x2 Q K V)
include D

/-- The block's output. -/
theorem out_o_A (h : Fin 8) (r : Fin 256) (e : Fin 64) (k : Fin 512) (ek : k.val = h.val * 64 + e.val) :
    out0_A_3 (F := Ideal) c i arg2 harg2 arg3 harg3 arg4 harg4 arg5 harg5 arg6 harg6 hc0 hc1 x0 x1 x2 (ix2 r k) = ((outRow (Q h r) (K h) (V h) e : ℝ) : EReal) := by
  unfold out0_A_3
  rw [View.read_writes_junk_eq_canon]
  unfold kernelRun0_A
  dsimp only
  sl_unfold_words
  simp only [View.readAt_eq_ld, harg2.read_unread, harg3.read_unread, harg4.read_unread, harg5.read_unread, harg6.read_unread]
  obtain eh | eh | eh | eh | eh | eh | eh | eh : h.val = 0 ∨ h.val = 1 ∨ h.val = 2 ∨ h.val = 3 ∨ h.val = 4 ∨ h.val = 5 ∨ h.val = 6 ∨ h.val = 7 := by omega
  · refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_A0 ..) _).trans ?_
    exact out_apply fits256 (D.head h eh inb_S8x256x96_S1x256x96_0_0_0 inb_S8x2304x96_S1x256x96_0_0_0 inb_S8x2304x64_S1x256x64_0_0_0) r e
  · refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_A1 ..) _).trans ?_
    exact out_apply fits256 (D.head h eh inb_S8x256x96_S1x256x96_1_0_0 inb_S8x2304x96_S1x256x96_1_0_0 inb_S8x2304x64_S1x256x64_1_0_0) r e
  · refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_A2 ..) _).trans ?_
    exact out_apply fits256 (D.head h eh inb_S8x256x96_S1x256x96_2_0_0 inb_S8x2304x96_S1x256x96_2_0_0 inb_S8x2304x64_S1x256x64_2_0_0) r e
  · refine (col_miss _ _ _ r k (by omega)).trans ?_
    refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_A3 ..) _).trans ?_
    exact out_apply fits256 (D.head h eh inb_S8x256x96_S1x256x96_3_0_0 inb_S8x2304x96_S1x256x96_3_0_0 inb_S8x2304x64_S1x256x64_3_0_0) r e
  · refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_A4 ..) _).trans ?_
    exact out_apply fits256 (D.head h eh inb_S8x256x96_S1x256x96_4_0_0 inb_S8x2304x96_S1x256x96_4_0_0 inb_S8x2304x64_S1x256x64_4_0_0) r e
  · refine (col_miss _ _ _ r k (by omega)).trans ?_
    refine (col_miss _ _ _ r k (by omega)).trans ?_
    refine (col_hit _ _ _ r k e (by omega)).trans ?_
    refine (congrFun (pay_o_A5 ..) _).trans ?_
    exact out_apply fits256 (D.head h eh inb_S8x256x96_S1x256x96_5_0_0 inb_S8x2304x96_S1x256x96_5_0_0 inb_S8x2304x64_S1x256x64_5_0_0) r e
  · refine (col_miss _ _ _ r k (by omega)).trans ?_
    refine (col_hit _ _ _ r k e (by omega)).trans ?_
    refine (congrFun (pay_o_A6 ..) _).trans ?_
    exact out_apply fits256 (D.head h eh inb_S8x256x96_S1x256x96_6_0_0 inb_S8x2304x96_S1x256x96_6_0_0 inb_S8x2304x64_S1x256x64_6_0_0) r e
  · refine (col_hit _ _ _ r k e (by omega)).trans ?_
    refine (congrFun (pay_o_A7 ..) _).trans ?_
    exact out_apply fits256 (D.head h eh inb_S8x256x96_S1x256x96_7_0_0 inb_S8x2304x96_S1x256x96_7_0_0 inb_S8x2304x64_S1x256x64_7_0_0) r e

/-- The block's log-sums. -/
theorem out_l_A (h : Fin 8) (r : Fin 256) (z : Fin 1) :
    out0_A_4 (F := Ideal) c i arg2 harg2 arg3 harg3 arg4 harg4 arg5 harg5 arg6 harg6 hc0 hc1 x0 x1 x2 (ix3 h r z) = ((lse (Q h r) (K h) : ℝ) : EReal) := by
  obtain rfl : z = 0 := Subsingleton.elim _ _
  unfold out0_A_4
  rw [View.read_writes_junk_eq_canon]
  unfold kernelRun0_A
  dsimp only
  sl_unfold_words
  simp only [View.readAt_eq_ld, harg2.read_unread, harg3.read_unread, harg4.read_unread, harg5.read_unread, harg6.read_unread]
  obtain eh | eh | eh | eh | eh | eh | eh | eh : h.val = 0 ∨ h.val = 1 ∨ h.val = 2 ∨ h.val = 3 ∨ h.val = 4 ∨ h.val = 5 ∨ h.val = 6 ∨ h.val = 7 := by omega
  · refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_A0 ..) _).trans ?_
    exact logsum_apply fits256 (D.head h eh inb_S8x256x96_S1x256x96_0_0_0 inb_S8x2304x96_S1x256x96_0_0_0 inb_S8x2304x64_S1x256x64_0_0_0) r
  · refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_A1 ..) _).trans ?_
    exact logsum_apply fits256 (D.head h eh inb_S8x256x96_S1x256x96_1_0_0 inb_S8x2304x96_S1x256x96_1_0_0 inb_S8x2304x64_S1x256x64_1_0_0) r
  · refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_A2 ..) _).trans ?_
    exact logsum_apply fits256 (D.head h eh inb_S8x256x96_S1x256x96_2_0_0 inb_S8x2304x96_S1x256x96_2_0_0 inb_S8x2304x64_S1x256x64_2_0_0) r
  · refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_A3 ..) _).trans ?_
    exact logsum_apply fits256 (D.head h eh inb_S8x256x96_S1x256x96_3_0_0 inb_S8x2304x96_S1x256x96_3_0_0 inb_S8x2304x64_S1x256x64_3_0_0) r
  · refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_A4 ..) _).trans ?_
    exact logsum_apply fits256 (D.head h eh inb_S8x256x96_S1x256x96_4_0_0 inb_S8x2304x96_S1x256x96_4_0_0 inb_S8x2304x64_S1x256x64_4_0_0) r
  · refine (canon_miss _ _ _ h r 0 (.inl (by omega))).trans ?_
    refine (canon_miss _ _ _ h r 0 (.inl (by omega))).trans ?_
    refine (canon_hit _ _ _ h eh r r rfl 0).trans ?_
    refine (congrFun (pay_l_A5 ..) _).trans ?_
    exact logsum_apply fits256 (D.head h eh inb_S8x256x96_S1x256x96_5_0_0 inb_S8x2304x96_S1x256x96_5_0_0 inb_S8x2304x64_S1x256x64_5_0_0) r
  · refine (canon_miss _ _ _ h r 0 (.inl (by omega))).trans ?_
    refine (canon_hit _ _ _ h eh r r rfl 0).trans ?_
    refine (congrFun (pay_l_A6 ..) _).trans ?_
    exact logsum_apply fits256 (D.head h eh inb_S8x256x96_S1x256x96_6_0_0 inb_S8x2304x96_S1x256x96_6_0_0 inb_S8x2304x64_S1x256x64_6_0_0) r
  · refine (canon_hit _ _ _ h eh r r rfl 0).trans ?_
    refine (congrFun (pay_l_A7 ..) _).trans ?_
    exact logsum_apply fits256 (D.head h eh inb_S8x256x96_S1x256x96_7_0_0 inb_S8x2304x96_S1x256x96_7_0_0 inb_S8x2304x64_S1x256x64_7_0_0) r

end Cert.Attn.Fwd

end
-- ==== Proof.FwdPointB.lean ====
/- What one grid point of the forward call leaves, for latent queries (every later grid point). -/
module

public import proofs.«01_k».proof.Proof.FwdStores
public import proofs.«01_k».proof.Proof.FwdPayloads
public import proofs.«01_k».proof.Proof.Gen.ForwardIdeal.Frame
public import Idealize.ShloMosaic.Lib.Tactic

@[expose] public section

set_option maxRecDepth 16384

noncomputable section

namespace Cert.Attn.Fwd

open Idealize.ShloMosaic Idealize.ShloMosaic.TcCoe Idealize.ShloMosaic.ValueIdx Cert.ForwardIdeal Cert.ForwardIdeal.Gen

variable (c : Dev nD) (i : grid0.Coords) (arg2 : Memref sig .tc .vmem S8x256x96 .bf16) (harg2 : arg2.IsWhole) (arg3 : Memref sig .tc .vmem S8x2304x96 .bf16) (harg3 : arg3.IsWhole)
  (arg4 : Memref sig .tc .vmem S8x2304x64 .bf16) (harg4 : arg4.IsWhole) (arg5 : Memref sig .tc .vmem S256x512 .f32) (harg5 : arg5.IsWhole) (arg6 : Memref sig .tc .vmem S8x256x1 .f32) (harg6 : arg6.IsWhole)
  (hc0 : ¬cond0_0 i) (hc1 : cond0_1 i)
  {x0 : FVec Ideal S8x256x96 .bf16} {x1 : FVec Ideal S8x2304x96 .bf16} {x2 : FVec Ideal S8x2304x64 .bf16}
  {Q : Fin 8 → Fin 256 → Fin 96 → ℝ} {K : Fin 8 → Fin 2304 → Fin 96 → ℝ} {V : Fin 8 → Fin 2304 → Fin 64 → ℝ}
  (D : Block 2304 le_all x0 x1 x2 Q K V)
include D

/-- The block's output. -/
theorem out_o_B (h : Fin 8) (r : Fin 256) (e : Fin 64) (k : Fin 512) (ek : k.val = h.val * 64 + e.val) :
    out0_B_3 (F := Ideal) c i arg2 harg2 arg3 harg3 arg4 harg4 arg5 harg5 arg6 harg6 hc0 hc1 x0 x1 x2 (ix2 r k) = ((outRow (Q h r) (K h) (V h) e : ℝ) : EReal) := by
  unfold out0_B_3
  rw [View.read_writes_junk_eq_canon]
  unfold kernelRun0_B
  dsimp only
  sl_unfold_words
  simp only [View.readAt_eq_ld, harg2.read_unread, harg3.read_unread, harg4.read_unread, harg5.read_unread, harg6.read_unread]
  obtain eh | eh | eh | eh | eh | eh | eh | eh : h.val = 0 ∨ h.val = 1 ∨ h.val = 2 ∨ h.val = 3 ∨ h.val = 4 ∨ h.val = 5 ∨ h.val = 6 ∨ h.val = 7 := by omega
  · refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_B0 ..) _).trans ?_
    exact out_apply fits2304 (D.head h eh inb_S8x256x96_S1x256x96_0_0_0 inb_S8x2304x96_S1x2304x96_0_0_0 inb_S8x2304x64_S1x2304x64_0_0_0) r e
  · refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_B1 ..) _).trans ?_
    exact out_apply fits2304 (D.head h eh inb_S8x256x96_S1x256x96_1_0_0 inb_S8x2304x96_S1x2304x96_1_0_0 inb_S8x2304x64_S1x2304x64_1_0_0) r e
  · refine (col_miss _ _ _ r k (by omega)).trans ?_
    refine (col_miss _ _ _ r k (by omega)).trans ?_
    refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_B2 ..) _).trans ?_
    exact out_apply fits2304 (D.head h eh inb_S8x256x96_S1x256x96_2_0_0 inb_S8x2304x96_S1x2304x96_2_0_0 inb_S8x2304x64_S1x2304x64_2_0_0) r e
  · refine (col_miss _ _ _ r k (by omega)).trans ?_
    refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_B3 ..) _).trans ?_
    exact out_apply fits2304 (D.head h eh inb_S8x256x96_S1x256x96_3_0_0 inb_S8x2304x96_S1x2304x96_3_0_0 inb_S8x2304x64_S1x2304x64_3_0_0) r e
  · refine (col_miss _ _ _ r k (by omega)).trans ?_
    refine (col_miss _ _ _ r k (by omega)).trans ?_
    refine (col_miss _ _ _ r k (by omega)).trans ?_
    refine (col_hit _ _ _ r k e (by omega)).trans ?_
    refine (congrFun (pay_o_B4 ..) _).trans ?_
    exact out_apply fits2304 (D.head h eh inb_S8x256x96_S1x256x96_4_0_0 inb_S8x2304x96_S1x2304x96_4_0_0 inb_S8x2304x64_S1x2304x64_4_0_0) r e
  · refine (col_miss _ _ _ r k (by omega)).trans ?_
    refine (col_miss _ _ _ r k (by omega)).trans ?_
    refine (col_hit _ _ _ r k e (by omega)).trans ?_
    refine (congrFun (pay_o_B5 ..) _).trans ?_
    exact out_apply fits2304 (D.head h eh inb_S8x256x96_S1x256x96_5_0_0 inb_S8x2304x96_S1x2304x96_5_0_0 inb_S8x2304x64_S1x2304x64_5_0_0) r e
  · refine (col_miss _ _ _ r k (by omega)).trans ?_
    refine (col_hit _ _ _ r k e (by omega)).trans ?_
    refine (congrFun (pay_o_B6 ..) _).trans ?_
    exact out_apply fits2304 (D.head h eh inb_S8x256x96_S1x256x96_6_0_0 inb_S8x2304x96_S1x2304x96_6_0_0 inb_S8x2304x64_S1x2304x64_6_0_0) r e
  · refine (col_hit _ _ _ r k e (by omega)).trans ?_
    refine (congrFun (pay_o_B7 ..) _).trans ?_
    exact out_apply fits2304 (D.head h eh inb_S8x256x96_S1x256x96_7_0_0 inb_S8x2304x96_S1x2304x96_7_0_0 inb_S8x2304x64_S1x2304x64_7_0_0) r e

/-- The block's log-sums. -/
theorem out_l_B (h : Fin 8) (r : Fin 256) (z : Fin 1) :
    out0_B_4 (F := Ideal) c i arg2 harg2 arg3 harg3 arg4 harg4 arg5 harg5 arg6 harg6 hc0 hc1 x0 x1 x2 (ix3 h r z) = ((lse (Q h r) (K h) : ℝ) : EReal) := by
  obtain rfl : z = 0 := Subsingleton.elim _ _
  unfold out0_B_4
  rw [View.read_writes_junk_eq_canon]
  unfold kernelRun0_B
  dsimp only
  sl_unfold_words
  simp only [View.readAt_eq_ld, harg2.read_unread, harg3.read_unread, harg4.read_unread, harg5.read_unread, harg6.read_unread]
  obtain eh | eh | eh | eh | eh | eh | eh | eh : h.val = 0 ∨ h.val = 1 ∨ h.val = 2 ∨ h.val = 3 ∨ h.val = 4 ∨ h.val = 5 ∨ h.val = 6 ∨ h.val = 7 := by omega
  · refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_B0 ..) _).trans ?_
    exact logsum_apply fits2304 (D.head h eh inb_S8x256x96_S1x256x96_0_0_0 inb_S8x2304x96_S1x2304x96_0_0_0 inb_S8x2304x64_S1x2304x64_0_0_0) r
  · refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_B1 ..) _).trans ?_
    exact logsum_apply fits2304 (D.head h eh inb_S8x256x96_S1x256x96_1_0_0 inb_S8x2304x96_S1x2304x96_1_0_0 inb_S8x2304x64_S1x2304x64_1_0_0) r
  · refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_B2 ..) _).trans ?_
    exact logsum_apply fits2304 (D.head h eh inb_S8x256x96_S1x256x96_2_0_0 inb_S8x2304x96_S1x2304x96_2_0_0 inb_S8x2304x64_S1x2304x64_2_0_0) r
  · refine (canon_miss _ _ _ h r 0 (.inl (by omega))).trans ?_
    refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_B3 ..) _).trans ?_
    exact logsum_apply fits2304 (D.head h eh inb_S8x256x96_S1x256x96_3_0_0 inb_S8x2304x96_S1x2304x96_3_0_0 inb_S8x2304x64_S1x2304x64_3_0_0) r
  · refine (canon_miss _ _ _ h r 0 (.inl (by omega))).trans ?_
    refine (canon_miss _ _ _ h r 0 (.inl (by omega))).trans ?_
    refine (canon_miss _ _ _ h r 0 (.inl (by omega))).trans ?_
    refine (canon_hit _ _ _ h eh r r rfl 0).trans ?_
    refine (congrFun (pay_l_B4 ..) _).trans ?_
    exact logsum_apply fits2304 (D.head h eh inb_S8x256x96_S1x256x96_4_0_0 inb_S8x2304x96_S1x2304x96_4_0_0 inb_S8x2304x64_S1x2304x64_4_0_0) r
  · refine (canon_miss _ _ _ h r 0 (.inl (by omega))).trans ?_
    refine (canon_miss _ _ _ h r 0 (.inl (by omega))).trans ?_
    refine (canon_hit _ _ _ h eh r r rfl 0).trans ?_
    refine (congrFun (pay_l_B5 ..) _).trans ?_
    exact logsum_apply fits2304 (D.head h eh inb_S8x256x96_S1x256x96_5_0_0 inb_S8x2304x96_S1x2304x96_5_0_0 inb_S8x2304x64_S1x2304x64_5_0_0) r
  · refine (canon_miss _ _ _ h r 0 (.inl (by omega))).trans ?_
    refine (canon_hit _ _ _ h eh r r rfl 0).trans ?_
    refine (congrFun (pay_l_B6 ..) _).trans ?_
    exact logsum_apply fits2304 (D.head h eh inb_S8x256x96_S1x256x96_6_0_0 inb_S8x2304x96_S1x2304x96_6_0_0 inb_S8x2304x64_S1x2304x64_6_0_0) r
  · refine (canon_hit _ _ _ h eh r r rfl 0).trans ?_
    refine (congrFun (pay_l_B7 ..) _).trans ?_
    exact logsum_apply fits2304 (D.head h eh inb_S8x256x96_S1x256x96_7_0_0 inb_S8x2304x96_S1x2304x96_7_0_0 inb_S8x2304x64_S1x2304x64_7_0_0) r

end Cert.Attn.Fwd

end
-- ==== Proof.FwdBlocks.lean ====
/- What the windows of the forward call's grid points read and write, in terms of the arguments. -/
module

public import proofs.«01_k».proof.Proof.FwdPointA
public import proofs.«01_k».proof.Proof.FwdPointB
public import proofs.«01_k».proof.Proof.Gen.ForwardIdeal.Value
public import Idealize.ShloMosaic.Lib.StableHlo.Run
public import Idealize.ShloMosaic.Lib.StableHlo.RunClose

@[expose] public section

set_option maxRecDepth 16384

noncomputable section

namespace Cert.Attn.Fwd

open Idealize.ShloMosaic Idealize.ShloMosaic.TcCoe Idealize.ShloMosaic.ValueIdx Cert.ForwardIdeal Cert.ForwardIdeal.Gen

/-- The head that a grid point's local head `h` is. -/
def hd (t : Fin cfg0.N) (h : Fin 8) : Fin 16 := ⟨t.val / 9 * 8 + h.val, by have := t.isLt; have : cfg0.N = 18 := N_0; omega⟩
/-- The token that a grid point's local row `r` is. -/
def tok (t : Fin cfg0.N) (r : Fin 256) : Fin 2304 := ⟨t.val % 9 * 256 + r.val, by omega⟩

/-- Window 0's block at a grid point. -/
theorem index_0 : ∀ t : Fin cfg0.N, win0_0.index t 0 = t.val / 9 ∧ win0_0.index t 1 = t.val % 9 ∧ win0_0.index t 2 = 0 := by decide +kernel
/-- Window 1's block at a grid point. -/
theorem index_1 : ∀ t : Fin cfg0.N, win0_1.index t 0 = t.val / 9 ∧ win0_1.index t 1 = 0 ∧ win0_1.index t 2 = 0 := by decide +kernel
/-- Window 2's block at a grid point. -/
theorem index_2 : ∀ t : Fin cfg0.N, win0_2.index t 0 = t.val / 9 ∧ win0_2.index t 1 = 0 ∧ win0_2.index t 2 = 0 := by decide +kernel
/-- Window 3's block at a grid point. -/
theorem index_3 : ∀ t : Fin cfg0.N, win0_3.index t 0 = t.val % 9 ∧ win0_3.index t 1 = t.val / 9 := by decide +kernel
/-- Window 4's block at a grid point. -/
theorem index_4 : ∀ t : Fin cfg0.N, win0_4.index t 0 = t.val / 9 ∧ win0_4.index t 1 = t.val % 9 ∧ win0_4.index t 2 = 0 := by decide +kernel

section

variable {F : FTy → Type} [FloatOps F] (m : (ℓ : Loc nD τ sig) → Buf (Elt F) ℓ) (c : Dev nD)

set_option maxHeartbeats 4000000 in
/-- The keys, narrowed. -/
theorem host_k : V m c main_v8 = truncf .bf16 (m ((c : Thread nD τ).loc main_arg1)) bitsLt_bf16_f32 := by
  dsimp only [V, hostOps0]
  after_results_simp

set_option maxHeartbeats 4000000 in
/-- The values, narrowed. -/
theorem host_v : V m c main_v9 = truncf .bf16 (m ((c : Thread nD τ).loc main_arg2)) bitsLt_bf16_f32 := by
  dsimp only [V, hostOps0]
  after_results_simp

set_option maxHeartbeats 4000000 in
/-- The queries, scaled and narrowed. -/
theorem host_q : V m c main_v7 = truncf .bf16 (mulf (m ((c : Thread nD τ).loc main_arg0))
    (broadcastInDim S16x2304x96 ![] bcast_S_S16x2304x96
      (mulf (Host.divf (constant S_ .f32 0x3F800000#32) (Host.sqrt (constant S_ .f32 0x42C00000#32)))
        (Host.divf (constant S_ .f32 0x3F800000#32) (Host.log (constant S_ .f32 0x40000000#32)))))) bitsLt_bf16_f32 := by
  dsimp only [V, hostOps0]
  after_results_simp

end

variable (m : (ℓ : Loc nD τ sig) → Buf (Elt Ideal) ℓ) (c : Dev nD) (t : Fin cfg0.N)

/-- What input window 0 reads. -/
theorem read_0 (h : Fin 8) (r : Fin 256) (d : Fin 96) :
    (iblk m c 0 t : FVec Ideal S8x256x96 .bf16) (ix3 h r d) = (V m c main_v7) (ix3 (hd t h) (tok t r) d) := by
  have hi := index_0 t
  unfold iblk
  rw [View.read_apply]
  show (V m c main_v7) _ = (V m c main_v7) _
  refine congrArg _ (funext fun a => Fin.ext ?_)
  match a with
  | ⟨0, _⟩ => show win0_0.index t 0 * 8 + 1 * h.val = t.val / 9 * 8 + h.val; rw [hi.1]; omega
  | ⟨1, _⟩ => show win0_0.index t 1 * 256 + 1 * r.val = t.val % 9 * 256 + r.val; rw [hi.2.1]; omega
  | ⟨2, _⟩ => show win0_0.index t 2 * 96 + 1 * d.val = d.val; rw [hi.2.2]; omega

/-- What input window 1 reads. -/
theorem read_1 (h : Fin 8) (r : Fin 2304) (d : Fin 96) :
    (iblk m c 1 t : FVec Ideal S8x2304x96 .bf16) (ix3 h r d) = (V m c main_v8) (ix3 (hd t h) r d) := by
  have hi := index_1 t
  unfold iblk
  rw [View.read_apply]
  show (V m c main_v8) _ = (V m c main_v8) _
  refine congrArg _ (funext fun a => Fin.ext ?_)
  match a with
  | ⟨0, _⟩ => show win0_1.index t 0 * 8 + 1 * h.val = t.val / 9 * 8 + h.val; rw [hi.1]; omega
  | ⟨1, _⟩ => show win0_1.index t 1 * 2304 + 1 * r.val = r.val; rw [hi.2.1]; omega
  | ⟨2, _⟩ => show win0_1.index t 2 * 96 + 1 * d.val = d.val; rw [hi.2.2]; omega

/-- What input window 2 reads. -/
theorem read_2 (h : Fin 8) (r : Fin 2304) (d : Fin 64) :
    (iblk m c 2 t : FVec Ideal S8x2304x64 .bf16) (ix3 h r d) = (V m c main_v9) (ix3 (hd t h) r d) := by
  have hi := index_2 t
  unfold iblk
  rw [View.read_apply]
  show (V m c main_v9) _ = (V m c main_v9) _
  refine congrArg _ (funext fun a => Fin.ext ?_)
  match a with
  | ⟨0, _⟩ => show win0_2.index t 0 * 8 + 1 * h.val = t.val / 9 * 8 + h.val; rw [hi.1]; omega
  | ⟨1, _⟩ => show win0_2.index t 1 * 2304 + 1 * r.val = r.val; rw [hi.2.1]; omega
  | ⟨2, _⟩ => show win0_2.index t 2 * 64 + 1 * d.val = d.val; rw [hi.2.2]; omega

/-- What the host hands to the forward call: queries in base-two units, keys and values. -/
structure Handed (q k : Fin 16 → Fin 2304 → Fin 96 → ℝ) (v : Fin 16 → Fin 2304 → Fin 64 → ℝ) : Prop where
  hq : ∀ h t d, (V m c main_v7) (ix3 h t d) = ((q h t d * unit2 : ℝ) : EReal)
  hk : ∀ h t d, (V m c main_v8) (ix3 h t d) = ((k h t d : ℝ) : EReal)
  hv : ∀ h t d, (V m c main_v9) (ix3 h t d) = ((v h t d : ℝ) : EReal)

variable {m c}
variable {q k : Fin 16 → Fin 2304 → Fin 96 → ℝ} {v : Fin 16 → Fin 2304 → Fin 64 → ℝ}

/-- For real arguments the host hands over real arrays. -/
theorem handed (e0 : m ((c : Thread nD τ).loc main_arg0) = arr3 q) (e1 : m ((c : Thread nD τ).loc main_arg1) = arr3 k)
    (e2 : m ((c : Thread nD τ).loc main_arg2) = arr3 v) : Handed m c q k v where
  hq h t d := by
    rw [host_q, e0]
    show (q h t d : EReal) * (Ideal.div (Ideal.ofBits .f32 0x3F800000#32) (Ideal.sqrt (Ideal.ofBits .f32 0x42C00000#32))
      * Ideal.div (Ideal.ofBits .f32 0x3F800000#32) (Ideal.log (Ideal.ofBits .f32 0x40000000#32))) = _
    rw [word_1, sqrt_96, log_two, coe_div _ _ sqrt96_pos.ne', coe_div _ _ log2_pos.ne', ← EReal.coe_mul, ← EReal.coe_mul]
    rfl
  hk h t d := by rw [host_k, e1]; rfl
  hv h t d := by rw [host_v, e2]; rfl

/-- The blocks of a grid point whose queries are context tokens. -/
theorem Handed.block_A (A : Handed m c q k v) :
    Block 256 le_ctx (iblk m c 0 t) (iblk m c 1 t) (iblk m c 2 t)
      (fun h r => q (hd t h) (tok t r)) (fun h => ctx (k (hd t h))) (fun h => ctx (v (hd t h))) where
  q h r d := (read_0 m c t h r d).trans (A.hq _ _ _)
  k h j d := (read_1 m c t h _ d).trans (A.hk _ _ _)
  v h j d := (read_2 m c t h _ d).trans (A.hv _ _ _)

/-- The blocks of a grid point whose queries are latent tokens. -/
theorem Handed.block_B (A : Handed m c q k v) :
    Block 2304 le_all (iblk m c 0 t) (iblk m c 1 t) (iblk m c 2 t)
      (fun h r => q (hd t h) (tok t r)) (fun h => k (hd t h)) (fun h => v (hd t h)) where
  q h r d := (read_0 m c t h r d).trans (A.hq _ _ _)
  k h j d := (read_1 m c t h _ d).trans (A.hk _ _ _)
  v h j d := (read_2 m c t h _ d).trans (A.hv _ _ _)

/-- A context grid point leaves the specified outputs. -/
theorem point_o_A (A : Handed m c q k v) (h0 : t.val % 9 = 0) (h : Fin 8) (r : Fin 256) (e : Fin 64) (x : Fin 512) (ex : x.val = h.val * 64 + e.val) :
    (outsAt0 m c t.val t.isLt).1 (ix2 r x) = ((outSpec q k v (hd t h) (tok t r) e : ℝ) : EReal) := by
  have h1 : ¬1 ≤ t.val % 9 := by omega
  refine (congrFun (congrArg (fun p => p.1) (outsAt0_A m c t h0 h1)) (ix2 r x)).trans ?_
  have D := A.block_A t
  generalize iblk m c 0 t = x0 at D ⊢
  generalize iblk m c 1 t = x1 at D ⊢
  generalize iblk m c 2 t = x2 at D ⊢
  have w := @out_o_A c (grid0.coords t) (ms0_0 t) (hs0_0 t) (ms0_1 t) (hs0_1 t) (ms0_2 t) (hs0_2 t) (ms0_3 t) (hs0_3 t) (ms0_4 t) (hs0_4 t)
    ((hcond0_0 t).mpr h0) (fun h => h1 ((hcond0_1 t).mp h)) x0 x1 x2 _ _ _ D h r e x ex
  unfold outSpec
  rw [if_pos (show (tok t r).val < 256 from by show t.val % 9 * 256 + r.val < 256; omega)]
  dsimp only
  exact w

/-- A latent grid point leaves the specified outputs. -/
theorem point_o_B (A : Handed m c q k v) (h0 : ¬t.val % 9 = 0) (h : Fin 8) (r : Fin 256) (e : Fin 64) (x : Fin 512) (ex : x.val = h.val * 64 + e.val) :
    (outsAt0 m c t.val t.isLt).1 (ix2 r x) = ((outSpec q k v (hd t h) (tok t r) e : ℝ) : EReal) := by
  have h1 : 1 ≤ t.val % 9 := by omega
  refine (congrFun (congrArg (fun p => p.1) (outsAt0_B m c t h0 h1)) (ix2 r x)).trans ?_
  have D := A.block_B t
  generalize iblk m c 0 t = x0 at D ⊢
  generalize iblk m c 1 t = x1 at D ⊢
  generalize iblk m c 2 t = x2 at D ⊢
  have w := @out_o_B c (grid0.coords t) (ms0_0 t) (hs0_0 t) (ms0_1 t) (hs0_1 t) (ms0_2 t) (hs0_2 t) (ms0_3 t) (hs0_3 t) (ms0_4 t) (hs0_4 t)
    (fun h => h0 ((hcond0_0 t).mp h)) ((hcond0_1 t).mpr h1) x0 x1 x2 _ _ _ D h r e x ex
  unfold outSpec
  rw [if_neg (show ¬(tok t r).val < 256 from by show ¬(t.val % 9 * 256 + r.val < 256); omega)]
  dsimp only
  exact w

/-- A context grid point leaves the specified log-sums. -/
theorem point_l_A (A : Handed m c q k v) (h0 : t.val % 9 = 0) (h : Fin 8) (r : Fin 256) (z : Fin 1) :
    (outsAt0 m c t.val t.isLt).2 (ix3 h r z) = ((lseSpec q k (hd t h) (tok t r) : ℝ) : EReal) := by
  have h1 : ¬1 ≤ t.val % 9 := by omega
  refine (congrFun (congrArg (fun p => p.2) (outsAt0_A m c t h0 h1)) (ix3 h r z)).trans ?_
  have D := A.block_A t
  generalize iblk m c 0 t = x0 at D ⊢
  generalize iblk m c 1 t = x1 at D ⊢
  generalize iblk m c 2 t = x2 at D ⊢
  have w := @out_l_A c (grid0.coords t) (ms0_0 t) (hs0_0 t) (ms0_1 t) (hs0_1 t) (ms0_2 t) (hs0_2 t) (ms0_3 t) (hs0_3 t) (ms0_4 t) (hs0_4 t)
    ((hcond0_0 t).mpr h0) (fun h => h1 ((hcond0_1 t).mp h)) x0 x1 x2 _ _ _ D h r z
  unfold lseSpec
  rw [if_pos (show (tok t r).val < 256 from by show t.val % 9 * 256 + r.val < 256; omega)]
  dsimp only
  exact w

/-- A latent grid point leaves the specified log-sums. -/
theorem point_l_B (A : Handed m c q k v) (h0 : ¬t.val % 9 = 0) (h : Fin 8) (r : Fin 256) (z : Fin 1) :
    (outsAt0 m c t.val t.isLt).2 (ix3 h r z) = ((lseSpec q k (hd t h) (tok t r) : ℝ) : EReal) := by
  have h1 : 1 ≤ t.val % 9 := by omega
  refine (congrFun (congrArg (fun p => p.2) (outsAt0_B m c t h0 h1)) (ix3 h r z)).trans ?_
  have D := A.block_B t
  generalize iblk m c 0 t = x0 at D ⊢
  generalize iblk m c 1 t = x1 at D ⊢
  generalize iblk m c 2 t = x2 at D ⊢
  have w := @out_l_B c (grid0.coords t) (ms0_0 t) (hs0_0 t) (ms0_1 t) (hs0_1 t) (ms0_2 t) (hs0_2 t) (ms0_3 t) (hs0_3 t) (ms0_4 t) (hs0_4 t)
    (fun h => h0 ((hcond0_0 t).mp h)) ((hcond0_1 t).mpr h1) x0 x1 x2 _ _ _ D h r z
  unfold lseSpec
  rw [if_neg (show ¬(tok t r).val < 256 from by show ¬(t.val % 9 * 256 + r.val < 256); omega)]
  dsimp only
  exact w

/-- Every grid point leaves the specified outputs. -/
theorem point_o (A : Handed m c q k v) (h : Fin 8) (r : Fin 256) (e : Fin 64) (x : Fin 512) (ex : x.val = h.val * 64 + e.val) :
    (outsAt0 m c t.val t.isLt).1 (ix2 r x) = ((outSpec q k v (hd t h) (tok t r) e : ℝ) : EReal) := by
  by_cases h0 : t.val % 9 = 0
  · exact point_o_A t A h0 h r e x ex
  · exact point_o_B t A h0 h r e x ex

/-- Every grid point leaves the specified log-sums. -/
theorem point_l (A : Handed m c q k v) (h : Fin 8) (r : Fin 256) (z : Fin 1) :
    (outsAt0 m c t.val t.isLt).2 (ix3 h r z) = ((lseSpec q k (hd t h) (tok t r) : ℝ) : EReal) := by
  by_cases h0 : t.val % 9 = 0
  · exact point_l_A t A h0 h r z
  · exact point_l_B t A h0 h r z

end Cert.Attn.Fwd

end
-- ==== Proof.FwdArrays.lean ====
/- The arrays the forward call leaves. -/
module

public import proofs.«01_k».proof.Proof.FwdBlocks

@[expose] public section

set_option maxRecDepth 16384

noncomputable section

namespace Cert.Attn.Fwd

open Idealize.ShloMosaic Idealize.ShloMosaic.TcCoe Idealize.ShloMosaic.ValueIdx Cert.ForwardIdeal Cert.ForwardIdeal.Gen Cert.ForwardIdeal.Value

variable {m : (ℓ : Loc nD τ sig) → Buf (Elt Ideal) ℓ} {c : Dev nD}
  {q k : Fin 16 → Fin 2304 → Fin 96 → ℝ} {v : Fin 16 → Fin 2304 → Fin 64 → ℝ}

/-- A point of the grid by its row and column. -/
def point (a b : ℕ) (ha : a < 2) (hb : b < 9) : Fin cfg0.N := ⟨a * 9 + b, by have : cfg0.N = 18 := N_0; omega⟩

/-- The attention's output, token by token, its heads side by side. -/
def outRows (q k : Fin 16 → Fin 2304 → Fin 96 → ℝ) (v : Fin 16 → Fin 2304 → Fin 64 → ℝ) (t : Fin 2304) (x : Fin 1024) : ℝ :=
  outSpec q k v ⟨x.val / 64, by omega⟩ t ⟨x.val % 64, Nat.mod_lt _ (by decide)⟩

/-- The log-sums, as a column per head. -/
def lseCol (q k : Fin 16 → Fin 2304 → Fin 96 → ℝ) (h : Fin 16) (t : Fin 2304) (_ : Fin 1) : ℝ := lseSpec q k h t

/-- An output row at one head's column. -/
theorem outRows_at (h : Fin 16) (t : Fin 2304) (e : Fin 64) (x : Fin 1024) (ex : x.val = h.val * 64 + e.val) :
    outRows q k v t x = outSpec q k v h t e := by
  unfold outRows
  congr 1
  · exact Fin.ext (by show x.val / 64 = h.val; omega)
  · exact Fin.ext (by show x.val % 64 = e.val; omega)

/-- Every write-back of the output writes its block of the specified array. -/
theorem flushed_o (A : Handed m c q k v) (t : Fin cfg0.N) (hf : (cfg0.win 3).flush t = true) :
    (dats m 0 c).flushed 3 t = ((cfg0.win 3).blk t).view.read (Elt Ideal) (arr2 (outRows q k v)) := by
  refine (flushed3 m c t).trans (funext fun y => ?_)
  rw [View.read_apply]
  have hi := index_3 t
  have hN : t.val < 18 := lt_of_lt_of_eq t.isLt N_0
  have key : ∀ (r : Fin 256) (x : Fin 512), y = ix2 r x → ((outsAt0 m c t.val t.isLt).1 : FVec Ideal ⟨2, ![256, 512]⟩ .f32) y
      = arr2 (outRows q k v) (((cfg0.win 3).blk t).view.emb y) := by
    intro r x e
    subst e
    have hx := x.isLt
    refine (point_o t A ⟨x.val / 64, by omega⟩ r ⟨x.val % 64, Nat.mod_lt _ (by decide)⟩ x (by show x.val = x.val / 64 * 64 + x.val % 64; omega)).trans ?_
    rw [← outRows_at _ _ _ ⟨t.val / 9 * 512 + x.val, by omega⟩ (by show t.val / 9 * 512 + x.val = (t.val / 9 * 8 + x.val / 64) * 64 + x.val % 64; omega)]
    show arr2 (outRows q k v) (ix2 (tok t r) ⟨t.val / 9 * 512 + x.val, by omega⟩) = _
    refine congrArg (arr2 (outRows q k v)) (funext fun a => Fin.ext ?_)
    match a with
    | ⟨0, _⟩ => show t.val % 9 * 256 + r.val = win0_3.index t 0 * 256 + 1 * r.val; rw [hi.1]; omega
    | ⟨1, _⟩ => show t.val / 9 * 512 + x.val = win0_3.index t 1 * 512 + 1 * x.val; rw [hi.2]; omega
  exact key (y 0) (y 1) (eq_ix2 y)

/-- The call's output. -/
theorem final_o (A : Handed m c q k v) : (dats m 0 c).arrAt 3 cfg0.N = arr2 (outRows q k v) :=
  (dats m 0 c).arrAt_eq_of_cover 3 (arr2 (outRows q k v)) (flushed_o A) fun i => by
    have h0 : (i 0 : ℕ) < 2304 := (i 0).isLt
    have h1 : (i 1 : ℕ) < 1024 := (i 1).isLt
    obtain ⟨t, ht0, ht1⟩ : ∃ t : Fin cfg0.N, t.val / 9 = (i 1 : ℕ) / 512 ∧ t.val % 9 = (i 0 : ℕ) / 256 :=
      ⟨point ((i 1 : ℕ) / 512) ((i 0 : ℕ) / 256) (by omega) (by omega), by show ((i 1 : ℕ) / 512 * 9 + (i 0 : ℕ) / 256) / 9 = _; omega,
        by show ((i 1 : ℕ) / 512 * 9 + (i 0 : ℕ) / 256) % 9 = _; omega⟩
    refine ⟨t, flush0_3 t, ?_⟩
    show i ∈ ((View.whole main_v10_0).slice (win0_3.rect t)).set
    rw [View.set_slice_whole, Rect.mem_set_unit]
    intro a
    have hi := index_3 t
    match a with
    | ⟨0, _⟩ => show win0_3.index t 0 * 256 ≤ (i 0 : ℕ) ∧ (i 0 : ℕ) < win0_3.index t 0 * 256 + 256; rw [hi.1, ht1]; omega
    | ⟨1, _⟩ => show win0_3.index t 1 * 512 ≤ (i 1 : ℕ) ∧ (i 1 : ℕ) < win0_3.index t 1 * 512 + 512; rw [hi.2, ht0]; omega

/-- Every write-back of the log-sums writes its block of the specified array. -/
theorem flushed_l (A : Handed m c q k v) (t : Fin cfg0.N) (hf : (cfg0.win 4).flush t = true) :
    (dats m 0 c).flushed 4 t = ((cfg0.win 4).blk t).view.read (Elt Ideal) (arr3 (lseCol q k)) := by
  refine (flushed4 m c t).trans (funext fun y => ?_)
  rw [View.read_apply]
  have hi := index_4 t
  have key : ∀ (h : Fin 8) (r : Fin 256) (z : Fin 1), y = ix3 h r z → ((outsAt0 m c t.val t.isLt).2 : FVec Ideal ⟨3, ![8, 256, 1]⟩ .f32) y
      = arr3 (lseCol q k) (((cfg0.win 4).blk t).view.emb y) := by
    intro h r z e
    subst e
    refine (point_l t A h r z).trans ?_
    show arr3 (lseCol q k) (ix3 (hd t h) (tok t r) z) = _
    refine congrArg (arr3 (lseCol q k)) (funext fun a => Fin.ext ?_)
    match a with
    | ⟨0, _⟩ => show t.val / 9 * 8 + h.val = win0_4.index t 0 * 8 + 1 * h.val; rw [hi.1]; omega
    | ⟨1, _⟩ => show t.val % 9 * 256 + r.val = win0_4.index t 1 * 256 + 1 * r.val; rw [hi.2.1]; omega
    | ⟨2, _⟩ => show z.val = win0_4.index t 2 * 1 + 1 * z.val; rw [hi.2.2]; omega
  exact key (y 0) (y 1) (y 2) (eq_ix3 y)

/-- The call's log-sums. -/
theorem final_l (A : Handed m c q k v) : (dats m 0 c).arrAt 4 cfg0.N = arr3 (lseCol q k) :=
  (dats m 0 c).arrAt_eq_of_cover 4 (arr3 (lseCol q k)) (flushed_l A) fun i => by
    have h0 : (i 0 : ℕ) < 16 := (i 0).isLt
    have h1 : (i 1 : ℕ) < 2304 := (i 1).isLt
    have h2 : (i 2 : ℕ) < 1 := (i 2).isLt
    obtain ⟨t, ht0, ht1⟩ : ∃ t : Fin cfg0.N, t.val / 9 = (i 0 : ℕ) / 8 ∧ t.val % 9 = (i 1 : ℕ) / 256 :=
      ⟨point ((i 0 : ℕ) / 8) ((i 1 : ℕ) / 256) (by omega) (by omega), by show ((i 0 : ℕ) / 8 * 9 + (i 1 : ℕ) / 256) / 9 = _; omega,
        by show ((i 0 : ℕ) / 8 * 9 + (i 1 : ℕ) / 256) % 9 = _; omega⟩
    refine ⟨t, flush0_4 t, ?_⟩
    show i ∈ ((View.whole main_v10_1).slice (win0_4.rect t)).set
    rw [View.set_slice_whole, Rect.mem_set_unit]
    intro a
    have hi := index_4 t
    match a with
    | ⟨0, _⟩ => show win0_4.index t 0 * 8 ≤ (i 0 : ℕ) ∧ (i 0 : ℕ) < win0_4.index t 0 * 8 + 8; rw [hi.1, ht0]; omega
    | ⟨1, _⟩ => show win0_4.index t 1 * 256 ≤ (i 1 : ℕ) ∧ (i 1 : ℕ) < win0_4.index t 1 * 256 + 256; rw [hi.2.1, ht1]; omega
    | ⟨2, _⟩ => show win0_4.index t 2 * 1 ≤ (i 2 : ℕ) ∧ (i 2 : ℕ) < win0_4.index t 2 * 1 + 1; rw [hi.2.2]; omega

end Cert.Attn.Fwd

end
-- ==== Proof.FwdValue.lean ====
/- The forward call and its reference agree: both leave the specified output and log-sums. -/
module

public import proofs.«01_k».proof.Proof.FwdArrays
public import proofs.«01_k».proof.Proof.FwdRef
public import proofs.«01_k».proof.Proof.Finite
public import proofs.«01_k».proof.Defs
public import proofs.«01_k».proof.Proof.Gen.Pre_finite_qkv

@[expose] public section

set_option maxRecDepth 16384

noncomputable section

namespace Cert.Attn.Fwd

open Idealize.ShloMosaic Idealize.ShloMosaic.TcCoe Idealize.ShloMosaic.ValueIdx Idealize.SL.Sem

/-- The reference's output. -/
theorem ref_o (q k : Fin 16 → Fin 2304 → Fin 96 → ℝ) (v : Fin 16 → Fin 2304 → Fin 64 → ℝ) :
    Cert.ForwardReferenceIdeal.Read.val_main_v46 (F := Ideal) (arr3 q) (arr3 k) (arr3 v) = arr2 (outRows q k v) := by
  funext i
  have h1 : (i 1 : ℕ) < 1024 := (i 1).isLt
  have e : i = ix2 (i 0) (⟨(i 1 : ℕ) / 64 * 64 + (i 1 : ℕ) % 64, by omega⟩ : Fin 1024) := by
    refine (eq_ix2 i).trans (congrArg (ix2 (i 0)) (Fin.ext ?_))
    show (i 1 : ℕ) = (i 1 : ℕ) / 64 * 64 + (i 1 : ℕ) % 64
    omega
  refine (congrArg _ e).trans ?_
  exact fwd_o q k v (i 0) ⟨(i 1 : ℕ) / 64, by omega⟩ ⟨(i 1 : ℕ) % 64, Nat.mod_lt _ (by decide)⟩

/-- The reference's log-sums. -/
theorem ref_l (q k : Fin 16 → Fin 2304 → Fin 96 → ℝ) :
    Cert.ForwardReferenceIdeal.Read.val_main_v47 (F := Ideal) (arr3 q) (arr3 k) = arr3 (lseCol q k) := by
  funext i
  have h2 : (i 2 : ℕ) < 1 := (i 2).isLt
  have e : i = ix3 (i 0) (i 1) (0 : Fin 1) := by
    refine (eq_ix3 i).trans (congrArg (ix3 (i 0) (i 1)) (Fin.ext ?_))
    show (i 2 : ℕ) = 0
    omega
  refine (congrArg _ e).trans ?_
  exact fwd_lse q k (i 0) (i 1)

/-- The forward pass's value claim. -/
theorem forward_algebraic : Cert.algebraic_ForwardIdeal_ForwardReferenceIdeal (hForwardIdeal := Cert.ForwardIdeal.Gen.facts)
    (hForwardReferenceIdeal := Cert.ForwardReferenceIdeal.Gen.facts) (hPre_finite_qkv := Cert.Pre_finite_qkv.Gen.facts) := by
  intro m ρ m' ρ' hpre hargs
  have hreal := fun c : Dev Cert.ForwardIdeal.nD => @finite_qkv_args Cert.Pre_finite_qkv.Gen.facts _ _ _ (hpre c).1 (hpre c).2.1 (hpre c).2.2
  choose q hq using fun c => (hreal c).1
  choose k hk using fun c => (hreal c).2.1
  choose v hv using fun c => (hreal c).2.2
  refine ⟨fun c => arr2 (outRows (q c) (k c) (v c)), fun c => arr3 (lseCol (q c) (k c)), ?_, ?_⟩
  · refine (θ_run _ _ _).mono (fun r h c => ?_) (Cert.ForwardIdeal.Value.run_blocks m ρ)
    have A := handed (hq c) (hk c) (hv c)
    exact ⟨(h c).1.trans (final_o A), (h c).2.1.trans (final_l A), (h c).2.2⟩
  · refine (θ_run _ _ _).mono (fun r h c => ?_) (Cert.ForwardReferenceIdeal.Value.run (F := Ideal) m' ρ')
    obtain ⟨a0, a1, a2⟩ := hargs c
    refine ⟨(h c).1.trans ?_, (h c).2.1.trans ?_, (h c).2.2⟩
    · rw [Cert.ForwardReferenceIdeal.Read.val_main_v46_eq, a0, a1, a2, hq c, hk c, hv c]
      exact ref_o (q c) (k c) (v c)
    · refine (Cert.ForwardReferenceIdeal.Read.val_main_v47_eq _ _).trans ?_
      rw [a0, a1, hq c, hk c]
      exact ref_l (q c) (k c)

end Cert.Attn.Fwd

end
-- ==== Proof.TailCases.lean ====
module

public import proofs.«01_k».proof.Proof.Gen.TailIdeal.Frame
public import proofs.«01_k».proof.Proof.Gen.TailIdeal.Skeleton
public import Idealize.ShloMosaic.Lib.Pipeline.Value

@[expose] public section

/-! # The nine points of the call `l1_pre_b`

Which branch of its body runs at which point, and the buffers it works on. Point 0 is the block of the context rows, points 1 to 8 are the blocks of the latent rows. -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## When outputs 10, 11 and 12 are written back -/

/-- Output 10 (the sums for the shift) is written back after the first point, the end of the context rows, and after the last, the end of the latent rows. -/
theorem flush0_10 : ∀ t : Fin cfg0.N, (cfg0.win 10).flush t = true ↔ t.val = 0 ∨ t.val = 8 :=
  (by decide +kernel : ∀ t : Fin grid0.N, win0_10.flush t = true ↔ t.val = 0 ∨ t.val = 8)

/-- Output 11 (the sums for the scale) is written back after the first point, the end of the context rows, and after the last, the end of the latent rows. -/
theorem flush0_11 : ∀ t : Fin cfg0.N, (cfg0.win 11).flush t = true ↔ t.val = 0 ∨ t.val = 8 :=
  (by decide +kernel : ∀ t : Fin grid0.N, win0_11.flush t = true ↔ t.val = 0 ∨ t.val = 8)

/-- Output 12 (the sums for the gain) is written back after the first point, the end of the context rows, and after the last, the end of the latent rows. -/
theorem flush0_12 : ∀ t : Fin cfg0.N, (cfg0.win 12).flush t = true ↔ t.val = 0 ∨ t.val = 8 :=
  (by decide +kernel : ∀ t : Fin grid0.N, win0_12.flush t = true ↔ t.val = 0 ∨ t.val = 8)

/-! ## The body's branch conditions -/

/-- The condition of branch 0 of the body, from the coordinate of the point. -/
abbrev cond0_0 (i : grid0.Coords) : Prop := (Scalar.cmpi .ne (Scalar.extui (Scalar.cmpi .sle (BitVec.ofNat 32 (i 0).val) 1#32)) 0#32) = 1#1
/-- It holds at the points before point 2 — decided over the grid. -/
theorem hcond0_0 : ∀ t : Fin cfg0.N, cond0_0 (grid0.coords t) ↔ t.val < 2 :=
  (by decide +kernel : ∀ t : Fin grid0.N, cond0_0 (grid0.coords t) ↔ t.val < 2)

/-- The condition of branch 1 of the body, from the coordinate of the point. -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_1, e0]
    word_cmp
   : ∀ t : Fin grid0.N, cond0_1 (grid0.coords t) ↔ t.val % 9 = 0)

/-- The condition of branch 2 of the body, from the coordinate of the point. -/
abbrev cond0_2 (i : grid0.Coords) : Prop := k0_cond3 i = 1#1
/-- It holds at the last point only — by arithmetic of the point. -/
theorem hcond0_2 : ∀ t : Fin cfg0.N, cond0_2 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_2, k0_cond3, e0]
    word_cmp
   : ∀ t : Fin grid0.N, cond0_2 (grid0.coords t) ↔ t.val % 9 = 8)

/-! ## Which windows a point uses -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Window 10 is never idle (an output stored at every point, under no condition). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- At the points of case A the printed configuration (`Cfg.idle`) calls output 13 idle: the case stores nothing into it. -/
theorem idleAt0_13_A : ∀ t : Fin cfg0.N, cond0_0 (grid0.coords t) → cond0_1 (grid0.coords t) → ¬cond0_2 (grid0.coords t) → cfg0.idle 13 (grid0.coords t) = true := by decide +kernel
/-- At the points of case A the pipeline does not write output 13's block back. -/
theorem noFlush0_13_A : ∀ t : Fin cfg0.N, cond0_0 (grid0.coords t) → cond0_1 (grid0.coords t) → ¬cond0_2 (grid0.coords t) → (cfg0.win 13).flush t = false := by decide +kernel
/-- At the points of case B the printed configuration (`Cfg.idle`) calls output 13 idle: the case stores nothing into it. -/
theorem idleAt0_13_B : ∀ t : Fin cfg0.N, cond0_0 (grid0.coords t) → ¬cond0_1 (grid0.coords t) → ¬cond0_2 (grid0.coords t) → cfg0.idle 13 (grid0.coords t) = true := by decide +kernel
/-- At the points of case B the pipeline does not write output 13's block back. -/
theorem noFlush0_13_B : ∀ t : Fin cfg0.N, cond0_0 (grid0.coords t) → ¬cond0_1 (grid0.coords t) → ¬cond0_2 (grid0.coords t) → (cfg0.win 13).flush t = false := by decide +kernel
/-- At the points of case C the printed configuration (`Cfg.idle`) calls output 13 idle: the case stores nothing into it. -/
theorem idleAt0_13_C : ∀ t : Fin cfg0.N, ¬cond0_0 (grid0.coords t) → ¬cond0_1 (grid0.coords t) → ¬cond0_2 (grid0.coords t) → cfg0.idle 13 (grid0.coords t) = true := by decide +kernel
/-- At the points of case C the pipeline does not write output 13's block back. -/
theorem noFlush0_13_C : ∀ t : Fin cfg0.N, ¬cond0_0 (grid0.coords t) → ¬cond0_1 (grid0.coords t) → ¬cond0_2 (grid0.coords t) → (cfg0.win 13).flush t = false := by decide +kernel
/-- At the points of case D the printed configuration (`Cfg.idle`) calls output 13 live: the case stores into it. -/
theorem liveAt0_13_D : ∀ t : Fin cfg0.N, ¬cond0_0 (grid0.coords t) → ¬cond0_1 (grid0.coords t) → cond0_2 (grid0.coords t) → cfg0.idle 13 (grid0.coords t) = false := by decide +kernel

/-! ## The buffers the body works on -/

/-- A staging buffer of output 9, through which its contents are stated. -/
abbrev VO0_9 : View sig .tc .vmem S256x1024 .f32 := (Memref.whole cc0_stg9_0 : Memref sig .tc .vmem S256x1024 .f32).view
/-- A staging buffer of output 10, through which its contents are stated. -/
abbrev VO0_10 : View sig .tc .vmem S1x1x1024 .f32 := (Memref.whole cc0_stg10_0 : Memref sig .tc .vmem S1x1x1024 .f32).view
/-- A staging buffer of output 11, through which its contents are stated. -/
abbrev VO0_11 : View sig .tc .vmem S1x1x1024 .f32 := (Memref.whole cc0_stg11_0 : Memref sig .tc .vmem S1x1x1024 .f32).view
/-- A staging buffer of output 12, through which its contents are stated. -/
abbrev VO0_12 : View sig .tc .vmem S1x1x1024 .f32 := (Memref.whole cc0_stg12_0 : Memref sig .tc .vmem S1x1x1024 .f32).view
/-- A staging buffer of output 13, through which its contents are stated. -/
abbrev VO0_13 : View sig .tc .vmem S8x1024x256 .bf16 := (Memref.whole cc0_stg13_0 : Memref sig .tc .vmem S8x1024x256 .bf16).view
/-- The buffer window 0 uses at point `t`. -/
abbrev ms0_0 (t : Fin cfg0.N) : Memref sig .tc .vmem S256x1024 .f32 := win0_0.stage (cfg0.slots t 0)
/-- It is a whole buffer. -/
abbrev hs0_0 (t : Fin cfg0.N) : (ms0_0 t).IsWhole := hstage0_0 ((cfg0.slots t 0).cast nbuf0_0)
/-- The buffer window 1 uses at point `t`. -/
abbrev ms0_1 (t : Fin cfg0.N) : Memref sig .tc .vmem S256x1024 .f32 := win0_1.stage (cfg0.slots t 1)
/-- It is a whole buffer. -/
abbrev hs0_1 (t : Fin cfg0.N) : (ms0_1 t).IsWhole := hstage0_1 ((cfg0.slots t 1).cast nbuf0_1)
/-- The buffer window 2 uses at point `t`. -/
abbrev ms0_2 (t : Fin cfg0.N) : Memref sig .tc .vmem S256x1024 .bf16 := win0_2.stage (cfg0.slots t 2)
/-- It is a whole buffer. -/
abbrev hs0_2 (t : Fin cfg0.N) : (ms0_2 t).IsWhole := hstage0_2 ((cfg0.slots t 2).cast nbuf0_2)
/-- The buffer window 3 uses at point `t`. -/
abbrev ms0_3 (t : Fin cfg0.N) : Memref sig .tc .vmem S256x1024 .bf16 := win0_3.stage (cfg0.slots t 3)
/-- It is a whole buffer. -/
abbrev hs0_3 (t : Fin cfg0.N) : (ms0_3 t).IsWhole := hstage0_3 ((cfg0.slots t 3).cast nbuf0_3)
/-- The buffer window 4 uses at point `t`. -/
abbrev ms0_4 (t : Fin cfg0.N) : Memref sig .tc .vmem S256x1024 .f32 := win0_4.stage (cfg0.slots t 4)
/-- It is a whole buffer. -/
abbrev hs0_4 (t : Fin cfg0.N) : (ms0_4 t).IsWhole := hstage0_4 ((cfg0.slots t 4).cast nbuf0_4)
/-- The buffer window 5 uses at point `t`. -/
abbrev ms0_5 (t : Fin cfg0.N) : Memref sig .tc .vmem S256x1024 .f32 := win0_5.stage (cfg0.slots t 5)
/-- It is a whole buffer. -/
abbrev hs0_5 (t : Fin cfg0.N) : (ms0_5 t).IsWhole := hstage0_5 ((cfg0.slots t 5).cast nbuf0_5)
/-- The buffer window 6 uses at point `t`. -/
abbrev ms0_6 (t : Fin cfg0.N) : Memref sig .tc .vmem S1x1x1024 .f32 := win0_6.stage (cfg0.slots t 6)
/-- It is a whole buffer. -/
abbrev hs0_6 (t : Fin cfg0.N) : (ms0_6 t).IsWhole := hstage0_6 ((cfg0.slots t 6).cast nbuf0_6)
/-- The buffer window 7 uses at point `t`. -/
abbrev ms0_7 (t : Fin cfg0.N) : Memref sig .tc .vmem S1x1x1024 .f32 := win0_7.stage (cfg0.slots t 7)
/-- It is a whole buffer. -/
abbrev hs0_7 (t : Fin cfg0.N) : (ms0_7 t).IsWhole := hstage0_7 ((cfg0.slots t 7).cast nbuf0_7)
/-- The buffer window 8 uses at point `t`. -/
abbrev ms0_8 (t : Fin cfg0.N) : Memref sig .tc .vmem S2048x1024 .bf16 := win0_8.stage (cfg0.slots t 8)
/-- It is a whole buffer. -/
abbrev hs0_8 (t : Fin cfg0.N) : (ms0_8 t).IsWhole := hstage0_8 ((cfg0.slots t 8).cast nbuf0_8)
/-- The buffer window 9 uses at point `t`. -/
abbrev ms0_9 (t : Fin cfg0.N) : Memref sig .tc .vmem S256x1024 .f32 := win0_9.stage (cfg0.slots t 9)
/-- It is a whole buffer. -/
abbrev hs0_9 (t : Fin cfg0.N) : (ms0_9 t).IsWhole := hstage0_9 ((cfg0.slots t 9).cast nbuf0_9)
/-- The buffer window 10 uses at point `t`. -/
abbrev ms0_10 (t : Fin cfg0.N) : Memref sig .tc .vmem S1x1x1024 .f32 := win0_10.stage (cfg0.slots t 10)
/-- It is a whole buffer. -/
abbrev hs0_10 (t : Fin cfg0.N) : (ms0_10 t).IsWhole := hstage0_10 ((cfg0.slots t 10).cast nbuf0_10)
/-- The buffer window 11 uses at point `t`. -/
abbrev ms0_11 (t : Fin cfg0.N) : Memref sig .tc .vmem S1x1x1024 .f32 := win0_11.stage (cfg0.slots t 11)
/-- It is a whole buffer. -/
abbrev hs0_11 (t : Fin cfg0.N) : (ms0_11 t).IsWhole := hstage0_11 ((cfg0.slots t 11).cast nbuf0_11)
/-- The buffer window 12 uses at point `t`. -/
abbrev ms0_12 (t : Fin cfg0.N) : Memref sig .tc .vmem S1x1x1024 .f32 := win0_12.stage (cfg0.slots t 12)
/-- It is a whole buffer. -/
abbrev hs0_12 (t : Fin cfg0.N) : (ms0_12 t).IsWhole := hstage0_12 ((cfg0.slots t 12).cast nbuf0_12)
/-- The buffer window 13 uses at point `t`. -/
abbrev ms0_13 (t : Fin cfg0.N) : Memref sig .tc .vmem S8x1024x256 .bf16 := win0_13.stage (cfg0.slots t 13)
/-- It is a whole buffer. -/
abbrev hs0_13 (t : Fin cfg0.N) : (ms0_13 t).IsWhole := hstage0_13 ((cfg0.slots t 13).cast nbuf0_13)
/-- The accumulator: a whole buffer of the kernel's own. -/
abbrev scM0_0 : Memref sig .tc .vmem S8x1024x256 .f32 := Memref.whole cc0_scratch0
/-- The accumulator carried between the points, as a view. -/
abbrev VS0_0 : View sig .tc .vmem S8x1024x256 .f32 := scM0_0.view

/-- What the launch hands a point besides its windows: the accumulator at some contents, and the register of the random generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.TailIdeal.Walk
-- ==== Proof.TailRunA.lean ====
module

public import proofs.«01_k».proof.Proof.TailCases

@[expose] public section

/-! # The body of `l1_pre_b` at the first point -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run at the first point: the sums and the accumulator are set: the stores each output's buffer and the accumulator end with, last first, with the proof that from whole buffers holding
    the inputs `x·`, and the running contents `xo·` and `xs·` where the body reads them, the body ends with the inputs as they were and those stores written. -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : cond0_0 i) (hc1 : cond0_1 i) (hc2 : ¬cond0_2 i)
    (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) :
    Σ' (L9 : List (View.Piece (Elt F) S256x1024 .f32)), Σ' (L10 : List (View.Piece (Elt F) S1x1x1024 .f32)), Σ' (L11 : List (View.Piece (Elt F) S1x1x1024 .f32)), Σ' (L12 : List (View.Piece (Elt F) S1x1x1024 .f32)), Σ' (L13 : List (View.Piece (Elt F) S8x1024x256 .bf16)), { LS0 : List (View.Piece (Elt F) S8x1024x256 .f32) //
      ∀ (xi13 : Vec F S8x1024x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi13 ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f LS0)) -∗ K ⟨⟩))
          ⊢ wp frame (wpE (defs₀ (F := F)) Variants.none c none) E (cc0_l1_pre_b i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, [], ?_, fun xi13 E K => ?run⟩
  case run =>
    simp only [cc0_l1_pre_b_eq_skeleton]; unfold cc0_l1_pre_b_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hf13
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]
    · iexists _; isplitr; · ipureintro; exact harg14.read_unread _
      iexact H13
    iexists _; iexact HS0

end Cert.TailIdeal.Walk
-- ==== Proof.TailRunB.lean ====
module

public import proofs.«01_k».proof.Proof.TailRunA

@[expose] public section

/-! # The body of `l1_pre_b` at point 1 -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run at point 1: the sums start over, the accumulator is added to: the stores each output's buffer and the accumulator end with, last first, with the proof that from whole buffers holding
    the inputs `x·`, and the running contents `xo·` and `xs·` where the body reads them, the body ends with the inputs as they were and those stores written. -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : cond0_0 i) (hc1 : ¬cond0_1 i) (hc2 : ¬cond0_2 i)
    (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) (xs0 : Vec F S8x1024x256 .f32) :
    Σ' (L9 : List (View.Piece (Elt F) S256x1024 .f32)), Σ' (L10 : List (View.Piece (Elt F) S1x1x1024 .f32)), Σ' (L11 : List (View.Piece (Elt F) S1x1x1024 .f32)), Σ' (L12 : List (View.Piece (Elt F) S1x1x1024 .f32)), Σ' (L13 : List (View.Piece (Elt F) S8x1024x256 .bf16)), { LS0 : List (View.Piece (Elt F) S8x1024x256 .f32) //
      ∀ (xi13 : Vec F S8x1024x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi13 ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f LS0)) -∗ K ⟨⟩))
          ⊢ wp frame (wpE (defs₀ (F := F)) Variants.none c none) E (cc0_l1_pre_b i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, [], ?_, fun xi13 E K => ?run⟩
  case run =>
    simp only [cc0_l1_pre_b_eq_skeleton]; unfold cc0_l1_pre_b_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hf13; obtain rfl := harg15.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]
    · iexists _; isplitr; · ipureintro; exact harg14.read_unread _
      iexact H13
    iexists _; iexact HS0

end Cert.TailIdeal.Walk
-- ==== Proof.TailRunC.lean ====
module

public import proofs.«01_k».proof.Proof.TailRunB

@[expose] public section

/-! # The body of `l1_pre_b` at points 2 to 7 -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run at points 2 to 7: sums and accumulator are added to: the stores each output's buffer and the accumulator end with, last first, with the proof that from whole buffers holding
    the inputs `x·`, and the running contents `xo·` and `xs·` where the body reads them, the body ends with the inputs as they were and those stores written. -/
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : ¬cond0_0 i) (hc1 : ¬cond0_1 i) (hc2 : ¬cond0_2 i)
    (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) (xo10 : Vec F S1x1x1024 .f32) (xo11 : Vec F S1x1x1024 .f32) (xo12 : Vec F S1x1x1024 .f32) (xs0 : Vec F S8x1024x256 .f32) :
    Σ' (L9 : List (View.Piece (Elt F) S256x1024 .f32)), Σ' (L10 : List (View.Piece (Elt F) S1x1x1024 .f32)), Σ' (L11 : List (View.Piece (Elt F) S1x1x1024 .f32)), Σ' (L12 : List (View.Piece (Elt F) S1x1x1024 .f32)), Σ' (L13 : List (View.Piece (Elt F) S8x1024x256 .bf16)), { LS0 : List (View.Piece (Elt F) S8x1024x256 .f32) //
      ∀ (xi13 : Vec F S8x1024x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xo11 ∗ owns (c : Thread nD τ) arg13 fullShare xo12 ∗ owns (c : Thread nD τ) arg14 fullShare xi13 ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f LS0)) -∗ K ⟨⟩))
          ⊢ wp frame (wpE (defs₀ (F := F)) Variants.none c none) E (cc0_l1_pre_b i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, [], ?_, fun xi13 E K => ?run⟩
  case run =>
    simp only [cc0_l1_pre_b_eq_skeleton]; unfold cc0_l1_pre_b_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hf12; obtain rfl := harg14.eq_unread hf13; obtain rfl := harg15.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]
    · iexists _; isplitr; · ipureintro; exact harg14.read_unread _
      iexact H13
    iexists _; iexact HS0

end Cert.TailIdeal.Walk
-- ==== Proof.TailRunD.lean ====
module

public import proofs.«01_k».proof.Proof.TailRunC

@[expose] public section

/-! # The body of `l1_pre_b` at the last point -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run at the last point: as before, and the weight's gradient is stored: the stores each output's buffer and the accumulator end with, last first, with the proof that from whole buffers holding
    the inputs `x·`, and the running contents `xo·` and `xs·` where the body reads them, the body ends with the inputs as they were and those stores written. -/
noncomputable def kernelRun0_D (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : ¬cond0_0 i) (hc1 : ¬cond0_1 i) (hc2 : cond0_2 i)
    (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) (xo10 : Vec F S1x1x1024 .f32) (xo11 : Vec F S1x1x1024 .f32) (xo12 : Vec F S1x1x1024 .f32) (xs0 : Vec F S8x1024x256 .f32) :
    Σ' (L9 : List (View.Piece (Elt F) S256x1024 .f32)), Σ' (L10 : List (View.Piece (Elt F) S1x1x1024 .f32)), Σ' (L11 : List (View.Piece (Elt F) S1x1x1024 .f32)), Σ' (L12 : List (View.Piece (Elt F) S1x1x1024 .f32)), Σ' (L13 : List (View.Piece (Elt F) S8x1024x256 .bf16)), { LS0 : List (View.Piece (Elt F) S8x1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xo11 ∗ owns (c : Thread nD τ) arg13 fullShare xo12 ∗ (∃ d, owns (c : Thread nD τ) arg14 fullShare d) ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc0_l1_pre_b i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_l1_pre_b_eq_skeleton]; unfold cc0_l1_pre_b_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hf12; obtain rfl := harg15.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.TailIdeal.Walk
-- ==== Proof.TailOutA.lean ====
module

public import proofs.«01_k».proof.Proof.TailRunD

@[expose] public section

/-! # What `l1_pre_b` leaves at the first point -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : cond0_0 i) (hc1 : cond0_1 i) (hc2 : ¬cond0_2 i) (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16)

/-- The stores into output 9 fill its block. -/
theorem cover0_A_9 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).1 S256x1024.size (by sl_kernel_rfl) y

/-- What output 9 holds after the body: its stores read back. -/
def out0_A_9 : Vec F S256x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).1)

/-- The stores into output 10 fill its block. -/
theorem cover0_A_10 (y : S1x1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.1 S1x1x1024.size (by sl_kernel_rfl) y

/-- What output 10 holds after the body: its stores read back. -/
def out0_A_10 : Vec F S1x1x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.1)

/-- The stores into output 11 fill its block. -/
theorem cover0_A_11 (y : S1x1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.1 S1x1x1024.size (by sl_kernel_rfl) y

/-- What output 11 holds after the body: its stores read back. -/
def out0_A_11 : Vec F S1x1x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.1)

/-- The stores into output 12 fill its block. -/
theorem cover0_A_12 (y : S1x1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.2.1 S1x1x1024.size (by sl_kernel_rfl) y

/-- What output 12 holds after the body: its stores read back. -/
def out0_A_12 : Vec F S1x1x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.2.1)

/-- What output 13 holds: nothing is stored at these points. -/
def out0_A_13 : Vec F S8x1024x256 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.2.2.1)

/-- The stores into the accumulator fill its block. -/
theorem scover0_A_0 (y : S8x1024x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.2.2.2.1 S8x1024x256.size (by sl_kernel_rfl) y

/-- What the accumulator holds after the body: its stores read back. -/
def sout0_A_0 : Vec F S8x1024x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.2.2.2.1)

end

end Cert.TailIdeal.Walk
-- ==== Proof.TailOutB.lean ====
module

public import proofs.«01_k».proof.Proof.TailOutA

@[expose] public section

/-! # What `l1_pre_b` leaves at point 1 -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : cond0_0 i) (hc1 : ¬cond0_1 i) (hc2 : ¬cond0_2 i) (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) (xs0 : Vec F S8x1024x256 .f32)

/-- The stores into output 9 fill its block. -/
theorem cover0_B_9 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).1 S256x1024.size (by sl_kernel_rfl) y

/-- What output 9 holds after the body: its stores read back. -/
def out0_B_9 : Vec F S256x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).1)

/-- The stores into output 10 fill its block. -/
theorem cover0_B_10 (y : S1x1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.1 S1x1x1024.size (by sl_kernel_rfl) y

/-- What output 10 holds after the body: its stores read back. -/
def out0_B_10 : Vec F S1x1x1024 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.1)

/-- The stores into output 11 fill its block. -/
theorem cover0_B_11 (y : S1x1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.1 S1x1x1024.size (by sl_kernel_rfl) y

/-- What output 11 holds after the body: its stores read back. -/
def out0_B_11 : Vec F S1x1x1024 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.1)

/-- The stores into output 12 fill its block. -/
theorem cover0_B_12 (y : S1x1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.2.1 S1x1x1024.size (by sl_kernel_rfl) y

/-- What output 12 holds after the body: its stores read back. -/
def out0_B_12 : Vec F S1x1x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.2.1)

/-- What output 13 holds: nothing is stored at these points. -/
def out0_B_13 : Vec F S8x1024x256 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.2.2.1)

/-- The stores into the accumulator fill its block. -/
theorem scover0_B_0 (y : S8x1024x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.2.2.2.1 S8x1024x256.size (by sl_kernel_rfl) y

/-- What the accumulator holds after the body: its stores read back. -/
def sout0_B_0 : Vec F S8x1024x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0).2.2.2.2.2.1)

end

end Cert.TailIdeal.Walk
-- ==== Proof.TailOutC.lean ====
module

public import proofs.«01_k».proof.Proof.TailOutB

@[expose] public section

/-! # What `l1_pre_b` leaves at points 2 to 7 -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : ¬cond0_0 i) (hc1 : ¬cond0_1 i) (hc2 : ¬cond0_2 i) (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) (xo10 : Vec F S1x1x1024 .f32) (xo11 : Vec F S1x1x1024 .f32) (xo12 : Vec F S1x1x1024 .f32) (xs0 : Vec F S8x1024x256 .f32)

/-- The stores into output 9 fill its block. -/
theorem cover0_C_9 (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).1 S256x1024.size (by sl_kernel_rfl) y

/-- What output 9 holds after the body: its stores read back. -/
def out0_C_9 : Vec F S256x1024 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).1)

/-- The stores into output 10 fill its block. -/
theorem cover0_C_10 (y : S1x1x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.1 S1x1x1024.size (by sl_kernel_rfl) y

/-- What output 10 holds after the body: its stores read back. -/
def out0_C_10 : Vec F S1x1x1024 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.1)

/-- The stores into output 11 fill its block. -/
theorem cover0_C_11 (y : S1x1x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.1 S1x1x1024.size (by sl_kernel_rfl) y

/-- What output 11 holds after the body: its stores read back. -/
def out0_C_11 : Vec F S1x1x1024 .f32 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.1)

/-- The stores into output 12 fill its block. -/
theorem cover0_C_12 (y : S1x1x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.1 S1x1x1024.size (by sl_kernel_rfl) y

/-- What output 12 holds after the body: its stores read back. -/
def out0_C_12 : Vec F S1x1x1024 .f32 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.1)

/-- What output 13 holds: nothing is stored at these points. -/
def out0_C_13 : Vec F S8x1024x256 .bf16 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.1)

/-- The stores into the accumulator fill its block. -/
theorem scover0_C_0 (y : S8x1024x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.2.1 S8x1024x256.size (by sl_kernel_rfl) y

/-- What the accumulator holds after the body: its stores read back. -/
def sout0_C_0 : Vec F S8x1024x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.2.1)

end

end Cert.TailIdeal.Walk
-- ==== Proof.TailOutD.lean ====
module

public import proofs.«01_k».proof.Proof.TailOutC

@[expose] public section

/-! # What `l1_pre_b` leaves at the last point -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : ¬cond0_0 i) (hc1 : ¬cond0_1 i) (hc2 : cond0_2 i) (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) (xo10 : Vec F S1x1x1024 .f32) (xo11 : Vec F S1x1x1024 .f32) (xo12 : Vec F S1x1x1024 .f32) (xs0 : Vec F S8x1024x256 .f32)

/-- The stores into output 9 fill its block. -/
theorem cover0_D_9 (y : S256x1024.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).1 S256x1024.size (by sl_kernel_rfl) y

/-- What output 9 holds after the body: its stores read back. -/
def out0_D_9 : Vec F S256x1024 .f32 :=
  VO0_9.read (Elt F) (VO0_9.writes (Elt F) VO0_9.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).1)

/-- The stores into output 10 fill its block. -/
theorem cover0_D_10 (y : S1x1x1024.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.1 S1x1x1024.size (by sl_kernel_rfl) y

/-- What output 10 holds after the body: its stores read back. -/
def out0_D_10 : Vec F S1x1x1024 .f32 :=
  VO0_10.read (Elt F) (VO0_10.writes (Elt F) VO0_10.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.1)

/-- The stores into output 11 fill its block. -/
theorem cover0_D_11 (y : S1x1x1024.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.1 S1x1x1024.size (by sl_kernel_rfl) y

/-- What output 11 holds after the body: its stores read back. -/
def out0_D_11 : Vec F S1x1x1024 .f32 :=
  VO0_11.read (Elt F) (VO0_11.writes (Elt F) VO0_11.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.1)

/-- The stores into output 12 fill its block. -/
theorem cover0_D_12 (y : S1x1x1024.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.1 S1x1x1024.size (by sl_kernel_rfl) y

/-- What output 12 holds after the body: its stores read back. -/
def out0_D_12 : Vec F S1x1x1024 .f32 :=
  VO0_12.read (Elt F) (VO0_12.writes (Elt F) VO0_12.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.1)

/-- The stores into output 13 fill its block. -/
theorem cover0_D_13 (y : S8x1024x256.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.1 S8x1024x256.size (by sl_kernel_rfl) y

/-- What output 13 holds after the body: its stores read back. -/
def out0_D_13 : Vec F S8x1024x256 .bf16 :=
  VO0_13.read (Elt F) (VO0_13.writes (Elt F) VO0_13.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.1)

/-- The stores into the accumulator fill its block. -/
theorem scover0_D_0 (y : S8x1024x256.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.2.1 S8x1024x256.size (by sl_kernel_rfl) y

/-- What the accumulator holds after the body: its stores read back. -/
def sout0_D_0 : Vec F S8x1024x256 .f32 :=
  VS0_0.read (Elt F) (VS0_0.writes (Elt F) VS0_0.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0).2.2.2.2.2.1)

end

end Cert.TailIdeal.Walk
-- ==== Proof.TailAccum.lean ====
module

public import proofs.«01_k».proof.Proof.TailOutD

@[expose] public section

/-! # What `l1_pre_b` leaves after each of its points -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the outputs' buffers and the accumulator hold after point `n`, in the order of the outputs with the accumulator last:
    the case of the point, run at its buffers and blocks, and for what it reads of the point before, at what that one left. -/
def outsAt0 (c : Dev nD) : (n : ℕ) → n < cfg0.N → Vec F S256x1024 .f32 × Vec F S1x1x1024 .f32 × Vec F S1x1x1024 .f32 × Vec F S1x1x1024 .f32 × Vec F S8x1024x256 .bf16 × Vec F S8x1024x256 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) < 2 then
      if h1 : (n + 1) % 9 = 0 then
        if h2 : (n + 1) % 9 = 8 then
          False.elim (by have hN : n + 1 < 9 := lt_of_lt_of_eq hn (show cfg0.N = 9 from N_0); omega)
        else
          (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
      else
        if h2 : (n + 1) % 9 = 8 then
          False.elim (by have hN : n + 1 < 9 := lt_of_lt_of_eq hn (show cfg0.N = 9 from N_0); omega)
        else
          (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2)
    else
      if h1 : (n + 1) % 9 = 0 then
        False.elim (by have hN : n + 1 < 9 := lt_of_lt_of_eq hn (show cfg0.N = 9 from N_0); omega)
      else
        if h2 : (n + 1) % 9 = 8 then
          (out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, out0_D_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, out0_D_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2)
        else
          (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.2)

/-- `outsAt0` at a point of case A: that case's contents. -/
theorem outsAt0_A (c : Dev nD) (t : Fin cfg0.N) (h0 : t.val < 2) (h1 : t.val % 9 = 0) (h2 : ¬t.val % 9 = 8) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : t.val < 2) (h1 : ¬t.val % 9 = 0) (h2 : ¬t.val % 9 = 8) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2) := by
  obtain ⟨n, hn⟩ := t
  cases n with
  | zero => exact (by exfalso; (try dsimp only at h1); exact absurd (Nat.zero_mod _) h1)
  | succ n => exact (dif_pos h0).trans ((dif_neg h1).trans ((dif_neg h2).trans rfl))

/-- `outsAt0` at a point of case C: that case's contents, over what the point before left. -/
theorem outsAt0_C (c : Dev nD) (t : Fin cfg0.N) (h0 : ¬t.val < 2) (h1 : ¬t.val % 9 = 0) (h2 : ¬t.val % 9 = 8) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact by omega)
  | succ n => exact (dif_neg h0).trans ((dif_neg h1).trans ((dif_neg h2).trans rfl))

/-- `outsAt0` at a point of case D: that case's contents, over what the point before left. -/
theorem outsAt0_D (c : Dev nD) (t : Fin cfg0.N) (h0 : ¬t.val < 2) (h1 : ¬t.val % 9 = 0) (h2 : t.val % 9 = 8) :
    outsAt0 m c t.val t.isLt = (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact by omega)
  | succ n => exact (dif_neg h0).trans ((dif_neg h1).trans ((dif_pos h2).trans rfl))

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point of case C output 10's current staging buffer holds what the body left at the point before: the point is
    not the first, the buffer was not written back between (`flush0_10`), the window is live and uncut. -/
theorem before0_10_C (c : Dev nD) (t : Fin cfg0.N) (h0 : ¬t.val < 2) (h1 : ¬t.val % 9 = 0) (h2 : ¬t.val % 9 = 8) (d) :
    (dats m 0 c).before 10 t d = (outsAt0 m c (t.val - 1) (Nat.lt_of_le_of_lt (Nat.sub_le _ _) t.isLt)).2.1 := by
  have hN : t.val < 9 := lt_of_lt_of_eq t.isLt (show cfg0.N = 9 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case C output 11's current staging buffer holds what the body left at the point before: the point is
    not the first, the buffer was not written back between (`flush0_11`), the window is live and uncut. -/
theorem before0_11_C (c : Dev nD) (t : Fin cfg0.N) (h0 : ¬t.val < 2) (h1 : ¬t.val % 9 = 0) (h2 : ¬t.val % 9 = 8) (d) :
    (dats m 0 c).before 11 t d = (outsAt0 m c (t.val - 1) (Nat.lt_of_le_of_lt (Nat.sub_le _ _) t.isLt)).2.2.1 := by
  have hN : t.val < 9 := lt_of_lt_of_eq t.isLt (show cfg0.N = 9 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case C output 12's current staging buffer holds what the body left at the point before: the point is
    not the first, the buffer was not written back between (`flush0_12`), the window is live and uncut. -/
theorem before0_12_C (c : Dev nD) (t : Fin cfg0.N) (h0 : ¬t.val < 2) (h1 : ¬t.val % 9 = 0) (h2 : ¬t.val % 9 = 8) (d) :
    (dats m 0 c).before 12 t d = (outsAt0 m c (t.val - 1) (Nat.lt_of_le_of_lt (Nat.sub_le _ _) t.isLt)).2.2.2.1 := by
  have hN : t.val < 9 := lt_of_lt_of_eq t.isLt (show cfg0.N = 9 from N_0)
  rw [Dat.before_out_kept _ 12 rfl t (by omega) (Bool.eq_false_iff.mpr fun h => by have := (flush0_12 _).mp h; dsimp only at this; omega)
    (fun _ => rfl) (fun _ _ => rfl)]
  dsimp only [dats]
/-- At a point of case D output 10's current staging buffer holds what the body left at the point before: the point is
    not the first, the buffer was not written back between (`flush0_10`), the window is live and uncut. -/
theorem before0_10_D (c : Dev nD) (t : Fin cfg0.N) (h0 : ¬t.val < 2) (h1 : ¬t.val % 9 = 0) (h2 : t.val % 9 = 8) (d) :
    (dats m 0 c).before 10 t d = (outsAt0 m c (t.val - 1) (Nat.lt_of_le_of_lt (Nat.sub_le _ _) t.isLt)).2.1 := by
  have hN : t.val < 9 := lt_of_lt_of_eq t.isLt (show cfg0.N = 9 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case D output 11's current staging buffer holds what the body left at the point before: the point is
    not the first, the buffer was not written back between (`flush0_11`), the window is live and uncut. -/
theorem before0_11_D (c : Dev nD) (t : Fin cfg0.N) (h0 : ¬t.val < 2) (h1 : ¬t.val % 9 = 0) (h2 : t.val % 9 = 8) (d) :
    (dats m 0 c).before 11 t d = (outsAt0 m c (t.val - 1) (Nat.lt_of_le_of_lt (Nat.sub_le _ _) t.isLt)).2.2.1 := by
  have hN : t.val < 9 := lt_of_lt_of_eq t.isLt (show cfg0.N = 9 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case D output 12's current staging buffer holds what the body left at the point before: the point is
    not the first, the buffer was not written back between (`flush0_12`), the window is live and uncut. -/
theorem before0_12_D (c : Dev nD) (t : Fin cfg0.N) (h0 : ¬t.val < 2) (h1 : ¬t.val % 9 = 0) (h2 : t.val % 9 = 8) (d) :
    (dats m 0 c).before 12 t d = (outsAt0 m c (t.val - 1) (Nat.lt_of_le_of_lt (Nat.sub_le _ _) t.isLt)).2.2.2.1 := by
  have hN : t.val < 9 := lt_of_lt_of_eq t.isLt (show cfg0.N = 9 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

end Cert.TailIdeal.Walk
-- ==== Proof.TailBody.lean ====
module

public import proofs.«01_k».proof.Proof.TailAccum
public import Idealize.ShloMosaic.Lib.Claim

@[expose] public section

/-! # The run of `l1_pre_b` -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  by_cases h0 : t.val < 2
  · by_cases h1 : t.val % 9 = 0
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [Dat.leavesExact_idle (dats m 0 c) 13 t (idleAt0_13_A t ((hcond0_0 t).mpr h0) ((hcond0_1 t).mpr h1) (fun h => h2 ((hcond0_2 t).mp h))) (noFlush0_13_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0 h1 h2]
          unfold out0_A_9 out0_A_10 out0_A_11 out0_A_12 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_A c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexact H13
          isplitl [HS0]; · iexact HS0
          iintro ⟨H0, H1, H2, H3, H4, H5, H6, H7, H8, ⟨%e9, H9⟩, ⟨%e10, H10⟩, ⟨%e11, H11⟩, ⟨%e12, H12⟩, H13, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _)
          iexists _; iexact H13
        · exfalso; have hN : t.val < 9 := lt_of_lt_of_eq t.isLt (show cfg0.N = 9 from N_0); omega
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [Dat.leavesExact_idle (dats m 0 c) 13 t (idleAt0_13_B t ((hcond0_0 t).mpr h0) (fun h => h1 ((hcond0_1 t).mp h)) (fun h => h2 ((hcond0_2 t).mp h))) (noFlush0_13_B t ((hcond0_0 t).mpr h0) (fun h => h1 ((hcond0_1 t).mp h)) (fun h => h2 ((hcond0_2 t).mp h)))]
        by_cases hz : t.val = 0
        · exfalso; have hN : t.val < 9 := lt_of_lt_of_eq t.isLt (show cfg0.N = 9 from N_0); omega
        · rw [PhiS_castSucc m c t, PhiS_pos m c _ _ hz]
          rw [outsAt0_B m c t h0 h1 h2]
          unfold out0_B_9 out0_B_10 out0_B_11 out0_B_12 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_B c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexact H13
          isplitl [HS0]; · iexact HS0
          iintro ⟨H0, H1, H2, H3, H4, H5, H6, H7, H8, ⟨%e9, H9⟩, ⟨%e10, H10⟩, ⟨%e11, H11⟩, ⟨%e12, H12⟩, H13, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _)
          iexists _; iexact H13
  · by_cases h1 : t.val % 9 = 0
    · exfalso; omega
    · by_cases h2 : t.val % 9 = 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13_D t (fun h => h0 ((hcond0_0 t).mp h)) (fun h => h1 ((hcond0_1 t).mp h)) ((hcond0_2 t).mpr h2)], after0_13]
        by_cases hz : t.val = 0
        · exfalso; have hN : t.val < 9 := lt_of_lt_of_eq t.isLt (show cfg0.N = 9 from N_0); omega
        · rw [PhiS_castSucc m c t, PhiS_pos m c _ _ hz]
          rw [outsAt0_D m c t h0 h1 h2]
          simp only [before0_10_D m c t h0 h1 h2, before0_11_D m c t h0 h1 h2, before0_12_D m c t h0 h1 h2]
          unfold out0_D_9 out0_D_10 out0_D_11 out0_D_12 out0_D_13 sout0_D_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_D c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexact H10
          isplitl [H11]; · iexact H11
          isplitl [H12]; · iexact H12
          isplitl [H13]; · iexists _; iexact H13
          isplitl [HS0]; · iexact HS0
          iintro ⟨H0, H1, H2, H3, H4, H5, H6, H7, H8, ⟨%e9, H9⟩, ⟨%e10, H10⟩, ⟨%e11, H11⟩, ⟨%e12, H12⟩, ⟨%e13, H13⟩, ⟨%es0, HS0⟩⟩
          isplitl [HS0 Hg]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_D_9 c _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _ _ _ _)
          unfold owns; iexists _; isplitr
          swap; · iexact H13
          ipureintro; exact View.read_writes_of_cover _ _ _ _ _ (cover0_D_13 c _ _ _ _ _ _ _ _ _ _ _ _ _ _ _ _ _ _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [Dat.leavesExact_idle (dats m 0 c) 13 t (idleAt0_13_C t (fun h => h0 ((hcond0_0 t).mp h)) (fun h => h1 ((hcond0_1 t).mp h)) (fun h => h2 ((hcond0_2 t).mp h))) (noFlush0_13_C t (fun h => h0 ((hcond0_0 t).mp h)) (fun h => h1 ((hcond0_1 t).mp h)) (fun h => h2 ((hcond0_2 t).mp h)))]
        by_cases hz : t.val = 0
        · exfalso; have hN : t.val < 9 := lt_of_lt_of_eq t.isLt (show cfg0.N = 9 from N_0); omega
        · rw [PhiS_castSucc m c t, PhiS_pos m c _ _ hz]
          rw [outsAt0_C m c t h0 h1 h2]
          simp only [before0_10_C m c t h0 h1 h2, before0_11_C m c t h0 h1 h2, before0_12_C m c t h0 h1 h2]
          unfold out0_C_9 out0_C_10 out0_C_11 out0_C_12 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_C c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _ _ _ _).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexact H10
          isplitl [H11]; · iexact H11
          isplitl [H12]; · iexact H12
          isplitl [H13]; · iexact H13
          isplitl [HS0]; · iexact HS0
          iintro ⟨H0, H1, H2, H3, H4, H5, H6, H7, H8, ⟨%e9, H9⟩, ⟨%e10, H10⟩, ⟨%e11, H11⟩, ⟨%e12, H12⟩, H13, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _)
          iexists _; iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

set_option backward.isDefEq.respectTransparency.types false in
/-- Every fair run of the program ends, with every array of the call at what its points leave, every other buffer as the host lines left it, and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: every fair run ends, with the arguments unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.TailIdeal.Walk
-- ==== Proof.TailFrame.lean ====
/- The frame of `l1_pre_b` at rounded values: its two programs have the same text, so the run of the one is the run of the other. -/
module

public import proofs.«01_k».proof.Defs
public import proofs.«01_k».proof.Proof.TailBody
public import proofs.«01_k».proof.Proof.Gen.Tail
public import Idealize.ShloMosaic.Lib.Claim
public import Idealize.ShloMosaic.Lib.StableHlo.Run

@[expose] public section

set_option maxRecDepth 100000

namespace Cert.TailIdeal.Walk

open Idealize.ShloMosaic Idealize.SL.Sem

attribute [local instance] Cert.Tail.Gen.facts Cert.TailIdeal.Gen.facts

/-- The frame of the program without rewrites, at rounded values, said of the ideal program's text. -/
def TailRun : Prop :=
  ∀ (m : (ℓ : Loc Cert.TailIdeal.nD Cert.TailIdeal.τ Cert.TailIdeal.sig) → Buf (Elt Bits) ℓ) (g : Dev Cert.TailIdeal.nD → PrngReg), True →
    θ_run (Cert.TailIdeal.defs (F := Bits)) (onTc (τ := Cert.TailIdeal.τ) (Cert.TailIdeal.main (F := Bits))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

/-- Both say the same, the texts being equal. -/
theorem same_text : Cert.quiescent_Tail (hTail := Cert.Tail.Gen.facts) = TailRun := by
  sl_kernel_rfl

/-- The frame at rounded values, without a precondition. -/
theorem frame_bits : Cert.quiescent_Tail (hTail := Cert.Tail.Gen.facts) :=
  same_text.mpr fun m ρ _ => frame (F := Bits) m ρ

end Cert.TailIdeal.Walk
-- ==== Proof.TailPointA.lean ====
/- What `l1_pre_b` leaves at the first point, as the stored values of what it loads. -/
module

public import Idealize.ShloMosaic.Lib.Pipeline.ValueKit
public import proofs.«01_k».proof.Proof.TailOutA

@[expose] public section

set_option maxRecDepth 16384

noncomputable section

namespace Cert.TailIdeal.Walk

open Cert.TailIdeal.Gen
open Idealize.ShloMosaic Idealize.ShloMosaic.TcCoe Idealize.ShloMosaic.Tactic

variable {F : FTy → Type} [FloatOps F]

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : cond0_0 i) (hc1 : cond0_1 i) (hc2 : ¬cond0_2 i) (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16)

/-- At the first point: the rows' cotangent. -/
theorem eq_out0_A_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8
    = k0_pay11 x5 (k0_pay4 x6) (k0_pay7 x4) (k0_pay8 x4) (k0_pay10 x0 x1 x2 x7 x8) := by
  frame_out

/-- At the first point: the shifts' gradient. -/
theorem eq_out0_A_10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8
    = k0_pay19 (k0_pay12 (k0_pay6 x0 x1 x2 x8)) k0_pay16 := by
  frame_out

/-- At the first point: the scales' gradient. -/
theorem eq_out0_A_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8
    = k0_pay20 (k0_pay13 (k0_pay6 x0 x1 x2 x8) (k0_pay9 x4 x6)) k0_pay17 := by
  frame_out

/-- At the first point: the gain's gradient. -/
theorem eq_out0_A_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8
    = k0_pay21 (k0_pay14 (k0_pay8 x4) (k0_pay10 x0 x1 x2 x7 x8)) k0_pay18 := by
  frame_out

/-- At the first point: the accumulator. -/
theorem eq_sout0_A_0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8
    = k0_pay1 (k0_pay23 (k0_pay15 (k0_pay3 x3) (k0_pay5 x0 x1 x2)) k0_pay22) := by
  frame_out

end

end Cert.TailIdeal.Walk

end
-- ==== Proof.TailPointB.lean ====
/- What `l1_pre_b` leaves at the second point, as the stored values of what it loads. -/
module

public import Idealize.ShloMosaic.Lib.Pipeline.ValueKit
public import proofs.«01_k».proof.Proof.TailOutB

@[expose] public section

set_option maxRecDepth 16384

noncomputable section

namespace Cert.TailIdeal.Walk

open Cert.TailIdeal.Gen
open Idealize.ShloMosaic Idealize.ShloMosaic.TcCoe Idealize.ShloMosaic.Tactic

variable {F : FTy → Type} [FloatOps F]

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : cond0_0 i) (hc1 : ¬cond0_1 i) (hc2 : ¬cond0_2 i) (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) (xs0 : Vec F S8x1024x256 .f32)

/-- At the second point: the rows' cotangent. -/
theorem eq_out0_B_9 : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0
    = k0_pay11 x5 (k0_pay4 x6) (k0_pay7 x4) (k0_pay8 x4) (k0_pay10 x0 x1 x2 x7 x8) := by
  frame_out

/-- At the second point: the shifts' gradient. -/
theorem eq_out0_B_10 : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0
    = k0_pay19 (k0_pay12 (k0_pay6 x0 x1 x2 x8)) k0_pay16 := by
  frame_out

/-- At the second point: the scales' gradient. -/
theorem eq_out0_B_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0
    = k0_pay20 (k0_pay13 (k0_pay6 x0 x1 x2 x8) (k0_pay9 x4 x6)) k0_pay17 := by
  frame_out

/-- At the second point: the gain's gradient. -/
theorem eq_out0_B_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0
    = k0_pay21 (k0_pay14 (k0_pay8 x4) (k0_pay10 x0 x1 x2 x7 x8)) k0_pay18 := by
  frame_out

/-- At the second point: the accumulator. -/
theorem eq_sout0_B_0 : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0
    = k0_pay1 (k0_pay23 (k0_pay15 (k0_pay3 x3) (k0_pay5 x0 x1 x2)) xs0) := by
  frame_out

end

end Cert.TailIdeal.Walk

end
-- ==== Proof.TailPointC.lean ====
/- What `l1_pre_b` leaves at an inner point, as the stored values of what it loads. -/
module

public import Idealize.ShloMosaic.Lib.Pipeline.ValueKit
public import proofs.«01_k».proof.Proof.TailOutC

@[expose] public section

set_option maxRecDepth 16384

noncomputable section

namespace Cert.TailIdeal.Walk

open Cert.TailIdeal.Gen
open Idealize.ShloMosaic Idealize.ShloMosaic.TcCoe Idealize.ShloMosaic.Tactic

variable {F : FTy → Type} [FloatOps F]

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : ¬cond0_0 i) (hc1 : ¬cond0_1 i) (hc2 : ¬cond0_2 i) (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) (xo10 xo11 xo12 : Vec F S1x1x1024 .f32) (xs0 : Vec F S8x1024x256 .f32)

/-- At an inner point: the rows' cotangent. -/
theorem eq_out0_C_9 : out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay11 x5 (k0_pay4 x6) (k0_pay7 x4) (k0_pay8 x4) (k0_pay10 x0 x1 x2 x7 x8) := by
  frame_out

/-- At an inner point: the shifts' gradient. -/
theorem eq_out0_C_10 : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay19 (k0_pay12 (k0_pay6 x0 x1 x2 x8)) xo10 := by
  frame_out

/-- At an inner point: the scales' gradient. -/
theorem eq_out0_C_11 : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay20 (k0_pay13 (k0_pay6 x0 x1 x2 x8) (k0_pay9 x4 x6)) xo11 := by
  frame_out

/-- At an inner point: the gain's gradient. -/
theorem eq_out0_C_12 : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay21 (k0_pay14 (k0_pay8 x4) (k0_pay10 x0 x1 x2 x7 x8)) xo12 := by
  frame_out

/-- At an inner point: the accumulator. -/
theorem eq_sout0_C_0 : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay1 (k0_pay23 (k0_pay15 (k0_pay3 x3) (k0_pay5 x0 x1 x2)) xs0) := by
  frame_out

end

end Cert.TailIdeal.Walk

end
-- ==== Proof.TailPointD.lean ====
/- What `l1_pre_b` leaves at the last point, as the stored values of what it loads. -/
module

public import Idealize.ShloMosaic.Lib.Pipeline.ValueKit
public import proofs.«01_k».proof.Proof.TailOutD

@[expose] public section

set_option maxRecDepth 16384

noncomputable section

namespace Cert.TailIdeal.Walk

open Cert.TailIdeal.Gen
open Idealize.ShloMosaic Idealize.ShloMosaic.TcCoe Idealize.ShloMosaic.Tactic

variable {F : FTy → Type} [FloatOps F]

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S8x1024x256 .bf16) (harg14 : arg14.IsWhole) (arg15 : Memref sig .tc .vmem S8x1024x256 .f32) (harg15 : arg15.IsWhole) (hc0 : ¬cond0_0 i) (hc1 : ¬cond0_1 i) (hc2 : cond0_2 i) (x0 : Vec F S256x1024 .f32) (x1 : Vec F S256x1024 .f32) (x2 : Vec F S256x1024 .bf16) (x3 : Vec F S256x1024 .bf16) (x4 : Vec F S256x1024 .f32) (x5 : Vec F S256x1024 .f32) (x6 : Vec F S1x1x1024 .f32) (x7 : Vec F S1x1x1024 .f32) (x8 : Vec F S2048x1024 .bf16) (xo10 xo11 xo12 : Vec F S1x1x1024 .f32) (xs0 : Vec F S8x1024x256 .f32)

/-- At the last point: the rows' cotangent. -/
theorem eq_out0_D_9 : out0_D_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay11 x5 (k0_pay4 x6) (k0_pay7 x4) (k0_pay8 x4) (k0_pay10 x0 x1 x2 x7 x8) := by
  frame_out

/-- At the last point: the shifts' gradient. -/
theorem eq_out0_D_10 : out0_D_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay19 (k0_pay12 (k0_pay6 x0 x1 x2 x8)) xo10 := by
  frame_out

/-- At the last point: the scales' gradient. -/
theorem eq_out0_D_11 : out0_D_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay20 (k0_pay13 (k0_pay6 x0 x1 x2 x8) (k0_pay9 x4 x6)) xo11 := by
  frame_out

/-- At the last point: the gain's gradient. -/
theorem eq_out0_D_12 : out0_D_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay21 (k0_pay14 (k0_pay8 x4) (k0_pay10 x0 x1 x2 x7 x8)) xo12 := by
  frame_out

/-- At the last point: the accumulator. -/
theorem eq_sout0_D_0 : sout0_D_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay1 (k0_pay23 (k0_pay15 (k0_pay3 x3) (k0_pay5 x0 x1 x2)) xs0) := by
  frame_out

/-- At the last point: the projection's gradient. -/
theorem eq_out0_D_13 : out0_D_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xo10 xo11 xo12 xs0
    = k0_pay2 (k0_pay1 (k0_pay23 (k0_pay15 (k0_pay3 x3) (k0_pay5 x0 x1 x2)) xs0)) := by
  frame_out

end

end Cert.TailIdeal.Walk

end
-- ==== Proof.TailLeft.lean ====
/- What each point of `l1_pre_b` leaves, as the stored values of its blocks and of what the point before left. -/
module

public import proofs.«01_k».proof.Proof.TailPointA
public import proofs.«01_k».proof.Proof.TailPointB
public import proofs.«01_k».proof.Proof.TailPointC
public import proofs.«01_k».proof.Proof.TailPointD
public import proofs.«01_k».proof.Proof.TailAccum

@[expose] public section

set_option maxRecDepth 16384

noncomputable section

namespace Cert.TailIdeal.Walk

open Cert.TailIdeal.Gen
open Idealize.ShloMosaic Idealize.ShloMosaic.TcCoe Idealize.ShloMosaic.Tactic

variable {F : FTy → Type} [FloatOps F] (m : (ℓ : Loc nD τ sig) → Buf (Elt F) ℓ) (c : Dev nD) (t : Fin cfg0.N)

/-- What the first point leaves in the block of the rows' cotangent. -/
theorem left9_A (h0 : t.val < 2) (h1 : t.val % 9 = 0) (h2 : ¬t.val % 9 = 8) :
    (outsAt0 m c t.val t.isLt).1 = k0_pay11 (iblk m c 5 t) (k0_pay4 (iblk m c 6 t)) (k0_pay7 (iblk m c 4 t)) (k0_pay8 (iblk m c 4 t)) (k0_pay10 (iblk m c 0 t) (iblk m c 1 t) (iblk m c 2 t) (iblk m c 7 t) (iblk m c 8 t)) := by
  rw [outsAt0_A m c t h0 h1 h2]
  dsimp only
  rw [eq_out0_A_9]

/-- What the first point leaves in the block of the shifts' gradient. -/
theorem left10_A (h0 : t.val < 2) (h1 : t.val % 9 = 0) (h2 : ¬t.val % 9 = 8) :
    (outsAt0 m c t.val t.isLt).2.1 = k0_pay19 (k0_pay12 (k0_pay6 (iblk m c 0 t) (iblk m c 1 t) (iblk m c 2 t) (iblk m c 8 t))) k0_pay16 := by
  rw [outsAt0_A m c t h0 h1 h2]
  dsimp only
  rw [eq_out0_A_10]

/-- What the first point leaves in the block of the scales' gradient. -/
theorem left11_A (h0 : t.val < 2) (h1 : t.val % 9 = 0) (h2 : ¬t.val % 9 = 8) :
    (outsAt0 m c t.val t.isLt).2.2.1 = k0_pay20 (k0_pay13 (k0_pay6 (iblk m c 0 t) (iblk m c 1 t) (iblk m c 2 t) (iblk m c 8 t)) (k0_pay9 (iblk m c 4 t) (iblk m c 6 t))) k0_pay17 := by
  rw [outsAt0_A m c t h0 h1 h2]
  dsimp only
  rw [eq_out0_A_11]

/-- What the first point leaves in the block of the gain's gradient. -/
theorem left12_A (h0 : t.val < 2) (h1 : t.val % 9 = 0) (h2 : ¬t.val % 9 = 8) :
    (outsAt0 m c t.val t.isLt).2.2.2.1 = k0_pay21 (k0_pay14 (k0_pay8 (iblk m c 4 t)) (k0_pay10 (iblk m c 0 t) (iblk m c 1 t) (iblk m c 2 t) (iblk m c 7 t) (iblk m c 8 t))) k0_pay18 := by
  rw [outsAt0_A m c t h0 h1 h2]
  dsimp only
  rw [eq_out0_A_12]

/-- What the first point leaves in the accumulator. -/
theorem left_acc_A (h0 : t.val < 2) (h1 : t.val % 9 = 0) (h2 : ¬t.val % 9 = 8) :
    (outsAt0 m c t.val t.isLt).2.2.2.2.2 = k0_pay1 (k0_pay23 (k0_pay15 (k0_pay3 (iblk m c 3 t)) (k0_pay5 (iblk m c 0 t) (iblk m c 1 t) (iblk m c 2 t))) k0_pay22) := by
  rw [outsAt0_A m c t h0 h1 h2]
  dsimp only
  rw [eq_sout0_A_0]

/-- What the second point leaves in the block of the rows' cotangent. -/
theorem left9_B (h0 : t.val < 2) (h1 : ¬t.val % 9 = 0) (h2 : ¬t.val % 9 = 8) :
    (outsAt0 m c t.val t.isLt).1 = k0_pay11 (iblk m c 5 t) (k0_pay4 (iblk m c 6 t)) (k0_pay7 (iblk m c 4 t)) (k0_pay8 (iblk m c 4 t)) (k0_pay10 (iblk m c 0 t) (iblk m c 1 t) (iblk m c 2 t) (iblk m c 7 t) (iblk m c 8 t)) := by
  rw [outsAt0_B m c t h0 h1 h2]
  dsimp only
  rw [eq_out0_B_9]

/-- What the second point leaves in the block of the shifts' gradient. -/
theorem left10_B (h0 : t.val < 2) (h1 : ¬t.val % 9 = 0) (h2 : ¬t.val % 9 = 8) :
    (outsAt0 m c t.val t.isLt).2.1 = k0_pay19 (k0_pay12 (k0_pay6 (iblk m c 0 t) (iblk m c 1 t) (iblk m c 2 t) (iblk m c 8 t))) k0_pay16 := by
  rw [outsAt0_B m c t h0 h1 h2]
  dsimp only
  rw [eq_out0_B_10]

/-- What the second point leaves in the block of the scales' gradient. -/
theorem left11_B (h0 : t.val < 2) (h1 : ¬t.val % 9 = 0) (h2 : ¬t.val % 9 = 8) :
    (outsAt0 m c t.val t.isLt).2.2.1 = k0_pay20 (k0_pay13 (k0_pay6 (iblk m c 0 t) (iblk m c 1 t) (iblk m c 2 t) (iblk m c 8 t)) (k0_pay9 (iblk m c 4 t) (iblk m c 6 t))) k0_pay17 := by
  rw [outsAt0_B m c t h0 h1 h2]
  dsimp only
  rw [eq_out0_B_11]

/-- What the second point leaves in the block of the gain's gradient. -/
theorem left12_B (h0 : t.val < 2) (h1 : ¬t.val % 9 = 0) (h2 : ¬t.val % 9 = 8) :
    (outsAt0 m c t.val t.isLt).2.2.2.1 = k0_pay21 (k0_pay14 (k0_pay8 (iblk m c 4 t)) (k0_pay10 (iblk m c 0 t) (iblk m c 1 t) (iblk m c 2 t) (iblk m c 7 t) (iblk m c 8 t))) k0_pay18 := by
  rw [outsAt0_B m c t h0 h1 h2]
  dsimp only
  rw [eq_out0_B_12]

/-- What the second point leaves in the accumulator. -/
theorem left_acc_B (h0 : t.val < 2) (h1 : ¬t.val % 9 = 0) (h2 : ¬t.val % 9 = 8) :
    (outsAt0 m c t.val t.isLt).2.2.2.2.2 = k0_pay1 (k0_pay23 (k0_pay15 (k0_pay3 (iblk m c 3 t)) (k0_pay5 (iblk m c 0 t) (iblk m c 1 t) (iblk m c 2 t))) (outsAt0 m c (t.val - 1) (Nat.lt_of_le_of_lt (Nat.sub_le _ _) t.isLt)).2.2.2.2.2) := by
  rw [outsAt0_B m c t h0 h1 h2]
  dsimp only
  rw [eq_sout0_B_0]

/-- What an inner point leaves in the block of the rows' cotangent. -/
theorem left9_C (h0 : ¬t.val < 2) (h1 : ¬t.val % 9 = 0) (h2 : ¬t.val % 9 = 8) :
    (outsAt0 m c t.val t.isLt).1 = k0_pay11 (iblk m c 5 t) (k0_pay4 (iblk m c 6 t)) (k0_pay7 (iblk m c 4 t)) (k0_pay8 (iblk m c 4 t)) (k0_pay10 (iblk m c 0 t) (iblk m c 1 t) (iblk m c 2 t) (iblk m c 7 t) (iblk m c 8 t)) := by
  rw [outsAt0_C m c t h0 h1 h2]
  dsimp only
  rw [eq_out0_C_9]

/-- What an inner point leaves in the block of the shifts' gradient. -/
theorem left10_C (h0 : ¬t.val < 2) (h1 : ¬t.val % 9 = 0) (h2 : ¬t.val % 9 = 8) :
    (outsAt0 m c t.val t.isLt).2.1 = k0_pay19 (k0_pay12 (k0_pay6 (iblk m c 0 t) (iblk m c 1 t) (iblk m c 2 t) (iblk m c 8 t))) (outsAt0 m c (t.val - 1) (Nat.lt_of_le_of_lt (Nat.sub_le _ _) t.isLt)).2.1 := by
  rw [outsAt0_C m c t h0 h1 h2]
  dsimp only
  rw [eq_out0_C_10]

/-- What an inner point leaves in the block of the scales' gradient. -/
theorem left11_C (h0 : ¬t.val < 2) (h1 : ¬t.val % 9 = 0) (h2 : ¬t.val % 9 = 8) :
    (outsAt0 m c t.val t.isLt).2.2.1 = k0_pay20 (k0_pay13 (k0_pay6 (iblk m c 0 t) (iblk m c 1 t) (iblk m c 2 t) (iblk m c 8 t)) (k0_pay9 (iblk m c 4 t) (iblk m c 6 t))) (outsAt0 m c (t.val - 1) (Nat.lt_of_le_of_lt (Nat.sub_le _ _) t.isLt)).2.2.1 := by
  rw [outsAt0_C m c t h0 h1 h2]
  dsimp only
  rw [eq_out0_C_11]

/-- What an inner point leaves in the block of the gain's gradient. -/
theorem left12_C (h0 : ¬t.val < 2) (h1 : ¬t.val % 9 = 0) (h2 : ¬t.val % 9 = 8) :
    (outsAt0 m c t.val t.isLt).2.2.2.1 = k0_pay21 (k0_pay14 (k0_pay8 (iblk m c 4 t)) (k0_pay10 (iblk m c 0 t) (iblk m c 1 t) (iblk m c 2 t) (iblk m c 7 t) (iblk m c 8 t))) (outsAt0 m c (t.val - 1) (Nat.lt_of_le_of_lt (Nat.sub_le _ _) t.isLt)).2.2.2.1 := by
  rw [outsAt0_C m c t h0 h1 h2]
  dsimp only
  rw [eq_out0_C_12]

/-- What an inner point leaves in the accumulator. -/
theorem left_acc_C (h0 : ¬t.val < 2) (h1 : ¬t.val % 9 = 0) (h2 : ¬t.val % 9 = 8) :
    (outsAt0 m c t.val t.isLt).2.2.2.2.2 = k0_pay1 (k0_pay23 (k0_pay15 (k0_pay3 (iblk m c 3 t)) (k0_pay5 (iblk m c 0 t) (iblk m c 1 t) (iblk m c 2 t))) (outsAt0 m c (t.val - 1) (Nat.lt_of_le_of_lt (Nat.sub_le _ _) t.isLt)).2.2.2.2.2) := by
  rw [outsAt0_C m c t h0 h1 h2]
  dsimp only
  rw [eq_sout0_C_0]

/-- What the last point leaves in the block of the rows' cotangent. -/
theorem left9_D (h0 : ¬t.val < 2) (h1 : ¬t.val % 9 = 0) (h2 : t.val % 9 = 8) :
    (outsAt0 m c t.val t.isLt).1 = k0_pay11 (iblk m c 5 t) (k0_pay4 (iblk m c 6 t)) (k0_pay7 (iblk m c 4 t)) (k0_pay8 (iblk m c 4 t)) (k0_pay10 (iblk m c 0 t) (iblk m c 1 t) (iblk m c 2 t) (iblk m c 7 t) (iblk m c 8 t)) := by
  rw [outsAt0_D m c t h0 h1 h2]
  dsimp only
  rw [eq_out0_D_9]

/-- What the last point leaves in the block of the shifts' gradient. -/
theorem left10_D (h0 : ¬t.val < 2) (h1 : ¬t.val % 9 = 0) (h2 : t.val % 9 = 8) :
    (outsAt0 m c t.val t.isLt).2.1 = k0_pay19 (k0_pay12 (k0_pay6 (iblk m c 0 t) (iblk m c 1 t) (iblk m c 2 t) (iblk m c 8 t))) (outsAt0 m c (t.val - 1) (Nat.lt_of_le_of_lt (Nat.sub_le _ _) t.isLt)).2.1 := by
  rw [outsAt0_D m c t h0 h1 h2]
  dsimp only
  rw [eq_out0_D_10]

/-- What the last point leaves in the block of the scales' gradient. -/
theorem left11_D (h0 : ¬t.val < 2) (h1 : ¬t.val % 9 = 0) (h2 : t.val % 9 = 8) :
    (outsAt0 m c t.val t.isLt).2.2.1 = k0_pay20 (k0_pay13 (k0_pay6 (iblk m c 0 t) (iblk m c 1 t) (iblk m c 2 t) (iblk m c 8 t)) (k0_pay9 (iblk m c 4 t) (iblk m c 6 t))) (outsAt0 m c (t.val - 1) (Nat.lt_of_le_of_lt (Nat.sub_le _ _) t.isLt)).2.2.1 := by
  rw [outsAt0_D m c t h0 h1 h2]
  dsimp only
  rw [eq_out0_D_11]

/-- What the last point leaves in the block of the gain's gradient. -/
theorem left12_D (h0 : ¬t.val < 2) (h1 : ¬t.val % 9 = 0) (h2 : t.val % 9 = 8) :
    (outsAt0 m c t.val t.isLt).2.2.2.1 = k0_pay21 (k0_pay14 (k0_pay8 (iblk m c 4 t)) (k0_pay10 (iblk m c 0 t) (iblk m c 1 t) (iblk m c 2 t) (iblk m c 7 t) (iblk m c 8 t))) (outsAt0 m c (t.val - 1) (Nat.lt_of_le_of_lt (Nat.sub_le _ _) t.isLt)).2.2.2.1 := by
  rw [outsAt0_D m c t h0 h1 h2]
  dsimp only
  rw [eq_out0_D_12]

/-- What the last point leaves in the accumulator. -/
theorem left_acc_D (h0 : ¬t.val < 2) (h1 : ¬t.val % 9 = 0) (h2 : t.val % 9 = 8) :
    (outsAt0 m c t.val t.isLt).2.2.2.2.2 = k0_pay1 (k0_pay23 (k0_pay15 (k0_pay3 (iblk m c 3 t)) (k0_pay5 (iblk m c 0 t) (iblk m c 1 t) (iblk m c 2 t))) (outsAt0 m c (t.val - 1) (Nat.lt_of_le_of_lt (Nat.sub_le _ _) t.isLt)).2.2.2.2.2) := by
  rw [outsAt0_D m c t h0 h1 h2]
  dsimp only
  rw [eq_sout0_D_0]

/-- What the last point leaves in the block of the projection's gradient. -/
theorem left13_D (h0 : ¬t.val < 2) (h1 : ¬t.val % 9 = 0) (h2 : t.val % 9 = 8) :
    (outsAt0 m c t.val t.isLt).2.2.2.2.1 = k0_pay2 (k0_pay1 (k0_pay23 (k0_pay15 (k0_pay3 (iblk m c 3 t)) (k0_pay5 (iblk m c 0 t) (iblk m c 1 t) (iblk m c 2 t))) (outsAt0 m c (t.val - 1) (Nat.lt_of_le_of_lt (Nat.sub_le _ _) t.isLt)).2.2.2.2.2)) := by
  rw [outsAt0_D m c t h0 h1 h2]
  dsimp only
  rw [eq_out0_D_13]

end Cert.TailIdeal.Walk
-- ==== Proof.TailSpec.lean ====
/- The gradient of a normalised, modulated and projected block of rows over the reals: what the call `l1_pre_b` computes, with no program in sight. -/
module

public import Mathlib.Analysis.SpecialFunctions.Pow.Real
public import Mathlib.Algebra.BigOperators.Fin
public import Mathlib.Algebra.BigOperators.Field
public import Mathlib.Tactic.FieldSimp
public import Mathlib.Tactic.Ring

@[expose] public section

noncomputable section

namespace Cert.NormGrad

open scoped BigOperators

/-! ## One row -/

/-- The number added to a row's mean square. -/
def eps : ℝ := 8796093 / 2 ^ 43

/-- The norm's addend is positive. -/
theorem eps_pos : 0 < eps := by unfold eps; positivity

/-- A row's mean square, with the small number. -/
def ms (x : Fin 1024 → ℝ) : ℝ := (∑ d, x d * x d) / 1024 + eps

/-- So is a row's mean square with it. -/
theorem ms_pos (x : Fin 1024 → ℝ) : 0 < ms x :=
  add_pos_of_nonneg_of_pos (div_nonneg (Finset.sum_nonneg fun d _ => mul_self_nonneg (x d)) (by norm_num)) eps_pos

/-- The reciprocal of its root. -/
def rs (x : Fin 1024 → ℝ) : ℝ := (√(ms x))⁻¹

/-- The normalised row. -/
def nrm (x : Fin 1024 → ℝ) (d : Fin 1024) : ℝ := x d * rs x

/-- A row of the projection's cotangent: the sum of two arrays in the first half, a third array in the second. -/
def pack (a b z : Fin 1024 → ℝ) (e : Fin 2048) : ℝ :=
  if h : e.val < 1024 then a ⟨e.val, h⟩ + b ⟨e.val, h⟩ else z ⟨e.val - 1024, by omega⟩

/-- A row's cotangent before the projection by `w`. -/
def dh (w : Fin 1024 → Fin 2048 → ℝ) (p : Fin 2048 → ℝ) (d : Fin 1024) : ℝ := ∑ e, p e * w d e

/-- A row's cotangent before the scale `1 + s`. -/
def dy (s h : Fin 1024 → ℝ) (d : Fin 1024) : ℝ := h d * (1 + s d)

/-- The cotangent of the normalised row. -/
def dn (g s h : Fin 1024 → ℝ) (d : Fin 1024) : ℝ := dy s h d * g d

/-- The cotangent of the row, added to what comes down the residual. -/
def dxRow (x g s h res : Fin 1024 → ℝ) (d : Fin 1024) : ℝ :=
  res d + rs x * (dn g s h d - nrm x d * ((∑ j, dn g s h j * nrm x j) / 1024))

/-- The same cotangent, term by term: through the product with the root's reciprocal, and twice through the square. -/
theorem dxRow_terms (x g s h res : Fin 1024 → ℝ) (d : Fin 1024) :
    dxRow x g s h res d = res d + (dn g s h d * rs x
      + x d * ((∑ j, x j * dn g s h j) * (-(1 / 2) * (rs x / ms x)) / 1024)
      + (∑ j, x j * dn g s h j) * (-(1 / 2) * (rs x / ms x)) / 1024 * x d) := by
  have hp := ms_pos x
  have hr : rs x * rs x = 1 / ms x := by
    unfold rs
    rw [← mul_inv, Real.mul_self_sqrt hp.le, one_div]
  have hs : ∑ j, dn g s h j * nrm x j = (∑ j, x j * dn g s h j) * rs x := by
    rw [Finset.sum_mul]
    exact Finset.sum_congr rfl fun j _ => by unfold nrm; ring
  have hq : rs x / ms x = rs x * rs x * rs x := by rw [hr]; ring
  unfold dxRow
  rw [hs, hq]
  unfold nrm
  ring

/-! ## All rows -/

/-- The arguments: the rows `x`, the gain `g`, the scales `sc` and shifts `sh` of the two kinds of rows, the projection `w`,
    the residual's cotangent `res`, and the projection's cotangents `ua`, `ub` and `z`. -/
structure Args where
  x : Fin 2304 → Fin 1024 → ℝ
  g : Fin 1024 → ℝ
  sc : Fin 2 → Fin 1024 → ℝ
  sh : Fin 2 → Fin 1024 → ℝ
  w : Fin 1024 → Fin 2048 → ℝ
  res : Fin 2304 → Fin 1024 → ℝ
  ua : Fin 2304 → Fin 1024 → ℝ
  ub : Fin 2304 → Fin 1024 → ℝ
  z : Fin 2304 → Fin 1024 → ℝ

/-- A context row. -/
def ctxRow (r : Fin 256) : Fin 2304 := ⟨r.val, by omega⟩
/-- A latent row. -/
def latRow (r : Fin 2048) : Fin 2304 := ⟨256 + r.val, by omega⟩
/-- A row by its number. -/
def rowN (n : ℕ) : Fin 2304 := ⟨n % 2304, Nat.mod_lt _ (by decide)⟩
/-- A row's kind: 0 for a context row, 1 for a latent row. -/
def kind (t : Fin 2304) : Fin 2 := if t.val < 256 then 0 else 1

/-- The first rows are the context's. -/
theorem kind_ctx (r : Fin 256) : kind (ctxRow r) = 0 := if_pos r.isLt
/-- The others are the latents'. -/
theorem kind_lat (r : Fin 2048) : kind (latRow r) = 1 := if_neg (by show ¬256 + r.val < 256; omega)

/-- The sum over the rows of a kind. -/
def rows (k : Fin 2) (f : Fin 2304 → ℝ) : ℝ := if k = 0 then ∑ r, f (ctxRow r) else ∑ r, f (latRow r)

/-- The sum over the context's rows. -/
theorem rows_ctx (f : Fin 2304 → ℝ) : rows 0 f = ∑ r, f (ctxRow r) := if_pos rfl
/-- The sum over the latents' rows. -/
theorem rows_lat (f : Fin 2304 → ℝ) : rows 1 f = ∑ r, f (latRow r) := if_neg (by decide)

namespace Args

variable (A : Args)

/-- The projection's cotangent. -/
def p (t : Fin 2304) : Fin 2048 → ℝ := pack (A.ua t) (A.ub t) (A.z t)
/-- The cotangent before the projection. -/
def dht (t : Fin 2304) : Fin 1024 → ℝ := dh A.w (A.p t)
/-- The scaled normalised rows. -/
def y (t : Fin 2304) (d : Fin 1024) : ℝ := nrm (A.x t) d * A.g d
/-- What the projection was applied to. -/
def h (t : Fin 2304) (d : Fin 1024) : ℝ := A.y t d * (1 + A.sc (kind t) d) + A.sh (kind t) d
/-- The rows' cotangent. -/
def dx (t : Fin 2304) : Fin 1024 → ℝ := dxRow (A.x t) A.g (A.sc (kind t)) (A.dht t) (A.res t)
/-- The shifts' gradient, a row per kind. -/
def dsh (k : Fin 2) (_ : Fin 1) (d : Fin 1024) : ℝ := rows k fun t => A.dht t d
/-- The scales' gradient, a row per kind. -/
def dsc (k : Fin 2) (_ : Fin 1) (d : Fin 1024) : ℝ := rows k fun t => A.dht t d * A.y t d
/-- The gain's gradient, a row per kind. -/
def dg (k : Fin 2) (_ : Fin 1) (d : Fin 1024) : ℝ := rows k fun t => dy (A.sc (kind t)) (A.dht t) d * nrm (A.x t) d
/-- The projection's gradient, in eight slabs of 256 columns. -/
def dw (s : Fin 8) (d : Fin 1024) (j : Fin 256) : ℝ := ∑ t, A.h t d * A.p t ⟨s.val * 256 + j.val, by omega⟩

end Args

/-! ## Blocks of 256 rows -/

/-- A sum of blocks of 256. -/
theorem sum_blocks (n : ℕ) (f : ℕ → ℝ) : ∑ i ∈ Finset.range n, ∑ r : Fin 256, f (i * 256 + r.val) = ∑ i ∈ Finset.range (n * 256), f i := by
  induction n with
  | zero => simp
  | succ n ih =>
    rw [Finset.sum_range_succ, ih, Nat.succ_mul, Finset.sum_range_add, Finset.sum_range (fun r => f (n * 256 + r))]

/-- The sum over the latent rows, block by block. -/
theorem sum_lat (f : Fin 2304 → ℝ) : ∑ i ∈ Finset.range 8, ∑ r : Fin 256, f (rowN (256 + (i * 256 + r.val))) = ∑ r, f (latRow r) := by
  rw [sum_blocks 8 fun n => f (rowN (256 + n)), Finset.sum_range]
  refine Finset.sum_congr rfl fun r _ => congrArg f (Fin.ext ?_)
  have := r.isLt
  show (256 + r.val) % 2304 = 256 + r.val
  omega

/-- The sum over all rows, block by block. -/
theorem sum_all (f : Fin 2304 → ℝ) : ∑ i ∈ Finset.range 9, ∑ r : Fin 256, f (rowN (i * 256 + r.val)) = ∑ t, f t := by
  rw [sum_blocks 9 fun n => f (rowN n), Finset.sum_range]
  refine Finset.sum_congr rfl fun r _ => congrArg f (Fin.ext ?_)
  have := r.isLt
  show r.val % 2304 = r.val
  omega

end Cert.NormGrad

end
-- ==== Proof.TailReal.lean ====
/- The operations of the call `l1_pre_b` at real numbers. -/
module

public import proofs.«01_k».proof.Proof.Arrays
public import proofs.«01_k».proof.Proof.TailSpec

@[expose] public section

noncomputable section

namespace Cert.NormGrad

open Idealize.ShloMosaic Cert.Attn
open scoped BigOperators

/-- A vector of real numbers. -/
def arr1 {a : ℕ} (f : Fin a → ℝ) : (⟨1, ![a]⟩ : Shape).Idx → EReal := fun i => (f (i 0) : EReal)

/-- The reciprocal of the root of a positive number. -/
theorem coe_rsqrt (x : ℝ) (hx : 0 < x) : Ideal.rsqrt (x : EReal) = (((√x)⁻¹ : ℝ) : EReal) := by
  rw [Ideal.rsqrt_coe, if_neg (not_lt.mpr hx.le), if_neg hx.ne']

/-- The word of 1024. -/
theorem word_1024 : Ideal.ofBits .f32 0x44800000#32 = ((1024 : ℝ) : EReal) := by
  simp [Ideal.ofBits, Ideal.ieee, -EReal.coe_mul]; norm_num
/-- The word of minus one half. -/
theorem word_half : Ideal.ofBits .f32 0xBF000000#32 = ((-(1 / 2) : ℝ) : EReal) := by
  simp [Ideal.ofBits, Ideal.ieee, -EReal.coe_mul]; norm_num
/-- The word of the small number. -/
theorem word_eps : Ideal.ofBits .f32 0x358637BD#32 = ((eps : ℝ) : EReal) := by
  unfold eps
  simp [Ideal.ofBits, Ideal.ieee, -EReal.coe_mul]; norm_num

/-- A sum of real numbers. -/
theorem sum_real {ι : Type} [Fintype ι] (f : ι → EReal) (g : ι → ℝ) (h : ∀ k, f k = (g k : EReal)) : ∑ k, f k = ((∑ k, g k : ℝ) : EReal) :=
  (Finset.sum_congr rfl fun k _ => h k).trans (coe_sum _ _)

/-- A sum of real numbers, from zero. -/
theorem sum_zero_real {ι : Type} [Fintype ι] (f : ι → EReal) (g : ι → ℝ) (h : ∀ k, f k = (g k : EReal)) :
    Ideal.ofBits .f32 0x00000000#32 + ∑ k, f k = ((∑ k, g k : ℝ) : EReal) := by
  rw [Ideal.ofBits_zero_f32, zero_add, sum_real f g h]

/-- A sum of one real number, from zero. -/
theorem sum_one_real (f : Fin 1 → EReal) (g : ℝ) (h : f 0 = (g : EReal)) :
    Ideal.ofBits .f32 0x00000000#32 + ∑ k, f k = (g : EReal) := by
  rw [Ideal.ofBits_zero_f32, zero_add, Fin.sum_univ_one, h]

/-- A mean square, as the programs compute it. -/
theorem mean_real (s : EReal) (x : Fin 1024 → ℝ) (h : s = ((∑ d, x d * x d : ℝ) : EReal)) :
    Ideal.div s (Ideal.ofBits .f32 0x44800000#32) + Ideal.ofBits .f32 0x358637BD#32 = ((ms x : ℝ) : EReal) := by
  rw [h, word_1024, word_eps, coe_div _ _ (by norm_num), ← EReal.coe_add]
  rfl

end Cert.NormGrad

end
-- ==== Proof.TailPayloads.lean ====
/- What the call `l1_pre_b` stores, as arrays of real numbers: the stored values of real blocks. -/
module

public import Idealize.ShloMosaic.Lib.KernelVsHost
public import proofs.«01_k».proof.Proof.Reads
public import proofs.«01_k».proof.Proof.TailReal
public import proofs.«01_k».proof.Proof.Gen.TailIdeal.Skeleton

@[expose] public section

set_option maxRecDepth 16384

noncomputable section

namespace Cert.NormGrad

open Idealize.ShloMosaic Idealize.ShloMosaic.ValueIdx Cert.Attn Cert.TailIdeal Cert.TailIdeal.Gen
open scoped BigOperators

/-! ## Layout -/

/-- An array of rows is the array of real numbers it agrees with at every row and column. -/
theorem rows_eq {a b : ℕ} {f : (⟨2, ![a, b]⟩ : Shape).Idx → EReal} {g : Fin a → Fin b → ℝ} (h : ∀ r d, f (ix2 r d) = (g r d : EReal)) : f = arr2 g :=
  funext fun i => by rw [eq_ix2 i]; exact h _ _

/-- The same for a rank-three array. -/
theorem slabs_eq {a b c : ℕ} {f : (⟨3, ![a, b, c]⟩ : Shape).Idx → EReal} {g : Fin a → Fin b → Fin c → ℝ}
    (h : ∀ s r d, f (ix3 s r d) = (g s r d : EReal)) : f = arr3 g :=
  funext fun i => by rw [eq_ix3 i]; exact h _ _ _

/-- A row as a matrix of one row. -/
theorem one_row {α : Type} {a : ℕ} (x : (⟨1, ![a]⟩ : Shape).Idx → α) (h : (⟨1, ![a]⟩ : Shape).ShapeCasts ⟨2, ![1, a]⟩)
    (i : Fin 1) (j : Fin a) : shapeCast ⟨2, ![1, a]⟩ x h (ix2 i j) = x (ix1 j) := by
  refine shapeCast_apply x h _ _ ?_
  rw [Shape.rowMajor_val_one, Shape.rowMajor_val_two]
  show j.val = i.val * a + j.val
  have := i.isLt
  rw [show i.val = 0 by omega]; omega

/-- One row spread over all rows. -/
theorem spread_row {α : Type} {a b : ℕ} (hb : b ≠ 1) (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 0 j) := by
  refine broadcastTo_apply x h _ _ fun c => ?_
  match c with
  | ⟨0, _⟩ => exact (if_pos rfl).symm
  | ⟨1, _⟩ => exact (if_neg hb).symm

/-- A column's sum. -/
theorem col_sum {a b : ℕ} (x : FVec Ideal ⟨2, ![a, b]⟩ .f32) (acc : BitVec 32) (h : (⟨2, ![a, b]⟩ : Shape).Reduces [0] ⟨1, ![b]⟩) (hφ : FKind.Formats .f32)
    (hacc : acc = FKind.add.neutral .f32 hφ) (i : Fin b) :
    multiReduction .add [0] ⟨1, ![b]⟩ x acc h hφ hacc (ix1 i) = ∑ c : Fin a, x (ix2 c i) := by
  refine (Ideal.multiReduction_add_single x acc h hφ hacc (ix1 i)).trans (Finset.sum_congr rfl fun c _ => congrArg x ?_)
  exact funext fun d => match d with | ⟨0, _⟩ => rfl | ⟨1, _⟩ => rfl

/-- Two arrays of rows side by side. -/
theorem beside {n m₁ m₂ m : ℕ} (x : (⟨2, ![n, m₁]⟩ : Shape).Idx → EReal) (y : (⟨2, ![n, m₂]⟩ : Shape).Idx → EReal)
    (h : Shape.Concatenates [⟨2, ![n, m₁]⟩, ⟨2, ![n, m₂]⟩] ⟨2, ![n, m]⟩ 1) (hm : m = m₁ + m₂) (r : Fin n) (d : Fin m) :
    concatenate ⟨2, ![n, m]⟩ 1 [⟨⟨2, ![n, m₁]⟩, x⟩, ⟨⟨2, ![n, m₂]⟩, y⟩] h (ix2 r d)
      = if hd : d.val < m₁ then x (ix2 r ⟨d.val, hd⟩) else y (ix2 r ⟨d.val - m₁, by omega⟩) := by
  split
  · next hd =>
    refine concatenate_pair_apply_left (t := ⟨2, ![n, m]⟩) (s₁ := ⟨2, ![n, m₁]⟩) (s₂ := ⟨2, ![n, m₂]⟩) 1 _ _ _ _ rfl (ix2 r ⟨d.val, hd⟩) ?_
    exact fun b => match b with | ⟨0, _⟩ => rfl | ⟨1, _⟩ => rfl
  · next hd =>
    refine concatenate_pair_apply_right (t := ⟨2, ![n, m]⟩) (s₁ := ⟨2, ![n, m₁]⟩) (s₂ := ⟨2, ![n, m₂]⟩) 1 _ _ _ _ rfl rfl (ix2 r ⟨d.val - m₁, by omega⟩) ?_ ?_
    · exact fun b hb => match b, hb with | ⟨0, _⟩, _ => rfl | ⟨1, _⟩, hb => absurd rfl hb
    · show d.val - m₁ + m₁ = d.val; omega

/-! ## One block of 256 rows -/

section

variable (a b z : Fin 256 → Fin 1024 → ℝ) (x res h : Fin 256 → Fin 1024 → ℝ) (g s : Fin 1024 → ℝ) (w : Fin 1024 → Fin 2048 → ℝ)

/-- The projection's cotangent. -/
theorem pay_p : k0_pay5 (F := Ideal) (arr2 a) (arr2 b) (arr2 z) = arr2 fun r => pack (a r) (b r) (z r) := by
  refine rows_eq fun r d => ?_
  unfold k0_pay5
  try dsimp only
  refine (beside (m₁ := 1024) (m₂ := 1024) _ _ _ rfl r d).trans ?_
  unfold pack
  split
  · rfl
  · rw [shapeCast_self]; rfl

/-- The cotangent before the projection. -/
theorem pay_dh (p : Fin 256 → Fin 2048 → ℝ) (hp : k0_pay5 (F := Ideal) (arr2 a) (arr2 b) (arr2 z) = arr2 p) :
    k0_pay6 (F := Ideal) (arr2 a) (arr2 b) (arr2 z) (arr2 fun e d => w d e) = arr2 fun r => dh w (p r) := by
  refine rows_eq fun r d => ?_
  unfold k0_pay6
  try dsimp only
  rw [shapeCast_self, hp]
  refine (dot_nn (φ₁ := .bf16) (φ₂ := .bf16) (M := 256) (K := 2048) (N := 1024) _ _ r d).trans (sum_real _ _ fun e => ?_)
  exact (EReal.coe_mul _ _).symm

/-- The reciprocals of the rows' roots. -/
theorem pay_rs : k0_pay7 (F := Ideal) (arr2 x) = arr2 fun r (_ : Fin 1) => rs (x r) := by
  refine rows_eq fun r d => ?_
  unfold k0_pay7
  try dsimp only
  refine (congrArg Ideal.rsqrt (mean_real _ (x r) ?_)).trans (coe_rsqrt _ (ms_pos _))
  refine (column _ _ r d).trans ((row_sum _ _ _ _ _ r).trans (sum_real _ _ fun e => ?_))
  exact (EReal.coe_mul _ _).symm

/-- The normalised rows. -/
theorem pay_nrm : k0_pay8 (F := Ideal) (arr2 x) = arr2 fun r => nrm (x r) := by
  refine rows_eq fun r d => ?_
  unfold k0_pay8
  try dsimp only
  rw [pay_rs]
  refine (congrArg (fun q => arr2 x (ix2 r d) * q) (spread (by decide) _ _ r d)).trans ?_
  exact (EReal.coe_mul _ _).symm

/-- The gain as one row. -/
theorem pay_g : k0_pay4 (F := Ideal) (arr3 fun _ _ d => g d) = arr2 fun _ d => g d := by
  refine rows_eq fun r d => ?_
  unfold k0_pay4
  try dsimp only
  exact drop1 _ _ r d

/-- The normalised rows with the gain. -/
theorem pay_y : k0_pay9 (F := Ideal) (arr2 x) (arr3 fun _ _ d => g d) = arr2 fun r d => nrm (x r) d * g d := by
  refine rows_eq fun r d => ?_
  unfold k0_pay9
  try dsimp only
  rw [pay_nrm, pay_g]
  refine (congrArg (fun q => arr2 (fun r => nrm (x r)) (ix2 r d) * q) (spread_row (by decide) _ _ r d)).trans ?_
  exact (EReal.coe_mul _ _).symm

/-- The cotangent before the scale. -/
theorem pay_dy (hh : k0_pay6 (F := Ideal) (arr2 a) (arr2 b) (arr2 z) (arr2 fun e d => w d e) = arr2 h) :
    k0_pay10 (F := Ideal) (arr2 a) (arr2 b) (arr2 z) (arr3 fun _ _ d => s d) (arr2 fun e d => w d e) = arr2 fun r => dy s (h r) := by
  refine rows_eq fun r d => ?_
  unfold k0_pay10
  try dsimp only
  rw [hh]
  refine (congrArg (fun q => arr2 h (ix2 r d) * q) (spread_row (by decide) _ _ r d)).trans ?_
  refine (congrArg (fun q => arr2 h (ix2 r d) * (Ideal.ofBits .f32 0x3F800000#32 + q)) (drop1 _ _ 0 d)).trans ?_
  rw [word_1]
  unfold dy
  rw [EReal.coe_mul, EReal.coe_add]
  rfl

/-- The rows' cotangent. -/
theorem pay_dx : k0_pay11 (F := Ideal) (arr2 res) (arr2 fun _ d => g d) (arr2 fun r _ => rs (x r)) (arr2 fun r => nrm (x r)) (arr2 fun r => dy s (h r))
    = arr2 fun r => dxRow (x r) g s (h r) (res r) := by
  refine rows_eq fun r d => ?_
  have hn : ∀ e : Fin 1024, arr2 (fun r => dy s (h r)) (ix2 r e)
      * broadcastTo S256x1024 (arr2 fun (_ : Fin 1) d => g d) broadcasts_S1x1024_S256x1024 (ix2 r e) = ((dn g s (h r) e : ℝ) : EReal) := fun e =>
    (congrArg (fun q => arr2 (fun r => dy s (h r)) (ix2 r e) * q) (spread_row (by decide) _ _ r e)).trans (EReal.coe_mul _ _).symm
  unfold k0_pay11
  try dsimp only
  unfold dxRow
  rw [EReal.coe_add, EReal.coe_mul, EReal.coe_sub, EReal.coe_mul]
  refine congrArg₂ (· + ·) rfl (congrArg₂ (· * ·) (spread (by decide) _ _ r d) (congrArg₂ (· - ·) (hn d) (congrArg₂ (· * ·) rfl ?_)))
  refine (spread (by decide) _ _ r d).trans ?_
  rw [← coe_div _ _ (by norm_num), ← word_1024]
  refine congrArg (fun q => Ideal.div q (Ideal.ofBits .f32 0x44800000#32)) ?_
  refine (column _ _ r 0).trans ((row_sum _ _ _ _ _ r).trans (sum_real _ _ fun e => ?_))
  rw [EReal.coe_mul]
  exact congrArg₂ (· * ·) (hn e) rfl

/-- The block's part of the shifts' gradient. -/
theorem pay_dsh : k0_pay12 (F := Ideal) (arr2 h) = arr2 fun (_ : Fin 1) d => ∑ r, h r d := by
  refine rows_eq fun r d => ?_
  unfold k0_pay12
  try dsimp only
  exact (one_row _ _ r d).trans ((col_sum _ _ _ _ _ d).trans (sum_real _ _ fun e => rfl))

/-- The block's part of the scales' gradient. -/
theorem pay_dsc (y : Fin 256 → Fin 1024 → ℝ) : k0_pay13 (F := Ideal) (arr2 h) (arr2 y) = arr2 fun (_ : Fin 1) d => ∑ r, h r d * y r d := by
  refine rows_eq fun r d => ?_
  unfold k0_pay13
  try dsimp only
  exact (one_row _ _ r d).trans ((col_sum _ _ _ _ _ d).trans (sum_real _ _ fun e => (EReal.coe_mul _ _).symm))

/-- The block's part of the gain's gradient. -/
theorem pay_dg (n y : Fin 256 → Fin 1024 → ℝ) : k0_pay14 (F := Ideal) (arr2 n) (arr2 y) = arr2 fun (_ : Fin 1) d => ∑ r, y r d * n r d := by
  refine rows_eq fun r d => ?_
  unfold k0_pay14
  try dsimp only
  exact (one_row _ _ r d).trans ((col_sum _ _ _ _ _ d).trans (sum_real _ _ fun e => (EReal.coe_mul _ _).symm))

end

/-! ## The projection's gradient -/

/-- A slab of the projection's gradient: the product of the rows with 256 columns of the cotangent. -/
def slab (v5 : FVec Ideal S256x1024 .bf16) (v16 : FVec Ideal S256x2048 .bf16) (o : ℕ) (h : S256x2048.Slices ![0, o] S256x256) : FVec Ideal S1x1024x256 .f32 :=
  shapeCast S1x1024x256 (matmul dot_S256x1024_S256x256_S1024x256_0_0_1_1_n_n none v5 (extractStridedSlice S256x256 ![0, o] v16 h)
    (constant S1024x256 .f32 0x00000000#32)) shapeCasts_S1024x256_S1x1024x256

/-- A slab at an index. -/
theorem slab_apply (h : Fin 256 → Fin 1024 → ℝ) (p : Fin 256 → Fin 2048 → ℝ) (o : ℕ) (ho : S256x2048.Slices ![0, o] S256x256) (ho' : o + 256 ≤ 2048)
    (d : Fin 1024) (j : Fin 256) :
    slab (arr2 h) (arr2 p) o ho (ix3 0 d j) = ((∑ r, h r d * p r ⟨o + j.val, by omega⟩ : ℝ) : EReal) := by
  unfold slab
  refine (add1 _ _ d j).trans ((dot_tn (φ₁ := .bf16) (φ₂ := .bf16) (M := 1024) (K := 256) (N := 256) _ _ _ d j).trans (sum_real _ _ fun r => ?_))
  rw [EReal.coe_mul]
  refine congrArg₂ (· * ·) rfl ((extractStridedSlice_apply _ _ ho (ix2 r j) (ix2 r ⟨o + j.val, by omega⟩) ?_).trans rfl)
  exact fun c => match c with | ⟨0, _⟩ => (Nat.zero_add _).symm | ⟨1, _⟩ => rfl

/-- The slabs lie inside the columns. -/
theorem slab_slices (n : Fin 8) : S256x2048.Slices ![0, 256 * n.val] S256x256 :=
  ⟨rfl, fun c => match c with
    | ⟨0, _⟩ => by show 0 + 256 ≤ 256; omega
    | ⟨1, _⟩ => by show 256 * n.val + 256 ≤ 2048; have := n.isLt; omega⟩

/-- The block's part of the projection's gradient. -/
theorem pay_dw (h : Fin 256 → Fin 1024 → ℝ) (p : Fin 256 → Fin 2048 → ℝ) :
    k0_pay15 (F := Ideal) (arr2 h) (arr2 p) = arr3 fun s d j => ∑ r, h r d * p r ⟨s.val * 256 + j.val, by omega⟩ := by
  refine slabs_eq fun s d j => ?_
  have e : k0_pay15 (F := Ideal) (arr2 h) (arr2 p) = concatenate S8x1024x256 0
      (List.ofFn fun n : Fin 8 => ⟨S1x1024x256, slab (arr2 h) (arr2 p) (256 * n.val) (slab_slices n)⟩)
      concatenates_S1x1024x256_S1x1024x256_S1x1024x256_S1x1024x256_S1x1024x256_S1x1024x256_S1x1024x256_S1x1024x256_S8x1024x256_d0 := rfl
  rw [e]
  refine (concatenate_ofFn_unit_apply (t := S8x1024x256) 0 (fun n : Fin 8 => slab (arr2 h) (arr2 p) (256 * n.val) (slab_slices n)) _ rfl rfl (ix3 s d j) s rfl (ix3 0 d j) ?_).trans ?_
  · exact fun b hb => match b, hb with | ⟨0, _⟩, hb => absurd rfl hb | ⟨1, _⟩, _ => rfl | ⟨2, _⟩, _ => rfl
  · refine (slab_apply h p _ _ (by have := s.isLt; omega) d j).trans ?_
    refine congrArg _ (Finset.sum_congr rfl fun r _ => congrArg (fun k => h r d * p r k) (Fin.ext ?_))
    show 256 * s.val + j.val = s.val * 256 + j.val
    omega

/-! ## Starting and adding -/

/-- The sums start from zero. -/
theorem pay_zero10 : k0_pay16 (F := Ideal) = arr3 fun (_ : Fin 1) (_ : Fin 1) (_ : Fin 1024) => 0 :=
  slabs_eq fun _ _ _ => Ideal.ofBits_zero_f32
/-- The sums start from zero. -/
theorem pay_zero11 : k0_pay17 (F := Ideal) = arr3 fun (_ : Fin 1) (_ : Fin 1) (_ : Fin 1024) => 0 :=
  slabs_eq fun _ _ _ => Ideal.ofBits_zero_f32
/-- The sums start from zero. -/
theorem pay_zero12 : k0_pay18 (F := Ideal) = arr3 fun (_ : Fin 1) (_ : Fin 1) (_ : Fin 1024) => 0 :=
  slabs_eq fun _ _ _ => Ideal.ofBits_zero_f32
/-- The accumulator starts from zero. -/
theorem pay_zero_acc : k0_pay22 (F := Ideal) = arr3 fun (_ : Fin 8) (_ : Fin 1024) (_ : Fin 256) => 0 := by
  refine slabs_eq fun s d j => ?_
  unfold k0_pay22
  try dsimp only
  rw [shapeCast_self]
  exact Ideal.ofBits_zero_f32

section

variable (f old : Fin 1024 → ℝ)

/-- A block's part added to the shifts' gradient. -/
theorem pay_add10 : k0_pay19 (F := Ideal) (arr2 fun (_ : Fin 1) d => f d) (arr3 fun (_ : Fin 1) (_ : Fin 1) d => old d) = arr3 fun (_ : Fin 1) (_ : Fin 1) d => old d + f d := by
  refine slabs_eq fun s r d => ?_
  unfold k0_pay19
  try dsimp only
  obtain rfl : s = 0 := Subsingleton.elim _ _
  refine (add1 _ _ r d).trans ?_
  rw [EReal.coe_add]
  exact congrArg₂ (· + ·) (drop1 _ _ r d) rfl
/-- A block's part added to the scales' gradient. -/
theorem pay_add11 : k0_pay20 (F := Ideal) (arr2 fun (_ : Fin 1) d => f d) (arr3 fun (_ : Fin 1) (_ : Fin 1) d => old d) = arr3 fun (_ : Fin 1) (_ : Fin 1) d => old d + f d :=
  pay_add10 f old
/-- A block's part added to the gain's gradient. -/
theorem pay_add12 : k0_pay21 (F := Ideal) (arr2 fun (_ : Fin 1) d => f d) (arr3 fun (_ : Fin 1) (_ : Fin 1) d => old d) = arr3 fun (_ : Fin 1) (_ : Fin 1) d => old d + f d :=
  pay_add10 f old

end

/-- A block's part added to the projection's gradient. -/
theorem pay_add_acc (f old : Fin 8 → Fin 1024 → Fin 256 → ℝ) :
    k0_pay1 (k0_pay23 (F := Ideal) (arr3 f) (arr3 old)) = arr3 fun s d j => old s d j + f s d j := by
  refine slabs_eq fun s d j => ?_
  unfold k0_pay1 k0_pay23
  try dsimp only
  rw [shapeCast_self, EReal.coe_add]
  rfl

/-- Rounding the projection's gradient changes nothing here. -/
theorem pay_round (v : Vec Ideal S8x1024x256 .f32) : k0_pay2 (F := Ideal) v = v := rfl
/-- Casting to the same shape changes nothing. -/
theorem pay_h (v : Vec Ideal S256x1024 .bf16) : k0_pay3 (F := Ideal) v = v := by
  unfold k0_pay3
  try dsimp only
  rw [shapeCast_self]

end Cert.NormGrad

end
-- ==== Proof.TailHost.lean ====
/- The arrays the host prepares for the call `l1_pre_b`, in terms of the arguments. -/
module

public import proofs.«01_k».proof.Proof.Gen.TailIdeal.Frame
public import proofs.«01_k».proof.Proof.Gen.TailReferenceIdeal.Read
public import Idealize.ShloMosaic.Lib.StableHlo.Run
public import Idealize.ShloMosaic.Lib.StableHlo.RunClose

@[expose] public section

set_option maxRecDepth 16384

noncomputable section

namespace Cert.NormGrad

open Idealize.ShloMosaic Idealize.ShloMosaic.TcCoe Cert.TailIdeal Cert.TailIdeal.Gen

variable {F : FTy → Type} [FloatOps F] (m : (ℓ : Loc nD τ sig) → Buf (Elt F) ℓ) (c : Dev nD)

set_option maxHeartbeats 4000000 in
/-- The saved normalised and modulated rows are the forward pass's, narrowed. -/
theorem host_h : V m c main_v60 = truncf .bf16 (Cert.TailReferenceIdeal.Read.val_main_v65 (F := F)
    (m ((c : Thread nD τ).loc main_arg0)) (m ((c : Thread nD τ).loc main_arg1)) (m ((c : Thread nD τ).loc main_arg2)) (m ((c : Thread nD τ).loc main_arg3))) bitsLt_bf16_f32 := by
  dsimp only [V, hostOps0]
  after_results_simp
  refine congrArg₂ (fun a b => truncf .bf16 (concatenate S2304x1024 0 [⟨S256x1024, a⟩, ⟨S2048x1024, b⟩] concatenates_S256x1024_S2048x1024_S2304x1024_d0) bitsLt_bf16_f32) ?_ ?_
  · after_results_simp
    rfl
  · after_results_simp
    rfl

set_option maxHeartbeats 4000000 in
/-- The gate's cotangent, narrowed. -/
theorem host_z : V m c main_v61 = truncf .bf16 (m ((c : Thread nD τ).loc main_arg8)) bitsLt_bf16_f32 := by
  dsimp only [V, hostOps0]
  after_results_simp

set_option maxHeartbeats 4000000 in
/-- The gain, once per kind of rows. -/
theorem host_g : V m c main_v63 = broadcastInDim S2x1x1024 ![0, 1, 2] bcast_S1x1x1024_S2x1x1024_0_1_2
    (shapeCast S1x1x1024 (m ((c : Thread nD τ).loc main_arg1)) shapeCasts_S1024_S1x1x1024) := by
  dsimp only [V, hostOps0]
  after_results_simp
  try rfl

set_option maxHeartbeats 4000000 in
/-- The scales. -/
theorem host_sc : V m c main_v64 = broadcastInDim S2x1x1024 ![0, 2] bcast_S2x1024_S2x1x1024_0_2 (m ((c : Thread nD τ).loc main_arg2)) := by
  dsimp only [V, hostOps0]
  after_results_simp

set_option maxHeartbeats 4000000 in
/-- The projection, transposed and narrowed. -/
theorem host_w : V m c main_v66 = truncf .bf16 (transpose S2048x1024 [1, 0] (m ((c : Thread nD τ).loc main_arg4)) transposes_S1024x2048_S2048x1024_1_0) bitsLt_bf16_f32 := by
  dsimp only [V, hostOps0]
  after_results_simp

end Cert.NormGrad

end
-- ==== Proof.TailRef.lean ====
/- The reference's arrays, read at an index: finite arguments give the arrays of `Args`. -/
module

public import Idealize.ShloMosaic.Lib.KernelVsHost
public import proofs.«01_k».proof.Proof.TailReal
public import proofs.«01_k».proof.Proof.Gen.TailReferenceIdeal.Read

@[expose] public section

noncomputable section

namespace Cert.NormGrad

open Idealize.ShloMosaic Idealize.ShloMosaic.ValueIdx Cert.Attn Cert.TailReferenceIdeal.Gen Cert.TailReferenceIdeal Cert.TailReferenceIdeal.Read
open scoped BigOperators

/-! ## Layout -/

/-- Two arrays of rows agree when they agree at every row and column. -/
theorem ext2 {a b : ℕ} {f g : (⟨2, ![a, b]⟩ : Shape).Idx → EReal} (h : ∀ (t : Fin a) (d : Fin b), f (ix2 t d) = g (ix2 t d)) : f = g :=
  funext fun i => by rw [eq_ix2 i]; exact h _ _

/-- Two arrays of rows, one above the other. -/
theorem stack {n₁ n₂ n m : ℕ} (x : (⟨2, ![n₁, m]⟩ : Shape).Idx → EReal) (y : (⟨2, ![n₂, m]⟩ : Shape).Idx → EReal)
    (h : Shape.Concatenates [⟨2, ![n₁, m]⟩, ⟨2, ![n₂, m]⟩] ⟨2, ![n, m]⟩ 0) (hn : n = n₁ + n₂) (t : Fin n) (d : Fin m) :
    concatenate ⟨2, ![n, m]⟩ 0 [⟨⟨2, ![n₁, m]⟩, x⟩, ⟨⟨2, ![n₂, m]⟩, y⟩] h (ix2 t d)
      = if ht : t.val < n₁ then x (ix2 ⟨t.val, ht⟩ d) else y (ix2 ⟨t.val - n₁, by omega⟩ d) := by
  split
  · next ht =>
    refine concatenate_pair_apply_left (t := ⟨2, ![n, m]⟩) (s₁ := ⟨2, ![n₁, m]⟩) (s₂ := ⟨2, ![n₂, m]⟩) 0 _ _ _ _ rfl (ix2 ⟨t.val, ht⟩ d) ?_
    exact fun b => match b with | ⟨0, _⟩ => rfl | ⟨1, _⟩ => rfl
  · next ht =>
    refine concatenate_pair_apply_right (t := ⟨2, ![n, m]⟩) (s₁ := ⟨2, ![n₁, m]⟩) (s₂ := ⟨2, ![n₂, m]⟩) 0 _ _ _ _ rfl rfl (ix2 ⟨t.val - n₁, by omega⟩ d) ?_ ?_
    · exact fun b hb => match b, hb with | ⟨0, _⟩, hb => absurd rfl hb | ⟨1, _⟩, _ => rfl
    · show t.val - n₁ + n₁ = t.val; omega

/-- Rows with zeros below. -/
theorem pad_below {n₁ n₂ n m : ℕ} (x : (⟨2, ![n₁, m]⟩ : Shape).Idx → EReal) (z : S_.Idx → EReal) (hz : z (Shape.Idx.first h_S_) = 0)
    (hp : (⟨2, ![n₁, m]⟩ : Shape).Pads ![0, 0] ![n₂, 0] ![0, 0] ⟨2, ![n, m]⟩) (t : Fin n) (d : Fin m) :
    pad ⟨2, ![n, m]⟩ ![0, 0] ![n₂, 0] ![0, 0] x z hp h_S_ (ix2 t d) = if ht : t.val < n₁ then x (ix2 ⟨t.val, ht⟩ d) else 0 := by
  split
  · next ht =>
    refine pad_apply_of_inside _ _ _ x z hp h_S_ _ (ix2 ⟨t.val, ht⟩ d) fun a => ?_
    match a with
    | ⟨0, _⟩ => show t.val = 0 + t.val * (0 + 1); omega
    | ⟨1, _⟩ => show d.val = 0 + d.val * (0 + 1); omega
  · next ht =>
    refine (pad_apply_of_not_inside _ _ _ x z hp h_S_ _ 0 ?_).trans hz
    show ¬(0 ≤ t.val ∧ (t.val - 0) % (0 + 1) = 0 ∧ (t.val - 0) / (0 + 1) < n₁)
    omega

/-- Rows with zeros above. -/
theorem pad_above {n₁ n₂ n m : ℕ} (x : (⟨2, ![n₂, m]⟩ : Shape).Idx → EReal) (z : S_.Idx → EReal) (hz : z (Shape.Idx.first h_S_) = 0)
    (hp : (⟨2, ![n₂, m]⟩ : Shape).Pads ![n₁, 0] ![0, 0] ![0, 0] ⟨2, ![n, m]⟩) (hn : n = n₁ + n₂) (t : Fin n) (d : Fin m) :
    pad ⟨2, ![n, m]⟩ ![n₁, 0] ![0, 0] ![0, 0] x z hp h_S_ (ix2 t d) = if ht : t.val < n₁ then 0 else x (ix2 ⟨t.val - n₁, by omega⟩ d) := by
  split
  · next ht =>
    refine (pad_apply_of_not_inside _ _ _ x z hp h_S_ _ 0 ?_).trans hz
    show ¬(n₁ ≤ t.val ∧ (t.val - n₁) % (0 + 1) = 0 ∧ (t.val - n₁) / (0 + 1) < n₂)
    omega
  · next ht =>
    refine pad_apply_of_inside _ _ _ x z hp h_S_ _ (ix2 ⟨t.val - n₁, by omega⟩ d) fun a => ?_
    match a with
    | ⟨0, _⟩ => show t.val = n₁ + (t.val - n₁) * (0 + 1); omega
    | ⟨1, _⟩ => show d.val = 0 + d.val * (0 + 1); omega

/-- Columns with zeros to the right. -/
theorem pad_right {n m₁ m₂ m : ℕ} (x : (⟨2, ![n, m₁]⟩ : Shape).Idx → EReal) (z : S_.Idx → EReal) (hz : z (Shape.Idx.first h_S_) = 0)
    (hp : (⟨2, ![n, m₁]⟩ : Shape).Pads ![0, 0] ![0, m₂] ![0, 0] ⟨2, ![n, m]⟩) (t : Fin n) (d : Fin m) :
    pad ⟨2, ![n, m]⟩ ![0, 0] ![0, m₂] ![0, 0] x z hp h_S_ (ix2 t d) = if hd : d.val < m₁ then x (ix2 t ⟨d.val, hd⟩) else 0 := by
  split
  · next hd =>
    refine pad_apply_of_inside _ _ _ x z hp h_S_ _ (ix2 t ⟨d.val, hd⟩) fun a => ?_
    match a with
    | ⟨0, _⟩ => show t.val = 0 + t.val * (0 + 1); omega
    | ⟨1, _⟩ => show d.val = 0 + d.val * (0 + 1); omega
  · next hd =>
    refine (pad_apply_of_not_inside _ _ _ x z hp h_S_ _ 1 ?_).trans hz
    show ¬(0 ≤ d.val ∧ (d.val - 0) % (0 + 1) = 0 ∧ (d.val - 0) / (0 + 1) < m₁)
    omega

/-- Columns with zeros to the left. -/
theorem pad_left {n m₁ m₂ m : ℕ} (x : (⟨2, ![n, m₂]⟩ : Shape).Idx → EReal) (z : S_.Idx → EReal) (hz : z (Shape.Idx.first h_S_) = 0)
    (hp : (⟨2, ![n, m₂]⟩ : Shape).Pads ![0, m₁] ![0, 0] ![0, 0] ⟨2, ![n, m]⟩) (hm : m = m₁ + m₂) (t : Fin n) (d : Fin m) :
    pad ⟨2, ![n, m]⟩ ![0, m₁] ![0, 0] ![0, 0] x z hp h_S_ (ix2 t d) = if hd : d.val < m₁ then 0 else x (ix2 t ⟨d.val - m₁, by omega⟩) := by
  split
  · next hd =>
    refine (pad_apply_of_not_inside _ _ _ x z hp h_S_ _ 1 ?_).trans hz
    show ¬(m₁ ≤ d.val ∧ (d.val - m₁) % (0 + 1) = 0 ∧ (d.val - m₁) / (0 + 1) < m₂)
    omega
  · next hd =>
    refine pad_apply_of_inside _ _ _ x z hp h_S_ _ (ix2 t ⟨d.val - m₁, by omega⟩) fun a => ?_
    match a with
    | ⟨0, _⟩ => show t.val = 0 + t.val * (0 + 1); omega
    | ⟨1, _⟩ => show d.val = m₁ + (d.val - m₁) * (0 + 1); omega

variable (A : Args)

/-! ## What both kinds of rows share -/

/-- The gain, once per kind. -/
theorem gains : val_main_v2 (F := Ideal) (arr1 A.g) = arr2 fun (_ : Fin 2) d => A.g d := by
  refine ext2 fun t d => ?_
  unfold val_main_v2
  refine (stack (n₁ := 1) (n₂ := 1) _ _ _ rfl t d).trans ?_
  split
  · rw [val_main_v0_apply]; rfl
  · rw [val_main_v1_apply]; rfl

/-- The projection's cotangent. -/
theorem cot_p : val_main_v74 (F := Ideal) (arr2 A.ua) (arr2 A.ub) (arr2 A.z) = arr2 A.p := by
  refine ext2 fun t d => ?_
  rw [val_main_v74_apply, val_main_v72_apply]
  unfold val_main_v70 val_main_v71 val_main_v73
  refine (congrArg₂ (fun a b : EReal => a + b) (congrArg₂ (fun a b : EReal => a + b)
    (pad_left (m₁ := 1024) (m₂ := 1024) _ (val_main_cst_9 (F := Ideal)) Ideal.ofBits_zero_f32 _ rfl t d)
    (pad_right _ (val_main_cst_10 (F := Ideal)) Ideal.ofBits_zero_f32 _ t d))
    (pad_right _ (val_main_cst_11 (F := Ideal)) Ideal.ofBits_zero_f32 _ t d)).trans ?_
  unfold Args.p pack
  split
  · next h =>
    refine (congrArg (· + _) (zero_add _)).trans ?_
    refine (add_comm _ _).trans ?_
    show _ = ((if h : d.val < 1024 then _ else _ : ℝ) : EReal)
    rw [dif_pos h]
    rfl
  · next h =>
    refine (add_zero _).trans ((add_zero _).trans ?_)
    show _ = ((if h : d.val < 1024 then _ else _ : ℝ) : EReal)
    rw [dif_neg h]
    rfl

/-- The cotangent before the projection. -/
theorem cot_h : val_main_v77 (F := Ideal) (arr2 A.w) (arr2 A.ua) (arr2 A.ub) (arr2 A.z) = arr2 A.dht := by
  funext i
  rw [val_main_v77_apply, cot_p]
  exact sum_real _ (fun e => A.p (i 0) e * A.w (i 1) e) fun e => rfl

/-! ## The context rows -/

/-- The context rows. -/
theorem ctx_x : val_main_v3 (F := Ideal) (arr2 A.x) = arr2 fun (r : Fin 256) d => A.x (ctxRow r) d := by
  funext i
  rw [val_main_v3_apply]
  rfl

/-- Their mean squares. -/
theorem ctx_ms : val_main_v12 (F := Ideal) (arr2 A.x) = arr2 fun (r : Fin 256) (_ : Fin 1) => ms (A.x (ctxRow r)) := by
  funext i
  rw [val_main_v12_apply, val_main_v10_apply, val_main_v9_apply, val_main_cst_0_apply, val_main_v11_apply, val_main_cst_1_apply, val_main_v8_apply, val_main_v7_apply, val_main_cst_apply]
  refine mean_real _ _ (sum_zero_real _ _ fun k => ?_)
  rw [val_main_v6_apply, ctx_x]
  rfl

/-- The reciprocals of the roots. -/
theorem ctx_rs : val_main_v13 (F := Ideal) (arr2 A.x) = arr2 fun (r : Fin 256) (_ : Fin 1) => rs (A.x (ctxRow r)) := by
  funext i
  rw [val_main_v13_apply, ctx_ms]
  exact coe_rsqrt _ (ms_pos _)

/-- The derivatives of the reciprocals of the roots. -/
theorem ctx_q : val_main_v16 (F := Ideal) (arr2 A.x) = arr2 fun (r : Fin 256) (_ : Fin 1) => -(1 / 2) * (rs (A.x (ctxRow r)) / ms (A.x (ctxRow r))) := by
  funext i
  rw [val_main_v16_apply, val_main_v15_apply, val_main_cst_2_apply, val_main_v14_apply, ctx_rs, ctx_ms]
  exact congrArg₂ (fun a b : EReal => a * b) word_half (coe_div _ _ (ms_pos _).ne')

/-- The normalised rows. -/
theorem ctx_nrm : val_main_v18 (F := Ideal) (arr2 A.x) = arr2 fun (r : Fin 256) d => nrm (A.x (ctxRow r)) d := by
  funext i
  rw [val_main_v18_apply, val_main_v17_apply, ctx_x, ctx_rs]
  rfl

/-- The gain. -/
theorem ctx_g : val_main_v5 (F := Ideal) (arr1 A.g) = arr1 A.g := by
  funext i
  rw [val_main_v5_apply, val_main_v4_apply, gains]
  exact congrArg (fun d => (A.g d : EReal)) (Fin.ext (Nat.mod_eq_of_lt (i 0).isLt))

/-- The normalised rows times the gain. -/
theorem ctx_y : val_main_v21 (F := Ideal) (arr2 A.x) (arr1 A.g) = arr2 fun (r : Fin 256) d => A.y (ctxRow r) d := by
  funext i
  rw [val_main_v21_apply, val_main_v20_apply, val_main_v19_apply, ctx_nrm, ctx_g]
  rfl

/-- The scale. -/
theorem ctx_s : val_main_v26 (F := Ideal) (arr2 A.sc) = arr2 fun (_ : Fin 1) d => 1 + A.sc 0 d := by
  funext i
  rw [val_main_v26_apply, val_main_v25_apply, val_main_v24_apply, val_main_cst_3_apply, val_main_v23_apply, val_main_v22_apply]
  exact congrArg₂ (fun a b : EReal => a + b) word_1 (congrArg (fun d => (A.sc 0 d : EReal)) (Fin.ext (Nat.mod_eq_of_lt (i 1).isLt)))

/-- The shift. -/
theorem ctx_b : val_main_v31 (F := Ideal) (arr2 A.sh) = arr2 fun (_ : Fin 1) d => A.sh 0 d := by
  funext i
  rw [val_main_v31_apply, val_main_v30_apply, val_main_v29_apply]
  exact congrArg (fun d => (A.sh 0 d : EReal)) (Fin.ext (Nat.mod_eq_of_lt (i 1).isLt))

/-- What the projection was applied to. -/
theorem ctx_h : val_main_v33 (F := Ideal) (arr2 A.x) (arr1 A.g) (arr2 A.sc) (arr2 A.sh) = arr2 fun (r : Fin 256) d => A.h (ctxRow r) d := by
  refine ext2 fun r d => ?_
  rw [val_main_v33_apply, val_main_v28_apply, val_main_v27_apply, val_main_v32_apply, ctx_y, ctx_s, ctx_b]
  show ((A.y (ctxRow r) d * (1 + A.sc 0 d) + A.sh 0 d : ℝ) : EReal) = ((A.h (ctxRow r) d : ℝ) : EReal)
  unfold Args.h
  rw [kind_ctx]

/-- The cotangent before the projection. -/
theorem ctx_dh : val_main_v78 (F := Ideal) (arr2 A.w) (arr2 A.ua) (arr2 A.ub) (arr2 A.z) = arr2 fun (r : Fin 256) d => A.dht (ctxRow r) d := by
  funext i
  rw [val_main_v78_apply, cot_h]
  rfl

/-- The shift's gradient. -/
theorem ctx_dsh : val_main_v120 (F := Ideal) (arr2 A.w) (arr2 A.ua) (arr2 A.ub) (arr2 A.z) = arr2 fun (_ : Fin 1) d => ∑ r : Fin 256, A.dht (ctxRow r) d := by
  funext i
  rw [val_main_v120_apply, val_main_v119_apply, val_main_cst_26_apply]
  refine sum_one_real _ _ ?_
  rw [val_main_v118_apply, val_main_v117_apply, val_main_cst_25_apply, ctx_dh]
  exact sum_zero_real _ _ fun r => congrArg (fun d => (A.dht (ctxRow r) d : EReal)) (Fin.ext (by show 0 * 1024 + (i 1).val = (i 1).val; omega))

/-- The scale's gradient. -/
theorem ctx_dsc : val_main_v129 (F := Ideal) (arr2 A.x) (arr1 A.g) (arr2 A.w) (arr2 A.ua) (arr2 A.ub) (arr2 A.z)
    = arr2 fun (_ : Fin 1) d => ∑ r : Fin 256, A.dht (ctxRow r) d * A.y (ctxRow r) d := by
  funext i
  rw [val_main_v129_apply, val_main_v128_apply, val_main_cst_29_apply]
  refine sum_one_real _ _ ?_
  rw [val_main_v125_apply, val_main_v124_apply, val_main_cst_28_apply]
  refine sum_zero_real _ _ fun r => ?_
  rw [val_main_v123_apply, ctx_dh, ctx_y]
  exact (mul_comm _ _).trans (congrArg (fun d => ((A.dht (ctxRow r) d * A.y (ctxRow r) d : ℝ) : EReal)) (Fin.ext (by show 0 * 1024 + (i 1).val = (i 1).val; omega)))

/-- The cotangent before the scale. -/
theorem ctx_dy : val_main_v127 (F := Ideal) (arr2 A.sc) (arr2 A.w) (arr2 A.ua) (arr2 A.ub) (arr2 A.z)
    = arr2 fun (r : Fin 256) d => dy (A.sc 0) (A.dht (ctxRow r)) d := by
  funext i
  rw [val_main_v127_apply, val_main_v126_apply, ctx_dh, ctx_s]
  rfl

/-- The gain's gradient. -/
theorem ctx_dg : val_main_v152 (F := Ideal) (arr2 A.x) (arr2 A.sc) (arr2 A.w) (arr2 A.ua) (arr2 A.ub) (arr2 A.z)
    = arr2 fun (_ : Fin 1) d => ∑ r : Fin 256, dy (A.sc 0) (A.dht (ctxRow r)) d * nrm (A.x (ctxRow r)) d := by
  funext i
  rw [val_main_v152_apply, val_main_v137_apply, val_main_cst_32_apply]
  refine sum_one_real _ _ ?_
  rw [val_main_v134_apply, val_main_v133_apply, val_main_cst_31_apply]
  refine sum_zero_real _ _ fun r => ?_
  rw [val_main_v132_apply, ctx_dy, ctx_nrm]
  exact (mul_comm _ _).trans (congrArg (fun d => ((dy (A.sc 0) (A.dht (ctxRow r)) d * nrm (A.x (ctxRow r)) d : ℝ) : EReal)) (Fin.ext (by show 0 * 1024 + (i 1).val = (i 1).val; omega)))

/-- The normalised rows' cotangent. -/
theorem ctx_dn : val_main_v136 (F := Ideal) (arr1 A.g) (arr2 A.sc) (arr2 A.w) (arr2 A.ua) (arr2 A.ub) (arr2 A.z)
    = arr2 fun (r : Fin 256) d => dn A.g (A.sc 0) (A.dht (ctxRow r)) d := by
  funext i
  rw [val_main_v136_apply, val_main_v135_apply, ctx_dy, val_main_v19_apply, ctx_g]
  rfl

/-- The mean squares' cotangent, over the row's length. -/
theorem ctx_t : val_main_v147 (F := Ideal) (arr2 A.x) (arr1 A.g) (arr2 A.sc) (arr2 A.w) (arr2 A.ua) (arr2 A.ub) (arr2 A.z)
    = arr2 fun (r : Fin 256) (_ : Fin 1024) => (∑ j, A.x (ctxRow r) j * dn A.g (A.sc 0) (A.dht (ctxRow r)) j)
        * (-(1 / 2) * (rs (A.x (ctxRow r)) / ms (A.x (ctxRow r)))) / 1024 := by
  funext i
  rw [val_main_v147_apply, val_main_v146_apply, val_main_cst_35_apply]
  refine sum_one_real _ _ ?_
  rw [val_main_v145_apply, val_main_v144_apply, val_main_cst_34_apply, val_main_v143_apply, val_main_v140_apply, val_main_v139_apply, val_main_cst_33_apply, ctx_q]
  refine (congrArg₂ Ideal.div (congrArg (fun a : EReal => a * _) (sum_zero_real _ (fun j => A.x (ctxRow (i 0)) j * dn A.g (A.sc 0) (A.dht (ctxRow (i 0))) j) fun j => ?_)) word_1024).trans
    (coe_div _ _ (by norm_num))
  rw [val_main_v138_apply, ctx_x, ctx_dn,
    show idx_main_v139 (idx_main_v140 (idx_main_v146 (idx_main_v147 i) 0)) j = ix2 (i 0) j from
      funext fun a => Fin.ext (by match a with | ⟨0, _⟩ => (show (i 0).val * 1 + 0 = (i 0).val; omega) | ⟨1, _⟩ => rfl)]
  rfl

/-- The rows' cotangent, without the residual's. -/
theorem ctx_dx : val_main_v151 (F := Ideal) (arr2 A.x) (arr1 A.g) (arr2 A.sc) (arr2 A.w) (arr2 A.ua) (arr2 A.ub) (arr2 A.z)
    = arr2 fun (r : Fin 256) d => dn A.g (A.sc 0) (A.dht (ctxRow r)) d * rs (A.x (ctxRow r))
        + A.x (ctxRow r) d * ((∑ j, A.x (ctxRow r) j * dn A.g (A.sc 0) (A.dht (ctxRow r)) j)
            * (-(1 / 2) * (rs (A.x (ctxRow r)) / ms (A.x (ctxRow r)))) / 1024)
        + (∑ j, A.x (ctxRow r) j * dn A.g (A.sc 0) (A.dht (ctxRow r)) j)
            * (-(1 / 2) * (rs (A.x (ctxRow r)) / ms (A.x (ctxRow r)))) / 1024 * A.x (ctxRow r) d := by
  funext i
  rw [val_main_v151_apply, val_main_v149_apply, val_main_v150_apply, val_main_v148_apply, val_main_v142_apply, val_main_v141_apply, ctx_x, ctx_t, ctx_dn, ctx_rs]
  rfl

/-! ## The latent rows -/

/-- The latent rows. -/
theorem lat_x : val_main_v34 (F := Ideal) (arr2 A.x) = arr2 fun (r : Fin 2048) d => A.x (latRow r) d := by
  funext i
  rw [val_main_v34_apply]
  rfl

/-- Their mean squares. -/
theorem lat_ms : val_main_v43 (F := Ideal) (arr2 A.x) = arr2 fun (r : Fin 2048) (_ : Fin 1) => ms (A.x (latRow r)) := by
  funext i
  rw [val_main_v43_apply, val_main_v41_apply, val_main_v40_apply, val_main_cst_5_apply, val_main_v42_apply, val_main_cst_6_apply, val_main_v39_apply, val_main_v38_apply, val_main_cst_4_apply]
  refine mean_real _ _ (sum_zero_real _ _ fun k => ?_)
  rw [val_main_v37_apply, lat_x]
  rfl

/-- The reciprocals of the roots. -/
theorem lat_rs : val_main_v44 (F := Ideal) (arr2 A.x) = arr2 fun (r : Fin 2048) (_ : Fin 1) => rs (A.x (latRow r)) := by
  funext i
  rw [val_main_v44_apply, lat_ms]
  exact coe_rsqrt _ (ms_pos _)

/-- The derivatives of the reciprocals of the roots. -/
theorem lat_q : val_main_v47 (F := Ideal) (arr2 A.x) = arr2 fun (r : Fin 2048) (_ : Fin 1) => -(1 / 2) * (rs (A.x (latRow r)) / ms (A.x (latRow r))) := by
  funext i
  rw [val_main_v47_apply, val_main_v46_apply, val_main_cst_7_apply, val_main_v45_apply, lat_rs, lat_ms]
  exact congrArg₂ (fun a b : EReal => a * b) word_half (coe_div _ _ (ms_pos _).ne')

/-- The normalised rows. -/
theorem lat_nrm : val_main_v49 (F := Ideal) (arr2 A.x) = arr2 fun (r : Fin 2048) d => nrm (A.x (latRow r)) d := by
  funext i
  rw [val_main_v49_apply, val_main_v48_apply, lat_x, lat_rs]
  rfl

/-- The gain. -/
theorem lat_g : val_main_v36 (F := Ideal) (arr1 A.g) = arr1 A.g := by
  funext i
  rw [val_main_v36_apply, val_main_v35_apply, gains]
  exact congrArg (fun d => (A.g d : EReal)) (Fin.ext (Nat.mod_eq_of_lt (i 0).isLt))

/-- The normalised rows times the gain. -/
theorem lat_y : val_main_v52 (F := Ideal) (arr2 A.x) (arr1 A.g) = arr2 fun (r : Fin 2048) d => A.y (latRow r) d := by
  funext i
  rw [val_main_v52_apply, val_main_v51_apply, val_main_v50_apply, lat_nrm, lat_g]
  rfl

/-- The scale. -/
theorem lat_s : val_main_v57 (F := Ideal) (arr2 A.sc) = arr2 fun (_ : Fin 1) d => 1 + A.sc 1 d := by
  funext i
  rw [val_main_v57_apply, val_main_v56_apply, val_main_v55_apply, val_main_cst_8_apply, val_main_v54_apply, val_main_v53_apply]
  exact congrArg₂ (fun a b : EReal => a + b) word_1 (congrArg (fun d => (A.sc 1 d : EReal)) (Fin.ext (Nat.mod_eq_of_lt (i 1).isLt)))

/-- The shift. -/
theorem lat_b : val_main_v62 (F := Ideal) (arr2 A.sh) = arr2 fun (_ : Fin 1) d => A.sh 1 d := by
  funext i
  rw [val_main_v62_apply, val_main_v61_apply, val_main_v60_apply]
  exact congrArg (fun d => (A.sh 1 d : EReal)) (Fin.ext (Nat.mod_eq_of_lt (i 1).isLt))

/-- What the projection was applied to. -/
theorem lat_h : val_main_v64 (F := Ideal) (arr2 A.x) (arr1 A.g) (arr2 A.sc) (arr2 A.sh) = arr2 fun (r : Fin 2048) d => A.h (latRow r) d := by
  refine ext2 fun r d => ?_
  rw [val_main_v64_apply, val_main_v59_apply, val_main_v58_apply, val_main_v63_apply, lat_y, lat_s, lat_b]
  show ((A.y (latRow r) d * (1 + A.sc 1 d) + A.sh 1 d : ℝ) : EReal) = ((A.h (latRow r) d : ℝ) : EReal)
  unfold Args.h
  rw [kind_lat]

/-- The cotangent before the projection. -/
theorem lat_dh : val_main_v79 (F := Ideal) (arr2 A.w) (arr2 A.ua) (arr2 A.ub) (arr2 A.z) = arr2 fun (r : Fin 2048) d => A.dht (latRow r) d := by
  funext i
  rw [val_main_v79_apply, cot_h]
  rfl

/-- The shift's gradient. -/
theorem lat_dsh : val_main_v83 (F := Ideal) (arr2 A.w) (arr2 A.ua) (arr2 A.ub) (arr2 A.z) = arr2 fun (_ : Fin 1) d => ∑ r : Fin 2048, A.dht (latRow r) d := by
  funext i
  rw [val_main_v83_apply, val_main_v82_apply, val_main_cst_13_apply]
  refine sum_one_real _ _ ?_
  rw [val_main_v81_apply, val_main_v80_apply, val_main_cst_12_apply, lat_dh]
  exact sum_zero_real _ _ fun r => congrArg (fun d => (A.dht (latRow r) d : EReal)) (Fin.ext (by show 0 * 1024 + (i 1).val = (i 1).val; omega))

/-- The scale's gradient. -/
theorem lat_dsc : val_main_v91 (F := Ideal) (arr2 A.x) (arr1 A.g) (arr2 A.w) (arr2 A.ua) (arr2 A.ub) (arr2 A.z)
    = arr2 fun (_ : Fin 1) d => ∑ r : Fin 2048, A.dht (latRow r) d * A.y (latRow r) d := by
  funext i
  rw [val_main_v91_apply, val_main_v90_apply, val_main_cst_16_apply]
  refine sum_one_real _ _ ?_
  rw [val_main_v87_apply, val_main_v86_apply, val_main_cst_15_apply]
  refine sum_zero_real _ _ fun r => ?_
  rw [val_main_v85_apply, lat_dh, lat_y]
  exact (mul_comm _ _).trans (congrArg (fun d => ((A.dht (latRow r) d * A.y (latRow r) d : ℝ) : EReal)) (Fin.ext (by show 0 * 1024 + (i 1).val = (i 1).val; omega)))

/-- The cotangent before the scale. -/
theorem lat_dy : val_main_v89 (F := Ideal) (arr2 A.sc) (arr2 A.w) (arr2 A.ua) (arr2 A.ub) (arr2 A.z)
    = arr2 fun (r : Fin 2048) d => dy (A.sc 1) (A.dht (latRow r)) d := by
  funext i
  rw [val_main_v89_apply, val_main_v88_apply, lat_dh, lat_s]
  rfl

/-- The gain's gradient. -/
theorem lat_dg : val_main_v113 (F := Ideal) (arr2 A.x) (arr2 A.sc) (arr2 A.w) (arr2 A.ua) (arr2 A.ub) (arr2 A.z)
    = arr2 fun (_ : Fin 1) d => ∑ r : Fin 2048, dy (A.sc 1) (A.dht (latRow r)) d * nrm (A.x (latRow r)) d := by
  funext i
  rw [val_main_v113_apply, val_main_v98_apply, val_main_cst_19_apply]
  refine sum_one_real _ _ ?_
  rw [val_main_v95_apply, val_main_v94_apply, val_main_cst_18_apply]
  refine sum_zero_real _ _ fun r => ?_
  rw [val_main_v93_apply, lat_dy, lat_nrm]
  exact (mul_comm _ _).trans (congrArg (fun d => ((dy (A.sc 1) (A.dht (latRow r)) d * nrm (A.x (latRow r)) d : ℝ) : EReal)) (Fin.ext (by show 0 * 1024 + (i 1).val = (i 1).val; omega)))

/-- The normalised rows' cotangent. -/
theorem lat_dn : val_main_v97 (F := Ideal) (arr1 A.g) (arr2 A.sc) (arr2 A.w) (arr2 A.ua) (arr2 A.ub) (arr2 A.z)
    = arr2 fun (r : Fin 2048) d => dn A.g (A.sc 1) (A.dht (latRow r)) d := by
  funext i
  rw [val_main_v97_apply, val_main_v96_apply, lat_dy, val_main_v50_apply, lat_g]
  rfl

/-- The mean squares' cotangent, over the row's length. -/
theorem lat_t : val_main_v108 (F := Ideal) (arr2 A.x) (arr1 A.g) (arr2 A.sc) (arr2 A.w) (arr2 A.ua) (arr2 A.ub) (arr2 A.z)
    = arr2 fun (r : Fin 2048) (_ : Fin 1024) => (∑ j, A.x (latRow r) j * dn A.g (A.sc 1) (A.dht (latRow r)) j)
        * (-(1 / 2) * (rs (A.x (latRow r)) / ms (A.x (latRow r)))) / 1024 := by
  funext i
  rw [val_main_v108_apply, val_main_v107_apply, val_main_cst_22_apply]
  refine sum_one_real _ _ ?_
  rw [val_main_v106_apply, val_main_v105_apply, val_main_cst_21_apply, val_main_v104_apply, val_main_v101_apply, val_main_v100_apply, val_main_cst_20_apply, lat_q]
  refine (congrArg₂ Ideal.div (congrArg (fun a : EReal => a * _) (sum_zero_real _ (fun j => A.x (latRow (i 0)) j * dn A.g (A.sc 1) (A.dht (latRow (i 0))) j) fun j => ?_)) word_1024).trans
    (coe_div _ _ (by norm_num))
  rw [val_main_v99_apply, lat_x, lat_dn,
    show idx_main_v100 (idx_main_v101 (idx_main_v107 (idx_main_v108 i) 0)) j = ix2 (i 0) j from
      funext fun a => Fin.ext (by match a with | ⟨0, _⟩ => (show (i 0).val * 1 + 0 = (i 0).val; omega) | ⟨1, _⟩ => rfl)]
  rfl

/-- The rows' cotangent, without the residual's. -/
theorem lat_dx : val_main_v112 (F := Ideal) (arr2 A.x) (arr1 A.g) (arr2 A.sc) (arr2 A.w) (arr2 A.ua) (arr2 A.ub) (arr2 A.z)
    = arr2 fun (r : Fin 2048) d => dn A.g (A.sc 1) (A.dht (latRow r)) d * rs (A.x (latRow r))
        + A.x (latRow r) d * ((∑ j, A.x (latRow r) j * dn A.g (A.sc 1) (A.dht (latRow r)) j)
            * (-(1 / 2) * (rs (A.x (latRow r)) / ms (A.x (latRow r)))) / 1024)
        + (∑ j, A.x (latRow r) j * dn A.g (A.sc 1) (A.dht (latRow r)) j)
            * (-(1 / 2) * (rs (A.x (latRow r)) / ms (A.x (latRow r)))) / 1024 * A.x (latRow r) d := by
  funext i
  rw [val_main_v112_apply, val_main_v110_apply, val_main_v111_apply, val_main_v109_apply, val_main_v103_apply, val_main_v102_apply, lat_x, lat_t, lat_dn, lat_rs]
  rfl

/-! ## Both -/

/-- A latent row's number less the context's. -/
theorem latRow_sub (t : Fin 2304) (h : ¬t.val < 256) : latRow ⟨t.val - 256, by omega⟩ = t := Fin.ext (by show 256 + (t.val - 256) = t.val; omega)

/-- What the projection was applied to. -/
theorem ref_h : val_main_v65 (F := Ideal) (arr2 A.x) (arr1 A.g) (arr2 A.sc) (arr2 A.sh) = arr2 A.h := by
  refine ext2 fun t d => ?_
  unfold val_main_v65
  refine (stack (n₁ := 256) (n₂ := 2048) _ _ _ rfl t d).trans ?_
  rw [ctx_h, lat_h]
  split
  · rfl
  · next h => exact congrArg (fun t => ((A.h t d : ℝ) : EReal)) (latRow_sub t h)

/-- A context's row and a latent's row, padded and added. -/
theorem both_kinds (f : Fin 2304 → Fin 1024 → ℝ) (a b : S1x1024.Idx → EReal) (z z' : S_.Idx → EReal) (hz : z (Shape.Idx.first h_S_) = 0) (hz' : z' (Shape.Idx.first h_S_) = 0)
    (hp : (⟨2, ![1, 1024]⟩ : Shape).Pads ![1, 0] ![0, 0] ![0, 0] ⟨2, ![2, 1024]⟩) (hp' : (⟨2, ![1, 1024]⟩ : Shape).Pads ![0, 0] ![1, 0] ![0, 0] ⟨2, ![2, 1024]⟩)
    (ha : a = arr2 fun (_ : Fin 1) d => ∑ r, f (latRow r) d) (hb : b = arr2 fun (_ : Fin 1) d => ∑ r, f (ctxRow r) d) (k : Fin 2) (d : Fin 1024) :
    pad S2x1024 ![1, 0] ![0, 0] ![0, 0] a z hp h_S_ (ix2 k d) + pad S2x1024 ![0, 0] ![1, 0] ![0, 0] b z' hp' h_S_ (ix2 k d)
      = ((rows k fun t => f t d : ℝ) : EReal) := by
  refine (congrArg₂ (fun u v : EReal => u + v) (pad_above (n₁ := 1) (n₂ := 1) a z hz hp rfl k d) (pad_below b z' hz' hp' k d)).trans ?_
  unfold rows
  by_cases hk : k.val < 1
  · rw [dif_pos hk, dif_pos hk, if_pos (Fin.ext (by show k.val = 0; omega)), hb]
    exact zero_add _
  · rw [dif_neg hk, dif_neg hk, if_neg (fun e => hk (by rw [e]; exact Nat.one_pos)), ha]
    exact add_zero _

/-- The shifts' gradient. -/
theorem ref_dsh : val_main_v161 (F := Ideal) (arr2 A.w) (arr2 A.ua) (arr2 A.ub) (arr2 A.z) = arr3 A.dsh := by
  funext i
  rw [val_main_v161_apply, show idx_main_v161 i = ix2 (i 0) (i 2) from funext fun a => match a with | ⟨0, _⟩ => rfl | ⟨1, _⟩ => rfl]
  refine (val_main_v122_apply (F := Ideal) _ _ _ _ _).trans ?_
  unfold val_main_v84 val_main_v121
  exact both_kinds (fun t d => A.dht t d) _ _ (val_main_cst_14 (F := Ideal)) (val_main_cst_27 (F := Ideal)) Ideal.ofBits_zero_f32 Ideal.ofBits_zero_f32 _ _ (lat_dsh A) (ctx_dsh A) (i 0) (i 2)

/-- The scales' gradient. -/
theorem ref_dsc : val_main_v160 (F := Ideal) (arr2 A.x) (arr1 A.g) (arr2 A.w) (arr2 A.ua) (arr2 A.ub) (arr2 A.z) = arr3 A.dsc := by
  funext i
  rw [val_main_v160_apply, show idx_main_v160 i = ix2 (i 0) (i 2) from funext fun a => match a with | ⟨0, _⟩ => rfl | ⟨1, _⟩ => rfl]
  refine (val_main_v131_apply (F := Ideal) _ _ _ _ _ _ _).trans ?_
  unfold val_main_v92 val_main_v130
  exact both_kinds (fun t d => A.dht t d * A.y t d) _ _ (val_main_cst_17 (F := Ideal)) (val_main_cst_30 (F := Ideal)) Ideal.ofBits_zero_f32 Ideal.ofBits_zero_f32 _ _ (lat_dsc A) (ctx_dsc A) (i 0) (i 2)

/-- The gain's gradient. -/
theorem ref_dg : val_main_v159 (F := Ideal) (arr2 A.x) (arr2 A.sc) (arr2 A.w) (arr2 A.ua) (arr2 A.ub) (arr2 A.z) = arr3 A.dg := by
  funext i
  rw [val_main_v159_apply, show idx_main_v159 i = ix2 (i 0) (i 2) from funext fun a => match a with | ⟨0, _⟩ => rfl | ⟨1, _⟩ => rfl]
  refine (val_main_v154_apply (F := Ideal) _ _ _ _ _ _ _).trans ?_
  unfold val_main_v114 val_main_v153
  refine both_kinds (fun t d => dy (A.sc (kind t)) (A.dht t) d * nrm (A.x t) d) _ _ (val_main_cst_23 (F := Ideal)) (val_main_cst_36 (F := Ideal)) Ideal.ofBits_zero_f32 Ideal.ofBits_zero_f32 _ _ ((lat_dg A).trans ?_) ((ctx_dg A).trans ?_) (i 0) (i 2)
  · exact congrArg arr2 (funext fun _ => funext fun d => Finset.sum_congr rfl fun r _ => by rw [kind_lat])
  · exact congrArg arr2 (funext fun _ => funext fun d => Finset.sum_congr rfl fun r _ => by rw [kind_ctx])

/-- The rows' cotangent. -/
theorem ref_dx : val_main_v156 (F := Ideal) (arr2 A.x) (arr1 A.g) (arr2 A.sc) (arr2 A.w) (arr2 A.res) (arr2 A.ua) (arr2 A.ub) (arr2 A.z) = arr2 A.dx := by
  refine ext2 fun t d => ?_
  rw [val_main_v156_apply, val_main_v116_apply]
  unfold val_main_v115 val_main_v155
  rw [lat_dx, ctx_dx]
  refine (congrArg₂ (fun a b : EReal => a + b) (congrArg (fun b : EReal => (A.res t d : EReal) + b)
    (pad_above (n₁ := 256) (n₂ := 2048) _ (val_main_cst_24 (F := Ideal)) Ideal.ofBits_zero_f32 _ rfl t d)) (pad_below _ (val_main_cst_37 (F := Ideal)) Ideal.ofBits_zero_f32 _ t d)).trans ?_
  refine Eq.trans ?_ (congrArg (fun a : ℝ => (a : EReal)) (dxRow_terms (A.x t) A.g (A.sc (kind t)) (A.dht t) (A.res t) d)).symm
  by_cases h : t.val < 256
  · have e : ctxRow ⟨t.val, h⟩ = t := rfl
    rw [dif_pos h, dif_pos h, show kind t = 0 from if_pos h]
    exact congrArg (fun a : EReal => a + _) (add_zero _)
  · obtain ⟨r, hr⟩ : ∃ r, latRow r = t := ⟨_, latRow_sub t h⟩
    subst hr
    rw [dif_neg h, dif_neg h, kind_lat, show (⟨(latRow r).val - 256, by have := r.isLt; show 256 + r.val - 256 < 2048; omega⟩ : Fin 2048) = r from Fin.ext (by show 256 + r.val - 256 = r.val; omega)]
    exact add_zero _

/-- The projection's gradient. -/
theorem ref_dw : val_main_v162 (F := Ideal) (arr2 A.x) (arr1 A.g) (arr2 A.sc) (arr2 A.sh) (arr2 A.ua) (arr2 A.ub) (arr2 A.z) = arr3 A.dw := by
  funext i
  rw [val_main_v162_apply, val_main_v158_apply, val_main_v157_apply, val_main_v76_apply, val_main_v75_apply, cot_p, ref_h]
  refine sum_real _ (fun t => A.h t (i 1) * A.p t ⟨(i 0).val * 256 + (i 2).val, _⟩) fun t => ?_
  have h0 : (i 0).val < 8 := (i 0).isLt
  have h1 : (i 1).val < 1024 := (i 1).isLt
  have h2 : (i 2).val < 256 := (i 2).isLt
  refine (mul_comm _ _).trans (congrArg₂ (fun a b => ((A.h t a * A.p t b : ℝ) : EReal)) (Fin.ext ?_) (Fin.ext ?_))
  · show (((i 1).val * 8 + (i 0).val) * 256 + (i 2).val) / 2048 = (i 1).val; omega
  · show (((i 1).val * 8 + (i 0).val) * 256 + (i 2).val) % 2048 = (i 0).val * 256 + (i 2).val; omega

end Cert.NormGrad

end
-- ==== Proof.TailBlocks.lean ====
/- What the windows of the grid points of `l1_pre_b` read, and what a point computes from its blocks, in terms of the arguments. -/
module

public import proofs.«01_k».proof.Proof.TailPayloads
public import proofs.«01_k».proof.Proof.TailHost
public import proofs.«01_k».proof.Proof.TailRef

@[expose] public section

set_option maxRecDepth 16384

noncomputable section

namespace Cert.NormGrad

open Idealize.ShloMosaic Idealize.ShloMosaic.TcCoe Idealize.ShloMosaic.ValueIdx Cert.Attn Cert.TailIdeal Cert.TailIdeal.Gen
open scoped BigOperators

/-- Row `r` of block `n`. -/
def row (n : ℕ) (r : Fin 256) : Fin 2304 := rowN (n * 256 + r.val)

/-- The kind of the rows of block `n`. -/
def kindOf (n : ℕ) : Fin 2 := if n = 0 then 0 else 1

/-- Block 0 holds the context rows, the others the latent rows. -/
theorem kind_row (n : ℕ) (hn : n < 9) (r : Fin 256) : kind (row n r) = kindOf n := by
  have hr := r.isLt
  have e : (row n r).val = n * 256 + r.val := Nat.mod_eq_of_lt (by omega)
  unfold kind kindOf
  rw [e]
  by_cases h : n = 0
  · rw [if_pos h, if_pos (by omega)]
  · rw [if_neg h, if_neg (by omega)]

/-! ## One block -/

/-- The blocks of point `n`, as the arguments give them. -/
structure Tile (A : Args) (n : ℕ) (x0 x1 : Vec Ideal S256x1024 .f32) (x2 x3 : Vec Ideal S256x1024 .bf16) (x4 x5 : Vec Ideal S256x1024 .f32)
    (x6 x7 : Vec Ideal S1x1x1024 .f32) (x8 : Vec Ideal S2048x1024 .bf16) : Prop where
  ua : x0 = arr2 fun r => A.ua (row n r)
  ub : x1 = arr2 fun r => A.ub (row n r)
  z : x2 = arr2 fun r => A.z (row n r)
  h : x3 = arr2 fun r => A.h (row n r)
  x : x4 = arr2 fun r => A.x (row n r)
  res : x5 = arr2 fun r => A.res (row n r)
  g : x6 = arr3 fun (_ : Fin 1) (_ : Fin 1) d => A.g d
  sc : x7 = arr3 fun (_ : Fin 1) (_ : Fin 1) d => A.sc (kindOf n) d
  w : x8 = arr2 fun e d => A.w d e

namespace Tile

variable {A : Args} {n : ℕ} {x0 x1 : Vec Ideal S256x1024 .f32} {x2 x3 : Vec Ideal S256x1024 .bf16} {x4 x5 : Vec Ideal S256x1024 .f32}
  {x6 x7 : Vec Ideal S1x1x1024 .f32} {x8 : Vec Ideal S2048x1024 .bf16} (T : Tile A n x0 x1 x2 x3 x4 x5 x6 x7 x8)
include T

/-- The projection's cotangent. -/
theorem pay_p : k0_pay5 x0 x1 x2 = arr2 fun r => A.p (row n r) := by
  rw [T.ua, T.ub, T.z]
  exact NormGrad.pay_p _ _ _

/-- The cotangent before the projection. -/
theorem pay_dh : k0_pay6 x0 x1 x2 x8 = arr2 fun r => A.dht (row n r) := by
  rw [T.ua, T.ub, T.z, T.w]
  exact NormGrad.pay_dh _ _ _ A.w _ (NormGrad.pay_p _ _ _)

/-- The cotangent before the scale. -/
theorem pay_dy : k0_pay10 x0 x1 x2 x7 x8 = arr2 fun r => dy (A.sc (kindOf n)) (A.dht (row n r)) := by
  rw [T.ua, T.ub, T.z, T.w, T.sc]
  exact NormGrad.pay_dy _ _ _ _ _ A.w (NormGrad.pay_dh _ _ _ A.w _ (NormGrad.pay_p _ _ _))

/-- The rows' cotangent. -/
theorem dx (hn : n < 9) : k0_pay11 x5 (k0_pay4 x6) (k0_pay7 x4) (k0_pay8 x4) (k0_pay10 x0 x1 x2 x7 x8) = arr2 fun r => A.dx (row n r) := by
  rw [T.pay_dy, T.res, T.g, T.x, pay_g, pay_rs, pay_nrm]
  refine (pay_dx _ _ _ _ _).trans (congrArg arr2 (funext fun r => ?_))
  unfold Args.dx
  rw [kind_row n hn r]

/-- The block's part of the shifts' gradient. -/
theorem dsh : k0_pay12 (k0_pay6 x0 x1 x2 x8) = arr2 fun (_ : Fin 1) d => ∑ r, A.dht (row n r) d := by
  rw [T.pay_dh]
  exact pay_dsh _

/-- The block's part of the scales' gradient. -/
theorem dsc : k0_pay13 (k0_pay6 x0 x1 x2 x8) (k0_pay9 x4 x6) = arr2 fun (_ : Fin 1) d => ∑ r, A.dht (row n r) d * A.y (row n r) d := by
  rw [T.pay_dh, T.x, T.g, pay_y]
  exact pay_dsc _ _

/-- The block's part of the gain's gradient. -/
theorem dg (hn : n < 9) : k0_pay14 (k0_pay8 x4) (k0_pay10 x0 x1 x2 x7 x8)
    = arr2 fun (_ : Fin 1) d => ∑ r, dy (A.sc (kind (row n r))) (A.dht (row n r)) d * nrm (A.x (row n r)) d := by
  rw [T.pay_dy, T.x, pay_nrm]
  refine (pay_dg _ _).trans (congrArg arr2 (funext fun _ => funext fun d => Finset.sum_congr rfl fun r _ => ?_))
  rw [kind_row n hn r]

/-- The block's part of the projection's gradient. -/
theorem dw : k0_pay15 (k0_pay3 x3) (k0_pay5 x0 x1 x2)
    = arr3 fun s d j => ∑ r, A.h (row n r) d * A.p (row n r) ⟨s.val * 256 + j.val, by omega⟩ := by
  rw [T.pay_p, pay_h, T.h]
  exact pay_dw _ _

end Tile

/-! ## What the windows read -/

/-- Window 0's block at a grid point. -/
theorem index_0 : ∀ t : Fin cfg0.N, win0_0.index t 0 = t.val ∧ win0_0.index t 1 = 0 := by decide +kernel
/-- Window 1's block at a grid point. -/
theorem index_1 : ∀ t : Fin cfg0.N, win0_1.index t 0 = t.val ∧ win0_1.index t 1 = 0 := by decide +kernel
/-- Window 2's block at a grid point. -/
theorem index_2 : ∀ t : Fin cfg0.N, win0_2.index t 0 = t.val ∧ win0_2.index t 1 = 0 := by decide +kernel
/-- Window 3's block at a grid point. -/
theorem index_3 : ∀ t : Fin cfg0.N, win0_3.index t 0 = t.val ∧ win0_3.index t 1 = 0 := by decide +kernel
/-- Window 4's block at a grid point. -/
theorem index_4 : ∀ t : Fin cfg0.N, win0_4.index t 0 = t.val ∧ win0_4.index t 1 = 0 := by decide +kernel
/-- Window 5's block at a grid point. -/
theorem index_5 : ∀ t : Fin cfg0.N, win0_5.index t 0 = t.val ∧ win0_5.index t 1 = 0 := by decide +kernel
/-- Window 6's block at a grid point. -/
theorem index_6 : ∀ t : Fin cfg0.N, win0_6.index t 0 = (kindOf t.val).val ∧ win0_6.index t 1 = 0 ∧ win0_6.index t 2 = 0 := by decide +kernel
/-- Window 7's block at a grid point. -/
theorem index_7 : ∀ t : Fin cfg0.N, win0_7.index t 0 = (kindOf t.val).val ∧ win0_7.index t 1 = 0 ∧ win0_7.index t 2 = 0 := by decide +kernel
/-- Window 8's block at a grid point. -/
theorem index_8 : ∀ t : Fin cfg0.N, win0_8.index t 0 = 0 ∧ win0_8.index t 1 = 0 := by decide +kernel
/-- Window 9's block at a grid point. -/
theorem index_9 : ∀ t : Fin cfg0.N, win0_9.index t 0 = t.val ∧ win0_9.index t 1 = 0 := by decide +kernel
/-- Window 10's block at a grid point. -/
theorem index_10 : ∀ t : Fin cfg0.N, win0_10.index t 0 = (kindOf t.val).val ∧ win0_10.index t 1 = 0 ∧ win0_10.index t 2 = 0 := by decide +kernel
/-- Window 11's block at a grid point. -/
theorem index_11 : ∀ t : Fin cfg0.N, win0_11.index t 0 = (kindOf t.val).val ∧ win0_11.index t 1 = 0 ∧ win0_11.index t 2 = 0 := by decide +kernel
/-- Window 12's block at a grid point. -/
theorem index_12 : ∀ t : Fin cfg0.N, win0_12.index t 0 = (kindOf t.val).val ∧ win0_12.index t 1 = 0 ∧ win0_12.index t 2 = 0 := by decide +kernel
/-- Window 13's block at a grid point. -/
theorem index_13 : ∀ t : Fin cfg0.N, win0_13.index t 0 = 0 ∧ win0_13.index t 1 = 0 ∧ win0_13.index t 2 = 0 := by decide +kernel

/-- A row of a grid point's block. -/
theorem row_val (t : Fin cfg0.N) (r : Fin 256) : (row t.val r).val = t.val * 256 + r.val := by
  have ht : t.val < 9 := Nat.lt_of_lt_of_eq t.isLt N_0
  have := r.isLt
  exact Nat.mod_eq_of_lt (by omega)

variable (m : (ℓ : Loc nD τ sig) → Buf (Elt Ideal) ℓ) (c : Dev nD) (t : Fin cfg0.N)

/-- What input window 0 reads. -/
theorem read_0 (r : Fin 256) (d : Fin 1024) :
    (iblk m c 0 t : FVec Ideal S256x1024 .f32) (ix2 r d) = (V m c main_arg6) (ix2 (row t.val r) d) := by
  have hi := index_0 t
  unfold iblk
  rw [View.read_apply]
  show (V m c main_arg6) _ = (V m c main_arg6) _
  refine congrArg _ (funext fun a => Fin.ext ?_)
  match a with
  | ⟨0, _⟩ => show win0_0.index t 0 * 256 + 1 * r.val = (row t.val r).val; rw [hi.1, row_val]; omega
  | ⟨1, _⟩ => show win0_0.index t 1 * 1024 + 1 * d.val = d.val; rw [hi.2]; omega

/-- What input window 1 reads. -/
theorem read_1 (r : Fin 256) (d : Fin 1024) :
    (iblk m c 1 t : FVec Ideal S256x1024 .f32) (ix2 r d) = (V m c main_arg7) (ix2 (row t.val r) d) := by
  have hi := index_1 t
  unfold iblk
  rw [View.read_apply]
  show (V m c main_arg7) _ = (V m c main_arg7) _
  refine congrArg _ (funext fun a => Fin.ext ?_)
  match a with
  | ⟨0, _⟩ => show win0_1.index t 0 * 256 + 1 * r.val = (row t.val r).val; rw [hi.1, row_val]; omega
  | ⟨1, _⟩ => show win0_1.index t 1 * 1024 + 1 * d.val = d.val; rw [hi.2]; omega

/-- What input window 2 reads. -/
theorem read_2 (r : Fin 256) (d : Fin 1024) :
    (iblk m c 2 t : FVec Ideal S256x1024 .bf16) (ix2 r d) = (V m c main_v61) (ix2 (row t.val r) d) := by
  have hi := index_2 t
  unfold iblk
  rw [View.read_apply]
  show (V m c main_v61) _ = (V m c main_v61) _
  refine congrArg _ (funext fun a => Fin.ext ?_)
  match a with
  | ⟨0, _⟩ => show win0_2.index t 0 * 256 + 1 * r.val = (row t.val r).val; rw [hi.1, row_val]; omega
  | ⟨1, _⟩ => show win0_2.index t 1 * 1024 + 1 * d.val = d.val; rw [hi.2]; omega

/-- What input window 3 reads. -/
theorem read_3 (r : Fin 256) (d : Fin 1024) :
    (iblk m c 3 t : FVec Ideal S256x1024 .bf16) (ix2 r d) = (V m c main_v60) (ix2 (row t.val r) d) := by
  have hi := index_3 t
  unfold iblk
  rw [View.read_apply]
  show (V m c main_v60) _ = (V m c main_v60) _
  refine congrArg _ (funext fun a => Fin.ext ?_)
  match a with
  | ⟨0, _⟩ => show win0_3.index t 0 * 256 + 1 * r.val = (row t.val r).val; rw [hi.1, row_val]; omega
  | ⟨1, _⟩ => show win0_3.index t 1 * 1024 + 1 * d.val = d.val; rw [hi.2]; omega

/-- What input window 4 reads. -/
theorem read_4 (r : Fin 256) (d : Fin 1024) :
    (iblk m c 4 t : FVec Ideal S256x1024 .f32) (ix2 r d) = (V m c main_arg0) (ix2 (row t.val r) d) := by
  have hi := index_4 t
  unfold iblk
  rw [View.read_apply]
  show (V m c main_arg0) _ = (V m c main_arg0) _
  refine congrArg _ (funext fun a => Fin.ext ?_)
  match a with
  | ⟨0, _⟩ => show win0_4.index t 0 * 256 + 1 * r.val = (row t.val r).val; rw [hi.1, row_val]; omega
  | ⟨1, _⟩ => show win0_4.index t 1 * 1024 + 1 * d.val = d.val; rw [hi.2]; omega

/-- What input window 5 reads. -/
theorem read_5 (r : Fin 256) (d : Fin 1024) :
    (iblk m c 5 t : FVec Ideal S256x1024 .f32) (ix2 r d) = (V m c main_arg5) (ix2 (row t.val r) d) := by
  have hi := index_5 t
  unfold iblk
  rw [View.read_apply]
  show (V m c main_arg5) _ = (V m c main_arg5) _
  refine congrArg _ (funext fun a => Fin.ext ?_)
  match a with
  | ⟨0, _⟩ => show win0_5.index t 0 * 256 + 1 * r.val = (row t.val r).val; rw [hi.1, row_val]; omega
  | ⟨1, _⟩ => show win0_5.index t 1 * 1024 + 1 * d.val = d.val; rw [hi.2]; omega

/-- What input window 6 reads. -/
theorem read_6 (k o : Fin 1) (d : Fin 1024) :
    (iblk m c 6 t : FVec Ideal S1x1x1024 .f32) (ix3 k o d) = (V m c main_v63) (ix3 (kindOf t.val) o d) := by
  have hi := index_6 t
  have hk := k.isLt
  unfold iblk
  rw [View.read_apply]
  show (V m c main_v63) _ = (V m c main_v63) _
  refine congrArg _ (funext fun a => Fin.ext ?_)
  match a with
  | ⟨0, _⟩ => show win0_6.index t 0 * 1 + 1 * k.val = (kindOf t.val).val; rw [hi.1]; omega
  | ⟨1, _⟩ => show win0_6.index t 1 * 1 + 1 * o.val = o.val; rw [hi.2.1]; omega
  | ⟨2, _⟩ => show win0_6.index t 2 * 1024 + 1 * d.val = d.val; rw [hi.2.2]; omega

/-- What input window 7 reads. -/
theorem read_7 (k o : Fin 1) (d : Fin 1024) :
    (iblk m c 7 t : FVec Ideal S1x1x1024 .f32) (ix3 k o d) = (V m c main_v64) (ix3 (kindOf t.val) o d) := by
  have hi := index_7 t
  have hk := k.isLt
  unfold iblk
  rw [View.read_apply]
  show (V m c main_v64) _ = (V m c main_v64) _
  refine congrArg _ (funext fun a => Fin.ext ?_)
  match a with
  | ⟨0, _⟩ => show win0_7.index t 0 * 1 + 1 * k.val = (kindOf t.val).val; rw [hi.1]; omega
  | ⟨1, _⟩ => show win0_7.index t 1 * 1 + 1 * o.val = o.val; rw [hi.2.1]; omega
  | ⟨2, _⟩ => show win0_7.index t 2 * 1024 + 1 * d.val = d.val; rw [hi.2.2]; omega

/-- What input window 8 reads. -/
theorem read_8 (r : Fin 2048) (d : Fin 1024) :
    (iblk m c 8 t : FVec Ideal S2048x1024 .bf16) (ix2 r d) = (V m c main_v66) (ix2 r d) := by
  have hi := index_8 t
  unfold iblk
  rw [View.read_apply]
  show (V m c main_v66) _ = (V m c main_v66) _
  refine congrArg _ (funext fun a => Fin.ext ?_)
  match a with
  | ⟨0, _⟩ => show win0_8.index t 0 * 2048 + 1 * r.val = r.val; rw [hi.1]; omega
  | ⟨1, _⟩ => show win0_8.index t 1 * 1024 + 1 * d.val = d.val; rw [hi.2]; omega

/-! ## What the host hands over -/

/-- The arguments' arrays. -/
structure Given (A : Args) : Prop where
  x : m ((c : Thread nD τ).loc main_arg0) = arr2 A.x
  g : m ((c : Thread nD τ).loc main_arg1) = arr1 A.g
  sc : m ((c : Thread nD τ).loc main_arg2) = arr2 A.sc
  sh : m ((c : Thread nD τ).loc main_arg3) = arr2 A.sh
  w : m ((c : Thread nD τ).loc main_arg4) = arr2 A.w
  res : m ((c : Thread nD τ).loc main_arg5) = arr2 A.res
  ua : m ((c : Thread nD τ).loc main_arg6) = arr2 A.ua
  ub : m ((c : Thread nD τ).loc main_arg7) = arr2 A.ub
  z : m ((c : Thread nD τ).loc main_arg8) = arr2 A.z

variable {m c} {A : Args}

/-- The gain, at an index. -/
theorem Given.at_g (G : Given m c A) (k : Fin 2) (o : Fin 1) (d : Fin 1024) : (V m c main_v63 : S2x1x1024.Idx → EReal) (ix3 k o d) = (A.g d : EReal) := by
  rw [host_g, G.g]
  refine (shapeCast_apply _ _ _ (ix1 d) ?_).trans rfl
  rw [Shape.rowMajor_val_one, Shape.rowMajor_val_three]
  show d.val = (0 * 1 + 0) * 1024 + d.val
  omega

/-- The scales, at an index. -/
theorem Given.at_sc (G : Given m c A) (k : Fin 2) (o : Fin 1) (d : Fin 1024) : (V m c main_v64 : S2x1x1024.Idx → EReal) (ix3 k o d) = (A.sc k d : EReal) := by
  rw [host_sc, G.sc]
  rfl

/-- The projection, at an index. -/
theorem Given.at_w (G : Given m c A) (e : Fin 2048) (d : Fin 1024) : (V m c main_v66 : S2048x1024.Idx → EReal) (ix2 e d) = (A.w d e : EReal) := by
  rw [host_w, G.w]
  show transpose S2048x1024 [1, 0] (arr2 A.w) transposes_S1024x2048_S2048x1024_1_0 (ix2 e d) = arr2 A.w (ix2 d e)
  refine transpose_apply _ _ _ (ix2 e d) (ix2 d e) ?_
  exact fun b => match b with | ⟨0, _⟩ => rfl | ⟨1, _⟩ => rfl

/-- The blocks of a grid point. -/
theorem Given.tile (G : Given m c A) (t : Fin cfg0.N) :
    Tile A t.val (iblk m c 0 t) (iblk m c 1 t) (iblk m c 2 t) (iblk m c 3 t) (iblk m c 4 t) (iblk m c 5 t) (iblk m c 6 t) (iblk m c 7 t) (iblk m c 8 t) where
  ua := rows_eq fun r d => (read_0 m c t r d).trans (by rw [V_main_arg6, G.ua]; rfl)
  ub := rows_eq fun r d => (read_1 m c t r d).trans (by rw [V_main_arg7, G.ub]; rfl)
  z := rows_eq fun r d => (read_2 m c t r d).trans (by rw [host_z, G.z]; rfl)
  h := rows_eq fun r d => (read_3 m c t r d).trans (by rw [host_h, G.x, G.g, G.sc, G.sh, ref_h]; rfl)
  x := rows_eq fun r d => (read_4 m c t r d).trans (by rw [V_main_arg0, G.x]; rfl)
  res := rows_eq fun r d => (read_5 m c t r d).trans (by rw [V_main_arg5, G.res]; rfl)
  g := slabs_eq fun k o d => (read_6 m c t k o d).trans (G.at_g _ _ _)
  sc := slabs_eq fun k o d => (read_7 m c t k o d).trans (G.at_sc _ _ _)
  w := rows_eq fun e d => (read_8 m c t e d).trans (G.at_w _ _)

end Cert.NormGrad

end
-- ==== Proof.TailSums.lean ====
/- What the points of `l1_pre_b` leave, by induction over the points: the sums so far. -/
module

public import proofs.«01_k».proof.Proof.TailLeft
public import proofs.«01_k».proof.Proof.TailBlocks

@[expose] public section

set_option maxRecDepth 16384

noncomputable section

namespace Cert.NormGrad

open Idealize.ShloMosaic Idealize.ShloMosaic.TcCoe Idealize.ShloMosaic.ValueIdx Cert.Attn Cert.TailIdeal Cert.TailIdeal.Gen Cert.TailIdeal.Walk
open scoped BigOperators

/-! ## Partial sums -/

/-- The sum over a block's rows. -/
def blockSum (f : Fin 2304 → ℝ) (n : ℕ) : ℝ := ∑ r, f (row n r)

/-- The sum, up to block `n`, over the rows of the block's kind. -/
def kindSum (f : Fin 2304 → ℝ) (n : ℕ) : ℝ := if n = 0 then blockSum f 0 else ∑ i ∈ Finset.range n, blockSum f (i + 1)

/-- The sum up to block `n` over all rows. -/
def allSum (f : Fin 2304 → ℝ) (n : ℕ) : ℝ := ∑ i ∈ Finset.range (n + 1), blockSum f i

/-- Block 0 starts the context rows' sum. -/
theorem kindSum_zero (f : Fin 2304 → ℝ) : kindSum f 0 = 0 + blockSum f 0 := by
  unfold kindSum
  rw [if_pos rfl, zero_add]

/-- Block 1 starts the latent rows' sum. -/
theorem kindSum_one (f : Fin 2304 → ℝ) : kindSum f 1 = 0 + blockSum f 1 := by
  unfold kindSum
  rw [if_neg one_ne_zero, Finset.sum_range_one, zero_add, zero_add]

/-- The later blocks add to the latent rows' sum. -/
theorem kindSum_succ (f : Fin 2304 → ℝ) (n : ℕ) (hn : n ≠ 0) : kindSum f (n + 1) = kindSum f n + blockSum f (n + 1) := by
  unfold kindSum
  rw [if_neg n.succ_ne_zero, if_neg hn, Finset.sum_range_succ]

/-- Block 0 starts the sum over all rows. -/
theorem allSum_zero (f : Fin 2304 → ℝ) : allSum f 0 = 0 + blockSum f 0 := by
  unfold allSum
  rw [Finset.sum_range_one, zero_add]

/-- Every later block adds to it. -/
theorem allSum_succ (f : Fin 2304 → ℝ) (n : ℕ) : allSum f (n + 1) = allSum f n + blockSum f (n + 1) :=
  Finset.sum_range_succ _ _

/-- After block 0 the sums are over the context rows. -/
theorem kindSum_ctx (f : Fin 2304 → ℝ) : kindSum f 0 = rows 0 f := by
  rw [kindSum_zero, zero_add, rows_ctx]
  refine Finset.sum_congr rfl fun r _ => congrArg f (Fin.ext ?_)
  have := r.isLt
  show (0 * 256 + r.val) % 2304 = r.val
  omega

/-- After block 8 they are over the latent rows. -/
theorem kindSum_lat (f : Fin 2304 → ℝ) : kindSum f 8 = rows 1 f := by
  rw [rows_lat, ← sum_lat]
  unfold kindSum blockSum row
  rw [if_neg (by decide)]
  refine Finset.sum_congr rfl fun i _ => Finset.sum_congr rfl fun r _ => congrArg (fun k => f (rowN k)) ?_
  omega

/-- After block 8 the accumulator's sums are over all rows. -/
theorem allSum_all (f : Fin 2304 → ℝ) : allSum f 8 = ∑ t, f t := (sum_all f)

/-! ## The points -/

namespace Args

variable (A : Args)

/-- A row's part of the shifts' gradient. -/
def tsh (d : Fin 1024) (t : Fin 2304) : ℝ := A.dht t d
/-- A row's part of the scales' gradient. -/
def tsc (d : Fin 1024) (t : Fin 2304) : ℝ := A.dht t d * A.y t d
/-- A row's part of the gain's gradient. -/
def tg (d : Fin 1024) (t : Fin 2304) : ℝ := dy (A.sc (kind t)) (A.dht t) d * nrm (A.x t) d
/-- A row's part of the projection's gradient. -/
def tw (s : Fin 8) (d : Fin 1024) (j : Fin 256) (t : Fin 2304) : ℝ := A.h t d * A.p t ⟨s.val * 256 + j.val, by omega⟩

end Args

/-- What point `n` leaves: the rows' cotangent, and the sums so far. -/
structure Left (A : Args) (n : ℕ) (o : Vec Ideal S256x1024 .f32 × Vec Ideal S1x1x1024 .f32 × Vec Ideal S1x1x1024 .f32 × Vec Ideal S1x1x1024 .f32
    × Vec Ideal S8x1024x256 .bf16 × Vec Ideal S8x1024x256 .f32) : Prop where
  dx : o.1 = arr2 fun r => A.dx (row n r)
  dsh : o.2.1 = arr3 fun (_ : Fin 1) (_ : Fin 1) d => kindSum (A.tsh d) n
  dsc : o.2.2.1 = arr3 fun (_ : Fin 1) (_ : Fin 1) d => kindSum (A.tsc d) n
  dg : o.2.2.2.1 = arr3 fun (_ : Fin 1) (_ : Fin 1) d => kindSum (A.tg d) n
  acc : o.2.2.2.2.2 = arr3 fun s d j => allSum (A.tw s d j) n
  dw : n = 8 → o.2.2.2.2.1 = arr3 fun s d j => allSum (A.tw s d j) n

variable {m : (ℓ : Loc nD τ sig) → Buf (Elt Ideal) ℓ} {c : Dev nD} {A : Args}

section

variable {n : ℕ} {x0 x1 : Vec Ideal S256x1024 .f32} {x2 x3 : Vec Ideal S256x1024 .bf16} {x4 x5 : Vec Ideal S256x1024 .f32}
  {x6 x7 : Vec Ideal S1x1x1024 .f32} {x8 : Vec Ideal S2048x1024 .bf16} (T : Tile A n x0 x1 x2 x3 x4 x5 x6 x7 x8)
include T

/-- The shifts' gradient after a block. -/
theorem Tile.add_dsh (old new : Fin 1024 → ℝ) (xo : Vec Ideal S1x1x1024 .f32) (ho : xo = arr3 fun (_ : Fin 1) (_ : Fin 1) d => old d)
    (hn : ∀ d, new d = old d + blockSum (A.tsh d) n) :
    k0_pay19 (k0_pay12 (k0_pay6 x0 x1 x2 x8)) xo = arr3 fun (_ : Fin 1) (_ : Fin 1) d => new d := by
  rw [T.dsh, ho]
  exact (pay_add10 _ _).trans (congrArg arr3 (funext fun _ => funext fun _ => funext fun d => (hn d).symm))

/-- The scales' gradient after a block. -/
theorem Tile.add_dsc (old new : Fin 1024 → ℝ) (xo : Vec Ideal S1x1x1024 .f32) (ho : xo = arr3 fun (_ : Fin 1) (_ : Fin 1) d => old d)
    (hn : ∀ d, new d = old d + blockSum (A.tsc d) n) :
    k0_pay20 (k0_pay13 (k0_pay6 x0 x1 x2 x8) (k0_pay9 x4 x6)) xo = arr3 fun (_ : Fin 1) (_ : Fin 1) d => new d := by
  rw [T.dsc, ho]
  exact (pay_add11 _ _).trans (congrArg arr3 (funext fun _ => funext fun _ => funext fun d => (hn d).symm))

/-- The gain's gradient after a block. -/
theorem Tile.add_dg (h9 : n < 9) (old new : Fin 1024 → ℝ) (xo : Vec Ideal S1x1x1024 .f32) (ho : xo = arr3 fun (_ : Fin 1) (_ : Fin 1) d => old d)
    (hn : ∀ d, new d = old d + blockSum (A.tg d) n) :
    k0_pay21 (k0_pay14 (k0_pay8 x4) (k0_pay10 x0 x1 x2 x7 x8)) xo = arr3 fun (_ : Fin 1) (_ : Fin 1) d => new d := by
  rw [T.dg h9, ho]
  exact (pay_add12 _ _).trans (congrArg arr3 (funext fun _ => funext fun _ => funext fun d => (hn d).symm))

/-- The accumulator after a block. -/
theorem Tile.add_acc (old new : Fin 8 → Fin 1024 → Fin 256 → ℝ) (xs : Vec Ideal S8x1024x256 .f32) (ho : xs = arr3 old)
    (hn : ∀ s d j, new s d j = old s d j + blockSum (A.tw s d j) n) :
    k0_pay1 (k0_pay23 (k0_pay15 (k0_pay3 x3) (k0_pay5 x0 x1 x2)) xs) = arr3 new := by
  rw [T.dw, ho]
  exact (pay_add_acc _ _).trans (congrArg arr3 (funext fun s => funext fun d => funext fun j => (hn s d j).symm))

end

/-- The first point starts every sum. -/
theorem left_A (G : Given m c A) (t : Fin cfg0.N) (h : t.val = 0) : Left A t.val (outsAt0 m c t.val t.isLt) := by
  have T := G.tile t
  have h0 : t.val < 2 := by omega
  have h1 : t.val % 9 = 0 := by omega
  have h2 : ¬t.val % 9 = 8 := by omega
  have h9 : t.val < 9 := by omega
  constructor
  · exact (left9_A m c t h0 h1 h2).trans (T.dx h9)
  · refine (left10_A m c t h0 h1 h2).trans (T.add_dsh (fun _ => 0) _ _ pay_zero10 fun d => ?_)
    rw [h]; exact kindSum_zero _
  · refine (left11_A m c t h0 h1 h2).trans (T.add_dsc (fun _ => 0) _ _ pay_zero11 fun d => ?_)
    rw [h]; exact kindSum_zero _
  · refine (left12_A m c t h0 h1 h2).trans (T.add_dg h9 (fun _ => 0) _ _ pay_zero12 fun d => ?_)
    rw [h]; exact kindSum_zero _
  · refine (left_acc_A m c t h0 h1 h2).trans (T.add_acc (fun _ _ _ => 0) _ _ pay_zero_acc fun s d j => ?_)
    rw [h]; exact allSum_zero _
  · intro h8; omega

/-- The second point starts the latent rows' sums. -/
theorem left_B (G : Given m c A) (t : Fin cfg0.N) (h : t.val = 1) (P : Left A (t.val - 1) (outsAt0 m c (t.val - 1) (Nat.lt_of_le_of_lt (Nat.sub_le _ _) t.isLt))) :
    Left A t.val (outsAt0 m c t.val t.isLt) := by
  have T := G.tile t
  have h0 : t.val < 2 := by omega
  have h1 : ¬t.val % 9 = 0 := by omega
  have h2 : ¬t.val % 9 = 8 := by omega
  have h9 : t.val < 9 := by omega
  constructor
  · exact (left9_B m c t h0 h1 h2).trans (T.dx h9)
  · refine (left10_B m c t h0 h1 h2).trans (T.add_dsh (fun _ => 0) _ _ pay_zero10 fun d => ?_)
    rw [h]; exact kindSum_one _
  · refine (left11_B m c t h0 h1 h2).trans (T.add_dsc (fun _ => 0) _ _ pay_zero11 fun d => ?_)
    rw [h]; exact kindSum_one _
  · refine (left12_B m c t h0 h1 h2).trans (T.add_dg h9 (fun _ => 0) _ _ pay_zero12 fun d => ?_)
    rw [h]; exact kindSum_one _
  · refine (left_acc_B m c t h0 h1 h2).trans (T.add_acc _ _ _ P.acc fun s d j => ?_)
    rw [h]; exact allSum_succ _ 0
  · intro h8; omega

/-- An inner point adds to the sums. -/
theorem left_C (G : Given m c A) (t : Fin cfg0.N) (h : 2 ≤ t.val) (h' : t.val < 8)
    (P : Left A (t.val - 1) (outsAt0 m c (t.val - 1) (Nat.lt_of_le_of_lt (Nat.sub_le _ _) t.isLt))) : Left A t.val (outsAt0 m c t.val t.isLt) := by
  have T := G.tile t
  have h0 : ¬t.val < 2 := by omega
  have h1 : ¬t.val % 9 = 0 := by omega
  have h2 : ¬t.val % 9 = 8 := by omega
  have h9 : t.val < 9 := by omega
  have hs : t.val = t.val - 1 + 1 := by omega
  have ks : ∀ f, kindSum f t.val = kindSum f (t.val - 1) + blockSum f t.val := fun f => by
    have := kindSum_succ f (t.val - 1) (by omega)
    rwa [← hs] at this
  have acs : ∀ f, allSum f t.val = allSum f (t.val - 1) + blockSum f t.val := fun f => by
    have := allSum_succ f (t.val - 1)
    rwa [← hs] at this
  constructor
  · exact (left9_C m c t h0 h1 h2).trans (T.dx h9)
  · exact (left10_C m c t h0 h1 h2).trans (T.add_dsh _ _ _ P.dsh fun d => ks _)
  · exact (left11_C m c t h0 h1 h2).trans (T.add_dsc _ _ _ P.dsc fun d => ks _)
  · exact (left12_C m c t h0 h1 h2).trans (T.add_dg h9 _ _ _ P.dg fun d => ks _)
  · exact (left_acc_C m c t h0 h1 h2).trans (T.add_acc _ _ _ P.acc fun s d j => acs _)
  · intro h8; omega

/-- The last point adds to the sums and rounds the accumulator. -/
theorem left_D (G : Given m c A) (t : Fin cfg0.N) (h : t.val = 8)
    (P : Left A (t.val - 1) (outsAt0 m c (t.val - 1) (Nat.lt_of_le_of_lt (Nat.sub_le _ _) t.isLt))) : Left A t.val (outsAt0 m c t.val t.isLt) := by
  have T := G.tile t
  have h0 : ¬t.val < 2 := by omega
  have h1 : ¬t.val % 9 = 0 := by omega
  have h2 : t.val % 9 = 8 := by omega
  have h9 : t.val < 9 := by omega
  have hs : t.val = t.val - 1 + 1 := by omega
  have ks : ∀ f, kindSum f t.val = kindSum f (t.val - 1) + blockSum f t.val := fun f => by
    have := kindSum_succ f (t.val - 1) (by omega)
    rwa [← hs] at this
  have acs : ∀ f, allSum f t.val = allSum f (t.val - 1) + blockSum f t.val := fun f => by
    have := allSum_succ f (t.val - 1)
    rwa [← hs] at this
  constructor
  · exact (left9_D m c t h0 h1 h2).trans (T.dx h9)
  · exact (left10_D m c t h0 h1 h2).trans (T.add_dsh _ _ _ P.dsh fun d => ks _)
  · exact (left11_D m c t h0 h1 h2).trans (T.add_dsc _ _ _ P.dsc fun d => ks _)
  · exact (left12_D m c t h0 h1 h2).trans (T.add_dg h9 _ _ _ P.dg fun d => ks _)
  · exact (left_acc_D m c t h0 h1 h2).trans (T.add_acc _ _ _ P.acc fun s d j => acs _)
  · exact fun _ => (left13_D m c t h0 h1 h2).trans ((pay_round _).trans (T.add_acc _ _ _ P.acc fun s d j => acs _))

/-- What every point leaves. -/
theorem left (G : Given m c A) : ∀ (n : ℕ) (hn : n < cfg0.N), Left A n (outsAt0 m c n hn)
  | 0, hn => left_A G ⟨0, hn⟩ rfl
  | n + 1, hn => by
    have h9 : n + 1 < 9 := Nat.lt_of_lt_of_eq hn N_0
    have P := left G n (Nat.lt_of_succ_lt hn)
    by_cases h1 : n = 0
    · exact left_B G ⟨n + 1, hn⟩ (by show n + 1 = 1; omega) P
    · by_cases h8 : n = 7
      · exact left_D G ⟨n + 1, hn⟩ (by show n + 1 = 8; omega) P
      · exact left_C G ⟨n + 1, hn⟩ (by show 2 ≤ n + 1; omega) (by show n + 1 < 8; omega) P

end Cert.NormGrad

end
-- ==== Proof.TailResults.lean ====
module

public import proofs.«01_k».proof.Proof.TailBody

@[expose] public section

/-! # What the arrays of `l1_pre_b` hold after the run -/

set_option maxRecDepth 16384

noncomputable section

namespace Cert.TailIdeal.Walk

open Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blockwise: what each point writes back, and the final array block by block -/

/-- What point `t` writes back to output 9: what its buffer holds after the body. -/
theorem flushed9 (c : Dev nD) (t : Fin cfg0.N) :
    (dats m 0 c).flushed 9 t = (cfg0.win 9).cut (grid0.coords t) ((outsAt0 m c t.val t.isLt).1) := by
  show (cfg0.win 9).cut (grid0.coords t) ((dats m 0 c).after 9 t) = _
  rw [after0_9]

/-- The index map sends distinct grid points to distinct block indices (decided over the 9 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- Block `t` of the final array is what point `t` wrote back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S2304x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- What point `t` writes back to output 10: what its buffer holds after the body. -/
theorem flushed10 (c : Dev nD) (t : Fin cfg0.N) :
    (dats m 0 c).flushed 10 t = (cfg0.win 10).cut (grid0.coords t) ((outsAt0 m c t.val t.isLt).2.1) := by
  show (cfg0.win 10).cut (grid0.coords t) ((dats m 0 c).after 10 t) = _
  rw [after0_10]

/-- An index that no flushing point's block covers keeps output window 10's array contents at region entry. -/
theorem entry10 (c : Dev nD) (i : S2x1x1024.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- What point `t` writes back to output 11: what its buffer holds after the body. -/
theorem flushed11 (c : Dev nD) (t : Fin cfg0.N) :
    (dats m 0 c).flushed 11 t = (cfg0.win 11).cut (grid0.coords t) ((outsAt0 m c t.val t.isLt).2.2.1) := by
  show (cfg0.win 11).cut (grid0.coords t) ((dats m 0 c).after 11 t) = _
  rw [after0_11]

/-- An index that no flushing point's block covers keeps output window 11's array contents at region entry. -/
theorem entry11 (c : Dev nD) (i : S2x1x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- What point `t` writes back to output 12: what its buffer holds after the body. -/
theorem flushed12 (c : Dev nD) (t : Fin cfg0.N) :
    (dats m 0 c).flushed 12 t = (cfg0.win 12).cut (grid0.coords t) ((outsAt0 m c t.val t.isLt).2.2.2.1) := by
  show (cfg0.win 12).cut (grid0.coords t) ((dats m 0 c).after 12 t) = _
  rw [after0_12]

/-- An index that no flushing point's block covers keeps output window 12's array contents at region entry. -/
theorem entry12 (c : Dev nD) (i : S2x1x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- What point `t` writes back to output 13: what its buffer holds after the body. -/
theorem flushed13 (c : Dev nD) (t : Fin cfg0.N) :
    (dats m 0 c).flushed 13 t = (cfg0.win 13).cut (grid0.coords t) ((outsAt0 m c t.val t.isLt).2.2.2.2.1) := by
  show (cfg0.win 13).cut (grid0.coords t) ((dats m 0 c).after 13 t) = _
  rw [after0_13]

/-- An index that no flushing point's block covers keeps output window 13's array contents at region entry. -/
theorem entry13 (c : Dev nD) (i : S8x1024x256.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v67_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v67_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v67_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v67_3) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v67_4) = (dats m 0 c).arrAt 13 cfg0.N :=
  (h c).1 13

/-- After the frame run, argument `main_arg0` is as launched: input window 4 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 0 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 0).trans (((dats m 0 c).arrAt_in 0 rfl _).trans ((A_eq m c 0).trans (V_main_arg6 m c)))

/-- After the frame run, argument `main_arg7` is as launched: input window 1 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 1).trans (((dats m 0 c).arrAt_in 1 rfl _).trans ((A_eq m c 1).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v67_0) = (dats m 0 c).arrAt 9 cfg0.N
      ∧ r.2.mem ((c : Thread nD τ).loc main_v67_1) = (dats m 0 c).arrAt 10 cfg0.N
      ∧ r.2.mem ((c : Thread nD τ).loc main_v67_2) = (dats m 0 c).arrAt 11 cfg0.N
      ∧ r.2.mem ((c : Thread nD τ).loc main_v67_3) = (dats m 0 c).arrAt 12 cfg0.N
      ∧ r.2.mem ((c : Thread nD τ).loc main_v67_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      post10 m r h c,
      post11 m r h c,
      post12 m r h c,
      post13 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## Carried scratch 0: what each point leaves in it, and its fold -/

end Cert.TailIdeal.Walk
-- ==== Proof.TailArrays.lean ====
/- The arrays the call `l1_pre_b` leaves. -/
module

public import proofs.«01_k».proof.Proof.TailSums
public import proofs.«01_k».proof.Proof.TailResults

@[expose] public section

set_option maxRecDepth 16384

noncomputable section

namespace Cert.NormGrad

open Idealize.ShloMosaic Idealize.ShloMosaic.TcCoe Idealize.ShloMosaic.ValueIdx Cert.Attn Cert.TailIdeal Cert.TailIdeal.Gen Cert.TailIdeal.Walk

variable {m : (ℓ : Loc nD τ sig) → Buf (Elt Ideal) ℓ} {c : Dev nD} {A : Args}

/-- A point of the grid. -/
def point (n : ℕ) (hn : n < 9) : Fin cfg0.N := ⟨n, Nat.lt_of_lt_of_eq hn N_0.symm⟩

/-- Where the sums of a kind are written back they are over all its rows. -/
theorem kind_total (f : Fin 2304 → ℝ) (n : ℕ) (h : n = 0 ∨ n = 8) : kindSum f n = rows (kindOf n) f := by
  rcases h with rfl | rfl
  · exact kindSum_ctx f
  · exact kindSum_lat f

/-- Every write-back of the rows' cotangent writes its block of the specified array. -/
theorem flushed_dx (G : Given m c A) (t : Fin cfg0.N) (hf : (cfg0.win 9).flush t = true) :
    (dats m 0 c).flushed 9 t = ((cfg0.win 9).blk t).view.read (Elt Ideal) (arr2 A.dx) := by
  refine (flushed9 m c t).trans (funext fun y => ?_)
  rw [View.read_apply]
  have hi := index_9 t
  have P := (left G t.val t.isLt).dx
  have key : ∀ (r : Fin 256) (d : Fin 1024), y = ValueIdx.ix2 r d → ((outsAt0 m c t.val t.isLt).1 : FVec Ideal ⟨2, ![256, 1024]⟩ .f32) y
      = arr2 A.dx (((cfg0.win 9).blk t).view.emb y) := by
    intro r d e
    subst e
    refine (congrFun P _).trans ?_
    show arr2 A.dx (ValueIdx.ix2 (row t.val r) d) = _
    refine congrArg (arr2 A.dx) (funext fun a => Fin.ext ?_)
    match a with
    | ⟨0, _⟩ => show (row t.val r).val = win0_9.index t 0 * 256 + 1 * r.val; rw [hi.1, row_val]; omega
    | ⟨1, _⟩ => show d.val = win0_9.index t 1 * 1024 + 1 * d.val; rw [hi.2]; omega
  exact key (y 0) (y 1) (ValueIdx.eq_ix2 y)

/-- The rows' cotangent. -/
theorem final_dx (G : Given m c A) : (dats m 0 c).arrAt 9 cfg0.N = arr2 A.dx :=
  (dats m 0 c).arrAt_eq_of_cover 9 (arr2 A.dx) (flushed_dx G) fun i => by
    have h0 : (i 0 : ℕ) < 2304 := (i 0).isLt
    have h1 : (i 1 : ℕ) < 1024 := (i 1).isLt
    obtain ⟨t, ht⟩ : ∃ t : Fin cfg0.N, t.val = (i 0 : ℕ) / 256 := ⟨point ((i 0 : ℕ) / 256) (by omega), rfl⟩
    refine ⟨t, flush0_9 t, ?_⟩
    show i ∈ ((View.whole main_v67_0).slice (win0_9.rect t)).set
    rw [View.set_slice_whole, Rect.mem_set_unit]
    intro a
    have hi := index_9 t
    match a with
    | ⟨0, _⟩ => show win0_9.index t 0 * 256 ≤ (i 0 : ℕ) ∧ (i 0 : ℕ) < win0_9.index t 0 * 256 + 256; rw [hi.1, ht]; omega
    | ⟨1, _⟩ => show win0_9.index t 1 * 1024 ≤ (i 1 : ℕ) ∧ (i 1 : ℕ) < win0_9.index t 1 * 1024 + 1024; rw [hi.2]; omega

/-- Every write-back of the shifts' gradient writes its block of the specified array. -/
theorem flushed_dsh (G : Given m c A) (t : Fin cfg0.N) (hf : (cfg0.win 10).flush t = true) :
    (dats m 0 c).flushed 10 t = ((cfg0.win 10).blk t).view.read (Elt Ideal) (arr3 A.dsh) := by
  refine (flushed10 m c t).trans (funext fun y => ?_)
  rw [View.read_apply]
  have hi := index_10 t
  have P := (left G t.val t.isLt).dsh
  have hk := (flush0_10 t).mp hf
  have key : ∀ (k o : Fin 1) (d : Fin 1024), y = ValueIdx.ix3 k o d → ((outsAt0 m c t.val t.isLt).2.1 : FVec Ideal ⟨3, ![1, 1, 1024]⟩ .f32) y
      = arr3 A.dsh (((cfg0.win 10).blk t).view.emb y) := by
    intro k o d e
    subst e
    refine (congrFun P _).trans ((congrArg ((↑) : ℝ → EReal) (kind_total (A.tsh d) t.val hk)).trans ?_)
    show arr3 A.dsh (ValueIdx.ix3 (kindOf t.val) o d) = _
    refine congrArg (arr3 A.dsh) (funext fun a => Fin.ext ?_)
    match a with
    | ⟨0, _⟩ => show (kindOf t.val).val = win0_10.index t 0 * 1 + 1 * k.val; rw [hi.1]; omega
    | ⟨1, _⟩ => show o.val = win0_10.index t 1 * 1 + 1 * o.val; rw [hi.2.1]; omega
    | ⟨2, _⟩ => show d.val = win0_10.index t 2 * 1024 + 1 * d.val; rw [hi.2.2]; omega
  exact key (y 0) (y 1) (y 2) (ValueIdx.eq_ix3 y)

/-- The shifts' gradient. -/
theorem final_dsh (G : Given m c A) : (dats m 0 c).arrAt 10 cfg0.N = arr3 A.dsh :=
  (dats m 0 c).arrAt_eq_of_cover 10 (arr3 A.dsh) (flushed_dsh G) fun i => by
    have h0 : (i 0 : ℕ) < 2 := (i 0).isLt
    have h1 : (i 1 : ℕ) < 1 := (i 1).isLt
    have h2 : (i 2 : ℕ) < 1024 := (i 2).isLt
    obtain ⟨t, ht, hk⟩ : ∃ t : Fin cfg0.N, (t.val = 0 ∨ t.val = 8) ∧ (kindOf t.val).val = (i 0 : ℕ) := by
      by_cases h : (i 0 : ℕ) = 0
      · exact ⟨point 0 (by omega), Or.inl rfl, h.symm⟩
      · exact ⟨point 8 (by omega), Or.inr rfl, by show 1 = (i 0 : ℕ); omega⟩
    refine ⟨t, (flush0_10 t).mpr ht, ?_⟩
    show i ∈ ((View.whole main_v67_1).slice (win0_10.rect t)).set
    rw [View.set_slice_whole, Rect.mem_set_unit]
    intro a
    have hi := index_10 t
    match a with
    | ⟨0, _⟩ => show win0_10.index t 0 * 1 ≤ (i 0 : ℕ) ∧ (i 0 : ℕ) < win0_10.index t 0 * 1 + 1; rw [hi.1, hk]; omega
    | ⟨1, _⟩ => show win0_10.index t 1 * 1 ≤ (i 1 : ℕ) ∧ (i 1 : ℕ) < win0_10.index t 1 * 1 + 1; rw [hi.2.1]; omega
    | ⟨2, _⟩ => show win0_10.index t 2 * 1024 ≤ (i 2 : ℕ) ∧ (i 2 : ℕ) < win0_10.index t 2 * 1024 + 1024; rw [hi.2.2]; omega

/-- Every write-back of the scales' gradient writes its block of the specified array. -/
theorem flushed_dsc (G : Given m c A) (t : Fin cfg0.N) (hf : (cfg0.win 11).flush t = true) :
    (dats m 0 c).flushed 11 t = ((cfg0.win 11).blk t).view.read (Elt Ideal) (arr3 A.dsc) := by
  refine (flushed11 m c t).trans (funext fun y => ?_)
  rw [View.read_apply]
  have hi := index_11 t
  have P := (left G t.val t.isLt).dsc
  have hk := (flush0_11 t).mp hf
  have key : ∀ (k o : Fin 1) (d : Fin 1024), y = ValueIdx.ix3 k o d → ((outsAt0 m c t.val t.isLt).2.2.1 : FVec Ideal ⟨3, ![1, 1, 1024]⟩ .f32) y
      = arr3 A.dsc (((cfg0.win 11).blk t).view.emb y) := by
    intro k o d e
    subst e
    refine (congrFun P _).trans ((congrArg ((↑) : ℝ → EReal) (kind_total (A.tsc d) t.val hk)).trans ?_)
    show arr3 A.dsc (ValueIdx.ix3 (kindOf t.val) o d) = _
    refine congrArg (arr3 A.dsc) (funext fun a => Fin.ext ?_)
    match a with
    | ⟨0, _⟩ => show (kindOf t.val).val = win0_11.index t 0 * 1 + 1 * k.val; rw [hi.1]; omega
    | ⟨1, _⟩ => show o.val = win0_11.index t 1 * 1 + 1 * o.val; rw [hi.2.1]; omega
    | ⟨2, _⟩ => show d.val = win0_11.index t 2 * 1024 + 1 * d.val; rw [hi.2.2]; omega
  exact key (y 0) (y 1) (y 2) (ValueIdx.eq_ix3 y)

/-- The scales' gradient. -/
theorem final_dsc (G : Given m c A) : (dats m 0 c).arrAt 11 cfg0.N = arr3 A.dsc :=
  (dats m 0 c).arrAt_eq_of_cover 11 (arr3 A.dsc) (flushed_dsc G) fun i => by
    have h0 : (i 0 : ℕ) < 2 := (i 0).isLt
    have h1 : (i 1 : ℕ) < 1 := (i 1).isLt
    have h2 : (i 2 : ℕ) < 1024 := (i 2).isLt
    obtain ⟨t, ht, hk⟩ : ∃ t : Fin cfg0.N, (t.val = 0 ∨ t.val = 8) ∧ (kindOf t.val).val = (i 0 : ℕ) := by
      by_cases h : (i 0 : ℕ) = 0
      · exact ⟨point 0 (by omega), Or.inl rfl, h.symm⟩
      · exact ⟨point 8 (by omega), Or.inr rfl, by show 1 = (i 0 : ℕ); omega⟩
    refine ⟨t, (flush0_11 t).mpr ht, ?_⟩
    show i ∈ ((View.whole main_v67_2).slice (win0_11.rect t)).set
    rw [View.set_slice_whole, Rect.mem_set_unit]
    intro a
    have hi := index_11 t
    match a with
    | ⟨0, _⟩ => show win0_11.index t 0 * 1 ≤ (i 0 : ℕ) ∧ (i 0 : ℕ) < win0_11.index t 0 * 1 + 1; rw [hi.1, hk]; omega
    | ⟨1, _⟩ => show win0_11.index t 1 * 1 ≤ (i 1 : ℕ) ∧ (i 1 : ℕ) < win0_11.index t 1 * 1 + 1; rw [hi.2.1]; omega
    | ⟨2, _⟩ => show win0_11.index t 2 * 1024 ≤ (i 2 : ℕ) ∧ (i 2 : ℕ) < win0_11.index t 2 * 1024 + 1024; rw [hi.2.2]; omega

/-- Every write-back of the gain's gradient writes its block of the specified array. -/
theorem flushed_dg (G : Given m c A) (t : Fin cfg0.N) (hf : (cfg0.win 12).flush t = true) :
    (dats m 0 c).flushed 12 t = ((cfg0.win 12).blk t).view.read (Elt Ideal) (arr3 A.dg) := by
  refine (flushed12 m c t).trans (funext fun y => ?_)
  rw [View.read_apply]
  have hi := index_12 t
  have P := (left G t.val t.isLt).dg
  have hk := (flush0_12 t).mp hf
  have key : ∀ (k o : Fin 1) (d : Fin 1024), y = ValueIdx.ix3 k o d → ((outsAt0 m c t.val t.isLt).2.2.2.1 : FVec Ideal ⟨3, ![1, 1, 1024]⟩ .f32) y
      = arr3 A.dg (((cfg0.win 12).blk t).view.emb y) := by
    intro k o d e
    subst e
    refine (congrFun P _).trans ((congrArg ((↑) : ℝ → EReal) (kind_total (A.tg d) t.val hk)).trans ?_)
    show arr3 A.dg (ValueIdx.ix3 (kindOf t.val) o d) = _
    refine congrArg (arr3 A.dg) (funext fun a => Fin.ext ?_)
    match a with
    | ⟨0, _⟩ => show (kindOf t.val).val = win0_12.index t 0 * 1 + 1 * k.val; rw [hi.1]; omega
    | ⟨1, _⟩ => show o.val = win0_12.index t 1 * 1 + 1 * o.val; rw [hi.2.1]; omega
    | ⟨2, _⟩ => show d.val = win0_12.index t 2 * 1024 + 1 * d.val; rw [hi.2.2]; omega
  exact key (y 0) (y 1) (y 2) (ValueIdx.eq_ix3 y)

/-- The gain's gradient of each kind. -/
theorem final_dg (G : Given m c A) : (dats m 0 c).arrAt 12 cfg0.N = arr3 A.dg :=
  (dats m 0 c).arrAt_eq_of_cover 12 (arr3 A.dg) (flushed_dg G) fun i => by
    have h0 : (i 0 : ℕ) < 2 := (i 0).isLt
    have h1 : (i 1 : ℕ) < 1 := (i 1).isLt
    have h2 : (i 2 : ℕ) < 1024 := (i 2).isLt
    obtain ⟨t, ht, hk⟩ : ∃ t : Fin cfg0.N, (t.val = 0 ∨ t.val = 8) ∧ (kindOf t.val).val = (i 0 : ℕ) := by
      by_cases h : (i 0 : ℕ) = 0
      · exact ⟨point 0 (by omega), Or.inl rfl, h.symm⟩
      · exact ⟨point 8 (by omega), Or.inr rfl, by show 1 = (i 0 : ℕ); omega⟩
    refine ⟨t, (flush0_12 t).mpr ht, ?_⟩
    show i ∈ ((View.whole main_v67_3).slice (win0_12.rect t)).set
    rw [View.set_slice_whole, Rect.mem_set_unit]
    intro a
    have hi := index_12 t
    match a with
    | ⟨0, _⟩ => show win0_12.index t 0 * 1 ≤ (i 0 : ℕ) ∧ (i 0 : ℕ) < win0_12.index t 0 * 1 + 1; rw [hi.1, hk]; omega
    | ⟨1, _⟩ => show win0_12.index t 1 * 1 ≤ (i 1 : ℕ) ∧ (i 1 : ℕ) < win0_12.index t 1 * 1 + 1; rw [hi.2.1]; omega
    | ⟨2, _⟩ => show win0_12.index t 2 * 1024 ≤ (i 2 : ℕ) ∧ (i 2 : ℕ) < win0_12.index t 2 * 1024 + 1024; rw [hi.2.2]; omega

/-- The only write-back of the projection's gradient writes all of the specified array. -/
theorem flushed_dw (G : Given m c A) (t : Fin cfg0.N) (hf : (cfg0.win 13).flush t = true) :
    (dats m 0 c).flushed 13 t = ((cfg0.win 13).blk t).view.read (Elt Ideal) (arr3 A.dw) := by
  refine (flushed13 m c t).trans (funext fun y => ?_)
  rw [View.read_apply]
  have hi := index_13 t
  have hN : t.val < 9 := Nat.lt_of_lt_of_eq t.isLt N_0
  have h8 : t.val = 8 := by have := (flush0_13 t).mp hf; omega
  have P := (left G t.val t.isLt).dw h8
  have key : ∀ (s : Fin 8) (d : Fin 1024) (j : Fin 256), y = ValueIdx.ix3 s d j → ((outsAt0 m c t.val t.isLt).2.2.2.2.1 : FVec Ideal ⟨3, ![8, 1024, 256]⟩ .bf16) y
      = arr3 A.dw (((cfg0.win 13).blk t).view.emb y) := by
    intro s d j e
    subst e
    have hs : allSum (A.tw s d j) t.val = A.dw s d j := by rw [h8]; exact allSum_all _
    refine (congrFun P _).trans ((congrArg ((↑) : ℝ → EReal) hs).trans ?_)
    show arr3 A.dw (ValueIdx.ix3 s d j) = _
    refine congrArg (arr3 A.dw) (funext fun a => Fin.ext ?_)
    match a with
    | ⟨0, _⟩ => show s.val = win0_13.index t 0 * 8 + 1 * s.val; rw [hi.1]; omega
    | ⟨1, _⟩ => show d.val = win0_13.index t 1 * 1024 + 1 * d.val; rw [hi.2.1]; omega
    | ⟨2, _⟩ => show j.val = win0_13.index t 2 * 256 + 1 * j.val; rw [hi.2.2]; omega
  exact key (y 0) (y 1) (y 2) (ValueIdx.eq_ix3 y)

/-- The projection's gradient. -/
theorem final_dw (G : Given m c A) : (dats m 0 c).arrAt 13 cfg0.N = arr3 A.dw :=
  (dats m 0 c).arrAt_eq_of_cover 13 (arr3 A.dw) (flushed_dw G) fun i => by
    have h0 : (i 0 : ℕ) < 8 := (i 0).isLt
    have h1 : (i 1 : ℕ) < 1024 := (i 1).isLt
    have h2 : (i 2 : ℕ) < 256 := (i 2).isLt
    obtain ⟨t, ht⟩ : ∃ t : Fin cfg0.N, t.val % 9 = 8 := ⟨point 8 (by omega), rfl⟩
    refine ⟨t, (flush0_13 t).mpr ht, ?_⟩
    show i ∈ ((View.whole main_v67_4).slice (win0_13.rect t)).set
    rw [View.set_slice_whole, Rect.mem_set_unit]
    intro a
    have hi := index_13 t
    match a with
    | ⟨0, _⟩ => show win0_13.index t 0 * 8 ≤ (i 0 : ℕ) ∧ (i 0 : ℕ) < win0_13.index t 0 * 8 + 8; rw [hi.1]; omega
    | ⟨1, _⟩ => show win0_13.index t 1 * 1024 ≤ (i 1 : ℕ) ∧ (i 1 : ℕ) < win0_13.index t 1 * 1024 + 1024; rw [hi.2.1]; omega
    | ⟨2, _⟩ => show win0_13.index t 2 * 256 ≤ (i 2 : ℕ) ∧ (i 2 : ℕ) < win0_13.index t 2 * 256 + 256; rw [hi.2.2]; omega

end Cert.NormGrad

end
-- ==== Proof.TailValue.lean ====
/- The call `l1_pre_b` and its reference agree: both leave the specified gradients. -/
module

public import proofs.«01_k».proof.Proof.TailArrays
public import proofs.«01_k».proof.Proof.TailRef
public import proofs.«01_k».proof.Proof.Finite
public import proofs.«01_k».proof.Pre_finite_tail
public import proofs.«01_k».proof.Defs
public import proofs.«01_k».proof.Proof.Gen.Pre_finite_tail

@[expose] public section

set_option maxRecDepth 16384

noncomputable section

namespace Cert.NormGrad

open Idealize.ShloMosaic Idealize.ShloMosaic.TcCoe Idealize.ShloMosaic.ValueIdx Idealize.SL.Sem Cert.Attn

/-- A rank-one array of real numbers, from its elements. -/
theorem arr1_of {a : ℕ} (x : (⟨1, ![a]⟩ : Shape).Idx → EReal) (h : ∀ i, ∃ r : ℝ, x i = (r : EReal)) : ∃ f, x = arr1 (a := a) f :=
  ⟨fun i => (x (ValueIdx.ix1 i)).toReal, funext fun i => by
    obtain ⟨r, hr⟩ := h i
    have e : x (ValueIdx.ix1 (i 0)) = r := (congrArg x (ValueIdx.eq_ix1 i).symm).trans hr
    exact hr.trans (congrArg (fun y : EReal => ((y.toReal : ℝ) : EReal)) e).symm⟩

/-- The arguments, where finite, are arrays of real numbers. -/
theorem finite_tail_args [Cert.Pre_finite_tail.Facts] (x : FVec Ideal ⟨2, ![2304, 1024]⟩ .f32) (g : FVec Ideal ⟨1, ![1024]⟩ .f32) (sc sh : FVec Ideal ⟨2, ![2, 1024]⟩ .f32)
    (w : FVec Ideal ⟨2, ![1024, 2048]⟩ .f32) (res ua ub z : FVec Ideal ⟨2, ![2304, 1024]⟩ .f32)
    (h0 : (Cert.Pre_finite_tail.fn (F := Ideal) x g sc sh w res ua ub z).1 = fun _ => 1#1)
    (h1 : (Cert.Pre_finite_tail.fn (F := Ideal) x g sc sh w res ua ub z).2.1 = fun _ => 1#1)
    (h2 : (Cert.Pre_finite_tail.fn (F := Ideal) x g sc sh w res ua ub z).2.2.1 = fun _ => 1#1)
    (h3 : (Cert.Pre_finite_tail.fn (F := Ideal) x g sc sh w res ua ub z).2.2.2.1 = fun _ => 1#1)
    (h4 : (Cert.Pre_finite_tail.fn (F := Ideal) x g sc sh w res ua ub z).2.2.2.2.1 = fun _ => 1#1)
    (h5 : (Cert.Pre_finite_tail.fn (F := Ideal) x g sc sh w res ua ub z).2.2.2.2.2.1 = fun _ => 1#1)
    (h6 : (Cert.Pre_finite_tail.fn (F := Ideal) x g sc sh w res ua ub z).2.2.2.2.2.2.1 = fun _ => 1#1)
    (h7 : (Cert.Pre_finite_tail.fn (F := Ideal) x g sc sh w res ua ub z).2.2.2.2.2.2.2.1 = fun _ => 1#1)
    (h8 : (Cert.Pre_finite_tail.fn (F := Ideal) x g sc sh w res ua ub z).2.2.2.2.2.2.2.2 = fun _ => 1#1) :
    ∃ A : Args, x = arr2 A.x ∧ g = arr1 A.g ∧ sc = arr2 A.sc ∧ sh = arr2 A.sh ∧ w = arr2 A.w ∧ res = arr2 A.res ∧ ua = arr2 A.ua ∧ ub = arr2 A.ub ∧ z = arr2 A.z := by
  obtain ⟨f0, e0⟩ := arr2_of x fun i => real_of_below _ (congrFun h0 i)
  obtain ⟨f1, e1⟩ := arr1_of g fun i => real_of_below _ (congrFun h1 i)
  obtain ⟨f2, e2⟩ := arr2_of sc fun i => real_of_below _ (congrFun h2 i)
  obtain ⟨f3, e3⟩ := arr2_of sh fun i => real_of_below _ (congrFun h3 i)
  obtain ⟨f4, e4⟩ := arr2_of w fun i => real_of_below _ (congrFun h4 i)
  obtain ⟨f5, e5⟩ := arr2_of res fun i => real_of_below _ (congrFun h5 i)
  obtain ⟨f6, e6⟩ := arr2_of ua fun i => real_of_below _ (congrFun h6 i)
  obtain ⟨f7, e7⟩ := arr2_of ub fun i => real_of_below _ (congrFun h7 i)
  obtain ⟨f8, e8⟩ := arr2_of z fun i => real_of_below _ (congrFun h8 i)
  exact ⟨⟨f0, f1, f2, f3, f4, f5, f6, f7, f8⟩, e0, e1, e2, e3, e4, e5, e6, e7, e8⟩

/-- The value claim of `l1_pre_b`. -/
theorem tail_algebraic : Cert.algebraic_TailIdeal_TailReferenceIdeal (hTailIdeal := Cert.TailIdeal.Gen.facts)
    (hTailReferenceIdeal := Cert.TailReferenceIdeal.Gen.facts) (hPre_finite_tail := Cert.Pre_finite_tail.Gen.facts) := by
  intro m ρ m' ρ' hpre hargs
  choose A hA using fun c : Dev Cert.TailIdeal.nD => @finite_tail_args Cert.Pre_finite_tail.Gen.facts _ _ _ _ _ _ _ _ _
    (hpre c).1 (hpre c).2.1 (hpre c).2.2.1 (hpre c).2.2.2.1 (hpre c).2.2.2.2.1 (hpre c).2.2.2.2.2.1 (hpre c).2.2.2.2.2.2.1 (hpre c).2.2.2.2.2.2.2.1 (hpre c).2.2.2.2.2.2.2.2
  have G : ∀ c, Given m c (A c) := fun c => ⟨(hA c).1, (hA c).2.1, (hA c).2.2.1, (hA c).2.2.2.1, (hA c).2.2.2.2.1, (hA c).2.2.2.2.2.1, (hA c).2.2.2.2.2.2.1, (hA c).2.2.2.2.2.2.2.1, (hA c).2.2.2.2.2.2.2.2⟩
  refine ⟨fun c => arr2 (A c).dx, fun c => arr3 (A c).dg, fun c => arr3 (A c).dsc, fun c => arr3 (A c).dsh, fun c => arr3 (A c).dw, ?_, ?_⟩
  · refine (θ_run _ _ _).mono (fun r h c => ?_) (Cert.TailIdeal.Walk.run_blocks m ρ)
    obtain ⟨r9, r10, r11, r12, r13, kept⟩ := h c
    exact ⟨r9.trans (final_dx (G c)), r12.trans (final_dg (G c)), r11.trans (final_dsc (G c)), r10.trans (final_dsh (G c)), r13.trans (final_dw (G c)), kept⟩
  · refine (θ_run _ _ _).mono (fun r h c => ?_) (Cert.TailReferenceIdeal.Value.run (F := Ideal) m' ρ')
    obtain ⟨a0, a1, a2, a3, a4, a5, a6, a7, a8⟩ := hargs c
    obtain ⟨r0, r1, r2, r3, r4, kept⟩ := h c
    refine ⟨r0.trans ?_, r1.trans ?_, r2.trans ?_, r3.trans ?_, r4.trans ?_, kept⟩
    · refine (Cert.TailReferenceIdeal.Read.val_main_v156_eq _).trans ?_
      show Cert.TailReferenceIdeal.Read.val_main_v156 (F := Ideal) (m' ((c.tc : Thread Cert.TailReferenceIdeal.nD Cert.TailReferenceIdeal.τ).loc Cert.TailReferenceIdeal.main_arg0)) (m' ((c.tc : Thread Cert.TailReferenceIdeal.nD Cert.TailReferenceIdeal.τ).loc Cert.TailReferenceIdeal.main_arg1)) (m' ((c.tc : Thread Cert.TailReferenceIdeal.nD Cert.TailReferenceIdeal.τ).loc Cert.TailReferenceIdeal.main_arg2)) (m' ((c.tc : Thread Cert.TailReferenceIdeal.nD Cert.TailReferenceIdeal.τ).loc Cert.TailReferenceIdeal.main_arg4)) (m' ((c.tc : Thread Cert.TailReferenceIdeal.nD Cert.TailReferenceIdeal.τ).loc Cert.TailReferenceIdeal.main_arg5)) (m' ((c.tc : Thread Cert.TailReferenceIdeal.nD Cert.TailReferenceIdeal.τ).loc Cert.TailReferenceIdeal.main_arg6)) (m' ((c.tc : Thread Cert.TailReferenceIdeal.nD Cert.TailReferenceIdeal.τ).loc Cert.TailReferenceIdeal.main_arg7)) (m' ((c.tc : Thread Cert.TailReferenceIdeal.nD Cert.TailReferenceIdeal.τ).loc Cert.TailReferenceIdeal.main_arg8)) = _
      rw [a0, (G c).x, a1, (G c).g, a2, (G c).sc, a4, (G c).w, a5, (G c).res, a6, (G c).ua, a7, (G c).ub, a8, (G c).z]
      exact ref_dx (A c)
    · refine (Cert.TailReferenceIdeal.Read.val_main_v159_eq _).trans ?_
      show Cert.TailReferenceIdeal.Read.val_main_v159 (F := Ideal) (m' ((c.tc : Thread Cert.TailReferenceIdeal.nD Cert.TailReferenceIdeal.τ).loc Cert.TailReferenceIdeal.main_arg0)) (m' ((c.tc : Thread Cert.TailReferenceIdeal.nD Cert.TailReferenceIdeal.τ).loc Cert.TailReferenceIdeal.main_arg2)) (m' ((c.tc : Thread Cert.TailReferenceIdeal.nD Cert.TailReferenceIdeal.τ).loc Cert.TailReferenceIdeal.main_arg4)) (m' ((c.tc : Thread Cert.TailReferenceIdeal.nD Cert.TailReferenceIdeal.τ).loc Cert.TailReferenceIdeal.main_arg6)) (m' ((c.tc : Thread Cert.TailReferenceIdeal.nD Cert.TailReferenceIdeal.τ).loc Cert.TailReferenceIdeal.main_arg7)) (m' ((c.tc : Thread Cert.TailReferenceIdeal.nD Cert.TailReferenceIdeal.τ).loc Cert.TailReferenceIdeal.main_arg8)) = _
      rw [a0, (G c).x, a2, (G c).sc, a4, (G c).w, a6, (G c).ua, a7, (G c).ub, a8, (G c).z]
      exact ref_dg (A c)
    · refine (Cert.TailReferenceIdeal.Read.val_main_v160_eq _).trans ?_
      show Cert.TailReferenceIdeal.Read.val_main_v160 (F := Ideal) (m' ((c.tc : Thread Cert.TailReferenceIdeal.nD Cert.TailReferenceIdeal.τ).loc Cert.TailReferenceIdeal.main_arg0)) (m' ((c.tc : Thread Cert.TailReferenceIdeal.nD Cert.TailReferenceIdeal.τ).loc Cert.TailReferenceIdeal.main_arg1)) (m' ((c.tc : Thread Cert.TailReferenceIdeal.nD Cert.TailReferenceIdeal.τ).loc Cert.TailReferenceIdeal.main_arg4)) (m' ((c.tc : Thread Cert.TailReferenceIdeal.nD Cert.TailReferenceIdeal.τ).loc Cert.TailReferenceIdeal.main_arg6)) (m' ((c.tc : Thread Cert.TailReferenceIdeal.nD Cert.TailReferenceIdeal.τ).loc Cert.TailReferenceIdeal.main_arg7)) (m' ((c.tc : Thread Cert.TailReferenceIdeal.nD Cert.TailReferenceIdeal.τ).loc Cert.TailReferenceIdeal.main_arg8)) = _
      rw [a0, (G c).x, a1, (G c).g, a4, (G c).w, a6, (G c).ua, a7, (G c).ub, a8, (G c).z]
      exact ref_dsc (A c)
    · refine (Cert.TailReferenceIdeal.Read.val_main_v161_eq _).trans ?_
      show Cert.TailReferenceIdeal.Read.val_main_v161 (F := Ideal) (m' ((c.tc : Thread Cert.TailReferenceIdeal.nD Cert.TailReferenceIdeal.τ).loc Cert.TailReferenceIdeal.main_arg4)) (m' ((c.tc : Thread Cert.TailReferenceIdeal.nD Cert.TailReferenceIdeal.τ).loc Cert.TailReferenceIdeal.main_arg6)) (m' ((c.tc : Thread Cert.TailReferenceIdeal.nD Cert.TailReferenceIdeal.τ).loc Cert.TailReferenceIdeal.main_arg7)) (m' ((c.tc : Thread Cert.TailReferenceIdeal.nD Cert.TailReferenceIdeal.τ).loc Cert.TailReferenceIdeal.main_arg8)) = _
      rw [a4, (G c).w, a6, (G c).ua, a7, (G c).ub, a8, (G c).z]
      exact ref_dsh (A c)
    · refine (Cert.TailReferenceIdeal.Read.val_main_v162_eq _).trans ?_
      show Cert.TailReferenceIdeal.Read.val_main_v162 (F := Ideal) (m' ((c.tc : Thread Cert.TailReferenceIdeal.nD Cert.TailReferenceIdeal.τ).loc Cert.TailReferenceIdeal.main_arg0)) (m' ((c.tc : Thread Cert.TailReferenceIdeal.nD Cert.TailReferenceIdeal.τ).loc Cert.TailReferenceIdeal.main_arg1)) (m' ((c.tc : Thread Cert.TailReferenceIdeal.nD Cert.TailReferenceIdeal.τ).loc Cert.TailReferenceIdeal.main_arg2)) (m' ((c.tc : Thread Cert.TailReferenceIdeal.nD Cert.TailReferenceIdeal.τ).loc Cert.TailReferenceIdeal.main_arg3)) (m' ((c.tc : Thread Cert.TailReferenceIdeal.nD Cert.TailReferenceIdeal.τ).loc Cert.TailReferenceIdeal.main_arg6)) (m' ((c.tc : Thread Cert.TailReferenceIdeal.nD Cert.TailReferenceIdeal.τ).loc Cert.TailReferenceIdeal.main_arg7)) (m' ((c.tc : Thread Cert.TailReferenceIdeal.nD Cert.TailReferenceIdeal.τ).loc Cert.TailReferenceIdeal.main_arg8)) = _
      rw [a0, (G c).x, a1, (G c).g, a2, (G c).sc, a3, (G c).sh, a6, (G c).ua, a7, (G c).ub, a8, (G c).z]
      exact ref_dw (A c)

end Cert.NormGrad

end
-- ==== Proof.EntrySpec.lean ====
/- What the forward call `l1_pre` computes: the rows normalised and modulated, and their product with the projection,
   for any arguments, infinite ones included. -/
module

public import proofs.«01_k».proof.Proof.TailBlocks

@[expose] public section

noncomputable section

namespace Cert.NormProj

open Idealize.ShloMosaic Idealize.ShloMosaic.ValueIdx Cert.NormGrad
open scoped BigOperators

/-- The reciprocal of the root of a row's mean square. -/
def inv (x : Fin 1024 → EReal) : EReal :=
  Ideal.rsqrt (Ideal.div (∑ e, x e * x e) (Ideal.ofBits .f32 0x44800000#32) + Ideal.ofBits .f32 0x358637BD#32)

/-- A row normalised, times the gain, scaled and shifted. -/
def modRow (x g s b : Fin 1024 → EReal) (d : Fin 1024) : EReal := x d * inv x * g d * (Ideal.ofBits .f32 0x3F800000#32 + s d) + b d

/-- The arguments: the rows `x`, the gain `g`, the scales `sc` and shifts `sh` of the two kinds of rows, the projection `w`. -/
structure Args where
  x : Fin 2304 → Fin 1024 → EReal
  g : Fin 1024 → EReal
  sc : Fin 2 → Fin 1024 → EReal
  sh : Fin 2 → Fin 1024 → EReal
  w : Fin 1024 → Fin 2048 → EReal

/-- The array of a function of row and column. -/
def mat {a b : ℕ} (f : Fin a → Fin b → EReal) : (⟨2, ![a, b]⟩ : Shape).Idx → EReal := fun i => f (i 0) (i 1)

namespace Args

/-- The arguments as arrays hold them. -/
def of (x : (⟨2, ![2304, 1024]⟩ : Shape).Idx → EReal) (g : (⟨1, ![1024]⟩ : Shape).Idx → EReal) (sc sh : (⟨2, ![2, 1024]⟩ : Shape).Idx → EReal)
    (w : (⟨2, ![1024, 2048]⟩ : Shape).Idx → EReal) : Args :=
  ⟨fun t d => x (ix2 t d), fun d => g (ix1 d), fun k d => sc (ix2 k d), fun k d => sh (ix2 k d), fun d e => w (ix2 d e)⟩

variable (A : Args)

/-- The rows normalised and modulated. -/
def h (t : Fin 2304) (d : Fin 1024) : EReal := modRow (A.x t) A.g (A.sc (kind t)) (A.sh (kind t)) d

/-- Their product with the projection. -/
def p (t : Fin 2304) (e : Fin 2048) : EReal := ∑ d, A.h t d * A.w d e

end Args

end Cert.NormProj

end
-- ==== Proof.EntryBlocks.lean ====
/- What a grid point of `l1_pre` computes from its blocks, and what its windows read. -/
module

public import proofs.«01_k».proof.Proof.EntrySpec
public import proofs.«01_k».proof.Proof.Gen.EntryIdeal.Value
public import Idealize.ShloMosaic.Lib.Pipeline.ValueKit

@[expose] public section

set_option maxRecDepth 16384

noncomputable section

namespace Cert.NormProj

open Idealize.ShloMosaic Idealize.ShloMosaic.TcCoe Idealize.ShloMosaic.ValueIdx Cert.Attn Cert.EntryIdeal Cert.EntryIdeal.Gen
open Cert.NormGrad (kind row kindOf kind_row spread_row ext2)
open scoped BigOperators

/-! ## One block -/

/-- The rows the call stores. -/
theorem pay_h (x : FVec Ideal S256x1024 .f32) (g s b : FVec Ideal S1x1x1024 .f32) (r : Fin 256) (d : Fin 1024) :
    (k0_pay1 (F := Ideal) x g s b : S256x1024.Idx → EReal) (ValueIdx.ix2 r d)
      = modRow (fun e => x (ValueIdx.ix2 r e)) (fun e => g (ValueIdx.ix3 0 0 e)) (fun e => s (ValueIdx.ix3 0 0 e)) (fun e => b (ValueIdx.ix3 0 0 e)) d := by
  unfold k0_pay1
  try dsimp only
  unfold modRow
  refine congrArg₂ (fun u v : EReal => u + v) (congrArg₂ (fun u v : EReal => u * v) (congrArg₂ (fun u v : EReal => u * v)
    (congrArg (fun v : EReal => x (ValueIdx.ix2 r d) * v) ?_) ?_) ?_) ?_
  · refine (spread (by decide) _ _ r d).trans (congrArg Ideal.rsqrt ?_)
    refine congrArg (fun v : EReal => Ideal.div v (Ideal.ofBits .f32 0x44800000#32) + Ideal.ofBits .f32 0x358637BD#32) ?_
    exact (column _ _ r 0).trans (row_sum _ _ _ _ _ r)
  · exact (spread_row (by decide) _ _ r d).trans (drop1 _ _ 0 d)
  · refine (spread_row (by decide) _ _ r d).trans ?_
    exact congrArg (fun v : EReal => Ideal.ofBits .f32 0x3F800000#32 + v) (drop1 _ _ 0 d)
  · exact (spread_row (by decide) _ _ r d).trans (drop1 _ _ 0 d)

/-- Their product with the projection. -/
theorem pay_p (x : FVec Ideal S256x1024 .f32) (g s b : FVec Ideal S1x1x1024 .f32) (w : FVec Ideal S2048x1024 .bf16) (r : Fin 256) (e : Fin 2048) :
    (k0_pay2 (F := Ideal) x g s b w : S256x2048.Idx → EReal) (ValueIdx.ix2 r e)
      = ∑ d, modRow (fun e => x (ValueIdx.ix2 r e)) (fun e => g (ValueIdx.ix3 0 0 e)) (fun e => s (ValueIdx.ix3 0 0 e)) (fun e => b (ValueIdx.ix3 0 0 e)) d * w (ValueIdx.ix2 e d) := by
  unfold k0_pay2
  try dsimp only
  rw [shapeCast_self]
  refine (dot_nt (φ₁ := .bf16) (φ₂ := .bf16) (M := 256) (K := 1024) (N := 2048) _ _ r e).trans (Finset.sum_congr rfl fun d _ => ?_)
  rw [pay_h]

/-- The first window holds the stored rows. -/
theorem eq_out0_5 {F : FTy → Type} [FloatOps F] (x0 : Vec F S256x1024 .f32) (x1 x2 x3 : Vec F S1x1x1024 .f32) (x4 : Vec F S2048x1024 .bf16) :
    out0_5 x0 x1 x2 x3 x4 = k0_pay1 x0 x1 x2 x3 := by frame_out

/-- The second holds their product. -/
theorem eq_out0_6 {F : FTy → Type} [FloatOps F] (x0 : Vec F S256x1024 .f32) (x1 x2 x3 : Vec F S1x1x1024 .f32) (x4 : Vec F S2048x1024 .bf16) :
    out0_6 x0 x1 x2 x3 x4 = k0_pay2 x0 x1 x2 x3 x4 := by frame_out

/-! ## What the host prepares -/

section
variable {F : FTy → Type} [FloatOps F] (m : (ℓ : Loc nD τ sig) → Buf (Elt F) ℓ) (c : Dev nD)

/-- The gain, once per kind of rows. -/
theorem host_g : V m c main_v1 = broadcastInDim S2x1x1024 ![0, 1, 2] bcast_S1x1x1024_S2x1x1024_0_1_2
    (shapeCast S1x1x1024 (m ((c : Thread nD τ).loc main_arg1)) shapeCasts_S1024_S1x1x1024) := by
  dsimp only [V, hostOps0]
  after_results_simp
  try rfl

/-- The scales. -/
theorem host_sc : V m c main_v2 = broadcastInDim S2x1x1024 ![0, 2] bcast_S2x1024_S2x1x1024_0_2 (m ((c : Thread nD τ).loc main_arg2)) := by
  dsimp only [V, hostOps0]
  after_results_simp

/-- The shifts. -/
theorem host_sh : V m c main_v3 = broadcastInDim S2x1x1024 ![0, 2] bcast_S2x1024_S2x1x1024_0_2 (m ((c : Thread nD τ).loc main_arg3)) := by
  dsimp only [V, hostOps0]
  after_results_simp

/-- The projection, transposed and narrowed. -/
theorem host_w : V m c main_v5 = truncf .bf16 (transpose S2048x1024 [1, 0] (m ((c : Thread nD τ).loc main_arg4)) transposes_S1024x2048_S2048x1024_1_0) bitsLt_bf16_f32 := by
  dsimp only [V, hostOps0]
  after_results_simp

end

/-! ## What the windows read -/

/-- Window 0's block at a grid point. -/
theorem index_0 : ∀ t : Fin cfg0.N, win0_0.index t 0 = t.val ∧ win0_0.index t 1 = 0 := by decide +kernel
/-- Window 1's block at a grid point. -/
theorem index_1 : ∀ t : Fin cfg0.N, win0_1.index t 0 = (kindOf t.val).val ∧ win0_1.index t 1 = 0 ∧ win0_1.index t 2 = 0 := by decide +kernel
/-- Window 2's block at a grid point. -/
theorem index_2 : ∀ t : Fin cfg0.N, win0_2.index t 0 = (kindOf t.val).val ∧ win0_2.index t 1 = 0 ∧ win0_2.index t 2 = 0 := by decide +kernel
/-- Window 3's block at a grid point. -/
theorem index_3 : ∀ t : Fin cfg0.N, win0_3.index t 0 = (kindOf t.val).val ∧ win0_3.index t 1 = 0 ∧ win0_3.index t 2 = 0 := by decide +kernel
/-- Window 4's block at a grid point. -/
theorem index_4 : ∀ t : Fin cfg0.N, win0_4.index t 0 = 0 ∧ win0_4.index t 1 = 0 := by decide +kernel
/-- Window 5's block at a grid point. -/
theorem index_5 : ∀ t : Fin cfg0.N, win0_5.index t 0 = t.val ∧ win0_5.index t 1 = 0 := by decide +kernel
/-- Window 6's block at a grid point. -/
theorem index_6 : ∀ t : Fin cfg0.N, win0_6.index t 0 = t.val ∧ win0_6.index t 1 = 0 := by decide +kernel

/-- A row of a grid point's block. -/
theorem row_val (t : Fin cfg0.N) (r : Fin 256) : (row t.val r).val = t.val * 256 + r.val := by
  have ht : t.val < 9 := Nat.lt_of_lt_of_eq t.isLt N_0
  have := r.isLt
  exact Nat.mod_eq_of_lt (by omega)

section
variable (m : (ℓ : Loc nD τ sig) → Buf (Elt Ideal) ℓ) (c : Dev nD) (t : Fin cfg0.N)

/-- The arguments at the launch. -/
def args : Args := Args.of (m ((c : Thread nD τ).loc main_arg0)) (m ((c : Thread nD τ).loc main_arg1)) (m ((c : Thread nD τ).loc main_arg2))
  (m ((c : Thread nD τ).loc main_arg3)) (m ((c : Thread nD τ).loc main_arg4))

/-- The rows' block. -/
theorem read_x (r : Fin 256) (d : Fin 1024) : (iblk m c 0 t : S256x1024.Idx → EReal) (ValueIdx.ix2 r d) = (args m c).x (row t.val r) d := by
  have hi := index_0 t
  unfold iblk
  rw [View.read_apply]
  show (V m c main_arg0) _ = _
  rw [V_main_arg0]
  refine congrArg (m ((c : Thread nD τ).loc main_arg0)) (funext fun a => Fin.ext ?_)
  match a with
  | ⟨0, _⟩ => show win0_0.index t 0 * 256 + 1 * r.val = (row t.val r).val; rw [hi.1, row_val]; omega
  | ⟨1, _⟩ => show win0_0.index t 1 * 1024 + 1 * d.val = d.val; rw [hi.2]; omega

/-- The gain's block. -/
theorem read_g (d : Fin 1024) : (iblk m c 1 t : S1x1x1024.Idx → EReal) (ValueIdx.ix3 0 0 d) = (args m c).g d := by
  unfold iblk
  rw [View.read_apply]
  show (V m c main_v1) _ = _
  rw [host_g]
  refine shapeCast_apply _ _ _ (ValueIdx.ix1 d) ?_
  rw [Shape.rowMajor_val_one, Shape.rowMajor_val_three]
  have hi := index_1 t
  show d.val = (0 * 1 + 0) * 1024 + (win0_1.index t 2 * 1024 + 1 * d.val)
  rw [hi.2.2]; omega

/-- The scales' block. -/
theorem read_sc (d : Fin 1024) : (iblk m c 2 t : S1x1x1024.Idx → EReal) (ValueIdx.ix3 0 0 d) = (args m c).sc (kindOf t.val) d := by
  have hi := index_2 t
  unfold iblk
  rw [View.read_apply]
  show (V m c main_v2) _ = _
  rw [host_sc]
  refine broadcastInDim_apply _ _ _ _ (ValueIdx.ix2 (kindOf t.val) d) fun a => ?_
  match a with
  | ⟨0, _⟩ => show (kindOf t.val).val = win0_2.index t 0 * 1 + 1 * 0; rw [hi.1]; omega
  | ⟨1, _⟩ => show d.val = win0_2.index t 2 * 1024 + 1 * d.val; rw [hi.2.2]; omega

/-- The shifts' block. -/
theorem read_sh (d : Fin 1024) : (iblk m c 3 t : S1x1x1024.Idx → EReal) (ValueIdx.ix3 0 0 d) = (args m c).sh (kindOf t.val) d := by
  have hi := index_3 t
  unfold iblk
  rw [View.read_apply]
  show (V m c main_v3) _ = _
  rw [host_sh]
  refine broadcastInDim_apply _ _ _ _ (ValueIdx.ix2 (kindOf t.val) d) fun a => ?_
  match a with
  | ⟨0, _⟩ => show (kindOf t.val).val = win0_3.index t 0 * 1 + 1 * 0; rw [hi.1]; omega
  | ⟨1, _⟩ => show d.val = win0_3.index t 2 * 1024 + 1 * d.val; rw [hi.2.2]; omega

/-- The projection's block. -/
theorem read_w (e : Fin 2048) (d : Fin 1024) : (iblk m c 4 t : S2048x1024.Idx → EReal) (ValueIdx.ix2 e d) = (args m c).w d e := by
  have hi := index_4 t
  unfold iblk
  rw [View.read_apply]
  show (V m c main_v5) _ = _
  rw [host_w]
  refine transpose_apply _ (m ((c : Thread nD τ).loc main_arg4)) transposes_S1024x2048_S2048x1024_1_0 _ (ValueIdx.ix2 d e) fun b => ?_
  match b with
  | ⟨0, _⟩ => show e.val = win0_4.index t 0 * 2048 + 1 * e.val; rw [hi.1]; omega
  | ⟨1, _⟩ => show d.val = win0_4.index t 1 * 1024 + 1 * d.val; rw [hi.2]; omega

/-- A row of the block, modulated. -/
theorem block_h (r : Fin 256) (d : Fin 1024) :
    modRow (fun e => (iblk m c 0 t : S256x1024.Idx → EReal) (ValueIdx.ix2 r e)) (fun e => (iblk m c 1 t : S1x1x1024.Idx → EReal) (ValueIdx.ix3 0 0 e))
      (fun e => (iblk m c 2 t : S1x1x1024.Idx → EReal) (ValueIdx.ix3 0 0 e)) (fun e => (iblk m c 3 t : S1x1x1024.Idx → EReal) (ValueIdx.ix3 0 0 e)) d
      = (args m c).h (row t.val r) d := by
  simp only [read_x, read_g, read_sc, read_sh]
  unfold Args.h
  rw [kind_row t.val (Nat.lt_of_lt_of_eq t.isLt N_0) r]

/-- A point's stored rows. -/
theorem point_h (r : Fin 256) (d : Fin 1024) :
    (out0_5 (iblk m c 0 t) (iblk m c 1 t) (iblk m c 2 t) (iblk m c 3 t) (iblk m c 4 t) : S256x1024.Idx → EReal) (ValueIdx.ix2 r d) = (args m c).h (row t.val r) d := by
  rw [eq_out0_5]
  exact (pay_h _ _ _ _ r d).trans (block_h m c t r d)

/-- A point's products. -/
theorem point_p (r : Fin 256) (e : Fin 2048) :
    (out0_6 (iblk m c 0 t) (iblk m c 1 t) (iblk m c 2 t) (iblk m c 3 t) (iblk m c 4 t) : S256x2048.Idx → EReal) (ValueIdx.ix2 r e) = (args m c).p (row t.val r) e := by
  rw [eq_out0_6]
  refine (pay_p _ _ _ _ _ r e).trans (Finset.sum_congr rfl fun d _ => ?_)
  rw [block_h, read_w]

end

end Cert.NormProj

end
-- ==== Proof.EntryRef.lean ====
/- The reference of `l1_pre`, read at an index. -/
module

public import proofs.«01_k».proof.Proof.EntrySpec
public import proofs.«01_k».proof.Proof.Gen.EntryReferenceIdeal.Read

@[expose] public section

noncomputable section

namespace Cert.NormProj

open Idealize.ShloMosaic Idealize.ShloMosaic.ValueIdx Cert.EntryReferenceIdeal.Gen Cert.EntryReferenceIdeal Cert.EntryReferenceIdeal.Read
open Cert.NormGrad (kind ctxRow latRow kind_ctx kind_lat stack ext2 latRow_sub)
open scoped BigOperators

variable (x : (⟨2, ![2304, 1024]⟩ : Shape).Idx → EReal) (g : (⟨1, ![1024]⟩ : Shape).Idx → EReal) (sc sh : (⟨2, ![2, 1024]⟩ : Shape).Idx → EReal)
  (w : (⟨2, ![1024, 2048]⟩ : Shape).Idx → EReal)

/-- The gain, once per kind. -/
theorem gains (k : Fin 2) (d : Fin 1024) : val_main_v2 (F := Ideal) g (ix2 k d) = g (ix1 d) := by
  unfold val_main_v2
  refine (stack (n₁ := 1) (n₂ := 1) _ _ _ rfl k d).trans ?_
  split
  · rw [val_main_v0_apply]
    exact congrArg g (funext fun a => Fin.ext (by match a with | ⟨0, _⟩ => rfl))
  · rw [val_main_v1_apply]
    exact congrArg g (funext fun a => Fin.ext (by match a with | ⟨0, _⟩ => rfl))

/-! ## The context rows -/

/-- An entry of the context rows. -/
theorem ctx_x (i : S256x1024.Idx) (r : Fin 256) (d : Fin 1024) (h0 : (i 0).val = r.val) (h1 : (i 1).val = d.val) :
    val_main_v3 (F := Ideal) x i = x (ix2 (ctxRow r) d) := by
  rw [val_main_v3_apply]
  exact congrArg x (funext fun a => Fin.ext (by match a with | ⟨0, _⟩ => exact h0 | ⟨1, _⟩ => exact h1))

/-- The reciprocals of the roots. -/
theorem ctx_inv (i : S256x1.Idx) (r : Fin 256) (h0 : (i 0).val = r.val) : val_main_v13 (F := Ideal) x i = inv fun e => x (ix2 (ctxRow r) e) := by
  rw [val_main_v13_apply, val_main_v12_apply, val_main_v10_apply, val_main_v9_apply, val_main_cst_0_apply, val_main_v11_apply, val_main_cst_1_apply,
    val_main_v8_apply, val_main_v7_apply, val_main_cst_apply]
  unfold inv
  refine congrArg (fun s : EReal => Ideal.rsqrt (Ideal.div s (Ideal.ofBits .f32 0x44800000#32) + Ideal.ofBits .f32 0x358637BD#32)) ?_
  refine (congrArg (· + _) Ideal.ofBits_zero_f32).trans ((zero_add _).trans (Finset.sum_congr rfl fun k _ => ?_))
  rw [val_main_v6_apply, ctx_x x _ r k h0 rfl]
  rfl

/-- The gain. -/
theorem ctx_g (i : S256x1024.Idx) (d : Fin 1024) (h1 : (i 1).val = d.val) : val_main_v17 (F := Ideal) g i = g (ix1 d) := by
  rw [val_main_v17_apply, val_main_v16_apply, val_main_v5_apply, val_main_v4_apply]
  refine (congrArg (val_main_v2 (F := Ideal) g) (funext fun a => Fin.ext ?_)).trans (gains g 0 d)
  have := d.isLt
  match a with
  | ⟨0, _⟩ => rfl
  | ⟨1, _⟩ => show (i 1).val % 1024 = d.val; omega

/-- One and the scale. -/
theorem ctx_s (i : S256x1024.Idx) (d : Fin 1024) (h1 : (i 1).val = d.val) :
    val_main_v24 (F := Ideal) sc i = Ideal.ofBits .f32 0x3F800000#32 + sc (ix2 0 d) := by
  rw [val_main_v24_apply, val_main_v23_apply, val_main_v22_apply, val_main_v21_apply, val_main_cst_2_apply, val_main_v20_apply, val_main_v19_apply]
  refine congrArg (fun v : EReal => Ideal.ofBits .f32 0x3F800000#32 + v) (congrArg sc (funext fun a => Fin.ext ?_))
  have := d.isLt
  match a with
  | ⟨0, _⟩ => rfl
  | ⟨1, _⟩ => show (i 1).val % 1024 = d.val; omega

/-- The shift. -/
theorem ctx_b (i : S256x1024.Idx) (d : Fin 1024) (h1 : (i 1).val = d.val) : val_main_v29 (F := Ideal) sh i = sh (ix2 0 d) := by
  rw [val_main_v29_apply, val_main_v28_apply, val_main_v27_apply, val_main_v26_apply]
  refine congrArg sh (funext fun a => Fin.ext ?_)
  have := d.isLt
  match a with
  | ⟨0, _⟩ => rfl
  | ⟨1, _⟩ => show (i 1).val % 1024 = d.val; omega

/-- The context rows, modulated. -/
theorem ctx_h (r : Fin 256) (d : Fin 1024) : val_main_v30 (F := Ideal) x g sc sh (ix2 r d) = (Args.of x g sc sh w).h (ctxRow r) d := by
  rw [val_main_v30_apply, val_main_v25_apply, val_main_v18_apply, val_main_v15_apply, val_main_v14_apply, ctx_x x _ r d rfl rfl, ctx_inv x _ r rfl,
    ctx_g g _ d rfl, ctx_s sc _ d rfl, ctx_b sh _ d rfl]
  unfold Args.h
  rw [kind_ctx]
  rfl

/-! ## The latent rows -/

/-- An entry of the latent rows. -/
theorem lat_x (i : S2048x1024.Idx) (r : Fin 2048) (d : Fin 1024) (h0 : (i 0).val = r.val) (h1 : (i 1).val = d.val) :
    val_main_v31 (F := Ideal) x i = x (ix2 (latRow r) d) := by
  rw [val_main_v31_apply]
  exact congrArg x (funext fun a => Fin.ext (by match a with | ⟨0, _⟩ => exact congrArg (256 + ·) h0 | ⟨1, _⟩ => exact h1))

/-- The reciprocals of the roots. -/
theorem lat_inv (i : S2048x1.Idx) (r : Fin 2048) (h0 : (i 0).val = r.val) : val_main_v41 (F := Ideal) x i = inv fun e => x (ix2 (latRow r) e) := by
  rw [val_main_v41_apply, val_main_v40_apply, val_main_v38_apply, val_main_v37_apply, val_main_cst_4_apply, val_main_v39_apply, val_main_cst_5_apply,
    val_main_v36_apply, val_main_v35_apply, val_main_cst_3_apply]
  unfold inv
  refine congrArg (fun s : EReal => Ideal.rsqrt (Ideal.div s (Ideal.ofBits .f32 0x44800000#32) + Ideal.ofBits .f32 0x358637BD#32)) ?_
  refine (congrArg (· + _) Ideal.ofBits_zero_f32).trans ((zero_add _).trans (Finset.sum_congr rfl fun k _ => ?_))
  rw [val_main_v34_apply, lat_x x _ r k h0 rfl]
  rfl

/-- The gain. -/
theorem lat_g (i : S2048x1024.Idx) (d : Fin 1024) (h1 : (i 1).val = d.val) : val_main_v45 (F := Ideal) g i = g (ix1 d) := by
  rw [val_main_v45_apply, val_main_v44_apply, val_main_v33_apply, val_main_v32_apply]
  refine (congrArg (val_main_v2 (F := Ideal) g) (funext fun a => Fin.ext ?_)).trans (gains g 1 d)
  have := d.isLt
  match a with
  | ⟨0, _⟩ => rfl
  | ⟨1, _⟩ => show (i 1).val % 1024 = d.val; omega

/-- One and the scale. -/
theorem lat_s (i : S2048x1024.Idx) (d : Fin 1024) (h1 : (i 1).val = d.val) :
    val_main_v52 (F := Ideal) sc i = Ideal.ofBits .f32 0x3F800000#32 + sc (ix2 1 d) := by
  rw [val_main_v52_apply, val_main_v51_apply, val_main_v50_apply, val_main_v49_apply, val_main_cst_6_apply, val_main_v48_apply, val_main_v47_apply]
  refine congrArg (fun v : EReal => Ideal.ofBits .f32 0x3F800000#32 + v) (congrArg sc (funext fun a => Fin.ext ?_))
  have := d.isLt
  match a with
  | ⟨0, _⟩ => rfl
  | ⟨1, _⟩ => show (i 1).val % 1024 = d.val; omega

/-- The shift. -/
theorem lat_b (i : S2048x1024.Idx) (d : Fin 1024) (h1 : (i 1).val = d.val) : val_main_v57 (F := Ideal) sh i = sh (ix2 1 d) := by
  rw [val_main_v57_apply, val_main_v56_apply, val_main_v55_apply, val_main_v54_apply]
  refine congrArg sh (funext fun a => Fin.ext ?_)
  have := d.isLt
  match a with
  | ⟨0, _⟩ => rfl
  | ⟨1, _⟩ => show (i 1).val % 1024 = d.val; omega

/-- The latent rows, modulated. -/
theorem lat_h (r : Fin 2048) (d : Fin 1024) : val_main_v58 (F := Ideal) x g sc sh (ix2 r d) = (Args.of x g sc sh w).h (latRow r) d := by
  rw [val_main_v58_apply, val_main_v53_apply, val_main_v46_apply, val_main_v43_apply, val_main_v42_apply, lat_x x _ r d rfl rfl, lat_inv x _ r rfl,
    lat_g g _ d rfl, lat_s sc _ d rfl, lat_b sh _ d rfl]
  unfold Args.h
  rw [kind_lat]
  rfl

/-! ## Both -/

/-- The rows, modulated. -/
theorem both_h (t : Fin 2304) (d : Fin 1024) : val_main_v59 (F := Ideal) x g sc sh (ix2 t d) = (Args.of x g sc sh w).h t d := by
  unfold val_main_v59
  refine (stack (n₁ := 256) (n₂ := 2048) _ _ _ rfl t d).trans ?_
  split
  · next h => exact ctx_h x g sc sh w ⟨t.val, h⟩ d
  · next h => exact (lat_h x g sc sh w ⟨t.val - 256, by omega⟩ d).trans (congrArg (fun t => (Args.of x g sc sh w).h t d) (latRow_sub t h))

/-- The reference's rows. -/
theorem ref_h : val_main_v60 (F := Ideal) x g sc sh = mat (Args.of x g sc sh w).h := by
  refine ext2 fun t d => ?_
  rw [val_main_v60_apply]
  have e := both_h x g sc sh w t d
  generalize val_main_v59 (F := Ideal) x g sc sh = y at e ⊢
  exact e

/-- The reference's products. -/
theorem ref_p : val_main_v61 (F := Ideal) x g sc sh w = mat (Args.of x g sc sh w).p := by
  refine ext2 fun t e => ?_
  rw [val_main_v61_apply]
  have k := both_h x g sc sh w t
  generalize val_main_v59 (F := Ideal) x g sc sh = y at k ⊢
  show _ = ∑ d, (Args.of x g sc sh w).h t d * w (ix2 d e)
  refine Finset.sum_congr rfl fun d _ => congrArg₂ (fun u v : EReal => u * v) ((congrArg y ?_).trans (k d)) (congrArg w ?_)
  · exact funext fun a => match a with | ⟨0, _⟩ => rfl | ⟨1, _⟩ => rfl
  · exact funext fun a => match a with | ⟨0, _⟩ => rfl | ⟨1, _⟩ => rfl

end Cert.NormProj

end
-- ==== Proof.EntryValue.lean ====
/- The forward call `l1_pre` and its reference agree, for all arguments. -/
module

public import proofs.«01_k».proof.Proof.EntryBlocks
public import proofs.«01_k».proof.Proof.EntryRef
public import proofs.«01_k».proof.Proof.Gen.EntryReferenceIdeal.Run
public import proofs.«01_k».proof.Defs

@[expose] public section

set_option maxRecDepth 16384

noncomputable section

namespace Cert.NormProj

open Idealize.ShloMosaic Idealize.ShloMosaic.TcCoe Idealize.SL.Sem
open Cert.NormGrad (row)

section
open Cert.EntryIdeal Cert.EntryIdeal.Gen Cert.EntryIdeal.Value

variable (m : (ℓ : Loc nD τ sig) → Buf (Elt Ideal) ℓ) (c : Dev nD)

/-- Every write-back of the rows writes its block of the specified array. -/
theorem flushed_h (t : Fin cfg0.N) : (dats m 0 c).flushed 5 t = ((cfg0.win 5).blk t).view.read (Elt Ideal) (mat (args m c).h) := by
  refine (flushed5 m c t).trans (funext fun y => ?_)
  rw [View.read_apply]
  have hi := index_5 t
  have key : ∀ (r : Fin 256) (d : Fin 1024), y = ValueIdx.ix2 r d →
      (out0_5 (iblk m c 0 t) (iblk m c 1 t) (iblk m c 2 t) (iblk m c 3 t) (iblk m c 4 t) : S256x1024.Idx → EReal) y
        = mat (args m c).h (((cfg0.win 5).blk t).view.emb y) := by
    intro r d e
    subst e
    refine (point_h m c t r d).trans ?_
    refine congrArg₂ (args m c).h (Fin.ext ?_) (Fin.ext ?_)
    · show (row t.val r).val = win0_5.index t 0 * 256 + 1 * r.val; rw [hi.1, row_val]; omega
    · show d.val = win0_5.index t 1 * 1024 + 1 * d.val; rw [hi.2]; omega
  exact key (y 0) (y 1) (ValueIdx.eq_ix2 y)

/-- Every write-back of the products writes its block of the specified array. -/
theorem flushed_p (t : Fin cfg0.N) : (dats m 0 c).flushed 6 t = ((cfg0.win 6).blk t).view.read (Elt Ideal) (mat (args m c).p) := by
  refine (flushed6 m c t).trans (funext fun y => ?_)
  rw [View.read_apply]
  have hi := index_6 t
  have key : ∀ (r : Fin 256) (d : Fin 2048), y = ValueIdx.ix2 r d →
      (out0_6 (iblk m c 0 t) (iblk m c 1 t) (iblk m c 2 t) (iblk m c 3 t) (iblk m c 4 t) : S256x2048.Idx → EReal) y
        = mat (args m c).p (((cfg0.win 6).blk t).view.emb y) := by
    intro r d e
    subst e
    refine (point_p m c t r d).trans ?_
    refine congrArg₂ (args m c).p (Fin.ext ?_) (Fin.ext ?_)
    · show (row t.val r).val = win0_6.index t 0 * 256 + 1 * r.val; rw [hi.1, row_val]; omega
    · show d.val = win0_6.index t 1 * 2048 + 1 * d.val; rw [hi.2]; omega
  exact key (y 0) (y 1) (ValueIdx.eq_ix2 y)

/-- The grid point that holds a row. -/
def holder (n : ℕ) (hn : n < 2304) : Fin cfg0.N := ⟨n / 256, by have : cfg0.N = 9 := N_0; omega⟩

/-- The rows the call leaves. -/
theorem final_h : (dats m 0 c).arrAt 5 cfg0.N = mat (args m c).h :=
  (dats m 0 c).arrAt_eq_of_cover 5 (mat (args m c).h) (fun t _ => flushed_h m c t) fun i => by
    have h0 : (i 0 : ℕ) < 2304 := (i 0).isLt
    have h1 : (i 1 : ℕ) < 1024 := (i 1).isLt
    refine ⟨holder (i 0) h0, flush0_5 _, ?_⟩
    show i ∈ ((View.whole main_v6_0).slice (win0_5.rect (holder (i 0) h0))).set
    rw [View.set_slice_whole, Rect.mem_set_unit]
    intro a
    have hi := index_5 (holder (i 0) h0)
    match a with
    | ⟨0, _⟩ => show win0_5.index (holder (i 0) h0) 0 * 256 ≤ (i 0 : ℕ) ∧ (i 0 : ℕ) < win0_5.index (holder (i 0) h0) 0 * 256 + 256; rw [hi.1]; show (i 0 : ℕ) / 256 * 256 ≤ (i 0 : ℕ) ∧ (i 0 : ℕ) < (i 0 : ℕ) / 256 * 256 + 256; omega
    | ⟨1, _⟩ => show win0_5.index (holder (i 0) h0) 1 * 1024 ≤ (i 1 : ℕ) ∧ (i 1 : ℕ) < win0_5.index (holder (i 0) h0) 1 * 1024 + 1024; rw [hi.2]; omega

/-- The products the call leaves. -/
theorem final_p : (dats m 0 c).arrAt 6 cfg0.N = mat (args m c).p :=
  (dats m 0 c).arrAt_eq_of_cover 6 (mat (args m c).p) (fun t _ => flushed_p m c t) fun i => by
    have h0 : (i 0 : ℕ) < 2304 := (i 0).isLt
    have h1 : (i 1 : ℕ) < 2048 := (i 1).isLt
    refine ⟨holder (i 0) h0, flush0_6 _, ?_⟩
    show i ∈ ((View.whole main_v6_1).slice (win0_6.rect (holder (i 0) h0))).set
    rw [View.set_slice_whole, Rect.mem_set_unit]
    intro a
    have hi := index_6 (holder (i 0) h0)
    match a with
    | ⟨0, _⟩ => show win0_6.index (holder (i 0) h0) 0 * 256 ≤ (i 0 : ℕ) ∧ (i 0 : ℕ) < win0_6.index (holder (i 0) h0) 0 * 256 + 256; rw [hi.1]; show (i 0 : ℕ) / 256 * 256 ≤ (i 0 : ℕ) ∧ (i 0 : ℕ) < (i 0 : ℕ) / 256 * 256 + 256; omega
    | ⟨1, _⟩ => show win0_6.index (holder (i 0) h0) 1 * 2048 ≤ (i 1 : ℕ) ∧ (i 1 : ℕ) < win0_6.index (holder (i 0) h0) 1 * 2048 + 2048; rw [hi.2]; omega

end

/-- The value claim of `l1_pre`. -/
theorem entry_algebraic : Cert.algebraic_EntryIdeal_EntryReferenceIdeal (hEntryIdeal := Cert.EntryIdeal.Gen.facts)
    (hEntryReferenceIdeal := Cert.EntryReferenceIdeal.Gen.facts) := by
  intro m ρ m' ρ' _ hargs
  refine ⟨fun c => mat (args m c).h, fun c => mat (args m c).p, ?_, ?_⟩
  · refine (θ_run _ _ _).mono (fun r h c => ?_) (Cert.EntryIdeal.Value.run_blocks m ρ)
    exact ⟨(h c).1.trans (final_h m c), (h c).2.1.trans (final_p m c), (h c).2.2⟩
  · refine (θ_run _ _ _).mono (fun r h c => ?_) (Cert.EntryReferenceIdeal.Value.run (F := Ideal) m' ρ')
    obtain ⟨a0, a1, a2, a3, a4⟩ := hargs c
    refine ⟨(h c).1.trans ?_, (h c).2.1.trans ?_, (h c).2.2⟩
    · refine (Cert.EntryReferenceIdeal.Read.val_main_v60_eq _ _ _ _).trans ?_
      rw [a0, a1, a2, a3]
      exact ref_h _ _ _ _ _
    · refine (Cert.EntryReferenceIdeal.Read.val_main_v61_eq _ _ _ _ _).trans ?_
      rw [a0, a1, a2, a3, a4]
      exact ref_p _ _ _ _ _

end Cert.NormProj

end
-- ==== Proof.PostSpec.lean ====
/- What the forward call `l0_post` computes: the attention's rows gated, their product with the output projection, and the
   residual stream with this product added, for any arguments, infinite ones included. -/
module

public import proofs.«01_k».proof.Proof.EntrySpec

@[expose] public section

noncomputable section

namespace Cert.Gated

open Idealize.ShloMosaic Idealize.ShloMosaic.ValueIdx Cert.NormGrad
open scoped BigOperators

/-- The logistic function. -/
def sigm (z : EReal) : EReal := Ideal.div (Ideal.ofBits .f32 0x3F800000#32) (Ideal.ofBits .f32 0x3F800000#32 + Ideal.exp (-z))

/-- The gate's place in the input projection's rows: the first 1024 of 1536 columns. -/
def col (d : Fin 1024) : Fin 1536 := ⟨d.val, by omega⟩

/-- The arguments: the attention's rows `o`, the input projection `p`, the residual stream's context rows `ctx` and latent
    rows `x`, the scales `gt` of the two kinds of rows, the output projection `w`. -/
structure Args where
  o : Fin 2304 → Fin 1024 → EReal
  p : Fin 2304 → Fin 1536 → EReal
  ctx : Fin 256 → Fin 1024 → EReal
  x : Fin 2048 → Fin 1024 → EReal
  gt : Fin 2 → Fin 1024 → EReal
  w : Fin 1024 → Fin 1024 → EReal

namespace Args

/-- The arguments as arrays hold them. -/
def of (o : (⟨2, ![2304, 1024]⟩ : Shape).Idx → EReal) (p : (⟨2, ![2304, 1536]⟩ : Shape).Idx → EReal) (ctx : (⟨2, ![256, 1024]⟩ : Shape).Idx → EReal)
    (x : (⟨2, ![2048, 1024]⟩ : Shape).Idx → EReal) (gt : (⟨2, ![2, 1024]⟩ : Shape).Idx → EReal) (w : (⟨2, ![1024, 1024]⟩ : Shape).Idx → EReal) : Args :=
  ⟨fun t d => o (ix2 t d), fun t d => p (ix2 t d), fun t d => ctx (ix2 t d), fun t d => x (ix2 t d), fun k d => gt (ix2 k d), fun d e => w (ix2 d e)⟩

variable (A : Args)

/-- The gated rows. -/
def og (t : Fin 2304) (d : Fin 1024) : EReal := A.o t d * (A.p t (col d) * sigm (A.p t (col d)))

/-- Their product with the output projection. -/
def out (t : Fin 2304) (e : Fin 1024) : EReal := ∑ d, A.og t d * A.w d e

/-- The residual stream. -/
def res (t : Fin 2304) (e : Fin 1024) : EReal := if h : t.val < 256 then A.ctx ⟨t.val, h⟩ e else A.x ⟨t.val - 256, by omega⟩ e

/-- The residual stream after the layer. -/
def x1 (t : Fin 2304) (e : Fin 1024) : EReal := A.res t e + A.gt (kind t) e * A.out t e

/-- The residual stream's context rows. -/
theorem res_ctx (r : Fin 256) (e : Fin 1024) : A.res (ctxRow r) e = A.ctx r e := dif_pos r.isLt
/-- The residual stream's latent rows. -/
theorem res_lat (t : Fin 2304) (r : Fin 2048) (e : Fin 1024) (h : t.val = 256 + r.val) : A.res t e = A.x r e :=
  (dif_neg (by omega)).trans (congrArg (fun r => A.x r e) (Fin.ext (by show t.val - 256 = r.val; omega)))

end Args

end Cert.Gated

end
-- ==== Proof.PostBlocks.lean ====
/- What a grid point of `l0_post` computes from its blocks, and what its windows read. -/
module

public import proofs.«01_k».proof.Proof.PostSpec
public import proofs.«01_k».proof.Proof.Gen.PostIdeal.Value
public import Idealize.ShloMosaic.Lib.Pipeline.ValueKit

@[expose] public section

set_option maxRecDepth 16384

noncomputable section

namespace Cert.Gated

open Idealize.ShloMosaic Idealize.ShloMosaic.TcCoe Cert.Attn Cert.PostIdeal Cert.PostIdeal.Gen
open Cert.NormGrad (kind row kindOf kind_row spread_row ctxRow)
open scoped BigOperators

/-! ## One block -/

/-- The gated rows the call stores. -/
theorem pay_og (o z : FVec Ideal S256x1024 .f32) (r : Fin 256) (d : Fin 1024) :
    (k0_pay1 (F := Ideal) o z : S256x1024.Idx → EReal) (ValueIdx.ix2 r d)
      = o (ValueIdx.ix2 r d) * (z (ValueIdx.ix2 r d) * sigm (z (ValueIdx.ix2 r d))) := by
  unfold k0_pay1
  try dsimp only
  show o (ValueIdx.ix2 r d) * (z (ValueIdx.ix2 r d) * Ideal.div (Ideal.ofBits .f32 0x3F800000#32)
    (Ideal.ofBits .f32 0x3F800000#32 + Ideal.exp (Ideal.ofBits .f32 0x00000000#32 - z (ValueIdx.ix2 r d)))) = _
  rw [Ideal.ofBits_zero_f32, zero_sub]
  rfl

/-- Their product with the output projection. -/
theorem pay_out (o z : FVec Ideal S256x1024 .f32) (w : FVec Ideal S1024x1024 .bf16) (r : Fin 256) (e : Fin 1024) :
    (k0_pay2 (F := Ideal) o z w : S256x1024.Idx → EReal) (ValueIdx.ix2 r e)
      = ∑ d, o (ValueIdx.ix2 r d) * (z (ValueIdx.ix2 r d) * sigm (z (ValueIdx.ix2 r d))) * w (ValueIdx.ix2 d e) := by
  unfold k0_pay2
  try dsimp only
  rw [shapeCast_self]
  refine (dot_nn (φ₁ := .bf16) (φ₂ := .bf16) (M := 256) (K := 1024) (N := 1024) _ _ r e).trans (Finset.sum_congr rfl fun d _ => ?_)
  rw [pay_og]

/-- The residual rows with the scaled product added. -/
theorem pay_x1 (i : grid0.Coords) (o z cx x : FVec Ideal S256x1024 .f32) (g : FVec Ideal S1x1x1024 .f32) (w : FVec Ideal S1024x1024 .bf16) (r : Fin 256) (e : Fin 1024) :
    (k0_pay3 (F := Ideal) i o z cx x g w : S256x1024.Idx → EReal) (ValueIdx.ix2 r e)
      = (Scalar.select (Scalar.cmpi .eq (BitVec.ofNat 32 (i 0).val) 0#32) cx x : S256x1024.Idx → EReal) (ValueIdx.ix2 r e)
        + g (ValueIdx.ix3 0 0 e) * (k0_pay2 (F := Ideal) o z w : S256x1024.Idx → EReal) (ValueIdx.ix2 r e) := by
  unfold k0_pay3
  try dsimp only
  refine congrArg (fun v : EReal => _ + v * _) ?_
  exact (spread_row (by decide) _ _ r e).trans (drop1 _ _ 0 e)

section
variable {F : FTy → Type} [FloatOps F] (m : (ℓ : Loc nD τ sig) → Buf (Elt F) ℓ) (c : Dev nD)

/-- The first window holds the gated rows. -/
theorem left_og (t : Fin cfg0.N) : (outsAt0 m c t).1 = k0_pay1 (iblk m c 0 t) (X0_1 m c t) := by
  unfold outsAt0
  frame_out

/-- The second holds their product. -/
theorem left_out (t : Fin cfg0.N) : (outsAt0 m c t).2.1 = k0_pay4 (iblk m c 0 t) (X0_1 m c t) (iblk m c 5 t) := by
  unfold outsAt0
  frame_out

/-- The third holds the residual stream. -/
theorem left_x1 (t : Fin cfg0.N) : (outsAt0 m c t).2.2
    = k0_pay3 (grid0.coords t) (iblk m c 0 t) (X0_1 m c t) (iblk m c 2 t) (iblk m c 3 t) (iblk m c 4 t) (iblk m c 5 t) := by
  unfold outsAt0
  frame_out

/-! ## What the host prepares -/

/-- The scales. -/
theorem host_gt : V m c main_v0 = broadcastInDim S2x1x1024 ![0, 2] bcast_S2x1024_S2x1x1024_0_2 (m ((c : Thread nD τ).loc main_arg4)) := by
  dsimp only [V, hostOps0]
  after_results_simp

/-- The projection, narrowed. -/
theorem host_w : V m c main_v1 = truncf .bf16 (m ((c : Thread nD τ).loc main_arg5)) bitsLt_bf16_f32 := by
  dsimp only [V, hostOps0]
  after_results_simp

end

/-! ## What the windows read -/

/-- Window 0's block at a grid point. -/
theorem index_0 : ∀ t : Fin cfg0.N, win0_0.index t 0 = t.val ∧ win0_0.index t 1 = 0 := by decide +kernel
/-- Window 1's block at a grid point. -/
theorem index_1 : ∀ t : Fin cfg0.N, win0_1.index t 0 = t.val ∧ win0_1.index t 1 = 0 := by decide +kernel
/-- Window 2's block at a grid point. -/
theorem index_2 : ∀ t : Fin cfg0.N, win0_2.index t 0 = 0 ∧ win0_2.index t 1 = 0 := by decide +kernel
/-- Window 3's block at a grid point. -/
theorem index_3 : ∀ t : Fin cfg0.N, win0_3.index t 0 = t.val - 1 ∧ win0_3.index t 1 = 0 := by decide +kernel
/-- Window 4's block at a grid point. -/
theorem index_4 : ∀ t : Fin cfg0.N, win0_4.index t 0 = (kindOf t.val).val ∧ win0_4.index t 1 = 0 ∧ win0_4.index t 2 = 0 := by decide +kernel
/-- Window 5's block at a grid point. -/
theorem index_5 : ∀ t : Fin cfg0.N, win0_5.index t 0 = 0 ∧ win0_5.index t 1 = 0 := by decide +kernel
/-- Window 6's block at a grid point. -/
theorem index_6 : ∀ t : Fin cfg0.N, win0_6.index t 0 = t.val ∧ win0_6.index t 1 = 0 := by decide +kernel
/-- Window 7's block at a grid point. -/
theorem index_7 : ∀ t : Fin cfg0.N, win0_7.index t 0 = t.val ∧ win0_7.index t 1 = 0 := by decide +kernel
/-- Window 8's block at a grid point. -/
theorem index_8 : ∀ t : Fin cfg0.N, win0_8.index t 0 = t.val ∧ win0_8.index t 1 = 0 := by decide +kernel
/-- Only the first point takes the context rows. -/
theorem first_word : ∀ t : Fin cfg0.N, Scalar.cmpi .eq (BitVec.ofNat 32 (grid0.coords t 0).val) 0#32 = if t.val = 0 then 1#1 else 0#1 := by decide +kernel

/-- A row of a grid point's block. -/
theorem row_val (t : Fin cfg0.N) (r : Fin 256) : (row t.val r).val = t.val * 256 + r.val := by
  have ht : t.val < 9 := Nat.lt_of_lt_of_eq t.isLt N_0
  have := r.isLt
  exact Nat.mod_eq_of_lt (by omega)

section
variable (m : (ℓ : Loc nD τ sig) → Buf (Elt Ideal) ℓ) (c : Dev nD) (t : Fin cfg0.N)

/-- The arguments at the launch. -/
def args : Args := Args.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The attention's rows. -/
theorem read_o (r : Fin 256) (d : Fin 1024) : (iblk m c 0 t : S256x1024.Idx → EReal) (ValueIdx.ix2 r d) = (args m c).o (row t.val r) d := by
  have hi := index_0 t
  unfold iblk
  rw [View.read_apply]
  show (V m c main_arg0) _ = _
  rw [V_main_arg0]
  refine congrArg (m ((c : Thread nD τ).loc main_arg0)) (funext fun a => Fin.ext ?_)
  match a with
  | ⟨0, _⟩ => show win0_0.index t 0 * 256 + 1 * r.val = (row t.val r).val; rw [hi.1, row_val]; omega
  | ⟨1, _⟩ => show win0_0.index t 1 * 1024 + 1 * d.val = d.val; rw [hi.2]; omega

/-- The gate. -/
theorem read_z (r : Fin 256) (d : Fin 1024) : (X0_1 m c t : S256x1024.Idx → EReal) (ValueIdx.ix2 r d) = (args m c).p (row t.val r) (col d) := by
  have hi := index_1 t
  unfold X0_1 Pipeline.Window.fill
  rw [dif_pos (moved0_1 t _)]
  unfold iblk
  rw [View.read_apply]
  show (V m c main_arg1) _ = _
  rw [V_main_arg1]
  refine congrArg (m ((c : Thread nD τ).loc main_arg1)) (funext fun a => Fin.ext ?_)
  match a with
  | ⟨0, _⟩ => show win0_1.index t 0 * 256 + 1 * r.val = (row t.val r).val; rw [hi.1, row_val]; omega
  | ⟨1, _⟩ => show win0_1.index t 1 * 1024 + 1 * d.val = d.val; rw [hi.2]; omega

/-- The context rows. -/
theorem read_ctx (r : Fin 256) (d : Fin 1024) : (iblk m c 2 t : S256x1024.Idx → EReal) (ValueIdx.ix2 r d) = (args m c).ctx r d := by
  have hi := index_2 t
  unfold iblk
  rw [View.read_apply]
  show (V m c main_arg2) _ = _
  rw [V_main_arg2]
  refine congrArg (m ((c : Thread nD τ).loc main_arg2)) (funext fun a => Fin.ext ?_)
  match a with
  | ⟨0, _⟩ => show win0_2.index t 0 * 256 + 1 * r.val = r.val; rw [hi.1]; omega
  | ⟨1, _⟩ => show win0_2.index t 1 * 1024 + 1 * d.val = d.val; rw [hi.2]; omega

/-- The latent rows. -/
theorem read_lat (r : Fin 256) (d : Fin 1024) (j : Fin 2048) (hj : j.val = (t.val - 1) * 256 + r.val) :
    (iblk m c 3 t : S256x1024.Idx → EReal) (ValueIdx.ix2 r d) = (args m c).x j d := by
  have hi := index_3 t
  unfold iblk
  rw [View.read_apply]
  show (V m c main_arg3) _ = _
  rw [V_main_arg3]
  refine congrArg (m ((c : Thread nD τ).loc main_arg3)) (funext fun a => Fin.ext ?_)
  match a with
  | ⟨0, _⟩ => show win0_3.index t 0 * 256 + 1 * r.val = j.val; rw [hi.1, hj]; omega
  | ⟨1, _⟩ => show win0_3.index t 1 * 1024 + 1 * d.val = d.val; rw [hi.2]; omega

/-- The scales' block. -/
theorem read_gt (d : Fin 1024) : (iblk m c 4 t : S1x1x1024.Idx → EReal) (ValueIdx.ix3 0 0 d) = (args m c).gt (kindOf t.val) d := by
  have hi := index_4 t
  unfold iblk
  rw [View.read_apply]
  show (V m c main_v0) _ = _
  rw [host_gt]
  refine broadcastInDim_apply _ _ _ _ (ValueIdx.ix2 (kindOf t.val) d) fun a => ?_
  match a with
  | ⟨0, _⟩ => show (kindOf t.val).val = win0_4.index t 0 * 1 + 1 * 0; rw [hi.1]; omega
  | ⟨1, _⟩ => show d.val = win0_4.index t 2 * 1024 + 1 * d.val; rw [hi.2.2]; omega

/-- The projection's block. -/
theorem read_w (d e : Fin 1024) : (iblk m c 5 t : S1024x1024.Idx → EReal) (ValueIdx.ix2 d e) = (args m c).w d e := by
  have hi := index_5 t
  unfold iblk
  rw [View.read_apply]
  show (V m c main_v1) _ = _
  rw [host_w]
  refine congrArg (m ((c : Thread nD τ).loc main_arg5)) (funext fun a => Fin.ext ?_)
  match a with
  | ⟨0, _⟩ => show win0_5.index t 0 * 1024 + 1 * d.val = d.val; rw [hi.1]; omega
  | ⟨1, _⟩ => show win0_5.index t 1 * 1024 + 1 * e.val = e.val; rw [hi.2]; omega

/-- The residual rows a point takes. -/
theorem block_res (r : Fin 256) (e : Fin 1024) :
    (Scalar.select (Scalar.cmpi .eq (BitVec.ofNat 32 (grid0.coords t 0).val) 0#32) (iblk m c 2 t) (iblk m c 3 t) : S256x1024.Idx → EReal) (ValueIdx.ix2 r e)
      = (args m c).res (row t.val r) e := by
  rw [first_word t]
  have ht : t.val < 9 := Nat.lt_of_lt_of_eq t.isLt N_0
  have hr := r.isLt
  have hv := row_val t r
  by_cases h0 : t.val = 0
  · rw [if_pos h0]
    refine (read_ctx m c t r e).trans ?_
    have hrow : row t.val r = NormGrad.ctxRow r := Fin.ext (by rw [hv, h0]; exact (Nat.zero_mul 256).symm ▸ Nat.zero_add r.val)
    rw [hrow, Args.res_ctx]
  · rw [if_neg h0]
    refine (read_lat m c t r e ⟨(t.val - 1) * 256 + r.val, by omega⟩ rfl).trans ?_
    exact ((args m c).res_lat (row t.val r) _ e (by rw [hv]; show t.val * 256 + r.val = 256 + ((t.val - 1) * 256 + r.val); omega)).symm

/-- A point's gated rows. -/
theorem point_og (r : Fin 256) (d : Fin 1024) : ((outsAt0 m c t).1 : S256x1024.Idx → EReal) (ValueIdx.ix2 r d) = (args m c).og (row t.val r) d := by
  rw [left_og]
  refine (pay_og _ _ r d).trans ?_
  rw [read_o, read_z]
  rfl

/-- A point's products, before they are stored. -/
theorem block_out (r : Fin 256) (e : Fin 1024) :
    (k0_pay2 (F := Ideal) (iblk m c 0 t) (X0_1 m c t) (iblk m c 5 t) : S256x1024.Idx → EReal) (ValueIdx.ix2 r e) = (args m c).out (row t.val r) e := by
  refine (pay_out _ _ _ r e).trans (Finset.sum_congr rfl fun d _ => ?_)
  rw [read_o, read_z, read_w]
  rfl

/-- A point's products. -/
theorem point_out (r : Fin 256) (e : Fin 1024) : ((outsAt0 m c t).2.1 : S256x1024.Idx → EReal) (ValueIdx.ix2 r e) = (args m c).out (row t.val r) e := by
  rw [left_out]
  exact block_out m c t r e

/-- A point's residual rows. -/
theorem point_x1 (r : Fin 256) (e : Fin 1024) : ((outsAt0 m c t).2.2 : S256x1024.Idx → EReal) (ValueIdx.ix2 r e) = (args m c).x1 (row t.val r) e := by
  rw [left_x1]
  refine (pay_x1 _ _ _ _ _ _ _ r e).trans ?_
  rw [block_res, block_out, read_gt]
  unfold Args.x1
  rw [kind_row t.val (Nat.lt_of_lt_of_eq t.isLt N_0) r]

end

end Cert.Gated

end
-- ==== Proof.PostRef.lean ====
/- The reference of `l0_post`, read at an index. -/
module

public import proofs.«01_k».proof.Proof.PostSpec
public import proofs.«01_k».proof.Proof.Gen.PostReferenceIdeal.Read

@[expose] public section

noncomputable section

namespace Cert.Gated

open Idealize.ShloMosaic Idealize.ShloMosaic.ValueIdx Cert.PostReferenceIdeal.Gen Cert.PostReferenceIdeal Cert.PostReferenceIdeal.Read
open Cert.NormGrad (kind ctxRow latRow kind_ctx kind_lat stack ext2 latRow_sub)
open Cert.NormProj (mat)
open scoped BigOperators

variable (o : (⟨2, ![2304, 1024]⟩ : Shape).Idx → EReal) (p : (⟨2, ![2304, 1536]⟩ : Shape).Idx → EReal) (ctx : (⟨2, ![256, 1024]⟩ : Shape).Idx → EReal)
  (x : (⟨2, ![2048, 1024]⟩ : Shape).Idx → EReal) (gt : (⟨2, ![2, 1024]⟩ : Shape).Idx → EReal) (w : (⟨2, ![1024, 1024]⟩ : Shape).Idx → EReal)

/-- An entry of the gated rows. -/
theorem at_og (i : S2304x1024.Idx) (t : Fin 2304) (d : Fin 1024) (h : i = ix2 t d) :
    val_main_v2 (F := Ideal) o p i = (Args.of o p ctx x gt w).og t d := by
  subst h
  have e : val_main_v0 (F := Ideal) p (ix2 t d) = p (ix2 t (col d)) := by
    rw [val_main_v0_apply]
    exact congrArg p (funext fun a => match a with | ⟨0, _⟩ => rfl | ⟨1, _⟩ => rfl)
  rw [val_main_v2_apply, val_main_v1_apply, val_main_call0_v5_apply, val_main_call0_v4_apply, val_main_call0_cst_0_apply, val_main_call0_v3_apply,
    val_main_call0_v2_apply, val_main_call0_cst_apply, val_main_call0_v1_apply, val_main_call0_v0_apply, e]
  rfl

/-- An entry of their product with the output projection. -/
theorem at_out (i : S2304x1024.Idx) (t : Fin 2304) (e : Fin 1024) (h : i = ix2 t e) :
    val_main_v3 (F := Ideal) o p w i = (Args.of o p ctx x gt w).out t e := by
  subst h
  rw [val_main_v3_apply]
  have k := fun (j : S2304x1024.Idx) d (hj : j = ix2 t d) => at_og o p ctx x gt w j t d hj
  generalize val_main_v2 (F := Ideal) o p = y at k ⊢
  show _ = ∑ d, (Args.of o p ctx x gt w).og t d * w (ix2 d e)
  refine Finset.sum_congr rfl fun d _ => congrArg₂ (fun u v : EReal => u * v) (k _ d ?_) (congrArg w ?_)
  · exact funext fun a => match a with | ⟨0, _⟩ => rfl | ⟨1, _⟩ => rfl
  · exact funext fun a => match a with | ⟨0, _⟩ => rfl | ⟨1, _⟩ => rfl

/-- The context rows' scale. -/
theorem ctx_gt (i : S256x1024.Idx) (e : Fin 1024) (h : (i 1).val = e.val) : val_main_v8 (F := Ideal) gt i = gt (ix2 0 e) := by
  rw [val_main_v8_apply, val_main_v7_apply, val_main_v5_apply, val_main_v4_apply]
  refine congrArg gt (funext fun a => Fin.ext ?_)
  have := e.isLt
  match a with
  | ⟨0, _⟩ => rfl
  | ⟨1, _⟩ => show (i 1).val % 1024 = e.val; omega

/-- The latent rows' scale. -/
theorem lat_gt (i : S2048x1024.Idx) (e : Fin 1024) (h : (i 1).val = e.val) : val_main_v15 (F := Ideal) gt i = gt (ix2 1 e) := by
  rw [val_main_v15_apply, val_main_v14_apply, val_main_v12_apply, val_main_v11_apply]
  refine congrArg gt (funext fun a => Fin.ext ?_)
  have := e.isLt
  match a with
  | ⟨0, _⟩ => rfl
  | ⟨1, _⟩ => show (i 1).val % 1024 = e.val; omega

/-- The context rows of the residual stream. -/
theorem ctx_x1 (r : Fin 256) (e : Fin 1024) : val_main_v10 (F := Ideal) o p ctx gt w (ix2 r e) = (Args.of o p ctx x gt w).x1 (ctxRow r) e := by
  rw [val_main_v10_apply, val_main_v9_apply, val_main_v6_apply, ctx_gt gt _ e rfl,
    at_out o p ctx x gt w (idx_main_v6 (ix2 r e)) (ctxRow r) e (funext fun a => match a with | ⟨0, _⟩ => rfl | ⟨1, _⟩ => rfl)]
  unfold Args.x1
  rw [kind_ctx, Args.res_ctx]
  rfl

/-- The latent rows of the residual stream. -/
theorem lat_x1 (r : Fin 2048) (e : Fin 1024) : val_main_v17 (F := Ideal) o p x gt w (ix2 r e) = (Args.of o p ctx x gt w).x1 (latRow r) e := by
  rw [val_main_v17_apply, val_main_v16_apply, val_main_v13_apply, lat_gt gt _ e rfl,
    at_out o p ctx x gt w (idx_main_v13 (ix2 r e)) (latRow r) e (funext fun a => match a with | ⟨0, _⟩ => rfl | ⟨1, _⟩ => rfl)]
  unfold Args.x1
  rw [kind_lat, Args.res_lat _ (latRow r) r e rfl]
  rfl

/-- The reference's gated rows. -/
theorem ref_og : val_main_v18 (F := Ideal) o p = mat (Args.of o p ctx x gt w).og := by
  refine ext2 fun t d => ?_
  rw [val_main_v18_apply]
  have e := at_og o p ctx x gt w _ t d rfl
  generalize val_main_v2 (F := Ideal) o p = y at e ⊢
  exact e

/-- The reference's products. -/
theorem ref_out : val_main_v19 (F := Ideal) o p w = mat (Args.of o p ctx x gt w).out := by
  refine ext2 fun t d => ?_
  rw [val_main_v19_apply]
  have e := at_out o p ctx x gt w _ t d rfl
  generalize val_main_v3 (F := Ideal) o p w = y at e ⊢
  exact e

/-- The reference's residual stream. -/
theorem ref_x1 : val_main_v20 (F := Ideal) o p ctx x gt w = mat (Args.of o p ctx x gt w).x1 := by
  refine ext2 fun t e => ?_
  unfold val_main_v20
  refine (stack (n₁ := 256) (n₂ := 2048) _ _ _ rfl t e).trans ?_
  split
  · next h => exact ctx_x1 o p ctx x gt w ⟨t.val, h⟩ e
  · next h => exact (lat_x1 o p ctx x gt w ⟨t.val - 256, by omega⟩ e).trans (congrArg (fun t => (Args.of o p ctx x gt w).x1 t e) (latRow_sub t h))

end Cert.Gated

end
-- ==== Proof.PostValue.lean ====
/- The forward call `l0_post` and its reference agree, for all arguments. -/
module

public import proofs.«01_k».proof.Proof.PostBlocks
public import proofs.«01_k».proof.Proof.PostRef
public import proofs.«01_k».proof.Proof.Gen.PostReferenceIdeal.Run
public import proofs.«01_k».proof.Defs

@[expose] public section

set_option maxRecDepth 16384

noncomputable section

namespace Cert.Gated

open Idealize.ShloMosaic Idealize.ShloMosaic.TcCoe Idealize.SL.Sem
open Cert.NormGrad (row)
open Cert.NormProj (mat)

section
open Cert.PostIdeal Cert.PostIdeal.Gen Cert.PostIdeal.Value

variable (m : (ℓ : Loc nD τ sig) → Buf (Elt Ideal) ℓ) (c : Dev nD)

/-- The grid point that holds a row. -/
def holder (n : ℕ) (hn : n < 2304) : Fin cfg0.N := ⟨n / 256, by have : cfg0.N = 9 := N_0; omega⟩

/-- Every write-back of the gated rows writes its block of the specified array. -/
theorem flushed_og (t : Fin cfg0.N) : (dats m 0 c).flushed 6 t = ((cfg0.win 6).blk t).view.read (Elt Ideal) (mat (args m c).og) := by
  refine (flushed6 m c t).trans (funext fun y => ?_)
  rw [View.read_apply]
  have hi := index_6 t
  have key : ∀ (r : Fin 256) (d : Fin 1024), y = ValueIdx.ix2 r d →
      ((outsAt0 m c t).1 : S256x1024.Idx → EReal) y = mat (args m c).og (((cfg0.win 6).blk t).view.emb y) := by
    intro r d e
    subst e
    refine (point_og m c t r d).trans (congrArg₂ (args m c).og (Fin.ext ?_) (Fin.ext ?_))
    · show (row t.val r).val = win0_6.index t 0 * 256 + 1 * r.val; rw [hi.1, row_val]; omega
    · show d.val = win0_6.index t 1 * 1024 + 1 * d.val; rw [hi.2]; omega
  exact key (y 0) (y 1) (ValueIdx.eq_ix2 y)

/-- The gated rows the call leaves. -/
theorem final_og : (dats m 0 c).arrAt 6 cfg0.N = mat (args m c).og :=
  (dats m 0 c).arrAt_eq_of_cover 6 (mat (args m c).og) (fun t _ => flushed_og m c t) fun i => by
    have h0 : (i 0 : ℕ) < 2304 := (i 0).isLt
    have h1 : (i 1 : ℕ) < 1024 := (i 1).isLt
    refine ⟨holder (i 0) h0, flush0_6 _, ?_⟩
    show i ∈ ((View.whole main_v2_0).slice (win0_6.rect (holder (i 0) h0))).set
    rw [View.set_slice_whole, Rect.mem_set_unit]
    intro a
    have hi := index_6 (holder (i 0) h0)
    match a with
    | ⟨0, _⟩ => show win0_6.index (holder (i 0) h0) 0 * 256 ≤ (i 0 : ℕ) ∧ (i 0 : ℕ) < win0_6.index (holder (i 0) h0) 0 * 256 + 256; rw [hi.1]; show (i 0 : ℕ) / 256 * 256 ≤ (i 0 : ℕ) ∧ (i 0 : ℕ) < (i 0 : ℕ) / 256 * 256 + 256; omega
    | ⟨1, _⟩ => show win0_6.index (holder (i 0) h0) 1 * 1024 ≤ (i 1 : ℕ) ∧ (i 1 : ℕ) < win0_6.index (holder (i 0) h0) 1 * 1024 + 1024; rw [hi.2]; omega

/-- Every write-back of the products writes its block of the specified array. -/
theorem flushed_out (t : Fin cfg0.N) : (dats m 0 c).flushed 7 t = ((cfg0.win 7).blk t).view.read (Elt Ideal) (mat (args m c).out) := by
  refine (flushed7 m c t).trans (funext fun y => ?_)
  rw [View.read_apply]
  have hi := index_7 t
  have key : ∀ (r : Fin 256) (d : Fin 1024), y = ValueIdx.ix2 r d →
      ((outsAt0 m c t).2.1 : S256x1024.Idx → EReal) y = mat (args m c).out (((cfg0.win 7).blk t).view.emb y) := by
    intro r d e
    subst e
    refine (point_out m c t r d).trans (congrArg₂ (args m c).out (Fin.ext ?_) (Fin.ext ?_))
    · show (row t.val r).val = win0_7.index t 0 * 256 + 1 * r.val; rw [hi.1, row_val]; omega
    · show d.val = win0_7.index t 1 * 1024 + 1 * d.val; rw [hi.2]; omega
  exact key (y 0) (y 1) (ValueIdx.eq_ix2 y)

/-- The products the call leaves. -/
theorem final_out : (dats m 0 c).arrAt 7 cfg0.N = mat (args m c).out :=
  (dats m 0 c).arrAt_eq_of_cover 7 (mat (args m c).out) (fun t _ => flushed_out m c t) fun i => by
    have h0 : (i 0 : ℕ) < 2304 := (i 0).isLt
    have h1 : (i 1 : ℕ) < 1024 := (i 1).isLt
    refine ⟨holder (i 0) h0, flush0_7 _, ?_⟩
    show i ∈ ((View.whole main_v2_1).slice (win0_7.rect (holder (i 0) h0))).set
    rw [View.set_slice_whole, Rect.mem_set_unit]
    intro a
    have hi := index_7 (holder (i 0) h0)
    match a with
    | ⟨0, _⟩ => show win0_7.index (holder (i 0) h0) 0 * 256 ≤ (i 0 : ℕ) ∧ (i 0 : ℕ) < win0_7.index (holder (i 0) h0) 0 * 256 + 256; rw [hi.1]; show (i 0 : ℕ) / 256 * 256 ≤ (i 0 : ℕ) ∧ (i 0 : ℕ) < (i 0 : ℕ) / 256 * 256 + 256; omega
    | ⟨1, _⟩ => show win0_7.index (holder (i 0) h0) 1 * 1024 ≤ (i 1 : ℕ) ∧ (i 1 : ℕ) < win0_7.index (holder (i 0) h0) 1 * 1024 + 1024; rw [hi.2]; omega

/-- Every write-back of the residual stream writes its block of the specified array. -/
theorem flushed_x1 (t : Fin cfg0.N) : (dats m 0 c).flushed 8 t = ((cfg0.win 8).blk t).view.read (Elt Ideal) (mat (args m c).x1) := by
  refine (flushed8 m c t).trans (funext fun y => ?_)
  rw [View.read_apply]
  have hi := index_8 t
  have key : ∀ (r : Fin 256) (d : Fin 1024), y = ValueIdx.ix2 r d →
      ((outsAt0 m c t).2.2 : S256x1024.Idx → EReal) y = mat (args m c).x1 (((cfg0.win 8).blk t).view.emb y) := by
    intro r d e
    subst e
    refine (point_x1 m c t r d).trans (congrArg₂ (args m c).x1 (Fin.ext ?_) (Fin.ext ?_))
    · show (row t.val r).val = win0_8.index t 0 * 256 + 1 * r.val; rw [hi.1, row_val]; omega
    · show d.val = win0_8.index t 1 * 1024 + 1 * d.val; rw [hi.2]; omega
  exact key (y 0) (y 1) (ValueIdx.eq_ix2 y)

/-- The residual stream the call leaves. -/
theorem final_x1 : (dats m 0 c).arrAt 8 cfg0.N = mat (args m c).x1 :=
  (dats m 0 c).arrAt_eq_of_cover 8 (mat (args m c).x1) (fun t _ => flushed_x1 m c t) fun i => by
    have h0 : (i 0 : ℕ) < 2304 := (i 0).isLt
    have h1 : (i 1 : ℕ) < 1024 := (i 1).isLt
    refine ⟨holder (i 0) h0, flush0_8 _, ?_⟩
    show i ∈ ((View.whole main_v2_2).slice (win0_8.rect (holder (i 0) h0))).set
    rw [View.set_slice_whole, Rect.mem_set_unit]
    intro a
    have hi := index_8 (holder (i 0) h0)
    match a with
    | ⟨0, _⟩ => show win0_8.index (holder (i 0) h0) 0 * 256 ≤ (i 0 : ℕ) ∧ (i 0 : ℕ) < win0_8.index (holder (i 0) h0) 0 * 256 + 256; rw [hi.1]; show (i 0 : ℕ) / 256 * 256 ≤ (i 0 : ℕ) ∧ (i 0 : ℕ) < (i 0 : ℕ) / 256 * 256 + 256; omega
    | ⟨1, _⟩ => show win0_8.index (holder (i 0) h0) 1 * 1024 ≤ (i 1 : ℕ) ∧ (i 1 : ℕ) < win0_8.index (holder (i 0) h0) 1 * 1024 + 1024; rw [hi.2]; omega

end

/-- The value claim of `l0_post`. -/
theorem post_algebraic : Cert.algebraic_PostIdeal_PostReferenceIdeal (hPostIdeal := Cert.PostIdeal.Gen.facts)
    (hPostReferenceIdeal := Cert.PostReferenceIdeal.Gen.facts) := by
  intro m ρ m' ρ' _ hargs
  refine ⟨fun c => mat (args m c).og, fun c => mat (args m c).out, fun c => mat (args m c).x1, ?_, ?_⟩
  · refine (θ_run _ _ _).mono (fun r h c => ?_) (Cert.PostIdeal.Value.run_blocks m ρ)
    exact ⟨(h c).1.trans (final_og m c), (h c).2.1.trans (final_out m c), (h c).2.2.1.trans (final_x1 m c), (h c).2.2.2⟩
  · refine (θ_run _ _ _).mono (fun r h c => ?_) (Cert.PostReferenceIdeal.Value.run (F := Ideal) m' ρ')
    obtain ⟨a0, a1, a2, a3, a4, a5⟩ := hargs c
    refine ⟨(h c).1.trans ?_, (h c).2.1.trans ?_, (h c).2.2.1.trans ?_, (h c).2.2.2⟩
    · refine (Cert.PostReferenceIdeal.Read.val_main_v18_eq _ _).trans ?_
      rw [a0, a1]
      exact ref_og _ _ _ _ _ _
    · refine (Cert.PostReferenceIdeal.Read.val_main_v19_eq _ _ _).trans ?_
      rw [a0, a1, a5]
      exact ref_out _ _ _ _ _ _
    · refine (Cert.PostReferenceIdeal.Read.val_main_v20_eq _ _ _ _ _ _).trans ?_
      rw [a0, a1, a2, a3, a4, a5]
      exact ref_x1 _ _ _ _ _ _

end Cert.Gated

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ForwardReferenceIdeal
public import proofs.«01_k».proof.Proof.Gen.ForwardReferenceIdeal.Run
public import proofs.«01_k».proof.Proof.Gen.ForwardReferenceIdeal.Read
public import proofs.«01_k».proof.Proof.Gen.Pre_finite
public import proofs.«01_k».proof.Proof.Gen.Pre_finite_qkv
public import proofs.«01_k».proof.Proof.Gen.Tail
public import proofs.«01_k».proof.Proof.Gen.TailIdeal
public import proofs.«01_k».proof.Proof.Gen.TailReferenceIdeal
public import proofs.«01_k».proof.Proof.Gen.TailReferenceIdeal.Run
public import proofs.«01_k».proof.Proof.Gen.TailReferenceIdeal.Read
public import proofs.«01_k».proof.Proof.Gen.Pre_finite_tail
public import proofs.«01_k».proof.Proof.Gen.Entry
public import proofs.«01_k».proof.Proof.Gen.Entry.Skeleton
public import proofs.«01_k».proof.Proof.Gen.Entry.Launch
public import proofs.«01_k».proof.Proof.Gen.Entry.Points
public import proofs.«01_k».proof.Proof.Gen.Entry.Frame
public import proofs.«01_k».proof.Proof.Gen.EntryIdeal
public import proofs.«01_k».proof.Proof.Gen.EntryIdeal.Skeleton
public import proofs.«01_k».proof.Proof.Gen.EntryIdeal.Launch
public import proofs.«01_k».proof.Proof.Gen.EntryIdeal.Points
public import proofs.«01_k».proof.Proof.Gen.EntryIdeal.Frame
public import proofs.«01_k».proof.Proof.Gen.EntryIdeal.Value
public import proofs.«01_k».proof.Proof.Gen.EntryReferenceIdeal
public import proofs.«01_k».proof.Proof.Gen.EntryReferenceIdeal.Run
public import proofs.«01_k».proof.Proof.Gen.EntryReferenceIdeal.Read
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.KernelValue
public import proofs.«01_k».proof.Proof.FwdValue
public import proofs.«01_k».proof.Proof.TailFrame
public import proofs.«01_k».proof.Proof.TailValue
public import proofs.«01_k».proof.Proof.EntryValue
public import proofs.«01_k».proof.Proof.PostValue
public import Idealize.ShloMosaic.Adequacy
public import Idealize.ShloMosaic.Init

@[expose] public section

noncomputable section

namespace Cert.Proof

open Idealize.ShloMosaic Idealize.SL.Sem Cert.Kernel

/-- The gradient's reference runs and leaves its arguments unchanged. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The forward pass's reference runs and leaves its arguments unchanged. -/
theorem frame_forward_reference : Cert.quiescent_ForwardReferenceIdeal := fun m ρ _ =>
  (θ_run Cert.ForwardReferenceIdeal.defs _ _).mono
    (fun r h => ⟨fun c => (h c).2.2, sem_eq_zero_of_no_sems (by decide) r.2⟩)
    (Cert.ForwardReferenceIdeal.Value.run (F := Ideal) m ρ)

/-- The reference of the projection's gradient runs and leaves its arguments unchanged. -/
theorem frame_tail_reference : Cert.quiescent_TailReferenceIdeal := fun m ρ _ =>
  (θ_run Cert.TailReferenceIdeal.defs _ _).mono
    (fun r h => ⟨fun c => (h c).2.2.2.2.2, sem_eq_zero_of_no_sems (by decide) r.2⟩)
    (Cert.TailReferenceIdeal.Value.run (F := Ideal) m ρ)

/-- The reference of the normalised rows and their product runs and leaves its arguments unchanged. -/
theorem frame_entry_reference : Cert.quiescent_EntryReferenceIdeal := fun m ρ _ =>
  (θ_run Cert.EntryReferenceIdeal.defs _ _).mono
    (fun r h => ⟨fun c => (h c).2.2, sem_eq_zero_of_no_sems (by decide) r.2⟩)
    (Cert.EntryReferenceIdeal.Value.run (F := Ideal) m ρ)

/-- The reference of the gated output projection runs and leaves its arguments unchanged. -/
theorem frame_post_reference : Cert.quiescent_PostReferenceIdeal := fun m ρ _ =>
  (θ_run Cert.PostReferenceIdeal.defs _ _).mono
    (fun r h => ⟨fun c => (h c).2.2.2, sem_eq_zero_of_no_sems (by decide) r.2⟩)
    (Cert.PostReferenceIdeal.Value.run (F := Ideal) m ρ)

/-- The whole certificate. -/
theorem claim : Cert.Claim := ⟨Cert.Kernel.Gen.facts, Cert.KernelIdeal.Gen.facts, Cert.ReferenceIdeal.Gen.facts,
  Cert.Forward.Gen.facts, Cert.ForwardIdeal.Gen.facts, Cert.ForwardReferenceIdeal.Gen.facts,
  Cert.Tail.Gen.facts, Cert.TailIdeal.Gen.facts, Cert.TailReferenceIdeal.Gen.facts,
  Cert.Entry.Gen.facts, Cert.EntryIdeal.Gen.facts, Cert.EntryReferenceIdeal.Gen.facts,
  Cert.Post.Gen.facts, Cert.PostIdeal.Gen.facts, Cert.PostReferenceIdeal.Gen.facts, Cert.Pre_finite.Gen.facts, Cert.Pre_finite_qkv.Gen.facts, Cert.Pre_finite_tail.Gen.facts,
  fun m ρ _ => Cert.Kernel.Gen.frame m ρ, fun m ρ _ => Cert.Kernel.Gen.frame m ρ, fun m ρ _ => Cert.KernelIdeal.Gen.frame m ρ, frame_reference,
  fun m ρ _ => Cert.Forward.Gen.frame m ρ, fun m ρ _ => Cert.Forward.Gen.frame m ρ, fun m ρ _ => Cert.ForwardIdeal.Gen.frame m ρ, frame_forward_reference,
  Cert.TailIdeal.Walk.frame_bits, fun m ρ _ => Cert.TailIdeal.Walk.frame_bits m ρ trivial, fun m ρ _ => Cert.TailIdeal.Walk.frame m ρ, frame_tail_reference,
  fun m ρ _ => Cert.Entry.Gen.frame m ρ, fun m ρ _ => Cert.EntryIdeal.Gen.frame m ρ, frame_entry_reference,
  fun m ρ _ => Cert.Post.Gen.frame m ρ, fun m ρ _ => Cert.PostIdeal.Gen.frame m ρ, frame_post_reference,
  trivial, Cert.Attn.gradient_algebraic, trivial, Cert.Attn.Fwd.forward_algebraic, trivial, Cert.NormGrad.tail_algebraic, trivial, Cert.NormProj.entry_algebraic, trivial, Cert.Gated.post_algebraic⟩

end Cert.Proof

end
